-- ==== Defs.lean ====
def Pre_KernelSwa (m : (ℓ : Loc Cert.KernelSwa.nD Cert.KernelSwa.τ Cert.KernelSwa.sig) → Buf (Elt Bits) ℓ) : Prop :=
  True

def Pre_KernelSwaIdeal (m : (ℓ : Loc Cert.KernelSwaIdeal.nD Cert.KernelSwaIdeal.τ Cert.KernelSwaIdeal.sig) → Buf (Elt Ideal) ℓ) : Prop :=
  True

def Pre_KernelSwaIdeal_finite_scores [hPre_finite_scores : Cert.Pre_finite_scores.Facts] (m : (ℓ : Loc Cert.KernelSwaIdeal.nD Cert.KernelSwaIdeal.τ Cert.KernelSwaIdeal.sig) → Buf (Elt Ideal) ℓ) : Prop :=
  ∀ c : Dev Cert.KernelSwaIdeal.nD,
    (Cert.Pre_finite_scores.fn (F := Ideal) (m ((c.tc : Thread Cert.KernelSwaIdeal.nD Cert.KernelSwaIdeal.τ).loc Cert.KernelSwaIdeal.main_arg0)) (m ((c.tc : Thread Cert.KernelSwaIdeal.nD Cert.KernelSwaIdeal.τ).loc Cert.KernelSwaIdeal.main_arg1)) (m ((c.tc : Thread Cert.KernelSwaIdeal.nD Cert.KernelSwaIdeal.τ).loc Cert.KernelSwaIdeal.main_arg2)) (m ((c.tc : Thread Cert.KernelSwaIdeal.nD Cert.KernelSwaIdeal.τ).loc Cert.KernelSwaIdeal.main_arg3))) = (fun _ => 1#1)

def Pre_ReferenceSwaIdeal (m : (ℓ : Loc Cert.ReferenceSwaIdeal.nD Cert.ReferenceSwaIdeal.τ Cert.ReferenceSwaIdeal.sig) → Buf (Elt Ideal) ℓ) : Prop :=
  True

def Pre_ReferenceSwaIdeal_finite_scores [hPre_finite_scores : Cert.Pre_finite_scores.Facts] (m : (ℓ : Loc Cert.ReferenceSwaIdeal.nD Cert.ReferenceSwaIdeal.τ Cert.ReferenceSwaIdeal.sig) → Buf (Elt Ideal) ℓ) : Prop :=
  ∀ c : Dev Cert.ReferenceSwaIdeal.nD,
    (Cert.Pre_finite_scores.fn (F := Ideal) (m ((c.tc : Thread Cert.ReferenceSwaIdeal.nD Cert.ReferenceSwaIdeal.τ).loc Cert.ReferenceSwaIdeal.main_arg0)) (m ((c.tc : Thread Cert.ReferenceSwaIdeal.nD Cert.ReferenceSwaIdeal.τ).loc Cert.ReferenceSwaIdeal.main_arg1)) (m ((c.tc : Thread Cert.ReferenceSwaIdeal.nD Cert.ReferenceSwaIdeal.τ).loc Cert.ReferenceSwaIdeal.main_arg2)) (m ((c.tc : Thread Cert.ReferenceSwaIdeal.nD Cert.ReferenceSwaIdeal.τ).loc Cert.ReferenceSwaIdeal.main_arg3))) = (fun _ => 1#1)

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_weights [hPre_finite_weights : Cert.Pre_finite_weights.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_weights.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_weights [hPre_finite_weights : Cert.Pre_finite_weights.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_weights.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))) = (fun _ => 1#1)

def Pre_KernelMemKv (m : (ℓ : Loc Cert.KernelMemKv.nD Cert.KernelMemKv.τ Cert.KernelMemKv.sig) → Buf (Elt Bits) ℓ) : Prop :=
  True

def Pre_KernelMemKvIdeal (m : (ℓ : Loc Cert.KernelMemKvIdeal.nD Cert.KernelMemKvIdeal.τ Cert.KernelMemKvIdeal.sig) → Buf (Elt Ideal) ℓ) : Prop :=
  True

def Pre_ReferenceMemKvIdeal (m : (ℓ : Loc Cert.ReferenceMemKvIdeal.nD Cert.ReferenceMemKvIdeal.τ Cert.ReferenceMemKvIdeal.sig) → Buf (Elt Ideal) ℓ) : Prop :=
  True

def Pre_KernelInS (m : (ℓ : Loc Cert.KernelInS.nD Cert.KernelInS.τ Cert.KernelInS.sig) → Buf (Elt Bits) ℓ) : Prop :=
  True

def Pre_KernelInSIdeal (m : (ℓ : Loc Cert.KernelInSIdeal.nD Cert.KernelInSIdeal.τ Cert.KernelInSIdeal.sig) → Buf (Elt Ideal) ℓ) : Prop :=
  True

def Pre_KernelInSIdeal_finite_weights_sample [hPre_finite_weights_sample : Cert.Pre_finite_weights_sample.Facts] (m : (ℓ : Loc Cert.KernelInSIdeal.nD Cert.KernelInSIdeal.τ Cert.KernelInSIdeal.sig) → Buf (Elt Ideal) ℓ) : Prop :=
  ∀ c : Dev Cert.KernelInSIdeal.nD,
    (Cert.Pre_finite_weights_sample.fn (F := Ideal) (m ((c.tc : Thread Cert.KernelInSIdeal.nD Cert.KernelInSIdeal.τ).loc Cert.KernelInSIdeal.main_arg0)) (m ((c.tc : Thread Cert.KernelInSIdeal.nD Cert.KernelInSIdeal.τ).loc Cert.KernelInSIdeal.main_arg1)) (m ((c.tc : Thread Cert.KernelInSIdeal.nD Cert.KernelInSIdeal.τ).loc Cert.KernelInSIdeal.main_arg2)) (m ((c.tc : Thread Cert.KernelInSIdeal.nD Cert.KernelInSIdeal.τ).loc Cert.KernelInSIdeal.main_arg3)) (m ((c.tc : Thread Cert.KernelInSIdeal.nD Cert.KernelInSIdeal.τ).loc Cert.KernelInSIdeal.main_arg4)) (m ((c.tc : Thread Cert.KernelInSIdeal.nD Cert.KernelInSIdeal.τ).loc Cert.KernelInSIdeal.main_arg5)) (m ((c.tc : Thread Cert.KernelInSIdeal.nD Cert.KernelInSIdeal.τ).loc Cert.KernelInSIdeal.main_arg6)) (m ((c.tc : Thread Cert.KernelInSIdeal.nD Cert.KernelInSIdeal.τ).loc Cert.KernelInSIdeal.main_arg7))) = (fun _ => 1#1)

def Pre_ReferenceInSIdeal (m : (ℓ : Loc Cert.ReferenceInSIdeal.nD Cert.ReferenceInSIdeal.τ Cert.ReferenceInSIdeal.sig) → Buf (Elt Ideal) ℓ) : Prop :=
  True

def Pre_ReferenceInSIdeal_finite_weights_sample [hPre_finite_weights_sample : Cert.Pre_finite_weights_sample.Facts] (m : (ℓ : Loc Cert.ReferenceInSIdeal.nD Cert.ReferenceInSIdeal.τ Cert.ReferenceInSIdeal.sig) → Buf (Elt Ideal) ℓ) : Prop :=
  ∀ c : Dev Cert.ReferenceInSIdeal.nD,
    (Cert.Pre_finite_weights_sample.fn (F := Ideal) (m ((c.tc : Thread Cert.ReferenceInSIdeal.nD Cert.ReferenceInSIdeal.τ).loc Cert.ReferenceInSIdeal.main_arg0)) (m ((c.tc : Thread Cert.ReferenceInSIdeal.nD Cert.ReferenceInSIdeal.τ).loc Cert.ReferenceInSIdeal.main_arg1)) (m ((c.tc : Thread Cert.ReferenceInSIdeal.nD Cert.ReferenceInSIdeal.τ).loc Cert.ReferenceInSIdeal.main_arg2)) (m ((c.tc : Thread Cert.ReferenceInSIdeal.nD Cert.ReferenceInSIdeal.τ).loc Cert.ReferenceInSIdeal.main_arg3)) (m ((c.tc : Thread Cert.ReferenceInSIdeal.nD Cert.ReferenceInSIdeal.τ).loc Cert.ReferenceInSIdeal.main_arg4)) (m ((c.tc : Thread Cert.ReferenceInSIdeal.nD Cert.ReferenceInSIdeal.τ).loc Cert.ReferenceInSIdeal.main_arg5)) (m ((c.tc : Thread Cert.ReferenceInSIdeal.nD Cert.ReferenceInSIdeal.τ).loc Cert.ReferenceInSIdeal.main_arg6)) (m ((c.tc : Thread Cert.ReferenceInSIdeal.nD Cert.ReferenceInSIdeal.τ).loc Cert.ReferenceInSIdeal.main_arg7))) = (fun _ => 1#1)

def Pre_KernelFfnS (m : (ℓ : Loc Cert.KernelFfnS.nD Cert.KernelFfnS.τ Cert.KernelFfnS.sig) → Buf (Elt Bits) ℓ) : Prop :=
  True

def Pre_KernelFfnSIdeal (m : (ℓ : Loc Cert.KernelFfnSIdeal.nD Cert.KernelFfnSIdeal.τ Cert.KernelFfnSIdeal.sig) → Buf (Elt Ideal) ℓ) : Prop :=
  True

def Pre_ReferenceFfnSIdeal (m : (ℓ : Loc Cert.ReferenceFfnSIdeal.nD Cert.ReferenceFfnSIdeal.τ Cert.ReferenceFfnSIdeal.sig) → Buf (Elt Ideal) ℓ) : Prop :=
  True

def quiescent_KernelSwa [hKernelSwa : Cert.KernelSwa.Facts] : Prop :=
  ∀ (m : (ℓ : Loc Cert.KernelSwa.nD Cert.KernelSwa.τ Cert.KernelSwa.sig) → Buf (Elt Bits) ℓ) (g : Dev Cert.KernelSwa.nD → PrngReg), Pre_KernelSwa m →
    θ_run (Cert.KernelSwa.defs (F := Bits)) (onTc (τ := Cert.KernelSwa.τ) (Cert.KernelSwa.main (F := Bits))) ⟨m, fun _ => 0, g⟩ (fun r => (∀ c : Dev Cert.KernelSwa.nD,
      r.2.mem ((c.tc : Thread Cert.KernelSwa.nD Cert.KernelSwa.τ).loc Cert.KernelSwa.main_arg0) = m ((c.tc : Thread Cert.KernelSwa.nD Cert.KernelSwa.τ).loc Cert.KernelSwa.main_arg0)
      ∧ r.2.mem ((c.tc : Thread Cert.KernelSwa.nD Cert.KernelSwa.τ).loc Cert.KernelSwa.main_arg1) = m ((c.tc : Thread Cert.KernelSwa.nD Cert.KernelSwa.τ).loc Cert.KernelSwa.main_arg1)
      ∧ r.2.mem ((c.tc : Thread Cert.KernelSwa.nD Cert.KernelSwa.τ).loc Cert.KernelSwa.main_arg2) = m ((c.tc : Thread Cert.KernelSwa.nD Cert.KernelSwa.τ).loc Cert.KernelSwa.main_arg2)
      ∧ r.2.mem ((c.tc : Thread Cert.KernelSwa.nD Cert.KernelSwa.τ).loc Cert.KernelSwa.main_arg3) = m ((c.tc : Thread Cert.KernelSwa.nD Cert.KernelSwa.τ).loc Cert.KernelSwa.main_arg3))
      ∧ r.2.sem = fun _ => 0)

def quiescent_KernelSwaIdeal [hKernelSwaIdeal : Cert.KernelSwaIdeal.Facts] : Prop :=
  ∀ (m : (ℓ : Loc Cert.KernelSwaIdeal.nD Cert.KernelSwaIdeal.τ Cert.KernelSwaIdeal.sig) → Buf (Elt Ideal) ℓ) (g : Dev Cert.KernelSwaIdeal.nD → PrngReg), Pre_KernelSwaIdeal m →
    θ_run (Cert.KernelSwaIdeal.defs (F := Ideal)) (onTc (τ := Cert.KernelSwaIdeal.τ) (Cert.KernelSwaIdeal.main (F := Ideal))) ⟨m, fun _ => 0, g⟩ (fun r => (∀ c : Dev Cert.KernelSwaIdeal.nD,
      r.2.mem ((c.tc : Thread Cert.KernelSwaIdeal.nD Cert.KernelSwaIdeal.τ).loc Cert.KernelSwaIdeal.main_arg0) = m ((c.tc : Thread Cert.KernelSwaIdeal.nD Cert.KernelSwaIdeal.τ).loc Cert.KernelSwaIdeal.main_arg0)
      ∧ r.2.mem ((c.tc : Thread Cert.KernelSwaIdeal.nD Cert.KernelSwaIdeal.τ).loc Cert.KernelSwaIdeal.main_arg1) = m ((c.tc : Thread Cert.KernelSwaIdeal.nD Cert.KernelSwaIdeal.τ).loc Cert.KernelSwaIdeal.main_arg1)
      ∧ r.2.mem ((c.tc : Thread Cert.KernelSwaIdeal.nD Cert.KernelSwaIdeal.τ).loc Cert.KernelSwaIdeal.main_arg2) = m ((c.tc : Thread Cert.KernelSwaIdeal.nD Cert.KernelSwaIdeal.τ).loc Cert.KernelSwaIdeal.main_arg2)
      ∧ r.2.mem ((c.tc : Thread Cert.KernelSwaIdeal.nD Cert.KernelSwaIdeal.τ).loc Cert.KernelSwaIdeal.main_arg3) = m ((c.tc : Thread Cert.KernelSwaIdeal.nD Cert.KernelSwaIdeal.τ).loc Cert.KernelSwaIdeal.main_arg3))
      ∧ r.2.sem = fun _ => 0)

def quiescent_KernelSwaIdeal_pre_finite_scores [hKernelSwaIdeal : Cert.KernelSwaIdeal.Facts] [hPre_finite_scores : Cert.Pre_finite_scores.Facts] : Prop :=
  ∀ (m : (ℓ : Loc Cert.KernelSwaIdeal.nD Cert.KernelSwaIdeal.τ Cert.KernelSwaIdeal.sig) → Buf (Elt Ideal) ℓ) (g : Dev Cert.KernelSwaIdeal.nD → PrngReg), Pre_KernelSwaIdeal_finite_scores m →
    θ_run (Cert.KernelSwaIdeal.defs (F := Ideal)) (onTc (τ := Cert.KernelSwaIdeal.τ) (Cert.KernelSwaIdeal.main (F := Ideal))) ⟨m, fun _ => 0, g⟩ (fun r => (∀ c : Dev Cert.KernelSwaIdeal.nD,
      r.2.mem ((c.tc : Thread Cert.KernelSwaIdeal.nD Cert.KernelSwaIdeal.τ).loc Cert.KernelSwaIdeal.main_arg0) = m ((c.tc : Thread Cert.KernelSwaIdeal.nD Cert.KernelSwaIdeal.τ).loc Cert.KernelSwaIdeal.main_arg0)
      ∧ r.2.mem ((c.tc : Thread Cert.KernelSwaIdeal.nD Cert.KernelSwaIdeal.τ).loc Cert.KernelSwaIdeal.main_arg1) = m ((c.tc : Thread Cert.KernelSwaIdeal.nD Cert.KernelSwaIdeal.τ).loc Cert.KernelSwaIdeal.main_arg1)
      ∧ r.2.mem ((c.tc : Thread Cert.KernelSwaIdeal.nD Cert.KernelSwaIdeal.τ).loc Cert.KernelSwaIdeal.main_arg2) = m ((c.tc : Thread Cert.KernelSwaIdeal.nD Cert.KernelSwaIdeal.τ).loc Cert.KernelSwaIdeal.main_arg2)
      ∧ r.2.mem ((c.tc : Thread Cert.KernelSwaIdeal.nD Cert.KernelSwaIdeal.τ).loc Cert.KernelSwaIdeal.main_arg3) = m ((c.tc : Thread Cert.KernelSwaIdeal.nD Cert.KernelSwaIdeal.τ).loc Cert.KernelSwaIdeal.main_arg3))
      ∧ r.2.sem = fun _ => 0)

def quiescent_ReferenceSwaIdeal [hReferenceSwaIdeal : Cert.ReferenceSwaIdeal.Facts] : Prop :=
  ∀ (m : (ℓ : Loc Cert.ReferenceSwaIdeal.nD Cert.ReferenceSwaIdeal.τ Cert.ReferenceSwaIdeal.sig) → Buf (Elt Ideal) ℓ) (g : Dev Cert.ReferenceSwaIdeal.nD → PrngReg), Pre_ReferenceSwaIdeal m →
    θ_run (Cert.ReferenceSwaIdeal.defs (F := Ideal)) (onTc (τ := Cert.ReferenceSwaIdeal.τ) (Cert.ReferenceSwaIdeal.main (F := Ideal))) ⟨m, fun _ => 0, g⟩ (fun r => (∀ c : Dev Cert.ReferenceSwaIdeal.nD,
      r.2.mem ((c.tc : Thread Cert.ReferenceSwaIdeal.nD Cert.ReferenceSwaIdeal.τ).loc Cert.ReferenceSwaIdeal.main_arg0) = m ((c.tc : Thread Cert.ReferenceSwaIdeal.nD Cert.ReferenceSwaIdeal.τ).loc Cert.ReferenceSwaIdeal.main_arg0)
      ∧ r.2.mem ((c.tc : Thread Cert.ReferenceSwaIdeal.nD Cert.ReferenceSwaIdeal.τ).loc Cert.ReferenceSwaIdeal.main_arg1) = m ((c.tc : Thread Cert.ReferenceSwaIdeal.nD Cert.ReferenceSwaIdeal.τ).loc Cert.ReferenceSwaIdeal.main_arg1)
      ∧ r.2.mem ((c.tc : Thread Cert.ReferenceSwaIdeal.nD Cert.ReferenceSwaIdeal.τ).loc Cert.ReferenceSwaIdeal.main_arg2) = m ((c.tc : Thread Cert.ReferenceSwaIdeal.nD Cert.ReferenceSwaIdeal.τ).loc Cert.ReferenceSwaIdeal.main_arg2)
      ∧ r.2.mem ((c.tc : Thread Cert.ReferenceSwaIdeal.nD Cert.ReferenceSwaIdeal.τ).loc Cert.ReferenceSwaIdeal.main_arg3) = m ((c.tc : Thread Cert.ReferenceSwaIdeal.nD Cert.ReferenceSwaIdeal.τ).loc Cert.ReferenceSwaIdeal.main_arg3))
      ∧ r.2.sem = fun _ => 0)

def quiescent_ReferenceSwaIdeal_pre_finite_scores [hReferenceSwaIdeal : Cert.ReferenceSwaIdeal.Facts] [hPre_finite_scores : Cert.Pre_finite_scores.Facts] : Prop :=
  ∀ (m : (ℓ : Loc Cert.ReferenceSwaIdeal.nD Cert.ReferenceSwaIdeal.τ Cert.ReferenceSwaIdeal.sig) → Buf (Elt Ideal) ℓ) (g : Dev Cert.ReferenceSwaIdeal.nD → PrngReg), Pre_ReferenceSwaIdeal_finite_scores m →
    θ_run (Cert.ReferenceSwaIdeal.defs (F := Ideal)) (onTc (τ := Cert.ReferenceSwaIdeal.τ) (Cert.ReferenceSwaIdeal.main (F := Ideal))) ⟨m, fun _ => 0, g⟩ (fun r => (∀ c : Dev Cert.ReferenceSwaIdeal.nD,
      r.2.mem ((c.tc : Thread Cert.ReferenceSwaIdeal.nD Cert.ReferenceSwaIdeal.τ).loc Cert.ReferenceSwaIdeal.main_arg0) = m ((c.tc : Thread Cert.ReferenceSwaIdeal.nD Cert.ReferenceSwaIdeal.τ).loc Cert.ReferenceSwaIdeal.main_arg0)
      ∧ r.2.mem ((c.tc : Thread Cert.ReferenceSwaIdeal.nD Cert.ReferenceSwaIdeal.τ).loc Cert.ReferenceSwaIdeal.main_arg1) = m ((c.tc : Thread Cert.ReferenceSwaIdeal.nD Cert.ReferenceSwaIdeal.τ).loc Cert.ReferenceSwaIdeal.main_arg1)
      ∧ r.2.mem ((c.tc : Thread Cert.ReferenceSwaIdeal.nD Cert.ReferenceSwaIdeal.τ).loc Cert.ReferenceSwaIdeal.main_arg2) = m ((c.tc : Thread Cert.ReferenceSwaIdeal.nD Cert.ReferenceSwaIdeal.τ).loc Cert.ReferenceSwaIdeal.main_arg2)
      ∧ r.2.mem ((c.tc : Thread Cert.ReferenceSwaIdeal.nD Cert.ReferenceSwaIdeal.τ).loc Cert.ReferenceSwaIdeal.main_arg3) = m ((c.tc : Thread Cert.ReferenceSwaIdeal.nD Cert.ReferenceSwaIdeal.τ).loc Cert.ReferenceSwaIdeal.main_arg3))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_KernelInIdeal_pre_finite_weights [hKernelInIdeal : Cert.KernelInIdeal.Facts] [hPre_finite_weights : Cert.Pre_finite_weights.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_weights m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_ReferenceInIdeal_pre_finite_weights [hReferenceInIdeal : Cert.ReferenceInIdeal.Facts] [hPre_finite_weights : Cert.Pre_finite_weights.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_weights m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelMemKv [hKernelMemKv : Cert.KernelMemKv.Facts] : Prop :=
  ∀ (m : (ℓ : Loc Cert.KernelMemKv.nD Cert.KernelMemKv.τ Cert.KernelMemKv.sig) → Buf (Elt Bits) ℓ) (g : Dev Cert.KernelMemKv.nD → PrngReg), Pre_KernelMemKv m →
    θ_run (Cert.KernelMemKv.defs (F := Bits)) (onTc (τ := Cert.KernelMemKv.τ) (Cert.KernelMemKv.main (F := Bits))) ⟨m, fun _ => 0, g⟩ (fun r => (∀ c : Dev Cert.KernelMemKv.nD,
      r.2.mem ((c.tc : Thread Cert.KernelMemKv.nD Cert.KernelMemKv.τ).loc Cert.KernelMemKv.main_arg0) = m ((c.tc : Thread Cert.KernelMemKv.nD Cert.KernelMemKv.τ).loc Cert.KernelMemKv.main_arg0)
      ∧ r.2.mem ((c.tc : Thread Cert.KernelMemKv.nD Cert.KernelMemKv.τ).loc Cert.KernelMemKv.main_arg1) = m ((c.tc : Thread Cert.KernelMemKv.nD Cert.KernelMemKv.τ).loc Cert.KernelMemKv.main_arg1)
      ∧ r.2.mem ((c.tc : Thread Cert.KernelMemKv.nD Cert.KernelMemKv.τ).loc Cert.KernelMemKv.main_arg2) = m ((c.tc : Thread Cert.KernelMemKv.nD Cert.KernelMemKv.τ).loc Cert.KernelMemKv.main_arg2)
      ∧ r.2.mem ((c.tc : Thread Cert.KernelMemKv.nD Cert.KernelMemKv.τ).loc Cert.KernelMemKv.main_arg3) = m ((c.tc : Thread Cert.KernelMemKv.nD Cert.KernelMemKv.τ).loc Cert.KernelMemKv.main_arg3))
      ∧ r.2.sem = fun _ => 0)

def quiescent_KernelMemKvIdeal [hKernelMemKvIdeal : Cert.KernelMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg), Pre_KernelMemKvIdeal m →
    θ_run (Cert.KernelMemKvIdeal.defs (F := Ideal)) (onTc (τ := Cert.KernelMemKvIdeal.τ) (Cert.KernelMemKvIdeal.main (F := Ideal))) ⟨m, fun _ => 0, g⟩ (fun r => (∀ c : Dev Cert.KernelMemKvIdeal.nD,
      r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
      ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
      ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2)
      ∧ r.2.mem ((c.tc : Thread Cert.KernelMemKvIdeal.nD Cert.KernelMemKvIdeal.τ).loc Cert.KernelMemKvIdeal.main_arg3) = m ((c.tc : Thread Cert.KernelMemKvIdeal.nD Cert.KernelMemKvIdeal.τ).loc Cert.KernelMemKvIdeal.main_arg3))
      ∧ r.2.sem = fun _ => 0)

def quiescent_ReferenceMemKvIdeal [hReferenceMemKvIdeal : Cert.ReferenceMemKvIdeal.Facts] : Prop :=
  ∀ (m : (ℓ : Loc Cert.ReferenceMemKvIdeal.nD Cert.ReferenceMemKvIdeal.τ Cert.ReferenceMemKvIdeal.sig) → Buf (Elt Ideal) ℓ) (g : Dev Cert.ReferenceMemKvIdeal.nD → PrngReg), Pre_ReferenceMemKvIdeal m →
    θ_run (Cert.ReferenceMemKvIdeal.defs (F := Ideal)) (onTc (τ := Cert.ReferenceMemKvIdeal.τ) (Cert.ReferenceMemKvIdeal.main (F := Ideal))) ⟨m, fun _ => 0, g⟩ (fun r => (∀ c : Dev Cert.ReferenceMemKvIdeal.nD,
      r.2.mem ((c.tc : Thread Cert.ReferenceMemKvIdeal.nD Cert.ReferenceMemKvIdeal.τ).loc Cert.ReferenceMemKvIdeal.main_arg0) = m ((c.tc : Thread Cert.ReferenceMemKvIdeal.nD Cert.ReferenceMemKvIdeal.τ).loc Cert.ReferenceMemKvIdeal.main_arg0)
      ∧ r.2.mem ((c.tc : Thread Cert.ReferenceMemKvIdeal.nD Cert.ReferenceMemKvIdeal.τ).loc Cert.ReferenceMemKvIdeal.main_arg1) = m ((c.tc : Thread Cert.ReferenceMemKvIdeal.nD Cert.ReferenceMemKvIdeal.τ).loc Cert.ReferenceMemKvIdeal.main_arg1)
      ∧ r.2.mem ((c.tc : Thread Cert.ReferenceMemKvIdeal.nD Cert.ReferenceMemKvIdeal.τ).loc Cert.ReferenceMemKvIdeal.main_arg2) = m ((c.tc : Thread Cert.ReferenceMemKvIdeal.nD Cert.ReferenceMemKvIdeal.τ).loc Cert.ReferenceMemKvIdeal.main_arg2)
      ∧ r.2.mem ((c.tc : Thread Cert.ReferenceMemKvIdeal.nD Cert.ReferenceMemKvIdeal.τ).loc Cert.ReferenceMemKvIdeal.main_arg3) = m ((c.tc : Thread Cert.ReferenceMemKvIdeal.nD Cert.ReferenceMemKvIdeal.τ).loc Cert.ReferenceMemKvIdeal.main_arg3))
      ∧ r.2.sem = fun _ => 0)

def quiescent_KernelInS [hKernelInS : Cert.KernelInS.Facts] : Prop :=
  ∀ (m : (ℓ : Loc Cert.KernelInS.nD Cert.KernelInS.τ Cert.KernelInS.sig) → Buf (Elt Bits) ℓ) (g : Dev Cert.KernelInS.nD → PrngReg), Pre_KernelInS m →
    θ_run (Cert.KernelInS.defs (F := Bits)) (onTc (τ := Cert.KernelInS.τ) (Cert.KernelInS.main (F := Bits))) ⟨m, fun _ => 0, g⟩ (fun r => (∀ c : Dev Cert.KernelInS.nD,
      r.2.mem ((c.tc : Thread Cert.KernelInS.nD Cert.KernelInS.τ).loc Cert.KernelInS.main_arg0) = m ((c.tc : Thread Cert.KernelInS.nD Cert.KernelInS.τ).loc Cert.KernelInS.main_arg0)
      ∧ r.2.mem ((c.tc : Thread Cert.KernelInS.nD Cert.KernelInS.τ).loc Cert.KernelInS.main_arg1) = m ((c.tc : Thread Cert.KernelInS.nD Cert.KernelInS.τ).loc Cert.KernelInS.main_arg1)
      ∧ r.2.mem ((c.tc : Thread Cert.KernelInS.nD Cert.KernelInS.τ).loc Cert.KernelInS.main_arg2) = m ((c.tc : Thread Cert.KernelInS.nD Cert.KernelInS.τ).loc Cert.KernelInS.main_arg2)
      ∧ r.2.mem ((c.tc : Thread Cert.KernelInS.nD Cert.KernelInS.τ).loc Cert.KernelInS.main_arg3) = m ((c.tc : Thread Cert.KernelInS.nD Cert.KernelInS.τ).loc Cert.KernelInS.main_arg3)
      ∧ r.2.mem ((c.tc : Thread Cert.KernelInS.nD Cert.KernelInS.τ).loc Cert.KernelInS.main_arg4) = m ((c.tc : Thread Cert.KernelInS.nD Cert.KernelInS.τ).loc Cert.KernelInS.main_arg4)
      ∧ r.2.mem ((c.tc : Thread Cert.KernelInS.nD Cert.KernelInS.τ).loc Cert.KernelInS.main_arg5) = m ((c.tc : Thread Cert.KernelInS.nD Cert.KernelInS.τ).loc Cert.KernelInS.main_arg5)
      ∧ r.2.mem ((c.tc : Thread Cert.KernelInS.nD Cert.KernelInS.τ).loc Cert.KernelInS.main_arg6) = m ((c.tc : Thread Cert.KernelInS.nD Cert.KernelInS.τ).loc Cert.KernelInS.main_arg6)
      ∧ r.2.mem ((c.tc : Thread Cert.KernelInS.nD Cert.KernelInS.τ).loc Cert.KernelInS.main_arg7) = m ((c.tc : Thread Cert.KernelInS.nD Cert.KernelInS.τ).loc Cert.KernelInS.main_arg7))
      ∧ r.2.sem = fun _ => 0)

def quiescent_KernelInSIdeal [hKernelInSIdeal : Cert.KernelInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg), Pre_KernelInSIdeal m →
    θ_run (Cert.KernelInSIdeal.defs (F := Ideal)) (onTc (τ := Cert.KernelInSIdeal.τ) (Cert.KernelInSIdeal.main (F := Ideal))) ⟨m, fun _ => 0, g⟩ (fun r => (∀ c : Dev Cert.KernelInSIdeal.nD,
      r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
      ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
      ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2)
      ∧ r.2.mem ((c.tc : Thread Cert.KernelInSIdeal.nD Cert.KernelInSIdeal.τ).loc Cert.KernelInSIdeal.main_arg3) = m ((c.tc : Thread Cert.KernelInSIdeal.nD Cert.KernelInSIdeal.τ).loc Cert.KernelInSIdeal.main_arg3)
      ∧ r.2.mem ((c.tc : Thread Cert.KernelInSIdeal.nD Cert.KernelInSIdeal.τ).loc Cert.KernelInSIdeal.main_arg4) = m ((c.tc : Thread Cert.KernelInSIdeal.nD Cert.KernelInSIdeal.τ).loc Cert.KernelInSIdeal.main_arg4)
      ∧ r.2.mem ((c.tc : Thread Cert.KernelInSIdeal.nD Cert.KernelInSIdeal.τ).loc Cert.KernelInSIdeal.main_arg5) = m ((c.tc : Thread Cert.KernelInSIdeal.nD Cert.KernelInSIdeal.τ).loc Cert.KernelInSIdeal.main_arg5)
      ∧ r.2.mem ((c.tc : Thread Cert.KernelInSIdeal.nD Cert.KernelInSIdeal.τ).loc Cert.KernelInSIdeal.main_arg6) = m ((c.tc : Thread Cert.KernelInSIdeal.nD Cert.KernelInSIdeal.τ).loc Cert.KernelInSIdeal.main_arg6)
      ∧ r.2.mem ((c.tc : Thread Cert.KernelInSIdeal.nD Cert.KernelInSIdeal.τ).loc Cert.KernelInSIdeal.main_arg7) = m ((c.tc : Thread Cert.KernelInSIdeal.nD Cert.KernelInSIdeal.τ).loc Cert.KernelInSIdeal.main_arg7))
      ∧ r.2.sem = fun _ => 0)

def quiescent_KernelInSIdeal_pre_finite_weights_sample [hKernelInSIdeal : Cert.KernelInSIdeal.Facts] [hPre_finite_weights_sample : Cert.Pre_finite_weights_sample.Facts] : Prop :=
  ∀ (m : (ℓ : Loc Cert.KernelInSIdeal.nD Cert.KernelInSIdeal.τ Cert.KernelInSIdeal.sig) → Buf (Elt Ideal) ℓ) (g : Dev Cert.KernelInSIdeal.nD → PrngReg), Pre_KernelInSIdeal_finite_weights_sample m →
    θ_run (Cert.KernelInSIdeal.defs (F := Ideal)) (onTc (τ := Cert.KernelInSIdeal.τ) (Cert.KernelInSIdeal.main (F := Ideal))) ⟨m, fun _ => 0, g⟩ (fun r => (∀ c : Dev Cert.KernelInSIdeal.nD,
      r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
      ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
      ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2)
      ∧ r.2.mem ((c.tc : Thread Cert.KernelInSIdeal.nD Cert.KernelInSIdeal.τ).loc Cert.KernelInSIdeal.main_arg3) = m ((c.tc : Thread Cert.KernelInSIdeal.nD Cert.KernelInSIdeal.τ).loc Cert.KernelInSIdeal.main_arg3)
      ∧ r.2.mem ((c.tc : Thread Cert.KernelInSIdeal.nD Cert.KernelInSIdeal.τ).loc Cert.KernelInSIdeal.main_arg4) = m ((c.tc : Thread Cert.KernelInSIdeal.nD Cert.KernelInSIdeal.τ).loc Cert.KernelInSIdeal.main_arg4)
      ∧ r.2.mem ((c.tc : Thread Cert.KernelInSIdeal.nD Cert.KernelInSIdeal.τ).loc Cert.KernelInSIdeal.main_arg5) = m ((c.tc : Thread Cert.KernelInSIdeal.nD Cert.KernelInSIdeal.τ).loc Cert.KernelInSIdeal.main_arg5)
      ∧ r.2.mem ((c.tc : Thread Cert.KernelInSIdeal.nD Cert.KernelInSIdeal.τ).loc Cert.KernelInSIdeal.main_arg6) = m ((c.tc : Thread Cert.KernelInSIdeal.nD Cert.KernelInSIdeal.τ).loc Cert.KernelInSIdeal.main_arg6)
      ∧ r.2.mem ((c.tc : Thread Cert.KernelInSIdeal.nD Cert.KernelInSIdeal.τ).loc Cert.KernelInSIdeal.main_arg7) = m ((c.tc : Thread Cert.KernelInSIdeal.nD Cert.KernelInSIdeal.τ).loc Cert.KernelInSIdeal.main_arg7))
      ∧ r.2.sem = fun _ => 0)

def quiescent_ReferenceInSIdeal [hReferenceInSIdeal : Cert.ReferenceInSIdeal.Facts] : Prop :=
  ∀ (m : (ℓ : Loc Cert.ReferenceInSIdeal.nD Cert.ReferenceInSIdeal.τ Cert.ReferenceInSIdeal.sig) → Buf (Elt Ideal) ℓ) (g : Dev Cert.ReferenceInSIdeal.nD → PrngReg), Pre_ReferenceInSIdeal m →
    θ_run (Cert.ReferenceInSIdeal.defs (F := Ideal)) (onTc (τ := Cert.ReferenceInSIdeal.τ) (Cert.ReferenceInSIdeal.main (F := Ideal))) ⟨m, fun _ => 0, g⟩ (fun r => (∀ c : Dev Cert.ReferenceInSIdeal.nD,
      r.2.mem ((c.tc : Thread Cert.ReferenceInSIdeal.nD Cert.ReferenceInSIdeal.τ).loc Cert.ReferenceInSIdeal.main_arg0) = m ((c.tc : Thread Cert.ReferenceInSIdeal.nD Cert.ReferenceInSIdeal.τ).loc Cert.ReferenceInSIdeal.main_arg0)
      ∧ r.2.mem ((c.tc : Thread Cert.ReferenceInSIdeal.nD Cert.ReferenceInSIdeal.τ).loc Cert.ReferenceInSIdeal.main_arg1) = m ((c.tc : Thread Cert.ReferenceInSIdeal.nD Cert.ReferenceInSIdeal.τ).loc Cert.ReferenceInSIdeal.main_arg1)
      ∧ r.2.mem ((c.tc : Thread Cert.ReferenceInSIdeal.nD Cert.ReferenceInSIdeal.τ).loc Cert.ReferenceInSIdeal.main_arg2) = m ((c.tc : Thread Cert.ReferenceInSIdeal.nD Cert.ReferenceInSIdeal.τ).loc Cert.ReferenceInSIdeal.main_arg2)
      ∧ r.2.mem ((c.tc : Thread Cert.ReferenceInSIdeal.nD Cert.ReferenceInSIdeal.τ).loc Cert.ReferenceInSIdeal.main_arg3) = m ((c.tc : Thread Cert.ReferenceInSIdeal.nD Cert.ReferenceInSIdeal.τ).loc Cert.ReferenceInSIdeal.main_arg3)
      ∧ r.2.mem ((c.tc : Thread Cert.ReferenceInSIdeal.nD Cert.ReferenceInSIdeal.τ).loc Cert.ReferenceInSIdeal.main_arg4) = m ((c.tc : Thread Cert.ReferenceInSIdeal.nD Cert.ReferenceInSIdeal.τ).loc Cert.ReferenceInSIdeal.main_arg4)
      ∧ r.2.mem ((c.tc : Thread Cert.ReferenceInSIdeal.nD Cert.ReferenceInSIdeal.τ).loc Cert.ReferenceInSIdeal.main_arg5) = m ((c.tc : Thread Cert.ReferenceInSIdeal.nD Cert.ReferenceInSIdeal.τ).loc Cert.ReferenceInSIdeal.main_arg5)
      ∧ r.2.mem ((c.tc : Thread Cert.ReferenceInSIdeal.nD Cert.ReferenceInSIdeal.τ).loc Cert.ReferenceInSIdeal.main_arg6) = m ((c.tc : Thread Cert.ReferenceInSIdeal.nD Cert.ReferenceInSIdeal.τ).loc Cert.ReferenceInSIdeal.main_arg6)
      ∧ r.2.mem ((c.tc : Thread Cert.ReferenceInSIdeal.nD Cert.ReferenceInSIdeal.τ).loc Cert.ReferenceInSIdeal.main_arg7) = m ((c.tc : Thread Cert.ReferenceInSIdeal.nD Cert.ReferenceInSIdeal.τ).loc Cert.ReferenceInSIdeal.main_arg7))
      ∧ r.2.sem = fun _ => 0)

def quiescent_ReferenceInSIdeal_pre_finite_weights_sample [hReferenceInSIdeal : Cert.ReferenceInSIdeal.Facts] [hPre_finite_weights_sample : Cert.Pre_finite_weights_sample.Facts] : Prop :=
  ∀ (m : (ℓ : Loc Cert.ReferenceInSIdeal.nD Cert.ReferenceInSIdeal.τ Cert.ReferenceInSIdeal.sig) → Buf (Elt Ideal) ℓ) (g : Dev Cert.ReferenceInSIdeal.nD → PrngReg), Pre_ReferenceInSIdeal_finite_weights_sample m →
    θ_run (Cert.ReferenceInSIdeal.defs (F := Ideal)) (onTc (τ := Cert.ReferenceInSIdeal.τ) (Cert.ReferenceInSIdeal.main (F := Ideal))) ⟨m, fun _ => 0, g⟩ (fun r => (∀ c : Dev Cert.ReferenceInSIdeal.nD,
      r.2.mem ((c.tc : Thread Cert.ReferenceInSIdeal.nD Cert.ReferenceInSIdeal.τ).loc Cert.ReferenceInSIdeal.main_arg0) = m ((c.tc : Thread Cert.ReferenceInSIdeal.nD Cert.ReferenceInSIdeal.τ).loc Cert.ReferenceInSIdeal.main_arg0)
      ∧ r.2.mem ((c.tc : Thread Cert.ReferenceInSIdeal.nD Cert.ReferenceInSIdeal.τ).loc Cert.ReferenceInSIdeal.main_arg1) = m ((c.tc : Thread Cert.ReferenceInSIdeal.nD Cert.ReferenceInSIdeal.τ).loc Cert.ReferenceInSIdeal.main_arg1)
      ∧ r.2.mem ((c.tc : Thread Cert.ReferenceInSIdeal.nD Cert.ReferenceInSIdeal.τ).loc Cert.ReferenceInSIdeal.main_arg2) = m ((c.tc : Thread Cert.ReferenceInSIdeal.nD Cert.ReferenceInSIdeal.τ).loc Cert.ReferenceInSIdeal.main_arg2)
      ∧ r.2.mem ((c.tc : Thread Cert.ReferenceInSIdeal.nD Cert.ReferenceInSIdeal.τ).loc Cert.ReferenceInSIdeal.main_arg3) = m ((c.tc : Thread Cert.ReferenceInSIdeal.nD Cert.ReferenceInSIdeal.τ).loc Cert.ReferenceInSIdeal.main_arg3)
      ∧ r.2.mem ((c.tc : Thread Cert.ReferenceInSIdeal.nD Cert.ReferenceInSIdeal.τ).loc Cert.ReferenceInSIdeal.main_arg4) = m ((c.tc : Thread Cert.ReferenceInSIdeal.nD Cert.ReferenceInSIdeal.τ).loc Cert.ReferenceInSIdeal.main_arg4)
      ∧ r.2.mem ((c.tc : Thread Cert.ReferenceInSIdeal.nD Cert.ReferenceInSIdeal.τ).loc Cert.ReferenceInSIdeal.main_arg5) = m ((c.tc : Thread Cert.ReferenceInSIdeal.nD Cert.ReferenceInSIdeal.τ).loc Cert.ReferenceInSIdeal.main_arg5)
      ∧ r.2.mem ((c.tc : Thread Cert.ReferenceInSIdeal.nD Cert.ReferenceInSIdeal.τ).loc Cert.ReferenceInSIdeal.main_arg6) = m ((c.tc : Thread Cert.ReferenceInSIdeal.nD Cert.ReferenceInSIdeal.τ).loc Cert.ReferenceInSIdeal.main_arg6)
      ∧ r.2.mem ((c.tc : Thread Cert.ReferenceInSIdeal.nD Cert.ReferenceInSIdeal.τ).loc Cert.ReferenceInSIdeal.main_arg7) = m ((c.tc : Thread Cert.ReferenceInSIdeal.nD Cert.ReferenceInSIdeal.τ).loc Cert.ReferenceInSIdeal.main_arg7))
      ∧ r.2.sem = fun _ => 0)

def quiescent_KernelFfnS [hKernelFfnS : Cert.KernelFfnS.Facts] : Prop :=
  ∀ (m : (ℓ : Loc Cert.KernelFfnS.nD Cert.KernelFfnS.τ Cert.KernelFfnS.sig) → Buf (Elt Bits) ℓ) (g : Dev Cert.KernelFfnS.nD → PrngReg), Pre_KernelFfnS m →
    θ_run (Cert.KernelFfnS.defs (F := Bits)) (onTc (τ := Cert.KernelFfnS.τ) (Cert.KernelFfnS.main (F := Bits))) ⟨m, fun _ => 0, g⟩ (fun r => (∀ c : Dev Cert.KernelFfnS.nD,
      r.2.mem ((c.tc : Thread Cert.KernelFfnS.nD Cert.KernelFfnS.τ).loc Cert.KernelFfnS.main_arg0) = m ((c.tc : Thread Cert.KernelFfnS.nD Cert.KernelFfnS.τ).loc Cert.KernelFfnS.main_arg0)
      ∧ r.2.mem ((c.tc : Thread Cert.KernelFfnS.nD Cert.KernelFfnS.τ).loc Cert.KernelFfnS.main_arg1) = m ((c.tc : Thread Cert.KernelFfnS.nD Cert.KernelFfnS.τ).loc Cert.KernelFfnS.main_arg1)
      ∧ r.2.mem ((c.tc : Thread Cert.KernelFfnS.nD Cert.KernelFfnS.τ).loc Cert.KernelFfnS.main_arg2) = m ((c.tc : Thread Cert.KernelFfnS.nD Cert.KernelFfnS.τ).loc Cert.KernelFfnS.main_arg2)
      ∧ r.2.mem ((c.tc : Thread Cert.KernelFfnS.nD Cert.KernelFfnS.τ).loc Cert.KernelFfnS.main_arg3) = m ((c.tc : Thread Cert.KernelFfnS.nD Cert.KernelFfnS.τ).loc Cert.KernelFfnS.main_arg3)
      ∧ r.2.mem ((c.tc : Thread Cert.KernelFfnS.nD Cert.KernelFfnS.τ).loc Cert.KernelFfnS.main_arg4) = m ((c.tc : Thread Cert.KernelFfnS.nD Cert.KernelFfnS.τ).loc Cert.KernelFfnS.main_arg4)
      ∧ r.2.mem ((c.tc : Thread Cert.KernelFfnS.nD Cert.KernelFfnS.τ).loc Cert.KernelFfnS.main_arg5) = m ((c.tc : Thread Cert.KernelFfnS.nD Cert.KernelFfnS.τ).loc Cert.KernelFfnS.main_arg5)
      ∧ r.2.mem ((c.tc : Thread Cert.KernelFfnS.nD Cert.KernelFfnS.τ).loc Cert.KernelFfnS.main_arg6) = m ((c.tc : Thread Cert.KernelFfnS.nD Cert.KernelFfnS.τ).loc Cert.KernelFfnS.main_arg6))
      ∧ r.2.sem = fun _ => 0)

def quiescent_KernelFfnSIdeal [hKernelFfnSIdeal : Cert.KernelFfnSIdeal.Facts] : Prop :=
  ∀ (m : (ℓ : Loc Cert.KernelFfnSIdeal.nD Cert.KernelFfnSIdeal.τ Cert.KernelFfnSIdeal.sig) → Buf (Elt Ideal) ℓ) (g : Dev Cert.KernelFfnSIdeal.nD → PrngReg), Pre_KernelFfnSIdeal m →
    θ_run (Cert.KernelFfnSIdeal.defs (F := Ideal)) (onTc (τ := Cert.KernelFfnSIdeal.τ) (Cert.KernelFfnSIdeal.main (F := Ideal))) ⟨m, fun _ => 0, g⟩ (fun r => (∀ c : Dev Cert.KernelFfnSIdeal.nD,
      r.2.mem ((c.tc : Thread Cert.KernelFfnSIdeal.nD Cert.KernelFfnSIdeal.τ).loc Cert.KernelFfnSIdeal.main_arg0) = m ((c.tc : Thread Cert.KernelFfnSIdeal.nD Cert.KernelFfnSIdeal.τ).loc Cert.KernelFfnSIdeal.main_arg0)
      ∧ r.2.mem ((c.tc : Thread Cert.KernelFfnSIdeal.nD Cert.KernelFfnSIdeal.τ).loc Cert.KernelFfnSIdeal.main_arg1) = m ((c.tc : Thread Cert.KernelFfnSIdeal.nD Cert.KernelFfnSIdeal.τ).loc Cert.KernelFfnSIdeal.main_arg1)
      ∧ r.2.mem ((c.tc : Thread Cert.KernelFfnSIdeal.nD Cert.KernelFfnSIdeal.τ).loc Cert.KernelFfnSIdeal.main_arg2) = m ((c.tc : Thread Cert.KernelFfnSIdeal.nD Cert.KernelFfnSIdeal.τ).loc Cert.KernelFfnSIdeal.main_arg2)
      ∧ r.2.mem ((c.tc : Thread Cert.KernelFfnSIdeal.nD Cert.KernelFfnSIdeal.τ).loc Cert.KernelFfnSIdeal.main_arg3) = m ((c.tc : Thread Cert.KernelFfnSIdeal.nD Cert.KernelFfnSIdeal.τ).loc Cert.KernelFfnSIdeal.main_arg3)
      ∧ r.2.mem ((c.tc : Thread Cert.KernelFfnSIdeal.nD Cert.KernelFfnSIdeal.τ).loc Cert.KernelFfnSIdeal.main_arg4) = m ((c.tc : Thread Cert.KernelFfnSIdeal.nD Cert.KernelFfnSIdeal.τ).loc Cert.KernelFfnSIdeal.main_arg4)
      ∧ r.2.mem ((c.tc : Thread Cert.KernelFfnSIdeal.nD Cert.KernelFfnSIdeal.τ).loc Cert.KernelFfnSIdeal.main_arg5) = m ((c.tc : Thread Cert.KernelFfnSIdeal.nD Cert.KernelFfnSIdeal.τ).loc Cert.KernelFfnSIdeal.main_arg5)
      ∧ r.2.mem ((c.tc : Thread Cert.KernelFfnSIdeal.nD Cert.KernelFfnSIdeal.τ).loc Cert.KernelFfnSIdeal.main_arg6) = m ((c.tc : Thread Cert.KernelFfnSIdeal.nD Cert.KernelFfnSIdeal.τ).loc Cert.KernelFfnSIdeal.main_arg6))
      ∧ r.2.sem = fun _ => 0)

def quiescent_ReferenceFfnSIdeal [hReferenceFfnSIdeal : Cert.ReferenceFfnSIdeal.Facts] : Prop :=
  ∀ (m : (ℓ : Loc Cert.ReferenceFfnSIdeal.nD Cert.ReferenceFfnSIdeal.τ Cert.ReferenceFfnSIdeal.sig) → Buf (Elt Ideal) ℓ) (g : Dev Cert.ReferenceFfnSIdeal.nD → PrngReg), Pre_ReferenceFfnSIdeal m →
    θ_run (Cert.ReferenceFfnSIdeal.defs (F := Ideal)) (onTc (τ := Cert.ReferenceFfnSIdeal.τ) (Cert.ReferenceFfnSIdeal.main (F := Ideal))) ⟨m, fun _ => 0, g⟩ (fun r => (∀ c : Dev Cert.ReferenceFfnSIdeal.nD,
      r.2.mem ((c.tc : Thread Cert.ReferenceFfnSIdeal.nD Cert.ReferenceFfnSIdeal.τ).loc Cert.ReferenceFfnSIdeal.main_arg0) = m ((c.tc : Thread Cert.ReferenceFfnSIdeal.nD Cert.ReferenceFfnSIdeal.τ).loc Cert.ReferenceFfnSIdeal.main_arg0)
      ∧ r.2.mem ((c.tc : Thread Cert.ReferenceFfnSIdeal.nD Cert.ReferenceFfnSIdeal.τ).loc Cert.ReferenceFfnSIdeal.main_arg1) = m ((c.tc : Thread Cert.ReferenceFfnSIdeal.nD Cert.ReferenceFfnSIdeal.τ).loc Cert.ReferenceFfnSIdeal.main_arg1)
      ∧ r.2.mem ((c.tc : Thread Cert.ReferenceFfnSIdeal.nD Cert.ReferenceFfnSIdeal.τ).loc Cert.ReferenceFfnSIdeal.main_arg2) = m ((c.tc : Thread Cert.ReferenceFfnSIdeal.nD Cert.ReferenceFfnSIdeal.τ).loc Cert.ReferenceFfnSIdeal.main_arg2)
      ∧ r.2.mem ((c.tc : Thread Cert.ReferenceFfnSIdeal.nD Cert.ReferenceFfnSIdeal.τ).loc Cert.ReferenceFfnSIdeal.main_arg3) = m ((c.tc : Thread Cert.ReferenceFfnSIdeal.nD Cert.ReferenceFfnSIdeal.τ).loc Cert.ReferenceFfnSIdeal.main_arg3)
      ∧ r.2.mem ((c.tc : Thread Cert.ReferenceFfnSIdeal.nD Cert.ReferenceFfnSIdeal.τ).loc Cert.ReferenceFfnSIdeal.main_arg4) = m ((c.tc : Thread Cert.ReferenceFfnSIdeal.nD Cert.ReferenceFfnSIdeal.τ).loc Cert.ReferenceFfnSIdeal.main_arg4)
      ∧ r.2.mem ((c.tc : Thread Cert.ReferenceFfnSIdeal.nD Cert.ReferenceFfnSIdeal.τ).loc Cert.ReferenceFfnSIdeal.main_arg5) = m ((c.tc : Thread Cert.ReferenceFfnSIdeal.nD Cert.ReferenceFfnSIdeal.τ).loc Cert.ReferenceFfnSIdeal.main_arg5)
      ∧ r.2.mem ((c.tc : Thread Cert.ReferenceFfnSIdeal.nD Cert.ReferenceFfnSIdeal.τ).loc Cert.ReferenceFfnSIdeal.main_arg6) = m ((c.tc : Thread Cert.ReferenceFfnSIdeal.nD Cert.ReferenceFfnSIdeal.τ).loc Cert.ReferenceFfnSIdeal.main_arg6))
      ∧ r.2.sem = fun _ => 0)

def preserves_KernelSwa_KernelSwaIdeal : Prop :=
  True

def algebraic_KernelSwaIdeal_ReferenceSwaIdeal_pre_finite_scores [hKernelSwaIdeal : Cert.KernelSwaIdeal.Facts] [hReferenceSwaIdeal : Cert.ReferenceSwaIdeal.Facts] [hPre_finite_scores : Cert.Pre_finite_scores.Facts] : Prop :=
  ∀ (m : (ℓ : Loc Cert.KernelSwaIdeal.nD Cert.KernelSwaIdeal.τ Cert.KernelSwaIdeal.sig) → Buf (Elt Ideal) ℓ) (g : Dev Cert.KernelSwaIdeal.nD → PrngReg)
    (m' : (ℓ : Loc Cert.ReferenceSwaIdeal.nD Cert.ReferenceSwaIdeal.τ Cert.ReferenceSwaIdeal.sig) → Buf (Elt Ideal) ℓ) (g' : Dev Cert.ReferenceSwaIdeal.nD → PrngReg), Pre_KernelSwaIdeal_finite_scores m →
    (∀ c : Dev Cert.KernelSwaIdeal.nD,
      m' ((c.tc : Thread Cert.ReferenceSwaIdeal.nD Cert.ReferenceSwaIdeal.τ).loc Cert.ReferenceSwaIdeal.main_arg0) = m ((c.tc : Thread Cert.KernelSwaIdeal.nD Cert.KernelSwaIdeal.τ).loc Cert.KernelSwaIdeal.main_arg0)
      ∧ m' ((c.tc : Thread Cert.ReferenceSwaIdeal.nD Cert.ReferenceSwaIdeal.τ).loc Cert.ReferenceSwaIdeal.main_arg1) = m ((c.tc : Thread Cert.KernelSwaIdeal.nD Cert.KernelSwaIdeal.τ).loc Cert.KernelSwaIdeal.main_arg1)
      ∧ m' ((c.tc : Thread Cert.ReferenceSwaIdeal.nD Cert.ReferenceSwaIdeal.τ).loc Cert.ReferenceSwaIdeal.main_arg2) = m ((c.tc : Thread Cert.KernelSwaIdeal.nD Cert.KernelSwaIdeal.τ).loc Cert.KernelSwaIdeal.main_arg2)
      ∧ m' ((c.tc : Thread Cert.ReferenceSwaIdeal.nD Cert.ReferenceSwaIdeal.τ).loc Cert.ReferenceSwaIdeal.main_arg3) = m ((c.tc : Thread Cert.KernelSwaIdeal.nD Cert.KernelSwaIdeal.τ).loc Cert.KernelSwaIdeal.main_arg3)) →
    ∃ (v0 : (c : Dev Cert.KernelSwaIdeal.nD) → Buf (Elt Ideal) ((c.tc : Thread Cert.KernelSwaIdeal.nD Cert.KernelSwaIdeal.τ).loc Cert.KernelSwaIdeal.main_v0)),
      θ_run (Cert.KernelSwaIdeal.defs (F := Ideal)) (onTc (τ := Cert.KernelSwaIdeal.τ) (Cert.KernelSwaIdeal.main (F := Ideal))) ⟨m, fun _ => 0, g⟩ (fun r => ∀ c : Dev Cert.KernelSwaIdeal.nD,
          r.2.mem ((c.tc : Thread Cert.KernelSwaIdeal.nD Cert.KernelSwaIdeal.τ).loc Cert.KernelSwaIdeal.main_v0) = v0 c
          ∧ r.2.mem ((c.tc : Thread Cert.KernelSwaIdeal.nD Cert.KernelSwaIdeal.τ).loc Cert.KernelSwaIdeal.main_arg0) = m ((c.tc : Thread Cert.KernelSwaIdeal.nD Cert.KernelSwaIdeal.τ).loc Cert.KernelSwaIdeal.main_arg0)
          ∧ r.2.mem ((c.tc : Thread Cert.KernelSwaIdeal.nD Cert.KernelSwaIdeal.τ).loc Cert.KernelSwaIdeal.main_arg1) = m ((c.tc : Thread Cert.KernelSwaIdeal.nD Cert.KernelSwaIdeal.τ).loc Cert.KernelSwaIdeal.main_arg1)
          ∧ r.2.mem ((c.tc : Thread Cert.KernelSwaIdeal.nD Cert.KernelSwaIdeal.τ).loc Cert.KernelSwaIdeal.main_arg2) = m ((c.tc : Thread Cert.KernelSwaIdeal.nD Cert.KernelSwaIdeal.τ).loc Cert.KernelSwaIdeal.main_arg2)
          ∧ r.2.mem ((c.tc : Thread Cert.KernelSwaIdeal.nD Cert.KernelSwaIdeal.τ).loc Cert.KernelSwaIdeal.main_arg3) = m ((c.tc : Thread Cert.KernelSwaIdeal.nD Cert.KernelSwaIdeal.τ).loc Cert.KernelSwaIdeal.main_arg3))
      ∧ θ_run (Cert.ReferenceSwaIdeal.defs (F := Ideal)) (onTc (τ := Cert.ReferenceSwaIdeal.τ) (Cert.ReferenceSwaIdeal.main (F := Ideal))) ⟨m', fun _ => 0, g'⟩ (fun r => ∀ c : Dev Cert.ReferenceSwaIdeal.nD,
          r.2.mem ((c.tc : Thread Cert.ReferenceSwaIdeal.nD Cert.ReferenceSwaIdeal.τ).loc Cert.ReferenceSwaIdeal.main_v74) = v0 c
          ∧ r.2.mem ((c.tc : Thread Cert.ReferenceSwaIdeal.nD Cert.ReferenceSwaIdeal.τ).loc Cert.ReferenceSwaIdeal.main_arg0) = m' ((c.tc : Thread Cert.ReferenceSwaIdeal.nD Cert.ReferenceSwaIdeal.τ).loc Cert.ReferenceSwaIdeal.main_arg0)
          ∧ r.2.mem ((c.tc : Thread Cert.ReferenceSwaIdeal.nD Cert.ReferenceSwaIdeal.τ).loc Cert.ReferenceSwaIdeal.main_arg1) = m' ((c.tc : Thread Cert.ReferenceSwaIdeal.nD Cert.ReferenceSwaIdeal.τ).loc Cert.ReferenceSwaIdeal.main_arg1)
          ∧ r.2.mem ((c.tc : Thread Cert.ReferenceSwaIdeal.nD Cert.ReferenceSwaIdeal.τ).loc Cert.ReferenceSwaIdeal.main_arg2) = m' ((c.tc : Thread Cert.ReferenceSwaIdeal.nD Cert.ReferenceSwaIdeal.τ).loc Cert.ReferenceSwaIdeal.main_arg2)
          ∧ r.2.mem ((c.tc : Thread Cert.ReferenceSwaIdeal.nD Cert.ReferenceSwaIdeal.τ).loc Cert.ReferenceSwaIdeal.main_arg3) = m' ((c.tc : Thread Cert.ReferenceSwaIdeal.nD Cert.ReferenceSwaIdeal.τ).loc Cert.ReferenceSwaIdeal.main_arg3))

def preserves_KernelMem_KernelMemIdeal : Prop :=
  IdealRules.named_const.Statement Cert.KernelMemIdeal.κ "mem_scale" .f32 0x3DB504F3#32 (((Real.sqrt 128)⁻¹ : ℝ) : EReal)

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) →
    ∃ (v0 : (c : Dev Cert.KernelMemIdeal.nD) → Buf (Elt Ideal) ((c.tc : Thread Cert.KernelMemIdeal.nD Cert.KernelMemIdeal.τ).loc Cert.KernelMemIdeal.main_v0)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v0) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v20) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v2) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v10) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v4_0)) (v1 : (c : Dev Cert.KernelFfnIdeal.nD) → Buf (Elt Ideal) ((c.tc : Thread Cert.KernelFfnIdeal.nD Cert.KernelFfnIdeal.τ).loc Cert.KernelFfnIdeal.main_v4_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4_0) = v0 c
          ∧ r.2.mem ((c.tc : Thread Cert.KernelFfnIdeal.nD Cert.KernelFfnIdeal.τ).loc Cert.KernelFfnIdeal.main_v4_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v57) = v0 c
          ∧ r.2.mem ((c.tc : Thread Cert.ReferenceFfnIdeal.nD Cert.ReferenceFfnIdeal.τ).loc Cert.ReferenceFfnIdeal.main_v58) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelIn_KernelInIdeal : Prop :=
  True

def algebraic_KernelInIdeal_ReferenceInIdeal_pre_finite_weights [hKernelInIdeal : Cert.KernelInIdeal.Facts] [hReferenceInIdeal : Cert.ReferenceInIdeal.Facts] [hPre_finite_weights : Cert.Pre_finite_weights.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_weights m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v19_0)) (v1 : (c : Dev Cert.KernelInIdeal.nD) → Buf (Elt Ideal) ((c.tc : Thread Cert.KernelInIdeal.nD Cert.KernelInIdeal.τ).loc Cert.KernelInIdeal.main_v19_1)) (v2 : (c : Dev Cert.KernelInIdeal.nD) → Buf (Elt Ideal) ((c.tc : Thread Cert.KernelInIdeal.nD Cert.KernelInIdeal.τ).loc Cert.KernelInIdeal.main_v19_2)) (v3 : (c : Dev Cert.KernelInIdeal.nD) → Buf (Elt Ideal) ((c.tc : Thread Cert.KernelInIdeal.nD Cert.KernelInIdeal.τ).loc Cert.KernelInIdeal.main_v19_3)) (v4 : (c : Dev Cert.KernelInIdeal.nD) → Buf (Elt Ideal) ((c.tc : Thread Cert.KernelInIdeal.nD Cert.KernelInIdeal.τ).loc Cert.KernelInIdeal.main_v19_4)) (v5 : (c : Dev Cert.KernelInIdeal.nD) → Buf (Elt Ideal) ((c.tc : Thread Cert.KernelInIdeal.nD Cert.KernelInIdeal.τ).loc Cert.KernelInIdeal.main_v19_5)) (v6 : (c : Dev Cert.KernelInIdeal.nD) → Buf (Elt Ideal) ((c.tc : Thread Cert.KernelInIdeal.nD Cert.KernelInIdeal.τ).loc Cert.KernelInIdeal.main_v21)) (v7 : (c : Dev Cert.KernelInIdeal.nD) → Buf (Elt Ideal) ((c.tc : Thread Cert.KernelInIdeal.nD Cert.KernelInIdeal.τ).loc Cert.KernelInIdeal.main_v23)) (v8 : (c : Dev Cert.KernelInIdeal.nD) → Buf (Elt Ideal) ((c.tc : Thread Cert.KernelInIdeal.nD Cert.KernelInIdeal.τ).loc Cert.KernelInIdeal.main_v24)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v19_0) = v0 c
          ∧ r.2.mem ((c.tc : Thread Cert.KernelInIdeal.nD Cert.KernelInIdeal.τ).loc Cert.KernelInIdeal.main_v19_1) = v1 c
          ∧ r.2.mem ((c.tc : Thread Cert.KernelInIdeal.nD Cert.KernelInIdeal.τ).loc Cert.KernelInIdeal.main_v19_2) = v2 c
          ∧ r.2.mem ((c.tc : Thread Cert.KernelInIdeal.nD Cert.KernelInIdeal.τ).loc Cert.KernelInIdeal.main_v19_3) = v3 c
          ∧ r.2.mem ((c.tc : Thread Cert.KernelInIdeal.nD Cert.KernelInIdeal.τ).loc Cert.KernelInIdeal.main_v19_4) = v4 c
          ∧ r.2.mem ((c.tc : Thread Cert.KernelInIdeal.nD Cert.KernelInIdeal.τ).loc Cert.KernelInIdeal.main_v19_5) = v5 c
          ∧ r.2.mem ((c.tc : Thread Cert.KernelInIdeal.nD Cert.KernelInIdeal.τ).loc Cert.KernelInIdeal.main_v21) = v6 c
          ∧ r.2.mem ((c.tc : Thread Cert.KernelInIdeal.nD Cert.KernelInIdeal.τ).loc Cert.KernelInIdeal.main_v23) = v7 c
          ∧ r.2.mem ((c.tc : Thread Cert.KernelInIdeal.nD Cert.KernelInIdeal.τ).loc Cert.KernelInIdeal.main_v24) = v8 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_v34) = v1 c
          ∧ r.2.mem ((c.tc : Thread Cert.ReferenceInIdeal.nD Cert.ReferenceInIdeal.τ).loc Cert.ReferenceInIdeal.main_v64) = v2 c
          ∧ r.2.mem ((c.tc : Thread Cert.ReferenceInIdeal.nD Cert.ReferenceInIdeal.τ).loc Cert.ReferenceInIdeal.main_v17) = v3 c
          ∧ r.2.mem ((c.tc : Thread Cert.ReferenceInIdeal.nD Cert.ReferenceInIdeal.τ).loc Cert.ReferenceInIdeal.main_v63) = v4 c
          ∧ r.2.mem ((c.tc : Thread Cert.ReferenceInIdeal.nD Cert.ReferenceInIdeal.τ).loc Cert.ReferenceInIdeal.main_v70) = v5 c
          ∧ r.2.mem ((c.tc : Thread Cert.ReferenceInIdeal.nD Cert.ReferenceInIdeal.τ).loc Cert.ReferenceInIdeal.main_v71) = v6 c
          ∧ r.2.mem ((c.tc : Thread Cert.ReferenceInIdeal.nD Cert.ReferenceInIdeal.τ).loc Cert.ReferenceInIdeal.main_v73) = v7 c
          ∧ r.2.mem ((c.tc : Thread Cert.ReferenceInIdeal.nD Cert.ReferenceInIdeal.τ).loc Cert.ReferenceInIdeal.main_v74) = v8 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelMemKv_KernelMemKvIdeal : Prop :=
  True

def algebraic_KernelMemKvIdeal_ReferenceMemKvIdeal [hKernelMemKvIdeal : Cert.KernelMemKvIdeal.Facts] [hReferenceMemKvIdeal : Cert.ReferenceMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg)
    (m' : (ℓ : Loc Cert.ReferenceMemKvIdeal.nD Cert.ReferenceMemKvIdeal.τ Cert.ReferenceMemKvIdeal.sig) → Buf (Elt Ideal) ℓ) (g' : Dev Cert.ReferenceMemKvIdeal.nD → PrngReg), Pre_KernelMemKvIdeal m →
    (∀ c : Dev Cert.KernelMemKvIdeal.nD,
      m' ((c.tc : Thread Cert.ReferenceMemKvIdeal.nD Cert.ReferenceMemKvIdeal.τ).loc Cert.ReferenceMemKvIdeal.main_arg0) = m ((c.tc : Thread Cert.KernelMemKvIdeal.nD Cert.KernelMemKvIdeal.τ).loc Cert.KernelMemKvIdeal.main_arg0)
      ∧ m' ((c.tc : Thread Cert.ReferenceMemKvIdeal.nD Cert.ReferenceMemKvIdeal.τ).loc Cert.ReferenceMemKvIdeal.main_arg1) = m ((c.tc : Thread Cert.KernelMemKvIdeal.nD Cert.KernelMemKvIdeal.τ).loc Cert.KernelMemKvIdeal.main_arg1)
      ∧ m' ((c.tc : Thread Cert.ReferenceMemKvIdeal.nD Cert.ReferenceMemKvIdeal.τ).loc Cert.ReferenceMemKvIdeal.main_arg2) = m ((c.tc : Thread Cert.KernelMemKvIdeal.nD Cert.KernelMemKvIdeal.τ).loc Cert.KernelMemKvIdeal.main_arg2)
      ∧ m' ((c.tc : Thread Cert.ReferenceMemKvIdeal.nD Cert.ReferenceMemKvIdeal.τ).loc Cert.ReferenceMemKvIdeal.main_arg3) = m ((c.tc : Thread Cert.KernelMemKvIdeal.nD Cert.KernelMemKvIdeal.τ).loc Cert.KernelMemKvIdeal.main_arg3)) →
    ∃ (v0 : (c : Dev Cert.KernelMemKvIdeal.nD) → Buf (Elt Ideal) ((c.tc : Thread Cert.KernelMemKvIdeal.nD Cert.KernelMemKvIdeal.τ).loc Cert.KernelMemKvIdeal.main_v3_0)) (v1 : (c : Dev Cert.KernelMemKvIdeal.nD) → Buf (Elt Ideal) ((c.tc : Thread Cert.KernelMemKvIdeal.nD Cert.KernelMemKvIdeal.τ).loc Cert.KernelMemKvIdeal.main_v3_1)),
      θ_run (Cert.KernelMemKvIdeal.defs (F := Ideal)) (onTc (τ := Cert.KernelMemKvIdeal.τ) (Cert.KernelMemKvIdeal.main (F := Ideal))) ⟨m, fun _ => 0, g⟩ (fun r => ∀ c : Dev Cert.KernelMemKvIdeal.nD,
          r.2.mem ((c.tc : Thread Cert.KernelMemKvIdeal.nD Cert.KernelMemKvIdeal.τ).loc Cert.KernelMemKvIdeal.main_v3_0) = v0 c
          ∧ r.2.mem ((c.tc : Thread Cert.KernelMemKvIdeal.nD Cert.KernelMemKvIdeal.τ).loc Cert.KernelMemKvIdeal.main_v3_1) = v1 c
          ∧ r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
          ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
          ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2)
          ∧ r.2.mem ((c.tc : Thread Cert.KernelMemKvIdeal.nD Cert.KernelMemKvIdeal.τ).loc Cert.KernelMemKvIdeal.main_arg3) = m ((c.tc : Thread Cert.KernelMemKvIdeal.nD Cert.KernelMemKvIdeal.τ).loc Cert.KernelMemKvIdeal.main_arg3))
      ∧ θ_run (Cert.ReferenceMemKvIdeal.defs (F := Ideal)) (onTc (τ := Cert.ReferenceMemKvIdeal.τ) (Cert.ReferenceMemKvIdeal.main (F := Ideal))) ⟨m', fun _ => 0, g'⟩ (fun r => ∀ c : Dev Cert.ReferenceMemKvIdeal.nD,
          r.2.mem ((c.tc : Thread Cert.ReferenceMemKvIdeal.nD Cert.ReferenceMemKvIdeal.τ).loc Cert.ReferenceMemKvIdeal.main_v30) = v0 c
          ∧ r.2.mem ((c.tc : Thread Cert.ReferenceMemKvIdeal.nD Cert.ReferenceMemKvIdeal.τ).loc Cert.ReferenceMemKvIdeal.main_v15) = v1 c
          ∧ r.2.mem ((c.tc : Thread Cert.ReferenceMemKvIdeal.nD Cert.ReferenceMemKvIdeal.τ).loc Cert.ReferenceMemKvIdeal.main_arg0) = m' ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1) = m' ((c.tc : Thread Cert.ReferenceMemKvIdeal.nD Cert.ReferenceMemKvIdeal.τ).loc Cert.ReferenceMemKvIdeal.main_arg1)
          ∧ r.2.mem ((c.tc : Thread Cert.ReferenceMemKvIdeal.nD Cert.ReferenceMemKvIdeal.τ).loc Cert.ReferenceMemKvIdeal.main_arg2) = m' ((c.tc : Thread Cert.ReferenceMemKvIdeal.nD Cert.ReferenceMemKvIdeal.τ).loc Cert.ReferenceMemKvIdeal.main_arg2)
          ∧ r.2.mem ((c.tc : Thread Cert.ReferenceMemKvIdeal.nD Cert.ReferenceMemKvIdeal.τ).loc Cert.ReferenceMemKvIdeal.main_arg3) = m' ((c.tc : Thread Cert.ReferenceMemKvIdeal.nD Cert.ReferenceMemKvIdeal.τ).loc Cert.ReferenceMemKvIdeal.main_arg3))

def preserves_KernelInS_KernelInSIdeal : Prop :=
  True

def algebraic_KernelInSIdeal_ReferenceInSIdeal_pre_finite_weights_sample [hKernelInSIdeal : Cert.KernelInSIdeal.Facts] [hReferenceInSIdeal : Cert.ReferenceInSIdeal.Facts] [hPre_finite_weights_sample : Cert.Pre_finite_weights_sample.Facts] : Prop :=
  ∀ (m : (ℓ : Loc Cert.KernelInSIdeal.nD Cert.KernelInSIdeal.τ Cert.KernelInSIdeal.sig) → Buf (Elt Ideal) ℓ) (g : Dev Cert.KernelInSIdeal.nD → PrngReg)
    (m' : (ℓ : Loc Cert.ReferenceInSIdeal.nD Cert.ReferenceInSIdeal.τ Cert.ReferenceInSIdeal.sig) → Buf (Elt Ideal) ℓ) (g' : Dev Cert.ReferenceInSIdeal.nD → PrngReg), Pre_KernelInSIdeal_finite_weights_sample m →
    (∀ c : Dev Cert.KernelInSIdeal.nD,
      m' ((c.tc : Thread Cert.ReferenceInSIdeal.nD Cert.ReferenceInSIdeal.τ).loc Cert.ReferenceInSIdeal.main_arg0) = m ((c.tc : Thread Cert.KernelInSIdeal.nD Cert.KernelInSIdeal.τ).loc Cert.KernelInSIdeal.main_arg0)
      ∧ m' ((c.tc : Thread Cert.ReferenceInSIdeal.nD Cert.ReferenceInSIdeal.τ).loc Cert.ReferenceInSIdeal.main_arg1) = m ((c.tc : Thread Cert.KernelInSIdeal.nD Cert.KernelInSIdeal.τ).loc Cert.KernelInSIdeal.main_arg1)
      ∧ m' ((c.tc : Thread Cert.ReferenceInSIdeal.nD Cert.ReferenceInSIdeal.τ).loc Cert.ReferenceInSIdeal.main_arg2) = m ((c.tc : Thread Cert.KernelInSIdeal.nD Cert.KernelInSIdeal.τ).loc Cert.KernelInSIdeal.main_arg2)
      ∧ m' ((c.tc : Thread Cert.ReferenceInSIdeal.nD Cert.ReferenceInSIdeal.τ).loc Cert.ReferenceInSIdeal.main_arg3) = m ((c.tc : Thread Cert.KernelInSIdeal.nD Cert.KernelInSIdeal.τ).loc Cert.KernelInSIdeal.main_arg3)
      ∧ m' ((c.tc : Thread Cert.ReferenceInSIdeal.nD Cert.ReferenceInSIdeal.τ).loc Cert.ReferenceInSIdeal.main_arg4) = m ((c.tc : Thread Cert.KernelInSIdeal.nD Cert.KernelInSIdeal.τ).loc Cert.KernelInSIdeal.main_arg4)
      ∧ m' ((c.tc : Thread Cert.ReferenceInSIdeal.nD Cert.ReferenceInSIdeal.τ).loc Cert.ReferenceInSIdeal.main_arg5) = m ((c.tc : Thread Cert.KernelInSIdeal.nD Cert.KernelInSIdeal.τ).loc Cert.KernelInSIdeal.main_arg5)
      ∧ m' ((c.tc : Thread Cert.ReferenceInSIdeal.nD Cert.ReferenceInSIdeal.τ).loc Cert.ReferenceInSIdeal.main_arg6) = m ((c.tc : Thread Cert.KernelInSIdeal.nD Cert.KernelInSIdeal.τ).loc Cert.KernelInSIdeal.main_arg6)
      ∧ m' ((c.tc : Thread Cert.ReferenceInSIdeal.nD Cert.ReferenceInSIdeal.τ).loc Cert.ReferenceInSIdeal.main_arg7) = m ((c.tc : Thread Cert.KernelInSIdeal.nD Cert.KernelInSIdeal.τ).loc Cert.KernelInSIdeal.main_arg7)) →
    ∃ (v0 : (c : Dev Cert.KernelInSIdeal.nD) → Buf (Elt Ideal) ((c.tc : Thread Cert.KernelInSIdeal.nD Cert.KernelInSIdeal.τ).loc Cert.KernelInSIdeal.main_v21_0)) (v1 : (c : Dev Cert.KernelInSIdeal.nD) → Buf (Elt Ideal) ((c.tc : Thread Cert.KernelInSIdeal.nD Cert.KernelInSIdeal.τ).loc Cert.KernelInSIdeal.main_v21_1)) (v2 : (c : Dev Cert.KernelInSIdeal.nD) → Buf (Elt Ideal) ((c.tc : Thread Cert.KernelInSIdeal.nD Cert.KernelInSIdeal.τ).loc Cert.KernelInSIdeal.main_v21_2)) (v3 : (c : Dev Cert.KernelInSIdeal.nD) → Buf (Elt Ideal) ((c.tc : Thread Cert.KernelInSIdeal.nD Cert.KernelInSIdeal.τ).loc Cert.KernelInSIdeal.main_v21_3)) (v4 : (c : Dev Cert.KernelInSIdeal.nD) → Buf (Elt Ideal) ((c.tc : Thread Cert.KernelInSIdeal.nD Cert.KernelInSIdeal.τ).loc Cert.KernelInSIdeal.main_v21_4)) (v5 : (c : Dev Cert.KernelInSIdeal.nD) → Buf (Elt Ideal) ((c.tc : Thread Cert.KernelInSIdeal.nD Cert.KernelInSIdeal.τ).loc Cert.KernelInSIdeal.main_v21_5)) (v6 : (c : Dev Cert.KernelInSIdeal.nD) → Buf (Elt Ideal) ((c.tc : Thread Cert.KernelInSIdeal.nD Cert.KernelInSIdeal.τ).loc Cert.KernelInSIdeal.main_v24)) (v7 : (c : Dev Cert.KernelInSIdeal.nD) → Buf (Elt Ideal) ((c.tc : Thread Cert.KernelInSIdeal.nD Cert.KernelInSIdeal.τ).loc Cert.KernelInSIdeal.main_v27)) (v8 : (c : Dev Cert.KernelInSIdeal.nD) → Buf (Elt Ideal) ((c.tc : Thread Cert.KernelInSIdeal.nD Cert.KernelInSIdeal.τ).loc Cert.KernelInSIdeal.main_v28)),
      θ_run (Cert.KernelInSIdeal.defs (F := Ideal)) (onTc (τ := Cert.KernelInSIdeal.τ) (Cert.KernelInSIdeal.main (F := Ideal))) ⟨m, fun _ => 0, g⟩ (fun r => ∀ c : Dev Cert.KernelInSIdeal.nD,
          r.2.mem ((c.tc : Thread Cert.KernelInSIdeal.nD Cert.KernelInSIdeal.τ).loc Cert.KernelInSIdeal.main_v21_0) = v0 c
          ∧ r.2.mem ((c.tc : Thread Cert.KernelInSIdeal.nD Cert.KernelInSIdeal.τ).loc Cert.KernelInSIdeal.main_v21_1) = v1 c
          ∧ r.2.mem ((c.tc : Thread Cert.KernelInSIdeal.nD Cert.KernelInSIdeal.τ).loc Cert.KernelInSIdeal.main_v21_2) = v2 c
          ∧ r.2.mem ((c.tc : Thread Cert.KernelInSIdeal.nD Cert.KernelInSIdeal.τ).loc Cert.KernelInSIdeal.main_v21_3) = v3 c
          ∧ r.2.mem ((c.tc : Thread Cert.KernelInSIdeal.nD Cert.KernelInSIdeal.τ).loc Cert.KernelInSIdeal.main_v21_4) = v4 c
          ∧ r.2.mem ((c.tc : Thread Cert.KernelInSIdeal.nD Cert.KernelInSIdeal.τ).loc Cert.KernelInSIdeal.main_v21_5) = v5 c
          ∧ r.2.mem ((c.tc : Thread Cert.KernelInSIdeal.nD Cert.KernelInSIdeal.τ).loc Cert.KernelInSIdeal.main_v24) = v6 c
          ∧ r.2.mem ((c.tc : Thread Cert.KernelInSIdeal.nD Cert.KernelInSIdeal.τ).loc Cert.KernelInSIdeal.main_v27) = v7 c
          ∧ r.2.mem ((c.tc : Thread Cert.KernelInSIdeal.nD Cert.KernelInSIdeal.τ).loc Cert.KernelInSIdeal.main_v28) = v8 c
          ∧ r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
          ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
          ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2)
          ∧ r.2.mem ((c.tc : Thread Cert.KernelInSIdeal.nD Cert.KernelInSIdeal.τ).loc Cert.KernelInSIdeal.main_arg3) = m ((c.tc : Thread Cert.KernelInSIdeal.nD Cert.KernelInSIdeal.τ).loc Cert.KernelInSIdeal.main_arg3)
          ∧ r.2.mem ((c.tc : Thread Cert.KernelInSIdeal.nD Cert.KernelInSIdeal.τ).loc Cert.KernelInSIdeal.main_arg4) = m ((c.tc : Thread Cert.KernelInSIdeal.nD Cert.KernelInSIdeal.τ).loc Cert.KernelInSIdeal.main_arg4)
          ∧ r.2.mem ((c.tc : Thread Cert.KernelInSIdeal.nD Cert.KernelInSIdeal.τ).loc Cert.KernelInSIdeal.main_arg5) = m ((c.tc : Thread Cert.KernelInSIdeal.nD Cert.KernelInSIdeal.τ).loc Cert.KernelInSIdeal.main_arg5)
          ∧ r.2.mem ((c.tc : Thread Cert.KernelInSIdeal.nD Cert.KernelInSIdeal.τ).loc Cert.KernelInSIdeal.main_arg6) = m ((c.tc : Thread Cert.KernelInSIdeal.nD Cert.KernelInSIdeal.τ).loc Cert.KernelInSIdeal.main_arg6)
          ∧ r.2.mem ((c.tc : Thread Cert.KernelInSIdeal.nD Cert.KernelInSIdeal.τ).loc Cert.KernelInSIdeal.main_arg7) = m ((c.tc : Thread Cert.KernelInSIdeal.nD Cert.KernelInSIdeal.τ).loc Cert.KernelInSIdeal.main_arg7))
      ∧ θ_run (Cert.ReferenceInSIdeal.defs (F := Ideal)) (onTc (τ := Cert.ReferenceInSIdeal.τ) (Cert.ReferenceInSIdeal.main (F := Ideal))) ⟨m', fun _ => 0, g'⟩ (fun r => ∀ c : Dev Cert.ReferenceInSIdeal.nD,
          r.2.mem ((c.tc : Thread Cert.ReferenceInSIdeal.nD Cert.ReferenceInSIdeal.τ).loc Cert.ReferenceInSIdeal.main_v14) = v0 c
          ∧ r.2.mem ((c.tc : Thread Cert.ReferenceInSIdeal.nD Cert.ReferenceInSIdeal.τ).loc Cert.ReferenceInSIdeal.main_v34) = v1 c
          ∧ r.2.mem ((c.tc : Thread Cert.ReferenceInSIdeal.nD Cert.ReferenceInSIdeal.τ).loc Cert.ReferenceInSIdeal.main_v67) = v2 c
          ∧ r.2.mem ((c.tc : Thread Cert.ReferenceInSIdeal.nD Cert.ReferenceInSIdeal.τ).loc Cert.ReferenceInSIdeal.main_v17) = v3 c
          ∧ r.2.mem ((c.tc : Thread Cert.ReferenceInSIdeal.nD Cert.ReferenceInSIdeal.τ).loc Cert.ReferenceInSIdeal.main_v63) = v4 c
          ∧ r.2.mem ((c.tc : Thread Cert.ReferenceInSIdeal.nD Cert.ReferenceInSIdeal.τ).loc Cert.ReferenceInSIdeal.main_v73) = v5 c
          ∧ r.2.mem ((c.tc : Thread Cert.ReferenceInSIdeal.nD Cert.ReferenceInSIdeal.τ).loc Cert.ReferenceInSIdeal.main_v74) = v6 c
          ∧ r.2.mem ((c.tc : Thread Cert.ReferenceInSIdeal.nD Cert.ReferenceInSIdeal.τ).loc Cert.ReferenceInSIdeal.main_v75) = v7 c
          ∧ r.2.mem ((c.tc : Thread Cert.ReferenceInSIdeal.nD Cert.ReferenceInSIdeal.τ).loc Cert.ReferenceInSIdeal.main_v76) = v8 c
          ∧ r.2.mem ((c.tc : Thread Cert.ReferenceInSIdeal.nD Cert.ReferenceInSIdeal.τ).loc Cert.ReferenceInSIdeal.main_arg0) = m' ((c.tc : Thread Cert.ReferenceInSIdeal.nD Cert.ReferenceInSIdeal.τ).loc Cert.ReferenceInSIdeal.main_arg0)
          ∧ r.2.mem ((c.tc : Thread Cert.ReferenceInSIdeal.nD Cert.ReferenceInSIdeal.τ).loc Cert.ReferenceInSIdeal.main_arg1) = m' ((c.tc : Thread Cert.ReferenceInSIdeal.nD Cert.ReferenceInSIdeal.τ).loc Cert.ReferenceInSIdeal.main_arg1)
          ∧ r.2.mem ((c.tc : Thread Cert.ReferenceInSIdeal.nD Cert.ReferenceInSIdeal.τ).loc Cert.ReferenceInSIdeal.main_arg2) = m' ((c.tc : Thread Cert.ReferenceInSIdeal.nD Cert.ReferenceInSIdeal.τ).loc Cert.ReferenceInSIdeal.main_arg2)
          ∧ r.2.mem ((c.tc : Thread Cert.ReferenceInSIdeal.nD Cert.ReferenceInSIdeal.τ).loc Cert.ReferenceInSIdeal.main_arg3) = m' ((c.tc : Thread Cert.ReferenceInSIdeal.nD Cert.ReferenceInSIdeal.τ).loc Cert.ReferenceInSIdeal.main_arg3)
          ∧ r.2.mem ((c.tc : Thread Cert.ReferenceInSIdeal.nD Cert.ReferenceInSIdeal.τ).loc Cert.ReferenceInSIdeal.main_arg4) = m' ((c.tc : Thread Cert.ReferenceInSIdeal.nD Cert.ReferenceInSIdeal.τ).loc Cert.ReferenceInSIdeal.main_arg4)
          ∧ r.2.mem ((c.tc : Thread Cert.ReferenceInSIdeal.nD Cert.ReferenceInSIdeal.τ).loc Cert.ReferenceInSIdeal.main_arg5) = m' ((c.tc : Thread Cert.ReferenceInSIdeal.nD Cert.ReferenceInSIdeal.τ).loc Cert.ReferenceInSIdeal.main_arg5)
          ∧ r.2.mem ((c.tc : Thread Cert.ReferenceInSIdeal.nD Cert.ReferenceInSIdeal.τ).loc Cert.ReferenceInSIdeal.main_arg6) = m' ((c.tc : Thread Cert.ReferenceInSIdeal.nD Cert.ReferenceInSIdeal.τ).loc Cert.ReferenceInSIdeal.main_arg6)
          ∧ r.2.mem ((c.tc : Thread Cert.ReferenceInSIdeal.nD Cert.ReferenceInSIdeal.τ).loc Cert.ReferenceInSIdeal.main_arg7) = m' ((c.tc : Thread Cert.ReferenceInSIdeal.nD Cert.ReferenceInSIdeal.τ).loc Cert.ReferenceInSIdeal.main_arg7))

def preserves_KernelFfnS_KernelFfnSIdeal : Prop :=
  True

def algebraic_KernelFfnSIdeal_ReferenceFfnSIdeal [hKernelFfnSIdeal : Cert.KernelFfnSIdeal.Facts] [hReferenceFfnSIdeal : Cert.ReferenceFfnSIdeal.Facts] : Prop :=
  ∀ (m : (ℓ : Loc Cert.KernelFfnSIdeal.nD Cert.KernelFfnSIdeal.τ Cert.KernelFfnSIdeal.sig) → Buf (Elt Ideal) ℓ) (g : Dev Cert.KernelFfnSIdeal.nD → PrngReg)
    (m' : (ℓ : Loc Cert.ReferenceFfnSIdeal.nD Cert.ReferenceFfnSIdeal.τ Cert.ReferenceFfnSIdeal.sig) → Buf (Elt Ideal) ℓ) (g' : Dev Cert.ReferenceFfnSIdeal.nD → PrngReg), Pre_KernelFfnSIdeal m →
    (∀ c : Dev Cert.KernelFfnSIdeal.nD,
      m' ((c.tc : Thread Cert.ReferenceFfnSIdeal.nD Cert.ReferenceFfnSIdeal.τ).loc Cert.ReferenceFfnSIdeal.main_arg0) = m ((c.tc : Thread Cert.KernelFfnSIdeal.nD Cert.KernelFfnSIdeal.τ).loc Cert.KernelFfnSIdeal.main_arg0)
      ∧ m' ((c.tc : Thread Cert.ReferenceFfnSIdeal.nD Cert.ReferenceFfnSIdeal.τ).loc Cert.ReferenceFfnSIdeal.main_arg1) = m ((c.tc : Thread Cert.KernelFfnSIdeal.nD Cert.KernelFfnSIdeal.τ).loc Cert.KernelFfnSIdeal.main_arg1)
      ∧ m' ((c.tc : Thread Cert.ReferenceFfnSIdeal.nD Cert.ReferenceFfnSIdeal.τ).loc Cert.ReferenceFfnSIdeal.main_arg2) = m ((c.tc : Thread Cert.KernelFfnSIdeal.nD Cert.KernelFfnSIdeal.τ).loc Cert.KernelFfnSIdeal.main_arg2)
      ∧ m' ((c.tc : Thread Cert.ReferenceFfnSIdeal.nD Cert.ReferenceFfnSIdeal.τ).loc Cert.ReferenceFfnSIdeal.main_arg3) = m ((c.tc : Thread Cert.KernelFfnSIdeal.nD Cert.KernelFfnSIdeal.τ).loc Cert.KernelFfnSIdeal.main_arg3)
      ∧ m' ((c.tc : Thread Cert.ReferenceFfnSIdeal.nD Cert.ReferenceFfnSIdeal.τ).loc Cert.ReferenceFfnSIdeal.main_arg4) = m ((c.tc : Thread Cert.KernelFfnSIdeal.nD Cert.KernelFfnSIdeal.τ).loc Cert.KernelFfnSIdeal.main_arg4)
      ∧ m' ((c.tc : Thread Cert.ReferenceFfnSIdeal.nD Cert.ReferenceFfnSIdeal.τ).loc Cert.ReferenceFfnSIdeal.main_arg5) = m ((c.tc : Thread Cert.KernelFfnSIdeal.nD Cert.KernelFfnSIdeal.τ).loc Cert.KernelFfnSIdeal.main_arg5)
      ∧ m' ((c.tc : Thread Cert.ReferenceFfnSIdeal.nD Cert.ReferenceFfnSIdeal.τ).loc Cert.ReferenceFfnSIdeal.main_arg6) = m ((c.tc : Thread Cert.KernelFfnSIdeal.nD Cert.KernelFfnSIdeal.τ).loc Cert.KernelFfnSIdeal.main_arg6)) →
    ∃ (v0 : (c : Dev Cert.KernelFfnSIdeal.nD) → Buf (Elt Ideal) ((c.tc : Thread Cert.KernelFfnSIdeal.nD Cert.KernelFfnSIdeal.τ).loc Cert.KernelFfnSIdeal.main_v4_0)) (v1 : (c : Dev Cert.KernelFfnSIdeal.nD) → Buf (Elt Ideal) ((c.tc : Thread Cert.KernelFfnSIdeal.nD Cert.KernelFfnSIdeal.τ).loc Cert.KernelFfnSIdeal.main_v4_1)),
      θ_run (Cert.KernelFfnSIdeal.defs (F := Ideal)) (onTc (τ := Cert.KernelFfnSIdeal.τ) (Cert.KernelFfnSIdeal.main (F := Ideal))) ⟨m, fun _ => 0, g⟩ (fun r => ∀ c : Dev Cert.KernelFfnSIdeal.nD,
          r.2.mem ((c.tc : Thread Cert.KernelFfnSIdeal.nD Cert.KernelFfnSIdeal.τ).loc Cert.KernelFfnSIdeal.main_v4_0) = v0 c
          ∧ r.2.mem ((c.tc : Thread Cert.KernelFfnSIdeal.nD Cert.KernelFfnSIdeal.τ).loc Cert.KernelFfnSIdeal.main_v4_1) = v1 c
          ∧ r.2.mem ((c.tc : Thread Cert.KernelFfnSIdeal.nD Cert.KernelFfnSIdeal.τ).loc Cert.KernelFfnSIdeal.main_arg0) = m ((c.tc : Thread Cert.KernelFfnSIdeal.nD Cert.KernelFfnSIdeal.τ).loc Cert.KernelFfnSIdeal.main_arg0)
          ∧ r.2.mem ((c.tc : Thread Cert.KernelFfnSIdeal.nD Cert.KernelFfnSIdeal.τ).loc Cert.KernelFfnSIdeal.main_arg1) = m ((c.tc : Thread Cert.KernelFfnSIdeal.nD Cert.KernelFfnSIdeal.τ).loc Cert.KernelFfnSIdeal.main_arg1)
          ∧ r.2.mem ((c.tc : Thread Cert.KernelFfnSIdeal.nD Cert.KernelFfnSIdeal.τ).loc Cert.KernelFfnSIdeal.main_arg2) = m ((c.tc : Thread Cert.KernelFfnSIdeal.nD Cert.KernelFfnSIdeal.τ).loc Cert.KernelFfnSIdeal.main_arg2)
          ∧ r.2.mem ((c.tc : Thread Cert.KernelFfnSIdeal.nD Cert.KernelFfnSIdeal.τ).loc Cert.KernelFfnSIdeal.main_arg3) = m ((c.tc : Thread Cert.KernelFfnSIdeal.nD Cert.KernelFfnSIdeal.τ).loc Cert.KernelFfnSIdeal.main_arg3)
          ∧ r.2.mem ((c.tc : Thread Cert.KernelFfnSIdeal.nD Cert.KernelFfnSIdeal.τ).loc Cert.KernelFfnSIdeal.main_arg4) = m ((c.tc : Thread Cert.KernelFfnSIdeal.nD Cert.KernelFfnSIdeal.τ).loc Cert.KernelFfnSIdeal.main_arg4)
          ∧ r.2.mem ((c.tc : Thread Cert.KernelFfnSIdeal.nD Cert.KernelFfnSIdeal.τ).loc Cert.KernelFfnSIdeal.main_arg5) = m ((c.tc : Thread Cert.KernelFfnSIdeal.nD Cert.KernelFfnSIdeal.τ).loc Cert.KernelFfnSIdeal.main_arg5)
          ∧ r.2.mem ((c.tc : Thread Cert.KernelFfnSIdeal.nD Cert.KernelFfnSIdeal.τ).loc Cert.KernelFfnSIdeal.main_arg6) = m ((c.tc : Thread Cert.KernelFfnSIdeal.nD Cert.KernelFfnSIdeal.τ).loc Cert.KernelFfnSIdeal.main_arg6))
      ∧ θ_run (Cert.ReferenceFfnSIdeal.defs (F := Ideal)) (onTc (τ := Cert.ReferenceFfnSIdeal.τ) (Cert.ReferenceFfnSIdeal.main (F := Ideal))) ⟨m', fun _ => 0, g'⟩ (fun r => ∀ c : Dev Cert.ReferenceFfnSIdeal.nD,
          r.2.mem ((c.tc : Thread Cert.ReferenceFfnSIdeal.nD Cert.ReferenceFfnSIdeal.τ).loc Cert.ReferenceFfnSIdeal.main_v57) = v0 c
          ∧ r.2.mem ((c.tc : Thread Cert.ReferenceFfnSIdeal.nD Cert.ReferenceFfnSIdeal.τ).loc Cert.ReferenceFfnSIdeal.main_v58) = v1 c
          ∧ r.2.mem ((c.tc : Thread Cert.ReferenceFfnSIdeal.nD Cert.ReferenceFfnSIdeal.τ).loc Cert.ReferenceFfnSIdeal.main_arg0) = m' ((c.tc : Thread Cert.ReferenceFfnSIdeal.nD Cert.ReferenceFfnSIdeal.τ).loc Cert.ReferenceFfnSIdeal.main_arg0)
          ∧ r.2.mem ((c.tc : Thread Cert.ReferenceFfnSIdeal.nD Cert.ReferenceFfnSIdeal.τ).loc Cert.ReferenceFfnSIdeal.main_arg1) = m' ((c.tc : Thread Cert.ReferenceFfnSIdeal.nD Cert.ReferenceFfnSIdeal.τ).loc Cert.ReferenceFfnSIdeal.main_arg1)
          ∧ r.2.mem ((c.tc : Thread Cert.ReferenceFfnSIdeal.nD Cert.ReferenceFfnSIdeal.τ).loc Cert.ReferenceFfnSIdeal.main_arg2) = m' ((c.tc : Thread Cert.ReferenceFfnSIdeal.nD Cert.ReferenceFfnSIdeal.τ).loc Cert.ReferenceFfnSIdeal.main_arg2)
          ∧ r.2.mem ((c.tc : Thread Cert.ReferenceFfnSIdeal.nD Cert.ReferenceFfnSIdeal.τ).loc Cert.ReferenceFfnSIdeal.main_arg3) = m' ((c.tc : Thread Cert.ReferenceFfnSIdeal.nD Cert.ReferenceFfnSIdeal.τ).loc Cert.ReferenceFfnSIdeal.main_arg3)
          ∧ r.2.mem ((c.tc : Thread Cert.ReferenceFfnSIdeal.nD Cert.ReferenceFfnSIdeal.τ).loc Cert.ReferenceFfnSIdeal.main_arg4) = m' ((c.tc : Thread Cert.ReferenceFfnSIdeal.nD Cert.ReferenceFfnSIdeal.τ).loc Cert.ReferenceFfnSIdeal.main_arg4)
          ∧ r.2.mem ((c.tc : Thread Cert.ReferenceFfnSIdeal.nD Cert.ReferenceFfnSIdeal.τ).loc Cert.ReferenceFfnSIdeal.main_arg5) = m' ((c.tc : Thread Cert.ReferenceFfnSIdeal.nD Cert.ReferenceFfnSIdeal.τ).loc Cert.ReferenceFfnSIdeal.main_arg5)
          ∧ r.2.mem ((c.tc : Thread Cert.ReferenceFfnSIdeal.nD Cert.ReferenceFfnSIdeal.τ).loc Cert.ReferenceFfnSIdeal.main_arg6) = m' ((c.tc : Thread Cert.ReferenceFfnSIdeal.nD Cert.ReferenceFfnSIdeal.τ).loc Cert.ReferenceFfnSIdeal.main_arg6))

def Claim : Prop :=
  ∃ (hKernelSwa : Cert.KernelSwa.Facts) (hKernelSwaIdeal : Cert.KernelSwaIdeal.Facts) (hReferenceSwaIdeal : Cert.ReferenceSwaIdeal.Facts) (hKernelMem : Cert.KernelMem.Facts) (hKernelMemIdeal : Cert.KernelMemIdeal.Facts) (hReferenceMemIdeal : Cert.ReferenceMemIdeal.Facts) (hKernelMerge : Cert.KernelMerge.Facts) (hKernelMergeIdeal : Cert.KernelMergeIdeal.Facts) (hReferenceMergeIdeal : Cert.ReferenceMergeIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hKernelMemKv : Cert.KernelMemKv.Facts) (hKernelMemKvIdeal : Cert.KernelMemKvIdeal.Facts) (hReferenceMemKvIdeal : Cert.ReferenceMemKvIdeal.Facts) (hKernelInS : Cert.KernelInS.Facts) (hKernelInSIdeal : Cert.KernelInSIdeal.Facts) (hReferenceInSIdeal : Cert.ReferenceInSIdeal.Facts) (hKernelFfnS : Cert.KernelFfnS.Facts) (hKernelFfnSIdeal : Cert.KernelFfnSIdeal.Facts) (hReferenceFfnSIdeal : Cert.ReferenceFfnSIdeal.Facts) (hPre_finite_scores : Cert.Pre_finite_scores.Facts) (hPre_finite_weights : Cert.Pre_finite_weights.Facts) (hPre_finite_weights_sample : Cert.Pre_finite_weights_sample.Facts),
    quiescent_KernelSwa (hKernelSwa := hKernelSwa)
    ∧ quiescent_KernelSwaIdeal (hKernelSwaIdeal := hKernelSwaIdeal)
    ∧ quiescent_KernelSwaIdeal_pre_finite_scores (hKernelSwaIdeal := hKernelSwaIdeal) (hPre_finite_scores := hPre_finite_scores)
    ∧ quiescent_ReferenceSwaIdeal (hReferenceSwaIdeal := hReferenceSwaIdeal)
    ∧ quiescent_ReferenceSwaIdeal_pre_finite_scores (hReferenceSwaIdeal := hReferenceSwaIdeal) (hPre_finite_scores := hPre_finite_scores)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_KernelInIdeal_pre_finite_weights (hKernelInIdeal := hKernelInIdeal) (hPre_finite_weights := hPre_finite_weights)
    ∧ quiescent_ReferenceInIdeal (hReferenceInIdeal := hReferenceInIdeal)
    ∧ quiescent_ReferenceInIdeal_pre_finite_weights (hReferenceInIdeal := hReferenceInIdeal) (hPre_finite_weights := hPre_finite_weights)
    ∧ quiescent_KernelMemKv (hKernelMemKv := hKernelMemKv)
    ∧ quiescent_KernelMemKvIdeal (hKernelMemKvIdeal := hKernelMemKvIdeal)
    ∧ quiescent_ReferenceMemKvIdeal (hReferenceMemKvIdeal := hReferenceMemKvIdeal)
    ∧ quiescent_KernelInS (hKernelInS := hKernelInS)
    ∧ quiescent_KernelInSIdeal (hKernelInSIdeal := hKernelInSIdeal)
    ∧ quiescent_KernelInSIdeal_pre_finite_weights_sample (hKernelInSIdeal := hKernelInSIdeal) (hPre_finite_weights_sample := hPre_finite_weights_sample)
    ∧ quiescent_ReferenceInSIdeal (hReferenceInSIdeal := hReferenceInSIdeal)
    ∧ quiescent_ReferenceInSIdeal_pre_finite_weights_sample (hReferenceInSIdeal := hReferenceInSIdeal) (hPre_finite_weights_sample := hPre_finite_weights_sample)
    ∧ quiescent_KernelFfnS (hKernelFfnS := hKernelFfnS)
    ∧ quiescent_KernelFfnSIdeal (hKernelFfnSIdeal := hKernelFfnSIdeal)
    ∧ quiescent_ReferenceFfnSIdeal (hReferenceFfnSIdeal := hReferenceFfnSIdeal)
    ∧ preserves_KernelSwa_KernelSwaIdeal
    ∧ algebraic_KernelSwaIdeal_ReferenceSwaIdeal_pre_finite_scores (hKernelSwaIdeal := hKernelSwaIdeal) (hReferenceSwaIdeal := hReferenceSwaIdeal) (hPre_finite_scores := hPre_finite_scores)
    ∧ preserves_KernelMem_KernelMemIdeal
    ∧ algebraic_KernelMemIdeal_ReferenceMemIdeal (hKernelMemIdeal := hKernelMemIdeal) (hReferenceMemIdeal := hReferenceMemIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal_pre_finite_weights (hKernelInIdeal := hKernelInIdeal) (hReferenceInIdeal := hReferenceInIdeal) (hPre_finite_weights := hPre_finite_weights)
    ∧ preserves_KernelMemKv_KernelMemKvIdeal
    ∧ algebraic_KernelMemKvIdeal_ReferenceMemKvIdeal (hKernelMemKvIdeal := hKernelMemKvIdeal) (hReferenceMemKvIdeal := hReferenceMemKvIdeal)
    ∧ preserves_KernelInS_KernelInSIdeal
    ∧ algebraic_KernelInSIdeal_ReferenceInSIdeal_pre_finite_weights_sample (hKernelInSIdeal := hKernelInSIdeal) (hReferenceInSIdeal := hReferenceInSIdeal) (hPre_finite_weights_sample := hPre_finite_weights_sample)
    ∧ preserves_KernelFfnS_KernelFfnSIdeal
    ∧ algebraic_KernelFfnSIdeal_ReferenceFfnSIdeal (hKernelFfnSIdeal := hKernelFfnSIdeal) (hReferenceFfnSIdeal := hReferenceFfnSIdeal)
-- ==== Pre_finite_scores.lean ====
abbrev S4x4096x512 : Shape := ⟨3, ![4, 4096, 512]⟩
abbrev S4x4096x128 : Shape := ⟨3, ![4, 4096, 128]⟩
abbrev S8 : Shape := ⟨1, ![8]⟩
abbrev S_ : Shape := ⟨0, ![]⟩
abbrev S1x4x4096x4x128 : Shape := ⟨5, ![1, 4, 4096, 4, 128]⟩
abbrev S1x4x4096x1x128 : Shape := ⟨5, ![1, 4, 4096, 1, 128]⟩
abbrev S8x1x1x1x1 : Shape := ⟨5, ![8, 1, 1, 1, 1]⟩
abbrev S8x4x4096x4x128 : Shape := ⟨5, ![8, 4, 4096, 4, 128]⟩

class Facts : Prop where
  bcast_S_S4x4096x512 : S_.BroadcastsInDim S4x4096x512 (![] : Fin 0 → Fin S4x4096x512.rank)
  shapeCasts_S4x4096x512_S1x4x4096x4x128 : S4x4096x512.ShapeCasts S1x4x4096x4x128
  bcast_S_S4x4096x128 : S_.BroadcastsInDim S4x4096x128 (![] : Fin 0 → Fin S4x4096x128.rank)
  shapeCasts_S4x4096x128_S1x4x4096x1x128 : S4x4096x128.ShapeCasts S1x4x4096x1x128
  bcast_S1x4x4096x1x128_S1x4x4096x4x128_0_1_2_3_4 : S1x4x4096x1x128.BroadcastsInDim S1x4x4096x4x128 (![0, 1, 2, 3, 4] : Fin 5 → Fin S1x4x4096x4x128.rank)
  bcast_S_S8 : S_.BroadcastsInDim S8 (![] : Fin 0 → Fin S8.rank)
  shapeCasts_S8_S8x1x1x1x1 : S8.ShapeCasts S8x1x1x1x1
  bcast_S1x4x4096x4x128_S8x4x4096x4x128_0_1_2_3_4 : S1x4x4096x4x128.BroadcastsInDim S8x4x4096x4x128 (![0, 1, 2, 3, 4] : Fin 5 → Fin S8x4x4096x4x128.rank)
  bcast_S8x1x1x1x1_S8x4x4096x4x128_0_1_2_3_4 : S8x1x1x1x1.BroadcastsInDim S8x4x4096x4x128 (![0, 1, 2, 3, 4] : Fin 5 → Fin S8x4x4096x4x128.rank)

variable [Facts]

def fn {F : FTy → Type} [FloatOps F] (main_arg0 : FVec F S4x4096x512 .f32) (main_arg1 : FVec F S4x4096x128 .f32) (main_arg2 : FVec F S4x4096x128 .f32) (main_arg3 : FVec F S8 .f32) : IVec S8x4x4096x4x128 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : IVec S1x4x4096x4x128 1 := shapeCast S1x4x4096x4x128 main_v2 shapeCasts_S4x4096x512_S1x4x4096x4x128
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_v7 : IVec S1x4x4096x1x128 1 := shapeCast S1x4x4096x1x128 main_v6 shapeCasts_S4x4096x128_S1x4x4096x1x128
  let main_v8 : IVec S1x4x4096x4x128 1 := broadcastInDim S1x4x4096x4x128 ![0, 1, 2, 3, 4] bcast_S1x4x4096x1x128_S1x4x4096x4x128_0_1_2_3_4 main_v7
  let main_v9 : IVec S1x4x4096x4x128 1 := andi main_v3 main_v8
  let main_v10 : FVec F S8 .f32 := Host.absf main_arg3
  let main_cst_1 : FVec F S_ .f32 := constant S_ .f32 0x7F800000#32
  let main_v11 : FVec F S8 .f32 := broadcastInDim S8 ![] bcast_S_S8 main_cst_1
  let main_v12 : IVec S8 1 := cmpf .olt main_v10 main_v11
  let main_v13 : IVec S8x1x1x1x1 1 := shapeCast S8x1x1x1x1 main_v12 shapeCasts_S8_S8x1x1x1x1
  let main_v14 : IVec S8x4x4096x4x128 1 := broadcastInDim S8x4x4096x4x128 ![0, 1, 2, 3, 4] bcast_S1x4x4096x4x128_S8x4x4096x4x128_0_1_2_3_4 main_v9
  let main_v15 : IVec S8x4x4096x4x128 1 := broadcastInDim S8x4x4096x4x128 ![0, 1, 2, 3, 4] bcast_S8x1x1x1x1_S8x4x4096x4x128_0_1_2_3_4 main_v13
  let main_v16 : IVec S8x4x4096x4x128 1 := andi main_v14 main_v15
  main_v16
-- ==== Pre_finite_weights.lean ====
abbrev S4x4096x1024 : Shape := ⟨3, ![4, 4096, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S1024x1 : Shape := ⟨2, ![1024, 1]⟩
abbrev S_ : Shape := ⟨0, ![]⟩
abbrev S1024x640 : Shape := ⟨2, ![1024, 640]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  slices_S1024x6144_S1024x640_0_1792 : S1024x6144.Slices ![0, 1792] S1024x640
  bcast_S_S1024x640 : S_.BroadcastsInDim S1024x640 (![] : Fin 0 → Fin S1024x640.rank)
  bcast_S1024x1_S1024x640_0_1 : S1024x1.BroadcastsInDim S1024x640 (![0, 1] : Fin 2 → Fin S1024x640.rank)

variable [Facts]

def fn {F : FTy → Type} [FloatOps F] (main_arg0 : FVec F S4x4096x1024 .f32) (main_arg1 : FVec F S1024 .f32) (main_arg2 : FVec F S1024x6144 .f32) (main_arg3 : FVec F S64 .f32) (main_arg4 : FVec F S64 .f32) (main_arg5 : FVec F S128 .f32) : IVec S1024x640 1 :=
  let main_v0 : FVec F S1024 .f32 := Host.absf main_arg1
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x640 .f32 := (extractStridedSlice S1024x640 ![0, 1792] · slices_S1024x6144_S1024x640_0_1792) main_arg2
  let main_v5 : FVec F S1024x640 .f32 := Host.absf main_v4
  let main_cst_0 : FVec F S_ .f32 := constant S_ .f32 0x7F800000#32
  let main_v6 : FVec F S1024x640 .f32 := broadcastInDim S1024x640 ![] bcast_S_S1024x640 main_cst_0
  let main_v7 : IVec S1024x640 1 := cmpf .olt main_v5 main_v6
  let main_v8 : IVec S1024x640 1 := broadcastInDim S1024x640 ![0, 1] bcast_S1024x1_S1024x640_0_1 main_v3
  let main_v9 : IVec S1024x640 1 := andi main_v8 main_v7
  main_v9
-- ==== Pre_finite_weights_sample.lean ====
abbrev S32x64x1024 : Shape := ⟨3, ![32, 64, 1024]⟩
abbrev S32x128x2x64 : Shape := ⟨4, ![32, 128, 2, 64]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S1024x1 : Shape := ⟨2, ![1024, 1]⟩
abbrev S_ : Shape := ⟨0, ![]⟩
abbrev S1024x640 : Shape := ⟨2, ![1024, 640]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  slices_S1024x6144_S1024x640_0_1792 : S1024x6144.Slices ![0, 1792] S1024x640
  bcast_S_S1024x640 : S_.BroadcastsInDim S1024x640 (![] : Fin 0 → Fin S1024x640.rank)
  bcast_S1024x1_S1024x640_0_1 : S1024x1.BroadcastsInDim S1024x640 (![0, 1] : Fin 2 → Fin S1024x640.rank)

variable [Facts]

def fn {F : FTy → Type} [FloatOps F] (main_arg0 : FVec F S32x64x1024 .f32) (main_arg1 : FVec F S32x128x2x64 .f32) (main_arg2 : FVec F S32x128x2x64 .f32) (main_arg3 : FVec F S1024 .f32) (main_arg4 : FVec F S1024x6144 .f32) (main_arg5 : FVec F S64 .f32) (main_arg6 : FVec F S64 .f32) (main_arg7 : FVec F S128 .f32) : IVec S1024x640 1 :=
  let main_v0 : FVec F S1024 .f32 := Host.absf main_arg3
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x640 .f32 := (extractStridedSlice S1024x640 ![0, 1792] · slices_S1024x6144_S1024x640_0_1792) main_arg4
  let main_v5 : FVec F S1024x640 .f32 := Host.absf main_v4
  let main_cst_0 : FVec F S_ .f32 := constant S_ .f32 0x7F800000#32
  let main_v6 : FVec F S1024x640 .f32 := broadcastInDim S1024x640 ![] bcast_S_S1024x640 main_cst_0
  let main_v7 : IVec S1024x640 1 := cmpf .olt main_v5 main_v6
  let main_v8 : IVec S1024x640 1 := broadcastInDim S1024x640 ![0, 1] bcast_S1024x1_S1024x640_0_1 main_v3
  let main_v9 : IVec S1024x640 1 := andi main_v8 main_v7
  main_v9
-- ==== KernelSwa.lean ====
abbrev S4x4096x512 : Shape := ⟨3, ![4, 4096, 512]⟩
abbrev S4x4096x128 : Shape := ⟨3, ![4, 4096, 128]⟩
abbrev S8 : Shape := ⟨1, ![8]⟩
abbrev S1x256x512 : Shape := ⟨3, ![1, 256, 512]⟩
abbrev S1x256x128 : Shape := ⟨3, ![1, 256, 128]⟩
abbrev S1x128x128 : Shape := ⟨3, ![1, 128, 128]⟩
abbrev S384x128 : Shape := ⟨2, ![384, 128]⟩
abbrev S1x128 : Shape := ⟨2, ![1, 128]⟩
abbrev S64x192 : Shape := ⟨2, ![64, 192]⟩
abbrev S128x128 : Shape := ⟨2, ![128, 128]⟩
abbrev S256x128 : Shape := ⟨2, ![256, 128]⟩
abbrev S192x128 : Shape := ⟨2, ![192, 128]⟩
abbrev S1x64x128 : Shape := ⟨3, ![1, 64, 128]⟩
abbrev S64x128 : Shape := ⟨2, ![64, 128]⟩
abbrev S1 : Shape := ⟨1, ![1]⟩
abbrev S64 : Shape := ⟨1, ![64]⟩
abbrev S64x1 : Shape := ⟨2, ![64, 1]⟩

abbrev nBuf : Space → Nat
  | .hbm => 5
  | .vmem => 16
  | .smem => 1
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S8, .f32⟩
  | .hbm, ⟨4, _⟩ => ⟨S4x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x256x512, .f32⟩
  | .local _ .vmem, ⟨11, _⟩ => ⟨S1x256x512, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | .local _ .vmem, ⟨15, _⟩ => ⟨S384x128, .f32⟩
  | .local _ .smem, ⟨0, _⟩ => ⟨S8, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c4_i32 : BitVec 32 := 4#32
  let v40 : BitVec 32 := Scalar.addi c0_i32 c4_i32
  let c1_i32 : BitVec 32 := 1#32
  ⟨c0_i32, v40, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32_29 : BitVec 32 := 64#32
  let v41 : BitVec 32 := Scalar.muli arg13 c64_i32_29
  v41
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32_29 : BitVec 32 := 64#32
  let v41 : BitVec 32 := Scalar.muli arg13 c64_i32_29
  let v42 : BitVec 32 := v41
  let v43 : Index := Scalar.indexCast v42
  let c0_30 : Index := 0#32
  ![v43.toNat, 0]
def k0_off2 (k0_t1 : Fin k0_t1_loop.trips) : Fin 3 → Nat :=
  let c0_37 : Index := 0#32
  let c0_i32 : BitVec 32 := 0#32
  let c1_i32 : BitVec 32 := 1#32
  let arg13 : BitVec 32 := Scf.iv c0_i32 c1_i32 k0_t1
  let c64_i32_29 : BitVec 32 := 64#32
  let v41 : BitVec 32 := Scalar.muli arg13 c64_i32_29
  let v42 : BitVec 32 := v41
  let v59 : Index := Scalar.indexCast v42
  let c0_38 : Index := 0#32
  ![0, v59.toNat, 0]
def k0_off3 (k0_t1 : Fin k0_t1_loop.trips) : Fin 3 → Nat :=
  let c0_57 : Index := 0#32
  let c0_i32 : BitVec 32 := 0#32
  let c1_i32 : BitVec 32 := 1#32
  let arg13 : BitVec 32 := Scf.iv c0_i32 c1_i32 k0_t1
  let c64_i32_29 : BitVec 32 := 64#32
  let v41 : BitVec 32 := Scalar.muli arg13 c64_i32_29
  let v42 : BitVec 32 := v41
  let v135 : Index := Scalar.indexCast v42
  let c128_58 : Index := 128#32
  ![0, v135.toNat, 128]
def k0_off4 (k0_t1 : Fin k0_t1_loop.trips) : Fin 3 → Nat :=
  let c0_77 : Index := 0#32
  let c0_i32 : BitVec 32 := 0#32
  let c1_i32 : BitVec 32 := 1#32
  let arg13 : BitVec 32 := Scf.iv c0_i32 c1_i32 k0_t1
  let c64_i32_29 : BitVec 32 := 64#32
  let v41 : BitVec 32 := Scalar.muli arg13 c64_i32_29
  let v42 : BitVec 32 := v41
  let v211 : Index := Scalar.indexCast v42
  let c256 : Index := 256#32
  ![0, v211.toNat, 256]
def k0_off5 (k0_t1 : Fin k0_t1_loop.trips) : Fin 3 → Nat :=
  let c0_96 : Index := 0#32
  let c0_i32 : BitVec 32 := 0#32
  let c1_i32 : BitVec 32 := 1#32
  let arg13 : BitVec 32 := Scf.iv c0_i32 c1_i32 k0_t1
  let c64_i32_29 : BitVec 32 := 64#32
  let v41 : BitVec 32 := Scalar.muli arg13 c64_i32_29
  let v42 : BitVec 32 := v41
  let v287 : Index := Scalar.indexCast v42
  let c384 : Index := 384#32
  ![0, v287.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceSwaIdeal.lean ====
abbrev S4x4096x512 : Shape := ⟨3, ![4, 4096, 512]⟩
abbrev S4x4096x128 : Shape := ⟨3, ![4, 4096, 128]⟩
abbrev S8 : Shape := ⟨1, ![8]⟩
abbrev S4x64x64x2x4x64 : Shape := ⟨6, ![4, 64, 64, 2, 4, 64]⟩
abbrev S64 : Shape := ⟨1, ![64]⟩
abbrev S192 : Shape := ⟨1, ![192]⟩
abbrev S64x1 : Shape := ⟨2, ![64, 1]⟩
abbrev S_ : Shape := ⟨0, ![]⟩
abbrev S1x192 : Shape := ⟨2, ![1, 192]⟩
abbrev S64x192 : Shape := ⟨2, ![64, 192]⟩
abbrev S4x64x64x2x64 : Shape := ⟨5, ![4, 64, 64, 2, 64]⟩
abbrev S4x66x64x2x64 : Shape := ⟨5, ![4, 66, 64, 2, 64]⟩
abbrev S4x64x192x2x64 : Shape := ⟨5, ![4, 64, 192, 2, 64]⟩
abbrev S4x64x2x192x64x4 : Shape := ⟨6, ![4, 64, 2, 192, 64, 4]⟩
abbrev S4x64x2x4x64x192 : Shape := ⟨6, ![4, 64, 2, 4, 64, 192]⟩
abbrev S2x4x1x1 : Shape := ⟨4, ![2, 4, 1, 1]⟩
abbrev S1x1x64x192 : Shape := ⟨4, ![1, 1, 64, 192]⟩
abbrev S2x4x64x192 : Shape := ⟨4, ![2, 4, 64, 192]⟩
abbrev S1x1x2x4x64x192 : Shape := ⟨6, ![1, 1, 2, 4, 64, 192]⟩
abbrev S1x64x1x1x1x192 : Shape := ⟨6, ![1, 64, 1, 1, 1, 192]⟩
abbrev S1x1x2x4x1x1 : Shape := ⟨6, ![1, 1, 2, 4, 1, 1]⟩
abbrev S4x64x2x4x64x1 : Shape := ⟨6, ![4, 64, 2, 4, 64, 1]⟩
abbrev S4x64x2x4x64x193 : Shape := ⟨6, ![4, 64, 2, 4, 64, 193]⟩
abbrev S4x64x2x4x64 : Shape := ⟨5, ![4, 64, 2, 4, 64]⟩
abbrev S4x64x2x64x4x64 : Shape := ⟨6, ![4, 64, 2, 64, 4, 64]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S8, .f32⟩
  | .hbm, ⟨4, _⟩ => ⟨S4x64x64x2x4x64, .f32⟩
  | .hbm, ⟨5, _⟩ => ⟨S64, .i32⟩
  | .hbm, ⟨6, _⟩ => ⟨S192, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S1x192, .i32⟩
  | .hbm, ⟨12, _⟩ => ⟨S64x192, .i32⟩
  | .hbm, ⟨13, _⟩ => ⟨S64x192, .i32⟩
  | .hbm, ⟨14, _⟩ => ⟨S64x192, .i32⟩
  | .hbm, ⟨15, _⟩ => ⟨S64x192, .i32⟩
  | .hbm, ⟨16, _⟩ => ⟨S64x192, .f32⟩
  | .hbm, ⟨17, _⟩ => ⟨S64, .i32⟩
  | .hbm, ⟨18, _⟩ => ⟨S64x1, .i32⟩
  | .hbm, ⟨19, _⟩ => ⟨S_, .i32⟩
  | .hbm, ⟨20, _⟩ => ⟨S64x1, .i32⟩
  | .hbm, ⟨21, _⟩ => ⟨S64x1, .i32⟩
  | .hbm, ⟨22, _⟩ => ⟨S1x192, .i32⟩
  | .hbm, ⟨23, _⟩ => ⟨S_, .i32⟩
  | .hbm, ⟨24, _⟩ => ⟨S_, .i32⟩
  | .hbm, ⟨25, _⟩ => ⟨S1x192, .i32⟩
  | .hbm, ⟨26, _⟩ => ⟨S1x192, .i32⟩
  | .hbm, ⟨27, _⟩ => ⟨S1x192, .i32⟩
  | .hbm, ⟨28, _⟩ => ⟨S_, .i32⟩
  | .hbm, ⟨29, _⟩ => ⟨S1x192, .i32⟩
  | .hbm, ⟨30, _⟩ => ⟨S1x192, .i1⟩
  | .hbm, ⟨31, _⟩ => ⟨S1x192, .i32⟩
  | .hbm, ⟨32, _⟩ => ⟨S1x192, .i32⟩
  | .hbm, ⟨33, _⟩ => ⟨S_, .i32⟩
  | .hbm, ⟨34, _⟩ => ⟨S1x192, .i32⟩
  | .hbm, ⟨35, _⟩ => ⟨S1x192, .i1⟩
  | .hbm, ⟨36, _⟩ => ⟨S1x192, .i1⟩
  | .hbm, ⟨37, _⟩ => ⟨S_, .i32⟩
  | .hbm, ⟨38, _⟩ => ⟨S1x192, .i32⟩
  | .hbm, ⟨39, _⟩ => ⟨S1x192, .i32⟩
  | .hbm, ⟨40, _⟩ => ⟨S1x192, .i32⟩
  | .hbm, ⟨41, _⟩ => ⟨S64x192, .i32⟩
  | .hbm, ⟨42, _⟩ => ⟨S64x192, .i32⟩
  | .hbm, ⟨43, _⟩ => ⟨S64x192, .i32⟩
  | .hbm, ⟨44, _⟩ => ⟨S_, .i32⟩
  | .hbm, ⟨45, _⟩ => ⟨S64x192, .i32⟩
  | .hbm, ⟨46, _⟩ => ⟨S64x192, .i1⟩
  | .hbm, ⟨47, _⟩ => ⟨S4x64x64x2x64, .f32⟩
  | .hbm, ⟨48, _⟩ => ⟨S_, .i32⟩
  | .hbm, ⟨49, _⟩ => ⟨S_, .f32⟩
  | .hbm, ⟨50, _⟩ => ⟨S4x66x64x2x64, .f32⟩
  | .hbm, ⟨51, _⟩ => ⟨S4x64x64x2x64, .f32⟩
  | .hbm, ⟨52, _⟩ => ⟨S4x64x64x2x64, .f32⟩
  | .hbm, ⟨53, _⟩ => ⟨S4x64x64x2x64, .f32⟩
  | .hbm, ⟨54, _⟩ => ⟨S4x64x192x2x64, .f32⟩
  | .hbm, ⟨55, _⟩ => ⟨S4x64x64x2x64, .f32⟩
  | .hbm, ⟨56, _⟩ => ⟨S_, .i32⟩
  | .hbm, ⟨57, _⟩ => ⟨S_, .f32⟩
  | .hbm, ⟨58, _⟩ => ⟨S4x66x64x2x64, .f32⟩
  | .hbm, ⟨59, _⟩ => ⟨S4x64x64x2x64, .f32⟩
  | .hbm, ⟨60, _⟩ => ⟨S4x64x64x2x64, .f32⟩
  | .hbm, ⟨61, _⟩ => ⟨S4x64x64x2x64, .f32⟩
  | .hbm, ⟨62, _⟩ => ⟨S4x64x192x2x64, .f32⟩
  | .hbm, ⟨63, _⟩ => ⟨S4x64x2x192x64x4, .f32⟩
  | .hbm, ⟨64, _⟩ => ⟨S4x64x2x4x64x192, .f32⟩
  | .hbm, ⟨65, _⟩ => ⟨S_, .f32⟩
  | .hbm, ⟨66, _⟩ => ⟨S4x64x2x4x64x192, .f32⟩
  | .hbm, ⟨67, _⟩ => ⟨S4x64x2x4x64x192, .f32⟩
  | .hbm, ⟨68, _⟩ => ⟨S8, .i32⟩
  | .hbm, ⟨69, _⟩ => ⟨S_, .i32⟩
  | .hbm, ⟨70, _⟩ => ⟨S8, .i32⟩
  | .hbm, ⟨71, _⟩ => ⟨S8, .i32⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S2x4x1x1, .f32⟩
  | .hbm, ⟨80, _⟩ => ⟨S1x1x64x192, .f32⟩
  | .hbm, ⟨81, _⟩ => ⟨S2x4x64x192, .f32⟩
  | .hbm, ⟨82, _⟩ => ⟨S2x4x64x192, .f32⟩
  | .hbm, ⟨83, _⟩ => ⟨S2x4x64x192, .f32⟩
  | .hbm, ⟨84, _⟩ => ⟨S1x1x2x4x64x192, .f32⟩
  | .hbm, ⟨85, _⟩ => ⟨S4x64x2x4x64x192, .f32⟩
  | .hbm, ⟨86, _⟩ => ⟨S4x64x2x4x64x192, .f32⟩
  | .hbm, ⟨87, _⟩ => ⟨S1x64x1x1x1x192, .i1⟩
  | .hbm, ⟨88, _⟩ => ⟨S_, .f32⟩
  | .hbm, ⟨89, _⟩ => ⟨S_, .f32⟩
  | .hbm, ⟨90, _⟩ => ⟨S4x64x2x4x64x192, .i1⟩
  | .hbm, ⟨91, _⟩ => ⟨S4x64x2x4x64x192, .f32⟩
  | .hbm, ⟨92, _⟩ => ⟨S4x64x2x4x64x192, .f32⟩
  | .hbm, ⟨93, _⟩ => ⟨S1x1x2x4x1x1, .f32⟩
  | .hbm, ⟨94, _⟩ => ⟨S4x64x2x4x64x1, .f32⟩
  | .hbm, ⟨95, _⟩ => ⟨S4x64x2x4x64x193, .f32⟩
  | .hbm, ⟨96, _⟩ => ⟨S_, .f32⟩
  | .hbm, ⟨97, _⟩ => ⟨S4x64x2x4x64, .f32⟩
  | .hbm, ⟨98, _⟩ => ⟨S_, .f32⟩
  | .hbm, ⟨99, _⟩ => ⟨S4x64x2x4x64, .f32⟩
  | .hbm, ⟨100, _⟩ => ⟨S4x64x2x4x64, .f32⟩
  | .hbm, ⟨101, _⟩ => ⟨S4x64x2x4x64x1, .f32⟩
  | .hbm, ⟨102, _⟩ => ⟨S4x64x2x4x64x193, .f32⟩
  | .hbm, ⟨103, _⟩ => ⟨S4x64x2x4x64x193, .f32⟩
  | .hbm, ⟨104, _⟩ => ⟨S4x64x2x4x64x193, .f32⟩
  | .hbm, ⟨105, _⟩ => ⟨S_, .f32⟩
  | .hbm, ⟨106, _⟩ => ⟨S4x64x2x4x64, .f32⟩
  | .hbm, ⟨107, _⟩ => ⟨S4x64x2x4x64x1, .f32⟩
  | .hbm, ⟨108, _⟩ => ⟨S4x64x2x4x64x193, .f32⟩
  | .hbm, ⟨109, _⟩ => ⟨S4x64x2x4x64x193, .f32⟩
  | .hbm, ⟨110, _⟩ => ⟨S4x64x2x4x64x192, .f32⟩
  | .hbm, ⟨111, _⟩ => ⟨S4x64x2x64x4x64, .f32⟩
  | .hbm, ⟨112, _⟩ => ⟨S4x64x64x2x4x64, .f32⟩
  | .hbm, ⟨113, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_3 : Ref sig .tc := ⟨.hbm, 48, rfl⟩
abbrev main_call1_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_call2_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_5 : Ref sig .tc := ⟨.hbm, 69, rfl⟩
abbrev main_v40 : Ref sig .tc := ⟨.hbm, 70, rfl⟩
abbrev main_v41 : Ref sig .tc := ⟨.hbm, 71, rfl⟩
abbrev main_c_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_8 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_9 : Ref sig .tc := ⟨.hbm, 96, rfl⟩
abbrev main_v60 : Ref sig .tc := ⟨.hbm, 97, rfl⟩
abbrev main_cst_10 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_11 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== KernelMem.lean ====
abbrev S4x4096x512 : Shape := ⟨3, ![4, 4096, 512]⟩
abbrev S4x256x512 : Shape := ⟨3, ![4, 256, 512]⟩
abbrev S1x256x512 : Shape := ⟨3, ![1, 256, 512]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S4x256x512, .f32⟩
  | .hbm, ⟨3, _⟩ => ⟨S4x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelMemIdeal.lean ====
variable {F : FTy → Type} [FloatOps F] [Named F]
def κ : String → Option EReal := fun
  | "mem_scale" => some (((Real.sqrt 128)⁻¹ : ℝ) : EReal)
  | _ => none
-- ==== ReferenceMemIdeal.lean ====
abbrev S4x4096x512 : Shape := ⟨3, ![4, 4096, 512]⟩
abbrev S4x256x512 : Shape := ⟨3, ![4, 256, 512]⟩
abbrev S4x4096x4x128 : Shape := ⟨4, ![4, 4096, 4, 128]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S4x256x512, .f32⟩
  | .hbm, ⟨3, _⟩ => ⟨S4x4096x4x128, .f32⟩
  | .hbm, ⟨4, _⟩ => ⟨S4x256x4x128, .f32⟩
  | .hbm, ⟨5, _⟩ => ⟨S4x4x4096x256, .f32⟩
  | .hbm, ⟨6, _⟩ => ⟨S_, .f32⟩
  | .hbm, ⟨7, _⟩ => ⟨S_, .f32⟩
  | .hbm, ⟨8, _⟩ => ⟨S4x4x4096x256, .f32⟩
  | .hbm, ⟨9, _⟩ => ⟨S4x4x4096x256, .f32⟩
  | .hbm, ⟨10, _⟩ => ⟨S_, .f32⟩
  | .hbm, ⟨11, _⟩ => ⟨S4x4x4096, .f32⟩
  | .hbm, ⟨12, _⟩ => ⟨S_, .f32⟩
  | .hbm, ⟨13, _⟩ => ⟨S4x4x4096, .f32⟩
  | .hbm, ⟨14, _⟩ => ⟨S4x4x4096, .f32⟩
  | .hbm, ⟨15, _⟩ => ⟨S4x4x4096x1, .f32⟩
  | .hbm, ⟨16, _⟩ => ⟨S4x4x4096x256, .f32⟩
  | .hbm, ⟨17, _⟩ => ⟨S4x4x4096x256, .f32⟩
  | .hbm, ⟨18, _⟩ => ⟨S4x4x4096x256, .f32⟩
  | .hbm, ⟨19, _⟩ => ⟨S_, .f32⟩
  | .hbm, ⟨20, _⟩ => ⟨S4x4x4096, .f32⟩
  | .hbm, ⟨21, _⟩ => ⟨S4x4x4096x1, .f32⟩
  | .hbm, ⟨22, _⟩ => ⟨S4x4x4096x256, .f32⟩
  | .hbm, ⟨23, _⟩ => ⟨S4x4x4096x256, .f32⟩
  | .hbm, ⟨24, _⟩ => ⟨S4x256x4x128, .f32⟩
  | .hbm, ⟨25, _⟩ => ⟨S4x4x128x4096, .f32⟩
  | .hbm, ⟨26, _⟩ => ⟨S4x4096x4x128, .f32⟩
  | .hbm, ⟨27, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelMerge.lean ====
abbrev S4x4096x1024 : Shape := ⟨3, ![4, 4096, 1024]⟩
abbrev S4x4096x512 : Shape := ⟨3, ![4, 4096, 512]⟩
abbrev S4x4096x3072 : Shape := ⟨3, ![4, 4096, 3072]⟩
abbrev S3x512x1024 : Shape := ⟨3, ![3, 512, 1024]⟩
abbrev S1024x1024 : Shape := ⟨2, ![1024, 1024]⟩
abbrev S1x256x1024 : Shape := ⟨3, ![1, 256, 1024]⟩
abbrev S1x256x512 : Shape := ⟨3, ![1, 256, 512]⟩
abbrev S1x256x3072 : Shape := ⟨3, ![1, 256, 3072]⟩
abbrev S256x512 : Shape := ⟨2, ![256, 512]⟩
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x3072, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x3072, .f32⟩
  | .local _ .vmem, ⟨9, _⟩ => ⟨S1x256x3072, .f32⟩
  | .local _ .vmem, ⟨10, _⟩ => ⟨S3x512x1024, .bf16⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMergeIdeal.lean ====
abbrev S4x4096x1024 : Shape := ⟨3, ![4, 4096, 1024]⟩
abbrev S4x4096x512 : Shape := ⟨3, ![4, 4096, 512]⟩
abbrev S4x4096x3072 : Shape := ⟨3, ![4, 4096, 3072]⟩
abbrev S3x512x1024 : Shape := ⟨3, ![3, 512, 1024]⟩
abbrev S1024x1024 : Shape := ⟨2, ![1024, 1024]⟩
abbrev S4x4096x1x512 : Shape := ⟨4, ![4, 4096, 1, 512]⟩
abbrev S4x4096x3x512 : Shape := ⟨4, ![4, 4096, 3, 512]⟩
abbrev S3x1024x4x4096 : Shape := ⟨4, ![3, 1024, 4, 4096]⟩
abbrev S4x4096x3x1024 : Shape := ⟨4, ![4, 4096, 3, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x3072, .f32⟩
  | .hbm, ⟨5, _⟩ => ⟨S3x512x1024, .f32⟩
  | .hbm, ⟨6, _⟩ => ⟨S1024x1024, .f32⟩
  | .hbm, ⟨7, _⟩ => ⟨S4x4096x1x512, .f32⟩
  | .hbm, ⟨8, _⟩ => ⟨S4x4096x1x512, .f32⟩
  | .hbm, ⟨9, _⟩ => ⟨S4x4096x1x512, .f32⟩
  | .hbm, ⟨10, _⟩ => ⟨S4x4096x3x512, .f32⟩
  | .hbm, ⟨11, _⟩ => ⟨S3x1024x4x4096, .f32⟩
  | .hbm, ⟨12, _⟩ => ⟨S4x4096x3x1024, .f32⟩
  | .hbm, ⟨13, _⟩ => ⟨S4x4096x3x1024, .f32⟩
  | .hbm, ⟨14, _⟩ => ⟨S4x4096x3x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== KernelFfn.lean ====
abbrev S4x4096x1024 : Shape := ⟨3, ![4, 4096, 1024]⟩
abbrev S4x2x2816 : Shape := ⟨3, ![4, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x256x1024 : Shape := ⟨3, ![1, 256, 1024]⟩
abbrev S1x2x2816 : Shape := ⟨3, ![1, 2, 2816]⟩
abbrev S256x1024 : Shape := ⟨2, ![256, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1x2x1408 : Shape := ⟨3, ![1, 2, 1408]⟩
abbrev S2x1408 : Shape := ⟨2, ![2, 1408]⟩
abbrev S1x1408 : Shape := ⟨2, ![1, 1408]⟩
abbrev S1408x1024 : Shape := ⟨2, ![1408, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S4x4096x1024, .f32⟩
  | .hbm, ⟨12, _⟩ => ⟨S4x2x2816, .f32⟩
  | .local _ .vmem, ⟨0, _⟩ => ⟨S1x256x1024, .f32⟩
  | .local _ .vmem, ⟨1, _⟩ => ⟨S1x256x1024, .f32⟩
  | .local _ .vmem, ⟨2, _⟩ => ⟨S1x2x2816, .f32⟩
  | .local _ .vmem, ⟨3, _⟩ => ⟨S1x2x2816, .f32⟩
  | .local _ .vmem, ⟨4, _⟩ => ⟨S1x1024, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x2x2816, .f32⟩
  | .local _ .vmem, ⟨12, _⟩ => ⟨S1x2x2816, .f32⟩
  | .local _ .vmem, ⟨13, _⟩ => ⟨S1x2x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v167 : BitVec 1 := Scalar.cmpi .eq arg1 c15_i32
  let v168 : BitVec 32 := Scalar.extui v167
  let c0_i32_67 : BitVec 32 := 0#32
  let v169 : BitVec 1 := Scalar.cmpi .ne v168 c0_i32_67
  v169

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceFfnIdeal.lean ====
abbrev S4x4096x1024 : Shape := ⟨3, ![4, 4096, 1024]⟩
abbrev S4x2x2816 : Shape := ⟨3, ![4, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S4x4098x2816, .f32⟩
  | .hbm, ⟨27, _⟩ => ⟨S4x4096x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S4x4096x2816, .f32⟩
  | .hbm, ⟨44, _⟩ => ⟨S4x4096x2816, .f32⟩
  | .hbm, ⟨45, _⟩ => ⟨S_, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S1x1x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S_, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S_, .f32⟩
  | .hbm, ⟨64, _⟩ => ⟨S4x4096x2816, .f32⟩
  | .hbm, ⟨65, _⟩ => ⟨S4x4096x2816, .f32⟩
  | .hbm, ⟨66, _⟩ => ⟨S_, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x1024, .f32⟩
  | .hbm, ⟨72, _⟩ => ⟨S4x4096x1024, .f32⟩
  | .hbm, ⟨73, _⟩ => ⟨S4x2x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== KernelIn.lean ====
abbrev S4x4096x1024 : Shape := ⟨3, ![4, 4096, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S1x1024 : Shape := ⟨2, ![1, 1024]⟩
abbrev S1x64 : Shape := ⟨2, ![1, 64]⟩
abbrev S2x64 : Shape := ⟨2, ![2, 64]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S4x4096x1792 : Shape := ⟨3, ![4, 4096, 1792]⟩
abbrev S4x4096x512 : Shape := ⟨3, ![4, 4096, 512]⟩
abbrev S4x4096x128 : Shape := ⟨3, ![4, 4096, 128]⟩
abbrev S4x4096x3072 : Shape := ⟨3, ![4, 4096, 3072]⟩
abbrev S1x256x1024 : Shape := ⟨3, ![1, 256, 1024]⟩
abbrev S1x256x1792 : Shape := ⟨3, ![1, 256, 1792]⟩
abbrev S1x256x512 : Shape := ⟨3, ![1, 256, 512]⟩
abbrev S1x256x128 : Shape := ⟨3, ![1, 256, 128]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩
abbrev S1024x128 : Shape := ⟨2, ![1024, 128]⟩
abbrev S256x128 : Shape := ⟨2, ![256, 128]⟩
abbrev S1024x1024 : Shape := ⟨2, ![1024, 1024]⟩
abbrev S4x128x128 : Shape := ⟨3, ![4, 128, 128]⟩
abbrev S4x128x2x64 : Shape := ⟨4, ![4, 128, 2, 64]⟩
abbrev S4x1x1792 : Shape := ⟨3, ![4, 1, 1792]⟩

abbrev nBuf : Space → Nat
  | .hbm => 53
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x1024, .f32⟩
  | .hbm, ⟨7, _⟩ => ⟨S1024x6144, .bf16⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S128, .i32⟩
  | .hbm, ⟨18, _⟩ => ⟨S_, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S1x128, .i32⟩
  | .hbm, ⟨38, _⟩ => ⟨S128x128, .i32⟩
  | .hbm, ⟨39, _⟩ => ⟨S128x128, .i32⟩
  | .hbm, ⟨40, _⟩ => ⟨S128x128, .i1⟩
  | .hbm, ⟨41, _⟩ => ⟨S128x128, .bf16⟩
  | .hbm, ⟨42, _⟩ => ⟨S4x4096x1792, .f32⟩
  | .hbm, ⟨43, _⟩ => ⟨S4x4096x512, .f32⟩
  | .hbm, ⟨44, _⟩ => ⟨S4x4096x128, .f32⟩
  | .hbm, ⟨45, _⟩ => ⟨S4x4096x128, .f32⟩
  | .hbm, ⟨46, _⟩ => ⟨S4x4096x512, .f32⟩
  | .hbm, ⟨47, _⟩ => ⟨S4x4096x3072, .f32⟩
  | .hbm, ⟨48, _⟩ => ⟨S4x128x128, .f32⟩
  | .hbm, ⟨49, _⟩ => ⟨S4x128x2x64, .f32⟩
  | .hbm, ⟨50, _⟩ => ⟨S4x128x128, .f32⟩
  | .hbm, ⟨51, _⟩ => ⟨S4x128x2x64, .f32⟩
  | .hbm, ⟨52, _⟩ => ⟨S4x1x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x6144, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S1x256x1792, .f32⟩
  | .local _ .vmem, ⟨9, _⟩ => ⟨S1x256x1792, .f32⟩
  | .local _ .vmem, ⟨10, _⟩ => ⟨S1x256x512, .f32⟩
  | .local _ .vmem, ⟨11, _⟩ => ⟨S1x256x512, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x512, .f32⟩
  | .local _ .vmem, ⟨17, _⟩ => ⟨S1x256x512, .f32⟩
  | .local _ .vmem, ⟨18, _⟩ => ⟨S1x256x3072, .f32⟩
  | .local _ .vmem, ⟨19, _⟩ => ⟨S1x256x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev main_v19_3 : Ref sig .tc := ⟨.hbm, 45, rfl⟩
abbrev main_v19_4 : Ref sig .tc := ⟨.hbm, 46, rfl⟩
abbrev main_v19_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceInIdeal.lean ====
abbrev S4x4096x1024 : Shape := ⟨3, ![4, 4096, 1024]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S4x4096x1792 : Shape := ⟨3, ![4, 4096, 1792]⟩
abbrev S4x4096x512 : Shape := ⟨3, ![4, 4096, 512]⟩
abbrev S4x4096x128 : Shape := ⟨3, ![4, 4096, 128]⟩
abbrev S4x4096x3072 : Shape := ⟨3, ![4, 4096, 3072]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x128x2x64 : Shape := ⟨4, ![4, 128, 2, 64]⟩
abbrev S4x1x1792 : Shape := ⟨3, ![4, 1, 1792]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x6144, .f32⟩
  | .hbm, ⟨23, _⟩ => ⟨S4x4096x1792, .f32⟩
  | .hbm, ⟨24, _⟩ => ⟨S4x4096x512, .f32⟩
  | .hbm, ⟨25, _⟩ => ⟨S4x4096x128, .f32⟩
  | .hbm, ⟨26, _⟩ => ⟨S4x4096x128, .f32⟩
  | .hbm, ⟨27, _⟩ => ⟨S4x4096x512, .f32⟩
  | .hbm, ⟨28, _⟩ => ⟨S4x4096x3072, .f32⟩
  | .hbm, ⟨29, _⟩ => ⟨S4x4096x8x64, .f32⟩
  | .hbm, ⟨30, _⟩ => ⟨S4x4096x8x64, .f32⟩
  | .hbm, ⟨31, _⟩ => ⟨S_, .f32⟩
  | .hbm, ⟨32, _⟩ => ⟨S4x4096x8, .f32⟩
  | .hbm, ⟨33, _⟩ => ⟨S4x4096x8x1, .f32⟩
  | .hbm, ⟨34, _⟩ => ⟨S_, .f32⟩
  | .hbm, ⟨35, _⟩ => ⟨S4x4096x8x1, .f32⟩
  | .hbm, ⟨36, _⟩ => ⟨S4x4096x8x1, .f32⟩
  | .hbm, ⟨37, _⟩ => ⟨S_, .f32⟩
  | .hbm, ⟨38, _⟩ => ⟨S4x4096x8x1, .f32⟩
  | .hbm, ⟨39, _⟩ => ⟨S4x4096x8x1, .f32⟩
  | .hbm, ⟨40, _⟩ => ⟨S4x4096x8x1, .f32⟩
  | .hbm, ⟨41, _⟩ => ⟨S4x4096x8x64, .f32⟩
  | .hbm, ⟨42, _⟩ => ⟨S4x4096x8x64, .f32⟩
  | .hbm, ⟨43, _⟩ => ⟨S1x1x1x64, .f32⟩
  | .hbm, ⟨44, _⟩ => ⟨S4x4096x8x64, .f32⟩
  | .hbm, ⟨45, _⟩ => ⟨S4x4096x8x64, .f32⟩
  | .hbm, ⟨46, _⟩ => ⟨S4x4096x512, .f32⟩
  | .hbm, ⟨47, _⟩ => ⟨S4x4096x2x64, .f32⟩
  | .hbm, ⟨48, _⟩ => ⟨S4x4096x2x64, .f32⟩
  | .hbm, ⟨49, _⟩ => ⟨S_, .f32⟩
  | .hbm, ⟨50, _⟩ => ⟨S4x4096x2, .f32⟩
  | .hbm, ⟨51, _⟩ => ⟨S4x4096x2x1, .f32⟩
  | .hbm, ⟨52, _⟩ => ⟨S_, .f32⟩
  | .hbm, ⟨53, _⟩ => ⟨S4x4096x2x1, .f32⟩
  | .hbm, ⟨54, _⟩ => ⟨S4x4096x2x1, .f32⟩
  | .hbm, ⟨55, _⟩ => ⟨S_, .f32⟩
  | .hbm, ⟨56, _⟩ => ⟨S4x4096x2x1, .f32⟩
  | .hbm, ⟨57, _⟩ => ⟨S4x4096x2x1, .f32⟩
  | .hbm, ⟨58, _⟩ => ⟨S4x4096x2x1, .f32⟩
  | .hbm, ⟨59, _⟩ => ⟨S4x4096x2x64, .f32⟩
  | .hbm, ⟨60, _⟩ => ⟨S4x4096x2x64, .f32⟩
  | .hbm, ⟨61, _⟩ => ⟨S1x1x1x64, .f32⟩
  | .hbm, ⟨62, _⟩ => ⟨S4x4096x2x64, .f32⟩
  | .hbm, ⟨63, _⟩ => ⟨S4x4096x2x64, .f32⟩
  | .hbm, ⟨64, _⟩ => ⟨S4x4096x4x128, .f32⟩
  | .hbm, ⟨65, _⟩ => ⟨S4x4096x4x128, .f32⟩
  | .hbm, ⟨66, _⟩ => ⟨S_, .f32⟩
  | .hbm, ⟨67, _⟩ => ⟨S4x4096x4, .f32⟩
  | .hbm, ⟨68, _⟩ => ⟨S4x4096x4x1, .f32⟩
  | .hbm, ⟨69, _⟩ => ⟨S_, .f32⟩
  | .hbm, ⟨70, _⟩ => ⟨S4x4096x4x1, .f32⟩
  | .hbm, ⟨71, _⟩ => ⟨S4x4096x4x1, .f32⟩
  | .hbm, ⟨72, _⟩ => ⟨S_, .f32⟩
  | .hbm, ⟨73, _⟩ => ⟨S4x4096x4x1, .f32⟩
  | .hbm, ⟨74, _⟩ => ⟨S4x4096x4x1, .f32⟩
  | .hbm, ⟨75, _⟩ => ⟨S4x4096x4x1, .f32⟩
  | .hbm, ⟨76, _⟩ => ⟨S4x4096x4x128, .f32⟩
  | .hbm, ⟨77, _⟩ => ⟨S4x4096x4x128, .f32⟩
  | .hbm, ⟨78, _⟩ => ⟨S1x1x1x128, .f32⟩
  | .hbm, ⟨79, _⟩ => ⟨S4x4096x4x128, .f32⟩
  | .hbm, ⟨80, _⟩ => ⟨S4x4096x4x128, .f32⟩
  | .hbm, ⟨81, _⟩ => ⟨S4x4096x512, .f32⟩
  | .hbm, ⟨82, _⟩ => ⟨S4x4096x128, .f32⟩
  | .hbm, ⟨83, _⟩ => ⟨S4x4096x3072, .f32⟩
  | .hbm, ⟨84, _⟩ => ⟨S4x4096x3072, .f32⟩
  | .hbm, ⟨85, _⟩ => ⟨S_, .f32⟩
  | .hbm, ⟨86, _⟩ => ⟨S4x4096x3072, .f32⟩
  | .hbm, ⟨87, _⟩ => ⟨S4x4096x3072, .f32⟩
  | .hbm, ⟨88, _⟩ => ⟨S_, .f32⟩
  | .hbm, ⟨89, _⟩ => ⟨S4x4096x3072, .f32⟩
  | .hbm, ⟨90, _⟩ => ⟨S4x4096x3072, .f32⟩
  | .hbm, ⟨91, _⟩ => ⟨S4x128x2x64, .f32⟩
  | .hbm, ⟨92, _⟩ => ⟨S4x4096x2x64, .f32⟩
  | .hbm, ⟨93, _⟩ => ⟨S4x128x2x64, .f32⟩
  | .hbm, ⟨94, _⟩ => ⟨S4x1x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== KernelMemKv.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S4x256x512 : Shape := ⟨3, ![4, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1x256x128 : Shape := ⟨3, ![1, 256, 128]⟩
abbrev S1024x512 : Shape := ⟨2, ![1024, 512]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x1024, .f32⟩
  | .hbm, ⟨5, _⟩ => ⟨S1024x1024, .bf16⟩
  | .hbm, ⟨6, _⟩ => ⟨S1x128, .f32⟩
  | .hbm, ⟨7, _⟩ => ⟨S4x256x512, .f32⟩
  | .hbm, ⟨8, _⟩ => ⟨S4x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceMemKvIdeal.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x512, .f32⟩
  | .hbm, ⟨22, _⟩ => ⟨S4x256x512, .f32⟩
  | .hbm, ⟨23, _⟩ => ⟨S4x256x4x128, .f32⟩
  | .hbm, ⟨24, _⟩ => ⟨S4x256x4x128, .f32⟩
  | .hbm, ⟨25, _⟩ => ⟨S_, .f32⟩
  | .hbm, ⟨26, _⟩ => ⟨S4x256x4, .f32⟩
  | .hbm, ⟨27, _⟩ => ⟨S4x256x4x1, .f32⟩
  | .hbm, ⟨28, _⟩ => ⟨S_, .f32⟩
  | .hbm, ⟨29, _⟩ => ⟨S4x256x4x1, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S4x256x4x1, .f32⟩
  | .hbm, ⟨35, _⟩ => ⟨S4x256x4x128, .f32⟩
  | .hbm, ⟨36, _⟩ => ⟨S4x256x4x128, .f32⟩
  | .hbm, ⟨37, _⟩ => ⟨S1x1x1x128, .f32⟩
  | .hbm, ⟨38, _⟩ => ⟨S4x256x4x128, .f32⟩
  | .hbm, ⟨39, _⟩ => ⟨S4x256x4x128, .f32⟩
  | .hbm, ⟨40, _⟩ => ⟨S4x256x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== KernelInS.lean ====
abbrev S32x64x1024 : Shape := ⟨3, ![32, 64, 1024]⟩
abbrev S32x128x2x64 : Shape := ⟨4, ![32, 128, 2, 64]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S32x128x128 : Shape := ⟨3, ![32, 128, 128]⟩
abbrev S1x1024 : Shape := ⟨2, ![1, 1024]⟩
abbrev S1x64 : Shape := ⟨2, ![1, 64]⟩
abbrev S2x64 : Shape := ⟨2, ![2, 64]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S32x64x1792 : Shape := ⟨3, ![32, 64, 1792]⟩
abbrev S32x64x512 : Shape := ⟨3, ![32, 64, 512]⟩
abbrev S32x64x128 : Shape := ⟨3, ![32, 64, 128]⟩
abbrev S32x64x3072 : Shape := ⟨3, ![32, 64, 3072]⟩
abbrev S8x64x1024 : Shape := ⟨3, ![8, 64, 1024]⟩
abbrev S8x64x1792 : Shape := ⟨3, ![8, 64, 1792]⟩
abbrev S8x64x512 : Shape := ⟨3, ![8, 64, 512]⟩
abbrev S8x64x128 : Shape := ⟨3, ![8, 64, 128]⟩
abbrev S8x64x3072 : Shape := ⟨3, ![8, 64, 3072]⟩
abbrev S512x1024 : Shape := ⟨2, ![512, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩
abbrev S1024x128 : Shape := ⟨2, ![1024, 128]⟩
abbrev S512x128 : Shape := ⟨2, ![512, 128]⟩
abbrev S1024x1024 : Shape := ⟨2, ![1024, 1024]⟩
abbrev S32x192x128 : Shape := ⟨3, ![32, 192, 128]⟩
abbrev S32x1x1792 : Shape := ⟨3, ![32, 1, 1792]⟩

abbrev nBuf : Space → Nat
  | .hbm => 59
  | .vmem => 20
  | .smem => 0
  | _ => 0

abbrev bufTy : (tb : Table) → Fin (tcTables nBuf tb) → BufTy
  | .hbm, ⟨0, _⟩ => ⟨S32x64x1024, .f32⟩
  | .hbm, ⟨1, _⟩ => ⟨S32x128x2x64, .f32⟩
  | .hbm, ⟨2, _⟩ => ⟨S32x128x2x64, .f32⟩
  | .hbm, ⟨3, _⟩ => ⟨S1024, .f32⟩
  | .hbm, ⟨4, _⟩ => ⟨S1024x6144, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32x128x128, .f32⟩
  | .hbm, ⟨9, _⟩ => ⟨S32x128x128, .f32⟩
  | .hbm, ⟨10, _⟩ => ⟨S1x1024, .f32⟩
  | .hbm, ⟨11, _⟩ => ⟨S1024x6144, .bf16⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x128, .f32⟩
  | .hbm, ⟨21, _⟩ => ⟨S128, .i32⟩
  | .hbm, ⟨22, _⟩ => ⟨S_, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S1x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S128x128, .bf16⟩
  | .hbm, ⟨46, _⟩ => ⟨S32x64x1792, .f32⟩
  | .hbm, ⟨47, _⟩ => ⟨S32x64x512, .f32⟩
  | .hbm, ⟨48, _⟩ => ⟨S32x64x128, .f32⟩
  | .hbm, ⟨49, _⟩ => ⟨S32x64x128, .f32⟩
  | .hbm, ⟨50, _⟩ => ⟨S32x64x512, .f32⟩
  | .hbm, ⟨51, _⟩ => ⟨S32x64x3072, .f32⟩
  | .hbm, ⟨52, _⟩ => ⟨S32x192x128, .f32⟩
  | .hbm, ⟨53, _⟩ => ⟨S32x128x128, .f32⟩
  | .hbm, ⟨54, _⟩ => ⟨S32x128x2x64, .f32⟩
  | .hbm, ⟨55, _⟩ => ⟨S32x192x128, .f32⟩
  | .hbm, ⟨56, _⟩ => ⟨S32x128x128, .f32⟩
  | .hbm, ⟨57, _⟩ => ⟨S32x128x2x64, .f32⟩
  | .hbm, ⟨58, _⟩ => ⟨S32x1x1792, .f32⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S1024x6144, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S8x64x1792, .f32⟩
  | .local _ .vmem, ⟨9, _⟩ => ⟨S8x64x1792, .f32⟩
  | .local _ .vmem, ⟨10, _⟩ => ⟨S8x64x512, .f32⟩
  | .local _ .vmem, ⟨11, _⟩ => ⟨S8x64x512, .f32⟩
  | .local _ .vmem, ⟨12, _⟩ => ⟨S8x64x128, .f32⟩
  | .local _ .vmem, ⟨13, _⟩ => ⟨S8x64x128, .f32⟩
  | .local _ .vmem, ⟨14, _⟩ => ⟨S8x64x128, .f32⟩
  | .local _ .vmem, ⟨15, _⟩ => ⟨S8x64x128, .f32⟩
  | .local _ .vmem, ⟨16, _⟩ => ⟨S8x64x512, .f32⟩
  | .local _ .vmem, ⟨17, _⟩ => ⟨S8x64x512, .f32⟩
  | .local _ .vmem, ⟨18, _⟩ => ⟨S8x64x3072, .f32⟩
  | .local _ .vmem, ⟨19, _⟩ => ⟨S8x64x3072, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev main_v21_3 : Ref sig .tc := ⟨.hbm, 49, rfl⟩
abbrev main_v21_4 : Ref sig .tc := ⟨.hbm, 50, rfl⟩
abbrev main_v21_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x64x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceInSIdeal.lean ====
abbrev S32x64x1024 : Shape := ⟨3, ![32, 64, 1024]⟩
abbrev S32x128x2x64 : Shape := ⟨4, ![32, 128, 2, 64]⟩
abbrev S1024 : Shape := ⟨1, ![1024]⟩
abbrev S1024x6144 : Shape := ⟨2, ![1024, 6144]⟩
abbrev S64 : Shape := ⟨1, ![64]⟩
abbrev S128 : Shape := ⟨1, ![128]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x6144 : Shape := ⟨3, ![32, 64, 6144]⟩
abbrev S32x64x1792 : Shape := ⟨3, ![32, 64, 1792]⟩
abbrev S32x64x512 : Shape := ⟨3, ![32, 64, 512]⟩
abbrev S32x64x128 : Shape := ⟨3, ![32, 64, 128]⟩
abbrev S32x64x3072 : Shape := ⟨3, ![32, 64, 3072]⟩
abbrev S32x64x8x64 : Shape := ⟨4, ![32, 64, 8, 64]⟩
abbrev S32x64x8 : Shape := ⟨3, ![32, 64, 8]⟩
abbrev S32x64x8x1 : Shape := ⟨4, ![32, 64, 8, 1]⟩
abbrev S1x1x1x64 : Shape := ⟨4, ![1, 1, 1, 64]⟩
abbrev S32x64x2x64 : Shape := ⟨4, ![32, 64, 2, 64]⟩
abbrev S32x64x2 : Shape := ⟨3, ![32, 64, 2]⟩
abbrev S32x64x2x1 : Shape := ⟨4, ![32, 64, 2, 1]⟩
abbrev S32x64x4x128 : Shape := ⟨4, ![32, 64, 4, 128]⟩
abbrev S32x64x4 : Shape := ⟨3, ![32, 64, 4]⟩
abbrev S32x64x4x1 : Shape := ⟨4, ![32, 64, 4, 1]⟩
abbrev S1x1x1x128 : Shape := ⟨4, ![1, 1, 1, 128]⟩
abbrev S32x192x2x64 : Shape := ⟨4, ![32, 192, 2, 64]⟩
abbrev S32x1x1792 : Shape := ⟨3, ![32, 1, 1792]⟩

abbrev nBuf : Space → Nat
  | .hbm => 99
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x128x2x64, .f32⟩
  | .hbm, ⟨2, _⟩ => ⟨S32x128x2x64, .f32⟩
  | .hbm, ⟨3, _⟩ => ⟨S1024, .f32⟩
  | .hbm, ⟨4, _⟩ => ⟨S1024x6144, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32x64x1024, .f32⟩
  | .hbm, ⟨9, _⟩ => ⟨S_, .f32⟩
  | .hbm, ⟨10, _⟩ => ⟨S32x64, .f32⟩
  | .hbm, ⟨11, _⟩ => ⟨S32x64x1, .f32⟩
  | .hbm, ⟨12, _⟩ => ⟨S_, .f32⟩
  | .hbm, ⟨13, _⟩ => ⟨S32x64x1, .f32⟩
  | .hbm, ⟨14, _⟩ => ⟨S32x64x1, .f32⟩
  | .hbm, ⟨15, _⟩ => ⟨S_, .f32⟩
  | .hbm, ⟨16, _⟩ => ⟨S32x64x1, .f32⟩
  | .hbm, ⟨17, _⟩ => ⟨S32x64x1, .f32⟩
  | .hbm, ⟨18, _⟩ => ⟨S32x64x1, .f32⟩
  | .hbm, ⟨19, _⟩ => ⟨S32x64x1024, .f32⟩
  | .hbm, ⟨20, _⟩ => ⟨S32x64x1024, .f32⟩
  | .hbm, ⟨21, _⟩ => ⟨S1x1x1024, .f32⟩
  | .hbm, ⟨22, _⟩ => ⟨S32x64x1024, .f32⟩
  | .hbm, ⟨23, _⟩ => ⟨S32x64x1024, .f32⟩
  | .hbm, ⟨24, _⟩ => ⟨S32x64x6144, .f32⟩
  | .hbm, ⟨25, _⟩ => ⟨S32x64x1792, .f32⟩
  | .hbm, ⟨26, _⟩ => ⟨S32x64x512, .f32⟩
  | .hbm, ⟨27, _⟩ => ⟨S32x64x128, .f32⟩
  | .hbm, ⟨28, _⟩ => ⟨S32x64x128, .f32⟩
  | .hbm, ⟨29, _⟩ => ⟨S32x64x512, .f32⟩
  | .hbm, ⟨30, _⟩ => ⟨S32x64x3072, .f32⟩
  | .hbm, ⟨31, _⟩ => ⟨S32x64x8x64, .f32⟩
  | .hbm, ⟨32, _⟩ => ⟨S32x64x8x64, .f32⟩
  | .hbm, ⟨33, _⟩ => ⟨S_, .f32⟩
  | .hbm, ⟨34, _⟩ => ⟨S32x64x8, .f32⟩
  | .hbm, ⟨35, _⟩ => ⟨S32x64x8x1, .f32⟩
  | .hbm, ⟨36, _⟩ => ⟨S_, .f32⟩
  | .hbm, ⟨37, _⟩ => ⟨S32x64x8x1, .f32⟩
  | .hbm, ⟨38, _⟩ => ⟨S32x64x8x1, .f32⟩
  | .hbm, ⟨39, _⟩ => ⟨S_, .f32⟩
  | .hbm, ⟨40, _⟩ => ⟨S32x64x8x1, .f32⟩
  | .hbm, ⟨41, _⟩ => ⟨S32x64x8x1, .f32⟩
  | .hbm, ⟨42, _⟩ => ⟨S32x64x8x1, .f32⟩
  | .hbm, ⟨43, _⟩ => ⟨S32x64x8x64, .f32⟩
  | .hbm, ⟨44, _⟩ => ⟨S32x64x8x64, .f32⟩
  | .hbm, ⟨45, _⟩ => ⟨S1x1x1x64, .f32⟩
  | .hbm, ⟨46, _⟩ => ⟨S32x64x8x64, .f32⟩
  | .hbm, ⟨47, _⟩ => ⟨S32x64x8x64, .f32⟩
  | .hbm, ⟨48, _⟩ => ⟨S32x64x512, .f32⟩
  | .hbm, ⟨49, _⟩ => ⟨S32x64x2x64, .f32⟩
  | .hbm, ⟨50, _⟩ => ⟨S32x64x2x64, .f32⟩
  | .hbm, ⟨51, _⟩ => ⟨S_, .f32⟩
  | .hbm, ⟨52, _⟩ => ⟨S32x64x2, .f32⟩
  | .hbm, ⟨53, _⟩ => ⟨S32x64x2x1, .f32⟩
  | .hbm, ⟨54, _⟩ => ⟨S_, .f32⟩
  | .hbm, ⟨55, _⟩ => ⟨S32x64x2x1, .f32⟩
  | .hbm, ⟨56, _⟩ => ⟨S32x64x2x1, .f32⟩
  | .hbm, ⟨57, _⟩ => ⟨S_, .f32⟩
  | .hbm, ⟨58, _⟩ => ⟨S32x64x2x1, .f32⟩
  | .hbm, ⟨59, _⟩ => ⟨S32x64x2x1, .f32⟩
  | .hbm, ⟨60, _⟩ => ⟨S32x64x2x1, .f32⟩
  | .hbm, ⟨61, _⟩ => ⟨S32x64x2x64, .f32⟩
  | .hbm, ⟨62, _⟩ => ⟨S32x64x2x64, .f32⟩
  | .hbm, ⟨63, _⟩ => ⟨S1x1x1x64, .f32⟩
  | .hbm, ⟨64, _⟩ => ⟨S32x64x2x64, .f32⟩
  | .hbm, ⟨65, _⟩ => ⟨S32x64x2x64, .f32⟩
  | .hbm, ⟨66, _⟩ => ⟨S32x64x4x128, .f32⟩
  | .hbm, ⟨67, _⟩ => ⟨S32x64x4x128, .f32⟩
  | .hbm, ⟨68, _⟩ => ⟨S_, .f32⟩
  | .hbm, ⟨69, _⟩ => ⟨S32x64x4, .f32⟩
  | .hbm, ⟨70, _⟩ => ⟨S32x64x4x1, .f32⟩
  | .hbm, ⟨71, _⟩ => ⟨S_, .f32⟩
  | .hbm, ⟨72, _⟩ => ⟨S32x64x4x1, .f32⟩
  | .hbm, ⟨73, _⟩ => ⟨S32x64x4x1, .f32⟩
  | .hbm, ⟨74, _⟩ => ⟨S_, .f32⟩
  | .hbm, ⟨75, _⟩ => ⟨S32x64x4x1, .f32⟩
  | .hbm, ⟨76, _⟩ => ⟨S32x64x4x1, .f32⟩
  | .hbm, ⟨77, _⟩ => ⟨S32x64x4x1, .f32⟩
  | .hbm, ⟨78, _⟩ => ⟨S32x64x4x128, .f32⟩
  | .hbm, ⟨79, _⟩ => ⟨S32x64x4x128, .f32⟩
  | .hbm, ⟨80, _⟩ => ⟨S1x1x1x128, .f32⟩
  | .hbm, ⟨81, _⟩ => ⟨S32x64x4x128, .f32⟩
  | .hbm, ⟨82, _⟩ => ⟨S32x64x4x128, .f32⟩
  | .hbm, ⟨83, _⟩ => ⟨S32x64x512, .f32⟩
  | .hbm, ⟨84, _⟩ => ⟨S32x192x2x64, .f32⟩
  | .hbm, ⟨85, _⟩ => ⟨S32x64x2x64, .f32⟩
  | .hbm, ⟨86, _⟩ => ⟨S32x192x2x64, .f32⟩
  | .hbm, ⟨87, _⟩ => ⟨S32x64x128, .f32⟩
  | .hbm, ⟨88, _⟩ => ⟨S32x64x3072, .f32⟩
  | .hbm, ⟨89, _⟩ => ⟨S32x64x3072, .f32⟩
  | .hbm, ⟨90, _⟩ => ⟨S_, .f32⟩
  | .hbm, ⟨91, _⟩ => ⟨S32x64x3072, .f32⟩
  | .hbm, ⟨92, _⟩ => ⟨S32x64x3072, .f32⟩
  | .hbm, ⟨93, _⟩ => ⟨S_, .f32⟩
  | .hbm, ⟨94, _⟩ => ⟨S32x64x3072, .f32⟩
  | .hbm, ⟨95, _⟩ => ⟨S32x64x3072, .f32⟩
  | .hbm, ⟨96, _⟩ => ⟨S32x128x2x64, .f32⟩
  | .hbm, ⟨97, _⟩ => ⟨S32x128x2x64, .f32⟩
  | .hbm, ⟨98, _⟩ => ⟨S32x1x1792, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== KernelFfnS.lean ====
abbrev S32x64x1024 : Shape := ⟨3, ![32, 64, 1024]⟩
abbrev S32x2x2816 : Shape := ⟨3, ![32, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S8x64x1024 : Shape := ⟨3, ![8, 64, 1024]⟩
abbrev S8x2x2816 : Shape := ⟨3, ![8, 2, 2816]⟩
abbrev S512x1024 : Shape := ⟨2, ![512, 1024]⟩
abbrev S512 : Shape := ⟨1, ![512]⟩
abbrev S512x1 : Shape := ⟨2, ![512, 1]⟩
abbrev S64x1 : Shape := ⟨2, ![64, 1]⟩
abbrev S1024x1408 : Shape := ⟨2, ![1024, 1408]⟩
abbrev S512x1408 : Shape := ⟨2, ![512, 1408]⟩
abbrev S64x1408 : Shape := ⟨2, ![64, 1408]⟩
abbrev S1x2x1408 : Shape := ⟨3, ![1, 2, 1408]⟩
abbrev S2x1408 : Shape := ⟨2, ![2, 1408]⟩
abbrev S1x1408 : Shape := ⟨2, ![1, 1408]⟩
abbrev S1408x1024 : Shape := ⟨2, ![1408, 1024]⟩

abbrev nBuf : Space → Nat
  | .hbm => 13
  | .vmem => 14
  | .smem => 0
  | _ => 0

abbrev bufTy : (tb : Table) → Fin (tcTables nBuf tb) → BufTy
  | .hbm, ⟨0, _⟩ => ⟨S32x64x1024, .f32⟩
  | .hbm, ⟨1, _⟩ => ⟨S32x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S32x64x1024, .f32⟩
  | .hbm, ⟨12, _⟩ => ⟨S32x2x2816, .f32⟩
  | .local _ .vmem, ⟨0, _⟩ => ⟨S8x64x1024, .f32⟩
  | .local _ .vmem, ⟨1, _⟩ => ⟨S8x64x1024, .f32⟩
  | .local _ .vmem, ⟨2, _⟩ => ⟨S8x2x2816, .f32⟩
  | .local _ .vmem, ⟨3, _⟩ => ⟨S8x2x2816, .f32⟩
  | .local _ .vmem, ⟨4, _⟩ => ⟨S1x1024, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S8x64x1024, .f32⟩
  | .local _ .vmem, ⟨10, _⟩ => ⟨S8x64x1024, .f32⟩
  | .local _ .vmem, ⟨11, _⟩ => ⟨S8x2x2816, .f32⟩
  | .local _ .vmem, ⟨12, _⟩ => ⟨S8x2x2816, .f32⟩
  | .local _ .vmem, ⟨13, _⟩ => ⟨S8x2x2816, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_328 : BitVec 32 := 0#32
  let v843 : BitVec 1 := Scalar.cmpi .eq arg1 c0_i32_328
  let v844 : BitVec 32 := Scalar.extui v843
  let c0_i32_329 : BitVec 32 := 0#32
  let v845 : BitVec 1 := Scalar.cmpi .ne v844 c0_i32_329
  v845

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x2x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceFfnSIdeal.lean ====
abbrev S32x64x1024 : Shape := ⟨3, ![32, 64, 1024]⟩
abbrev S32x2x2816 : Shape := ⟨3, ![32, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x5632 : Shape := ⟨3, ![32, 64, 5632]⟩
abbrev S32x64x2816 : Shape := ⟨3, ![32, 64, 2816]⟩
abbrev S32x66x2816 : Shape := ⟨3, ![32, 66, 2816]⟩
abbrev S1x2816 : Shape := ⟨2, ![1, 2816]⟩
abbrev S1x1x2816 : Shape := ⟨3, ![1, 1, 2816]⟩

abbrev nBuf : Space → Nat
  | .hbm => 74
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S32x64x1024, .f32⟩
  | .hbm, ⟨8, _⟩ => ⟨S_, .f32⟩
  | .hbm, ⟨9, _⟩ => ⟨S32x64, .f32⟩
  | .hbm, ⟨10, _⟩ => ⟨S32x64x1, .f32⟩
  | .hbm, ⟨11, _⟩ => ⟨S_, .f32⟩
  | .hbm, ⟨12, _⟩ => ⟨S32x64x1, .f32⟩
  | .hbm, ⟨13, _⟩ => ⟨S32x64x1, .f32⟩
  | .hbm, ⟨14, _⟩ => ⟨S_, .f32⟩
  | .hbm, ⟨15, _⟩ => ⟨S32x64x1, .f32⟩
  | .hbm, ⟨16, _⟩ => ⟨S32x64x1, .f32⟩
  | .hbm, ⟨17, _⟩ => ⟨S32x64x1, .f32⟩
  | .hbm, ⟨18, _⟩ => ⟨S32x64x1024, .f32⟩
  | .hbm, ⟨19, _⟩ => ⟨S32x64x1024, .f32⟩
  | .hbm, ⟨20, _⟩ => ⟨S1x1x1024, .f32⟩
  | .hbm, ⟨21, _⟩ => ⟨S32x64x1024, .f32⟩
  | .hbm, ⟨22, _⟩ => ⟨S32x64x1024, .f32⟩
  | .hbm, ⟨23, _⟩ => ⟨S32x64x5632, .f32⟩
  | .hbm, ⟨24, _⟩ => ⟨S32x64x2816, .f32⟩
  | .hbm, ⟨25, _⟩ => ⟨S32x64x2816, .f32⟩
  | .hbm, ⟨26, _⟩ => ⟨S32x66x2816, .f32⟩
  | .hbm, ⟨27, _⟩ => ⟨S32x64x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S32x64x2816, .f32⟩
  | .hbm, ⟨32, _⟩ => ⟨S32x64x2816, .f32⟩
  | .hbm, ⟨33, _⟩ => ⟨S32x64x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S32x64x2816, .f32⟩
  | .hbm, ⟨38, _⟩ => ⟨S32x64x2816, .f32⟩
  | .hbm, ⟨39, _⟩ => ⟨S32x64x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S32x64x2816, .f32⟩
  | .hbm, ⟨44, _⟩ => ⟨S32x64x2816, .f32⟩
  | .hbm, ⟨45, _⟩ => ⟨S_, .f32⟩
  | .hbm, ⟨46, _⟩ => ⟨S32x64x2816, .f32⟩
  | .hbm, ⟨47, _⟩ => ⟨S32x64x2816, .f32⟩
  | .hbm, ⟨48, _⟩ => ⟨S32x64x2816, .f32⟩
  | .hbm, ⟨49, _⟩ => ⟨S32x64x2816, .f32⟩
  | .hbm, ⟨50, _⟩ => ⟨S1x1x2816, .f32⟩
  | .hbm, ⟨51, _⟩ => ⟨S32x64x2816, .f32⟩
  | .hbm, ⟨52, _⟩ => ⟨S32x64x2816, .f32⟩
  | .hbm, ⟨53, _⟩ => ⟨S32x64x2816, .f32⟩
  | .hbm, ⟨54, _⟩ => ⟨S32x64x2816, .f32⟩
  | .hbm, ⟨55, _⟩ => ⟨S_, .f32⟩
  | .hbm, ⟨56, _⟩ => ⟨S32x64x2816, .f32⟩
  | .hbm, ⟨57, _⟩ => ⟨S32x64x2816, .f32⟩
  | .hbm, ⟨58, _⟩ => ⟨S32x64x2816, .f32⟩
  | .hbm, ⟨59, _⟩ => ⟨S_, .f32⟩
  | .hbm, ⟨60, _⟩ => ⟨S32x64x2816, .f32⟩
  | .hbm, ⟨61, _⟩ => ⟨S32x64x2816, .f32⟩
  | .hbm, ⟨62, _⟩ => ⟨S32x64x2816, .f32⟩
  | .hbm, ⟨63, _⟩ => ⟨S_, .f32⟩
  | .hbm, ⟨64, _⟩ => ⟨S32x64x2816, .f32⟩
  | .hbm, ⟨65, _⟩ => ⟨S32x64x2816, .f32⟩
  | .hbm, ⟨66, _⟩ => ⟨S_, .f32⟩
  | .hbm, ⟨67, _⟩ => ⟨S32x64x2816, .f32⟩
  | .hbm, ⟨68, _⟩ => ⟨S32x64x2816, .f32⟩
  | .hbm, ⟨69, _⟩ => ⟨S32x64x2816, .f32⟩
  | .hbm, ⟨70, _⟩ => ⟨S32x64x2816, .f32⟩
  | .hbm, ⟨71, _⟩ => ⟨S32x64x1024, .f32⟩
  | .hbm, ⟨72, _⟩ => ⟨S32x64x1024, .f32⟩
  | .hbm, ⟨73, _⟩ => ⟨S32x2x2816, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.SwaSpec.lean ====
/- The sliding-window attention: what both programs compute, as mathematics. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Swa

/-- The word of minus infinity, and of the scale 1/8. -/
abbrev BOT : EReal := Ideal.ofBits .f32 0xFF800000#32
abbrev SCALE : EReal := Ideal.ofBits .f32 0x3E000000#32

/-- The slope of head `h`, `2^-(h+1)`, as its word. -/
def slope (h : Fin 8) : EReal := Ideal.ofBits .f32 ((![0x3F000000#32, 0x3E800000#32, 0x3E000000#32, 0x3D800000#32, 0x3D000000#32,
  0x3C800000#32, 0x3C000000#32, 0x3B800000#32] : Fin 8 → BitVec 32) h)

/-- How far key `j` of a band lies from query `i` of its chunk. -/
def dist (i : Fin 64) (j : Fin 192) : EReal := ((((128 + (i : ℤ) - (j : ℤ)).natAbs : ℕ) : ℝ) : EReal)

/-- A scaled score less its distance penalty. -/
def score (q k : Fin 64 → EReal) (w d : EReal) : EReal := (∑ x, q x * k x) * SCALE - w * d

/-- The greatest of a band's scores and the sink. -/
def top (s : Fin 192 → EReal) (e : EReal) : EReal := max (Finset.univ.fold max BOT s) e

/-- The softmax's numerator. -/
def wt (s : Fin 192 → EReal) (e : EReal) (j : Fin 192) : EReal := Ideal.exp (s j - top s e)

/-- The softmax's denominator, in which the sink has its share. -/
def den (s : Fin 192 → EReal) (e : EReal) : EReal := (∑ j, wt s e j) + Ideal.exp (e - top s e)

/-- One output coordinate from the scores, the sink and the values' column. -/
def att (s : Fin 192 → EReal) (e : EReal) (v : Fin 192 → EReal) : EReal := ∑ j, Ideal.div (wt s e j) (den s e) * v j

theorem bot_eq : BOT = ⊥ := by
  simp [BOT, Ideal.ofBits, Ideal.ieee]

theorem exp_nonneg (x : EReal) : 0 ≤ Ideal.exp x := by
  induction x using EReal.rec with
  | bot => exact le_refl (0 : EReal)
  | top => exact (le_top : (0 : EReal) ≤ ⊤)
  | coe r => exact EReal.coe_nonneg.mpr (Real.exp_pos r).le

/-- With no score at the top and a real sink the denominator is not zero. -/
theorem den_ne (s : Fin 192 → EReal) (e : ℝ) (hs : ∀ j, s j ≠ ⊤) : den s e ≠ 0 := by
  have ht : top s (e : EReal) ≠ ⊤ := by
    refine ne_of_lt (max_lt ?_ (EReal.coe_lt_top e))
    refine (Finset.fold_max_lt _).mpr ⟨by rw [bot_eq]; exact bot_lt_top, fun j _ => lt_top_iff_ne_top.mpr (hs j)⟩
  have hb : top s (e : EReal) ≠ ⊥ := ne_of_gt (lt_of_lt_of_le (EReal.bot_lt_coe e) (le_max_right _ _))
  obtain ⟨r, hr⟩ : ∃ r : ℝ, top s (e : EReal) = r := ⟨_, (EReal.coe_toReal ht hb).symm⟩
  have h1 : 0 < Ideal.exp ((e : EReal) - top s (e : EReal)) := by
    rw [hr, ← EReal.coe_sub]
    exact EReal.coe_pos.mpr (Real.exp_pos (e - r))
  refine ne_of_gt (lt_of_lt_of_le h1 ?_)
  exact le_add_of_nonneg_left (Finset.sum_nonneg fun j _ => exp_nonneg _)

/-- A masked key's value does not matter. -/
theorem att_congr {s : Fin 192 → EReal} {e : ℝ} {v v' : Fin 192 → EReal} (hs : ∀ j, s j ≠ ⊤) (h : ∀ j, s j = ⊥ ∨ v j = v' j) :
    att s e v = att s e v' := by
  refine Finset.sum_congr rfl fun j _ => ?_
  rcases h j with h | h
  · have : Ideal.div (wt s e j) (den s e) = 0 := by
      unfold wt
      rw [h, EReal.bot_sub]
      unfold Ideal.div
      rw [if_neg (den_ne s e hs)]
      exact zero_mul _
    rw [this, zero_mul, zero_mul]
  · rw [h]

/-- A sum over 128 lanes of which only the lower half counts. -/
theorem sum_lo (q k : Fin 128 → EReal) :
    (∑ x : Fin 128, (if (x : ℕ) < 64 then q x else 0) * k x) = ∑ x : Fin 64, q ⟨x, by omega⟩ * k ⟨x, by omega⟩ := by
  refine (Fin.sum_univ_add (a := 64) (b := 64) fun x => (if ((x : Fin (64 + 64)) : ℕ) < 64 then q x else 0) * k x).trans ?_
  refine (congrArg₂ (· + ·) (Finset.sum_congr rfl fun x _ => ?_) (Finset.sum_eq_zero fun x _ => ?_)).trans (add_zero _)
  · rw [if_pos (by simp)]; rfl
  · rw [if_neg (by simp), zero_mul]

/-- … of which only the upper half counts. -/
theorem sum_hi (q k : Fin 128 → EReal) :
    (∑ x : Fin 128, (if (x : ℕ) < 64 then 0 else q x) * k x) = ∑ x : Fin 64, q ⟨64 + x, by omega⟩ * k ⟨64 + x, by omega⟩ := by
  refine (Fin.sum_univ_add (a := 64) (b := 64) fun x => (if ((x : Fin (64 + 64)) : ℕ) < 64 then 0 else q x) * k x).trans ?_
  refine (congrArg₂ (· + ·) (Finset.sum_eq_zero fun x _ => ?_) (Finset.sum_congr rfl fun x _ => ?_)).trans (zero_add _)
  · rw [if_pos (by simp), zero_mul]
  · rw [if_neg (by simp)]; rfl

/-- The row of the keys that chunk `C`'s band has at `j`; the two chunks before a sequence have no rows, and any will do. -/
def row (C : Fin 64) (j : Fin 192) : Fin 4096 :=
  ⟨if 64 * C.val + j.val < 128 then 64 * C.val + j.val else 64 * C.val + j.val - 128, by split <;> omega⟩

/-- Sliding-window attention: batch `b`, query `t`, coordinate `d` of head `h`; four heads share a head of keys and values. -/
def swa (q : (⟨3, ![4, 4096, 512]⟩ : Shape).Idx → EReal) (k v : (⟨3, ![4, 4096, 128]⟩ : Shape).Idx → EReal) (s : (⟨1, ![8]⟩ : Shape).Idx → EReal)
    (b : Fin 4) (t : Fin 4096) (h : Fin 8) (d : Fin 64) : EReal :=
  att (fun j => if 64 * (t.val / 64) + j.val < 128 then BOT
      else score (fun x => q (ix3 b t ⟨64 * h.val + x.val, by omega⟩))
        (fun x => k (ix3 b (row ⟨t.val / 64, by omega⟩ j) ⟨64 * (h.val / 4) + x.val, by omega⟩)) (slope h) (dist ⟨t.val % 64, by omega⟩ j))
    (s (ix1 h)) fun j => v (ix3 b (row ⟨t.val / 64, by omega⟩ j) ⟨64 * (h.val / 4) + d.val, by omega⟩)

end Cert.Swa
-- ==== Proof.SwaPay.lean ====
/- The sliding-window attention kernel: one head, and one pair of heads, of one chunk of queries, read at an index. -/
module

public import proofs.«01_k».proof.Proof.Gen.KernelSwaIdeal.Value
public import proofs.«01_k».proof.Proof.SwaSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Swa

open Cert.KernelSwaIdeal Cert.KernelSwaIdeal.Gen

/-- The lower half's mask, laid along the rows. -/
abbrev lo (v2 : IVec S1x128 1) : IVec S64x128 1 :=
  broadcastTo S64x128 (shapeCast S1x128 v2 shapeCasts_S1x128_S1x128) broadcasts_S1x128_S64x128

/-- The zero block. -/
abbrev zeros : FVec Ideal S64x128 .f32 := broadcast S64x128 (Scalar.ofBits .f32 0x00000000#32)

/-- A chunk's query block as a matrix. -/
abbrev mat (q : FVec Ideal S1x64x128 .f32) : FVec Ideal S64x128 .f32 := shapeCast S64x128 q shapeCasts_S1x64x128_S64x128

/-- A head's scores: its queries `q` (the other half zero), the keys `K`, the slope's word `w`. -/
abbrev scores (mask : IVec S64x192 1) (D : FVec Ideal S64x192 .f32) (w : BitVec 32) (q : FVec Ideal S64x128 .f32)
    (K : FVec Ideal S192x128 .f32) : FVec Ideal S64x192 .f32 :=
  select mask (broadcast S64x192 (Scalar.ofBits .f32 0xFF800000#32))
    (subf (mulf (matmul dot_S64x128_S192x128_S64x192_1_1_0_0_n_n none (truncf .bf16 q bitsLt_bf16_f32) (truncf .bf16 K bitsLt_bf16_f32)
        (constant S64x192 .f32 0x00000000#32)) (broadcast S64x192 (Scalar.ofBits .f32 0x3E000000#32)))
      (mulf (broadcast S64x192 (Scalar.ofBits .f32 w)) D))

/-- The rows' greatest, the sink among them. -/
abbrev tops (S : FVec Ideal S64x192 .f32) (e : Elt Ideal .f32) : FVec Ideal S64x1 .f32 :=
  maximumf (shapeCast S64x1 (multiReduction .maximumf [1] S64 S 0xFF800000#32 reduces_S64x192_S64 (.inl rfl) rfl) shapeCasts_S64_S64x1)
    (broadcast S64x1 e)

/-- The numerators. -/
abbrev wts (S : FVec Ideal S64x192 .f32) (e : Elt Ideal .f32) : FVec Ideal S64x192 .f32 :=
  exp (subf S (broadcastTo S64x192 (tops S e) broadcasts_S64x1_S64x192))

/-- The denominators. -/
abbrev dens (S : FVec Ideal S64x192 .f32) (e : Elt Ideal .f32) : FVec Ideal S64x1 .f32 :=
  addf (shapeCast S64x1 (multiReduction .add [1] S64 (wts S e) 0x00000000#32 reduces_S64x192_S64 (.inl rfl) rfl) shapeCasts_S64_S64x1)
    (exp (subf (broadcast S64x1 e) (tops S e)))

/-- A head's output. -/
abbrev head (S : FVec Ideal S64x192 .f32) (e : Elt Ideal .f32) (V : FVec Ideal S192x128 .f32) : FVec Ideal S64x128 .f32 :=
  matmul dot_S64x192_S192x128_S64x128_1_0_0_1_n_n none
    (truncf .bf16 (divf (wts S e) (broadcastTo S64x192 (dens S e) broadcasts_S64x1_S64x192)) bitsLt_bf16_f32)
    (truncf .bf16 V bitsLt_bf16_f32) (constant S64x128 .f32 0x00000000#32)

/-- A pair of heads: the lower half of the lanes from the one, the upper half from the other. -/
abbrev pair (v2 : IVec S1x128 1) (mask : IVec S64x192 1) (D : FVec Ideal S64x192 .f32) (w0 w1 : BitVec 32) (q : FVec Ideal S1x64x128 .f32)
    (K0 V0 K1 V1 : FVec Ideal S192x128 .f32) (e0 e1 : Elt Ideal .f32) : FVec Ideal S1x64x128 .f32 :=
  shapeCast S1x64x128 (select (lo v2) (head (scores mask D w0 (select (lo v2) (mat q) zeros) K0) e0 V0)
    (head (scores mask D w1 (select (lo v2) zeros (mat q)) K1) e1 V1)) shapeCasts_S64x128_S1x64x128

theorem scores_at (mask : IVec S64x192 1) (D : FVec Ideal S64x192 .f32) (w : BitVec 32) (q : FVec Ideal S64x128 .f32)
    (K : FVec Ideal S192x128 .f32) (i : Fin 64) (j : Fin 192) :
    scores mask D w q K (ix2 i j) = if mask (ix2 i j) = 1#1 then BOT
      else (∑ x : Fin 128, q (ix2 i x) * K (ix2 j x)) * SCALE - Ideal.ofBits .f32 w * D (ix2 i j) := by
  pointwise [scores]
  rfl

theorem tops_at (S : FVec Ideal S64x192 .f32) (e : Elt Ideal .f32) (i : Fin 64) (z : Fin 1) :
    tops S e (ix2 i z) = top (fun j => S (ix2 i j)) e := by
  pointwise [tops, top]

theorem wts_at (S : FVec Ideal S64x192 .f32) (T : FVec Ideal S64x1 .f32) (i : Fin 64) (j : Fin 192) :
    (exp (subf S (broadcastTo S64x192 T broadcasts_S64x1_S64x192)) : FVec Ideal S64x192 .f32) (ix2 i j) = Ideal.exp (S (ix2 i j) - T (ix2 i 0)) := by
  pointwise

theorem dens_at (E : FVec Ideal S64x192 .f32) (T : FVec Ideal S64x1 .f32) (e : Elt Ideal .f32) (i : Fin 64) (z : Fin 1) :
    (addf (shapeCast S64x1 (multiReduction .add [1] S64 E 0x00000000#32 reduces_S64x192_S64 (.inl rfl) rfl) shapeCasts_S64_S64x1)
      (exp (subf (broadcast S64x1 e) T)) : FVec Ideal S64x1 .f32) (ix2 i z) = (∑ j, E (ix2 i j)) + Ideal.exp (e - T (ix2 i z)) := by
  pointwise

theorem dot_at (E : FVec Ideal S64x192 .f32) (G : FVec Ideal S64x1 .f32) (V : FVec Ideal S192x128 .f32) (i : Fin 64) (d : Fin 128) :
    (matmul dot_S64x192_S192x128_S64x128_1_0_0_1_n_n none
      (truncf .bf16 (divf E (broadcastTo S64x192 G broadcasts_S64x1_S64x192)) bitsLt_bf16_f32)
      (truncf .bf16 V bitsLt_bf16_f32) (constant S64x128 .f32 0x00000000#32) : FVec Ideal S64x128 .f32) (ix2 i d)
    = ∑ j : Fin 192, Ideal.div (E (ix2 i j)) (G (ix2 i 0)) * V (ix2 j d) := by
  pointwise

theorem head_at (S : FVec Ideal S64x192 .f32) (e : Elt Ideal .f32) (V : FVec Ideal S192x128 .f32) (i : Fin 64) (d : Fin 128) :
    head S e V (ix2 i d) = att (fun j => S (ix2 i j)) e fun j => V (ix2 j d) := by
  refine (dot_at _ _ _ _ _).trans ?_
  have hw : ∀ j, wts S e (ix2 i j) = wt (fun j => S (ix2 i j)) e j := fun j => (wts_at _ _ _ _).trans (by rw [tops_at]; rfl)
  have hd : dens S e (ix2 i 0) = den (fun j => S (ix2 i j)) e := by
    refine (dens_at _ _ _ _ _).trans ?_
    rw [tops_at]
    exact congrArg₂ (· + ·) (Finset.sum_congr rfl fun j _ => hw j) rfl
  exact Finset.sum_congr rfl fun j _ => by rw [hw, hd]

theorem sel_at (C : IVec S64x128 1) (A B : FVec Ideal S64x128 .f32) (i : Fin 64) (x : Fin 128) :
    (shapeCast S1x64x128 (select C A B) shapeCasts_S64x128_S1x64x128 : FVec Ideal S1x64x128 .f32) (ix3 0 i x)
      = if C (ix2 i x) = 1#1 then A (ix2 i x) else B (ix2 i x) := by
  pointwise
  rfl

theorem lo_at (i : Fin 64) (x : Fin 128) : lo k0_pay29 (ix2 i x) = if (x : ℕ) < 64 then 1#1 else 0#1 := by
  have h : ∀ x : Fin 128, k0_pay29 (ix2 0 x) = if (x : ℕ) < 64 then 1#1 else 0#1 := by decide +kernel
  rw [← h]
  pointwise [lo]

theorem qlo_at (q : FVec Ideal S1x64x128 .f32) (i : Fin 64) (x : Fin 128) :
    (select (lo k0_pay29) (mat q) zeros : FVec Ideal S64x128 .f32) (ix2 i x) = if (x : ℕ) < 64 then q (ix3 0 i x) else 0 := by
  have : (select (lo k0_pay29) (mat q) zeros : FVec Ideal S64x128 .f32) (ix2 i x)
      = if lo k0_pay29 (ix2 i x) = 1#1 then mat q (ix2 i x) else zeros (ix2 i x) := rfl
  rw [this, lo_at]
  by_cases h : (x : ℕ) < 64
  · simp only [if_pos h]; pointwise
  · simp only [if_neg h]; rw [if_neg (by decide)]; pointwise

theorem qhi_at (q : FVec Ideal S1x64x128 .f32) (i : Fin 64) (x : Fin 128) :
    (select (lo k0_pay29) zeros (mat q) : FVec Ideal S64x128 .f32) (ix2 i x) = if (x : ℕ) < 64 then 0 else q (ix3 0 i x) := by
  have : (select (lo k0_pay29) zeros (mat q) : FVec Ideal S64x128 .f32) (ix2 i x)
      = if lo k0_pay29 (ix2 i x) = 1#1 then zeros (ix2 i x) else mat q (ix2 i x) := rfl
  rw [this, lo_at]
  by_cases h : (x : ℕ) < 64
  · simp only [if_pos h]; pointwise
  · simp only [if_neg h]; rw [if_neg (by decide)]; pointwise

/-- The distance as the kernel counts it. -/
theorem pay30_at (i : Fin 64) (j : Fin 192) : k0_pay30 (F := Ideal) (ix2 i j) = dist i j := by
  have h : ∀ (i : Fin 64) (j : Fin 192), (IntOp.absi (IntOp.subi (IntOp.addi (128#32) (BitVec.ofNat 32 i)) (BitVec.ofNat 32 j))).toInt
      = ((128 + (i : ℤ) - (j : ℤ)).natAbs : ℤ) := by decide +kernel
  have h' : k0_pay30 (F := Ideal) (ix2 i j) = (((IntOp.absi (IntOp.subi (IntOp.addi (128#32) (BitVec.ofNat 32 i)) (BitVec.ofNat 32 j))).toInt : ℝ) : EReal) := by
    pointwise [k0_pay30]
    rfl
  rw [h', h]
  rfl

section
variable (mask : IVec S64x192 1) (w0 w1 : BitVec 32) (q : FVec Ideal S1x64x128 .f32) (K0 V0 K1 V1 : FVec Ideal S192x128 .f32)
  (e0 e1 : Elt Ideal .f32) (i : Fin 64) (d : Fin 64)

theorem pair_lo : pair k0_pay29 mask k0_pay30 w0 w1 q K0 V0 K1 V1 e0 e1 (ix3 0 i ⟨d, by omega⟩)
    = att (fun j => if mask (ix2 i j) = 1#1 then BOT else score (fun x => q (ix3 0 i ⟨x, by omega⟩)) (fun x => K0 (ix2 j ⟨x, by omega⟩))
        (Ideal.ofBits .f32 w0) (dist i j)) e0 fun j => V0 (ix2 j ⟨d, by omega⟩) := by
  refine (sel_at _ _ _ i ⟨d, by omega⟩).trans ?_
  rw [lo_at, if_pos d.isLt, if_pos rfl, head_at]
  refine congrArg (fun s => att s e0 _) (funext fun j => ?_)
  rw [scores_at, pay30_at]
  unfold score
  refine congrArg (fun y : EReal => if mask (ix2 i j) = 1#1 then BOT else y * SCALE - _) ?_
  exact (Finset.sum_congr rfl fun x _ => by rw [qlo_at]).trans (sum_lo (fun x => q (ix3 0 i x)) fun x => K0 (ix2 j x))

theorem pair_hi : pair k0_pay29 mask k0_pay30 w0 w1 q K0 V0 K1 V1 e0 e1 (ix3 0 i ⟨64 + d, by omega⟩)
    = att (fun j => if mask (ix2 i j) = 1#1 then BOT else score (fun x => q (ix3 0 i ⟨64 + x, by omega⟩)) (fun x => K1 (ix2 j ⟨64 + x, by omega⟩))
        (Ideal.ofBits .f32 w1) (dist i j)) e1 fun j => V1 (ix2 j ⟨64 + d, by omega⟩) := by
  refine (sel_at _ _ _ i ⟨64 + d, by omega⟩).trans ?_
  rw [lo_at, if_neg (show ¬(64 + (d : ℕ) < 64) by omega), if_neg (by decide), head_at]
  refine congrArg (fun s => att s e1 _) (funext fun j => ?_)
  rw [scores_at, pay30_at]
  unfold score
  refine congrArg (fun y : EReal => if mask (ix2 i j) = 1#1 then BOT else y * SCALE - _) ?_
  exact (Finset.sum_congr rfl fun x _ => by rw [qhi_at]).trans (sum_hi (fun x => q (ix3 0 i x)) fun x => K1 (ix2 j x))
end

end Cert.Swa
-- ==== Proof.SwaTrip.lean ====
/- The sliding-window attention kernel: what a trip of its loop writes. -/
module

public import proofs.«01_k».proof.Proof.SwaPay

@[expose] public section

set_option maxRecDepth 16384

noncomputable section

open Idealize.ShloMosaic Idealize.ShloMosaic.TcCoe Idealize.SL.Sem
open Idealize.ShloMosaic.Pipeline (Dat)
open scoped BigOperators

namespace Cert.Swa

open Cert.KernelSwaIdeal Cert.KernelSwaIdeal.Gen

/-- A trip's writes, last first: the four pairs of heads of one chunk of queries. -/
theorem trip_eq (c : Dev nD) (i : grid0.Coords) (arg2 : Memref sig .tc .smem S8 .f32) (harg2 : arg2.IsWhole) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x256x512 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg1 : BitVec 32) (v4 : IVec S64x192 32) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 arg12 harg12 arg1 k0_pay29 v4 k0_pay30 X_arg2 X_arg3 X_arg9 X_arg10 X_arg11 X_arg12 k = [⟨Rect.unit (s := S1x256x512) (k0_off5 k) S1x64x128.size (k0_off5_inb k), pair k0_pay29 (k0_pay4 arg1 v4 0#32 1#32 k) k0_pay30 0x3C000000#32 0x3B800000#32 (arg3.view.readAt (Elt Ideal) (Rect.unit (s := S1x256x512) (k0_off5 k) S1x64x128.size (k0_off5_inb k)).toLoadRect X_arg3)
        (arg10.view.readAt (Elt Ideal) (Rect.unit (s := S384x128) (k0_off1 k) S192x128.size (k0_off1_inb k)).toLoadRect X_arg10) (arg12.view.readAt (Elt Ideal) (Rect.unit (s := S384x128) (k0_off1 k) S192x128.size (k0_off1_inb k)).toLoadRect X_arg12) (arg9.view.readAt (Elt Ideal) (Rect.unit (s := S384x128) (k0_off1 k) S192x128.size (k0_off1_inb k)).toLoadRect X_arg9) (arg11.view.readAt (Elt Ideal) (Rect.unit (s := S384x128) (k0_off1 k) S192x128.size (k0_off1_inb k)).toLoadRect X_arg11) ((arg2.view.readAt (Elt Ideal) (Rect.unit (s := S8) ![6] S1.size inb_S8_S1_6).toLoadRect X_arg2) (Shape.Idx.first (by decide))) ((arg2.view.readAt (Elt Ideal) (Rect.unit (s := S8) ![7] S1.size inb_S8_S1_7).toLoadRect X_arg2) (Shape.Idx.first (by decide)))⟩,
      ⟨Rect.unit (s := S1x256x512) (k0_off4 k) S1x64x128.size (k0_off4_inb k), pair k0_pay29 (k0_pay4 arg1 v4 0#32 1#32 k) k0_pay30 0x3D000000#32 0x3C800000#32 (arg3.view.readAt (Elt Ideal) (Rect.unit (s := S1x256x512) (k0_off4 k) S1x64x128.size (k0_off4_inb k)).toLoadRect X_arg3)
        (arg10.view.readAt (Elt Ideal) (Rect.unit (s := S384x128) (k0_off1 k) S192x128.size (k0_off1_inb k)).toLoadRect X_arg10) (arg12.view.readAt (Elt Ideal) (Rect.unit (s := S384x128) (k0_off1 k) S192x128.size (k0_off1_inb k)).toLoadRect X_arg12) (arg9.view.readAt (Elt Ideal) (Rect.unit (s := S384x128) (k0_off1 k) S192x128.size (k0_off1_inb k)).toLoadRect X_arg9) (arg11.view.readAt (Elt Ideal) (Rect.unit (s := S384x128) (k0_off1 k) S192x128.size (k0_off1_inb k)).toLoadRect X_arg11) ((arg2.view.readAt (Elt Ideal) (Rect.unit (s := S8) ![4] S1.size inb_S8_S1_4).toLoadRect X_arg2) (Shape.Idx.first (by decide))) ((arg2.view.readAt (Elt Ideal) (Rect.unit (s := S8) ![5] S1.size inb_S8_S1_5).toLoadRect X_arg2) (Shape.Idx.first (by decide)))⟩,
      ⟨Rect.unit (s := S1x256x512) (k0_off3 k) S1x64x128.size (k0_off3_inb k), pair k0_pay29 (k0_pay4 arg1 v4 0#32 1#32 k) k0_pay30 0x3E000000#32 0x3D800000#32 (arg3.view.readAt (Elt Ideal) (Rect.unit (s := S1x256x512) (k0_off3 k) S1x64x128.size (k0_off3_inb k)).toLoadRect X_arg3)
        (arg9.view.readAt (Elt Ideal) (Rect.unit (s := S384x128) (k0_off1 k) S192x128.size (k0_off1_inb k)).toLoadRect X_arg9) (arg11.view.readAt (Elt Ideal) (Rect.unit (s := S384x128) (k0_off1 k) S192x128.size (k0_off1_inb k)).toLoadRect X_arg11) (arg10.view.readAt (Elt Ideal) (Rect.unit (s := S384x128) (k0_off1 k) S192x128.size (k0_off1_inb k)).toLoadRect X_arg10) (arg12.view.readAt (Elt Ideal) (Rect.unit (s := S384x128) (k0_off1 k) S192x128.size (k0_off1_inb k)).toLoadRect X_arg12) ((arg2.view.readAt (Elt Ideal) (Rect.unit (s := S8) ![2] S1.size inb_S8_S1_2).toLoadRect X_arg2) (Shape.Idx.first (by decide))) ((arg2.view.readAt (Elt Ideal) (Rect.unit (s := S8) ![3] S1.size inb_S8_S1_3).toLoadRect X_arg2) (Shape.Idx.first (by decide)))⟩,
      ⟨Rect.unit (s := S1x256x512) (k0_off2 k) S1x64x128.size (k0_off2_inb k), pair k0_pay29 (k0_pay4 arg1 v4 0#32 1#32 k) k0_pay30 0x3F000000#32 0x3E800000#32 (arg3.view.readAt (Elt Ideal) (Rect.unit (s := S1x256x512) (k0_off2 k) S1x64x128.size (k0_off2_inb k)).toLoadRect X_arg3)
        (arg9.view.readAt (Elt Ideal) (Rect.unit (s := S384x128) (k0_off1 k) S192x128.size (k0_off1_inb k)).toLoadRect X_arg9) (arg11.view.readAt (Elt Ideal) (Rect.unit (s := S384x128) (k0_off1 k) S192x128.size (k0_off1_inb k)).toLoadRect X_arg11) (arg10.view.readAt (Elt Ideal) (Rect.unit (s := S384x128) (k0_off1 k) S192x128.size (k0_off1_inb k)).toLoadRect X_arg10) (arg12.view.readAt (Elt Ideal) (Rect.unit (s := S384x128) (k0_off1 k) S192x128.size (k0_off1_inb k)).toLoadRect X_arg12) ((arg2.view.readAt (Elt Ideal) (Rect.unit (s := S8) ![0] S1.size inb_S8_S1_0).toLoadRect X_arg2) (Shape.Idx.first (by decide))) ((arg2.view.readAt (Elt Ideal) (Rect.unit (s := S8) ![1] S1.size inb_S8_S1_1).toLoadRect X_arg2) (Shape.Idx.first (by decide)))⟩] := by
  unfold tripL_k0_t1 trip_k0_t1
  rfl

end Cert.Swa
-- ==== Proof.SwaScratch.lean ====
/- The sliding-window attention kernel: what its four scratch buffers hold. -/
module

public import proofs.«01_k».proof.Proof.SwaTrip
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.Swa

open Cert.KernelSwaIdeal Cert.KernelSwaIdeal.Gen

/-- The key (or value) rows a block sees: the halo's 128 before the block's own 256. -/
def band (a : FVec Ideal S1x128x128 .f32) (b : FVec Ideal S1x256x128 .f32) (r : Fin 384) (l : Fin 128) : EReal :=
  if h : (r : ℕ) < 128 then a (ix3 0 ⟨r, h⟩ l) else b (ix3 0 ⟨r - 128, by omega⟩ l)

theorem off1 : ∀ k : Fin k0_t1_loop.trips, k0_off1 k = ![64 * k.val, 0] ∧ k.val < 4 := by decide +kernel
theorem off2 : ∀ k : Fin k0_t1_loop.trips, k0_off2 k = ![0, 64 * k.val, 0] := by decide +kernel
theorem off3 : ∀ k : Fin k0_t1_loop.trips, k0_off3 k = ![0, 64 * k.val, 128] := by decide +kernel
theorem off4 : ∀ k : Fin k0_t1_loop.trips, k0_off4 k = ![0, 64 * k.val, 256] := by decide +kernel
theorem off5 : ∀ k : Fin k0_t1_loop.trips, k0_off5 k = ![0, 64 * k.val, 384] := by decide +kernel

theorem pay31_at (a : FVec Ideal S1x128x128 .f32) (r l : Fin 128) : k0_pay31 a (ix2 r l) = a (ix3 0 r l) := by
  pointwise [k0_pay31]
theorem pay33_at (a : FVec Ideal S1x128x128 .f32) (r l : Fin 128) : k0_pay33 a (ix2 r l) = a (ix3 0 r l) := by
  pointwise [k0_pay33]
theorem pay32_at (a : FVec Ideal S1x256x128 .f32) (r : Fin 256) (l : Fin 128) : k0_pay32 a (ix2 r l) = a (ix3 0 r l) := by
  pointwise [k0_pay32]
theorem pay34_at (a : FVec Ideal S1x256x128 .f32) (r : Fin 256) (l : Fin 128) : k0_pay34 a (ix2 r l) = a (ix3 0 r l) := by
  pointwise [k0_pay34]

/-- The two writes that fill a scratch, read anywhere. -/
theorem fill_at (a : FVec Ideal S1x128x128 .f32) (b : FVec Ideal S1x256x128 .f32) (wa : FVec Ideal S128x128 .f32) (wb : FVec Ideal S256x128 .f32)
    (ha : ∀ r l, wa (ix2 r l) = a (ix3 0 r l)) (hb : ∀ r l, wb (ix2 r l) = b (ix3 0 r l)) (y : S384x128.Idx) :
    View.canon (Val := Elt Ideal) (s := S384x128) (e := .f32) [⟨Rect.unit ![128, 0] S256x128.size inb_S384x128_S256x128_128_0, wb⟩,
      ⟨Rect.unit ![0, 0] S128x128.size inb_S384x128_S128x128_0_0, wa⟩] y = band a b (y 0) (y 1) := by
  refine View.canon_apply_of_pieces (Val := Elt Ideal) (S := S384x128) (e := .f32) (fun y => band a b (y 0) (y 1)) _ (fun p hp x => ?_) y ?_
  · rcases List.mem_cons.mp hp with rfl | hp
    · obtain ⟨r, l, rfl⟩ : ∃ (r : Fin 256) (l : Fin 128), x = ix2 r l := ⟨x 0, x 1, by blk_ext⟩
      refine (hb r l).trans ?_
      have h0 : ((Rect.unit (s := S384x128) ![128, 0] S256x128.size inb_S384x128_S256x128_128_0).emb (ix2 r l)) = ix2 ⟨128 + r, by omega⟩ l := by blk_ext
      show _ = band a b (((Rect.unit (s := S384x128) ![128, 0] S256x128.size inb_S384x128_S256x128_128_0).emb (ix2 r l)) 0) _
      rw [h0]
      show _ = band a b ⟨128 + r, _⟩ l
      unfold band
      rw [dif_neg (show ¬(128 + (r : ℕ) < 128) by omega)]
      exact congrArg b (congrArg (fun z => ix3 0 z l) (Fin.ext (by dsimp only; omega)))
    · rcases List.mem_singleton.mp hp with rfl
      obtain ⟨r, l, rfl⟩ : ∃ (r : Fin 128) (l : Fin 128), x = ix2 r l := ⟨x 0, x 1, by blk_ext⟩
      refine (ha r l).trans ?_
      have h0 : ((Rect.unit (s := S384x128) ![0, 0] S128x128.size inb_S384x128_S128x128_0_0).emb (ix2 r l)) = ix2 ⟨r, by omega⟩ l := by blk_ext
      show _ = band a b (((Rect.unit (s := S384x128) ![0, 0] S128x128.size inb_S384x128_S128x128_0_0).emb (ix2 r l)) 0) _
      rw [h0]
      show _ = band a b ⟨r, _⟩ l
      unfold band
      rw [dif_pos (show (r : ℕ) < 128 from r.isLt)]
  · have h0 : (y 0 : ℕ) < 384 := (y 0).isLt
    have h1 : (y 1 : ℕ) < 128 := (y 1).isLt
    by_cases h : (y 0 : ℕ) < 128
    · refine ⟨_, List.mem_cons_of_mem _ (List.mem_singleton_self _), (Rect.mem_set_unit (inb := inb_S384x128_S128x128_0_0)).mpr fun a => ?_⟩
      match a with
      | 0 => exact ⟨Nat.zero_le _, by show (y 0 : ℕ) < 0 + 128; omega⟩
      | 1 => exact ⟨Nat.zero_le _, by show (y 1 : ℕ) < 0 + 128; omega⟩
    · refine ⟨_, List.mem_cons_self, (Rect.mem_set_unit (inb := inb_S384x128_S256x128_128_0)).mpr fun a => ?_⟩
      match a with
      | 0 => exact ⟨by show 128 ≤ (y 0 : ℕ); omega, by show (y 0 : ℕ) < 128 + 256; omega⟩
      | 1 => exact ⟨Nat.zero_le _, by show (y 1 : ℕ) < 0 + 128; omega⟩

theorem roll_at (v : FVec Ideal S384x128 .f32) (r : Fin 384) (l : Fin 128) : k0_pay1 v (ix2 r l) = v (ix2 r ⟨(l + 64) % 128, by omega⟩) := by
  have h := dynamicRotate_apply (s := S384x128) 1 64#32 v rotates_S384x128_d1 (ix2 r l) (ix2 r ⟨(l + 64) % 128, by omega⟩) (fun b => by
    match b with
    | 0 => rfl
    | 1 => show (l.val + 64) % 128 = (l.val + 128 - 64) % 128; omega)
  refine Eq.trans ?_ h
  pointwise [k0_pay1]

theorem roll_at' (v : FVec Ideal S384x128 .f32) (r : Fin 384) (l : Fin 128) : k0_pay2 v (ix2 r l) = v (ix2 r ⟨(l + 64) % 128, by omega⟩) :=
  roll_at v r l

section
variable {κ : Kind} {sp : Space} (v u : View sig κ sp S384x128 .f32) (L : List (View.Piece (Elt Ideal) S384x128 .f32)) (g : Fin 384 → Fin 128 → EReal)
  (hL : ∀ y, View.canon L y = g (y 0) (y 1)) (k : Fin k0_t1_loop.trips) (j : Fin 192) (l : Fin 128)

include hL in
/-- A chunk's window of a scratch. -/
theorem window_at : v.readAt (Elt Ideal) (Rect.unit (s := S384x128) (k0_off1 k) S192x128.size (k0_off1_inb k)).toLoadRect (v.writes (Elt Ideal) v.junk L) (ix2 j l)
    = g ⟨64 * k.val + j, by have := (off1 k).2; omega⟩ l := by
  rw [View.readAt_writes_junk_eq_canon]
  refine (hL _).trans ?_
  refine congrArg₂ g (Fin.ext ?_) (Fin.ext ?_)
  · show k0_off1 k 0 + 1 * j.val = 64 * k.val + j.val
    rw [(off1 k).1]
    show 64 * k.val + 1 * j.val = _
    omega
  · show k0_off1 k 1 + 1 * l.val = l.val
    rw [(off1 k).1]
    show 0 + 1 * l.val = _
    omega

include hL in
/-- The rolled scratch holds each row turned by half its lanes. -/
theorem rolled (w : FVec Ideal S384x128 .f32) (hw : ∀ r l, w (ix2 r l) = (u.readCov L (Rect.unit (s := S384x128) ![0, 0] S384x128.size inb_S384x128_S384x128_0_0).toLoadRect : FVec Ideal S384x128 .f32) (ix2 r ⟨(l + 64) % 128, by omega⟩))
    (y : S384x128.Idx) : View.canon (Val := Elt Ideal) (s := S384x128) (e := .f32) [⟨Rect.unit ![0, 0] S384x128.size inb_S384x128_S384x128_0_0, w⟩] y
      = g (y 0) ⟨((y 1).val + 64) % 128, by have : ((y 1).val + 64) % 128 < 128 := Nat.mod_lt _ (by decide); exact this⟩ := by
  obtain ⟨r, l, rfl⟩ : ∃ (r : Fin 384) (l : Fin 128), y = ix2 r l := ⟨y 0, y 1, by blk_ext⟩
  have h0 : (ix2 r l : S384x128.Idx) = (Rect.unit (s := S384x128) ![0, 0] S384x128.size inb_S384x128_S384x128_0_0).emb (ix2 r l) := by blk_ext
  refine (congrArg _ h0).trans ?_
  rw [View.canon_cons_emb, hw, View.readCov_eq_canon']
  refine (hL _).trans ?_
  refine congrArg₂ g (Fin.ext ?_) (Fin.ext ?_)
  · show 0 + 1 * r.val = r.val
    omega
  · show 0 + 1 * ((l.val + 64) % 128) = (l.val + 64) % 128
    omega
end

end Cert.Swa
-- ==== Proof.SwaCell.lean ====
/- The sliding-window attention kernel: a pair of heads is two cells of the block. -/
module

public import proofs.«01_k».proof.Proof.SwaScratch

@[expose] public section

set_option maxRecDepth 16384

noncomputable section

open Idealize.ShloMosaic Idealize.ShloMosaic.TcCoe Idealize.SL.Sem
open Idealize.ShloMosaic.Pipeline (Dat)
open scoped BigOperators

namespace Cert.Swa

open Cert.KernelSwaIdeal Cert.KernelSwaIdeal.Gen

section
variable (B : ℕ) (x0 : FVec Ideal S8 .f32) (x1 : FVec Ideal S1x256x512 .f32) (x2 x3 : FVec Ideal S1x256x128 .f32) (x4 x5 : FVec Ideal S1x128x128 .f32)

/-- What a block computes for query `i` of chunk `k`, coordinate `d` of head `h`; the first block of a batch masks the halo. -/
def cell (k : Fin 4) (i : Fin 64) (h : Fin 8) (d : Fin 64) : EReal :=
  att (fun j => if B = 0 ∧ 64 * k.val + j.val < 128 then BOT
      else score (fun x => x1 (ix3 0 ⟨64 * k.val + i.val, by omega⟩ ⟨64 * h.val + x.val, by omega⟩))
        (fun x => band x4 x2 ⟨64 * k.val + j.val, by omega⟩ ⟨64 * (h.val / 4) + x.val, by omega⟩) (slope h) (dist i j))
    (x0 (ix1 h)) fun j => band x5 x3 ⟨64 * k.val + j.val, by omega⟩ ⟨64 * (h.val / 4) + d.val, by omega⟩

/-- A block's output. -/
def tile (y : S1x256x512.Idx) : EReal :=
  cell B x0 x1 x2 x3 x4 x5 ⟨(y 1).val / 64, by have : (y 1 : ℕ) < 256 := (y 1).isLt; omega⟩ ⟨(y 1).val % 64, by omega⟩
    ⟨(y 2).val / 64, by have : (y 2 : ℕ) < 512 := (y 2).isLt; omega⟩ ⟨(y 2).val % 64, by omega⟩

/-- A pair of heads is the two heads' cells. -/
theorem pair_cell (p : Fin 4) (k : Fin 4) (mask : IVec S64x192 1) (w0 w1 : BitVec 32) (q : FVec Ideal S1x64x128 .f32) (K0 V0 K1 V1 : FVec Ideal S192x128 .f32)
    (e0 e1 : Elt Ideal .f32) (hm : ∀ i j, mask (ix2 i j) = 1#1 ↔ B = 0 ∧ 64 * k.val + j.val < 128)
    (hq : ∀ i (x : Fin 128), q (ix3 0 i x) = x1 (ix3 0 ⟨64 * k.val + i.val, by omega⟩ ⟨128 * p.val + x.val, by omega⟩))
    (hK0 : ∀ (j : Fin 192) (x : Fin 64), K0 (ix2 j ⟨x, by omega⟩) = band x4 x2 ⟨64 * k.val + j.val, by omega⟩ ⟨64 * (p.val / 2) + x.val, by omega⟩)
    (hV0 : ∀ (j : Fin 192) (x : Fin 64), V0 (ix2 j ⟨x, by omega⟩) = band x5 x3 ⟨64 * k.val + j.val, by omega⟩ ⟨64 * (p.val / 2) + x.val, by omega⟩)
    (hK1 : ∀ (j : Fin 192) (x : Fin 64), K1 (ix2 j ⟨64 + x, by omega⟩) = band x4 x2 ⟨64 * k.val + j.val, by omega⟩ ⟨64 * (p.val / 2) + x.val, by omega⟩)
    (hV1 : ∀ (j : Fin 192) (x : Fin 64), V1 (ix2 j ⟨64 + x, by omega⟩) = band x5 x3 ⟨64 * k.val + j.val, by omega⟩ ⟨64 * (p.val / 2) + x.val, by omega⟩)
    (he0 : e0 = x0 (ix1 ⟨2 * p.val, by omega⟩)) (he1 : e1 = x0 (ix1 ⟨2 * p.val + 1, by omega⟩))
    (hw0 : Ideal.ofBits .f32 w0 = slope ⟨2 * p.val, by omega⟩) (hw1 : Ideal.ofBits .f32 w1 = slope ⟨2 * p.val + 1, by omega⟩) (x : S1x64x128.Idx)
    (y : S1x256x512.Idx) (hy1 : (y 1 : ℕ) = 64 * k.val + (x 1 : ℕ)) (hy2 : (y 2 : ℕ) = 128 * p.val + (x 2 : ℕ)) :
    pair k0_pay29 mask k0_pay30 w0 w1 q K0 V0 K1 V1 e0 e1 x = tile B x0 x1 x2 x3 x4 x5 y := by
  have hx1 : (x 1 : ℕ) < 64 := (x 1).isLt
  have hx2 : (x 2 : ℕ) < 128 := (x 2).isLt
  by_cases h : (x 2 : ℕ) < 64
  · have hx : x = ix3 0 ⟨(x 1 : ℕ), hx1⟩ ⟨(⟨(x 2 : ℕ), h⟩ : Fin 64), by omega⟩ := by blk_ext
    refine (congrArg _ hx).trans ((pair_lo mask w0 w1 q K0 V0 K1 V1 e0 e1 ⟨(x 1 : ℕ), hx1⟩ ⟨(x 2 : ℕ), h⟩).trans ?_)
    have ek : (⟨(y 1).val / 64, by omega⟩ : Fin 4) = k := Fin.ext (by dsimp only; omega)
    have ei : (⟨(y 1).val % 64, by omega⟩ : Fin 64) = ⟨(x 1 : ℕ), hx1⟩ := Fin.ext (by dsimp only; omega)
    have eh : (⟨(y 2).val / 64, by omega⟩ : Fin 8) = ⟨2 * p.val, by omega⟩ := Fin.ext (by dsimp only; omega)
    have ed : (⟨(y 2).val % 64, by omega⟩ : Fin 64) = ⟨(x 2 : ℕ), h⟩ := Fin.ext (by dsimp only; omega)
    show _ = cell B x0 x1 x2 x3 x4 x5 ⟨(y 1).val / 64, _⟩ ⟨(y 1).val % 64, _⟩ ⟨(y 2).val / 64, _⟩ ⟨(y 2).val % 64, _⟩
    rw [ek, ei, eh, ed]
    unfold cell
    rw [he0, hw0]
    simp only [hm, hq, hK0]
    have e2 : 2 * p.val / 4 = p.val / 2 := by omega
    have e3 : 64 * (2 * p.val) = 128 * p.val := by omega
    simp only [e2, e3]
    exact congrArg (att _ _) (funext fun j => hV0 j ⟨(x 2 : ℕ), h⟩)
  · have hx : x = ix3 0 ⟨(x 1 : ℕ), hx1⟩ ⟨64 + (⟨(x 2 : ℕ) - 64, by omega⟩ : Fin 64), by dsimp only; omega⟩ := by blk_ext
    refine (congrArg _ hx).trans ((pair_hi mask w0 w1 q K0 V0 K1 V1 e0 e1 ⟨(x 1 : ℕ), hx1⟩ ⟨(x 2 : ℕ) - 64, by omega⟩).trans ?_)
    have ek : (⟨(y 1).val / 64, by omega⟩ : Fin 4) = k := Fin.ext (by dsimp only; omega)
    have ei : (⟨(y 1).val % 64, by omega⟩ : Fin 64) = ⟨(x 1 : ℕ), hx1⟩ := Fin.ext (by dsimp only; omega)
    have eh : (⟨(y 2).val / 64, by omega⟩ : Fin 8) = ⟨2 * p.val + 1, by omega⟩ := Fin.ext (by dsimp only; omega)
    have ed : (⟨(y 2).val % 64, by omega⟩ : Fin 64) = ⟨(x 2 : ℕ) - 64, by omega⟩ := Fin.ext (by dsimp only; omega)
    show _ = cell B x0 x1 x2 x3 x4 x5 ⟨(y 1).val / 64, _⟩ ⟨(y 1).val % 64, _⟩ ⟨(y 2).val / 64, _⟩ ⟨(y 2).val % 64, _⟩
    rw [ek, ei, eh, ed]
    unfold cell
    rw [he1, hw1]
    simp only [hm, hq, hK1]
    have e2 : (2 * p.val + 1) / 4 = p.val / 2 := by omega
    have e3 : ∀ z, 128 * p.val + (64 + z) = 64 * (2 * p.val + 1) + z := fun z => by omega
    simp only [e2, e3]
    exact congrArg (att _ _) (funext fun j => hV1 j ⟨(x 2 : ℕ) - 64, by omega⟩)
end

/-- The mask: a batch's first block, the halo's keys. -/
theorem mask_at (B : Fin 16) (k : Fin k0_t1_loop.trips) (i : Fin 64) (j : Fin 192) :
    k0_pay4 (BitVec.ofNat 32 B) (iota .tc S64x192 32 [1] iota_S64x192_d1_w32) 0#32 1#32 k (ix2 i j) = 1#1 ↔ B.val = 0 ∧ 64 * k.val + j.val < 128 := by
  have h : ∀ (B : Fin 16) (k : Fin k0_t1_loop.trips) (j : Fin 192), IntOp.andi (IntOp.cmpi .eq (BitVec.ofNat 32 B) 0#32)
      (IntOp.cmpi .slt (IntOp.addi (BitVec.ofNat 32 j) (Scalar.muli (Scf.iv 0#32 1#32 k) 64#32)) 128#32) = 1#1
        ↔ B.val = 0 ∧ 64 * k.val + j.val < 128 := by decide +kernel
  rw [← h B k j]
  have e : k0_pay4 (BitVec.ofNat 32 B) (iota .tc S64x192 32 [1] iota_S64x192_d1_w32) 0#32 1#32 k (ix2 i j)
      = IntOp.andi (IntOp.cmpi .eq (BitVec.ofNat 32 B) 0#32)
      (IntOp.cmpi .slt (IntOp.addi (BitVec.ofNat 32 j) (Scalar.muli (Scf.iv 0#32 1#32 k) 64#32)) 128#32) := by
    pointwise [k0_pay4]
    try rfl
  rw [e]

end Cert.Swa
-- ==== Proof.SwaBlock.lean ====
/- The sliding-window attention kernel: what a grid point leaves in its output block. -/
module

public import proofs.«01_k».proof.Proof.SwaCell
public import Idealize.ShloMosaic.Lib.VecWindow

@[expose] public section

set_option maxRecDepth 16384

noncomputable section

open Idealize.ShloMosaic Idealize.ShloMosaic.TcCoe Idealize.SL.Sem
open Idealize.ShloMosaic.Pipeline (Dat)
open scoped BigOperators

namespace Cert.Swa

open Cert.KernelSwaIdeal Cert.KernelSwaIdeal.Gen

/-- A lane turned by half. -/
abbrev turn (l : Fin 128) : Fin 128 := ⟨(l.val + 64) % 128, by omega⟩

/-- A chunk's block of queries. -/
theorem query_at (arg3 : Memref sig .tc .vmem S1x256x512 .f32) (harg3 : arg3.IsWhole) (x1 : FVec Ideal S1x256x512 .f32) {off : Fin 3 → ℕ} {a b : ℕ}
    (ho : off = ![0, a, b]) (inb : ∀ a, off a + S1x64x128.size a ≤ S1x256x512.size a) (i : Fin 64) (x : Fin 128) {ha : a + i.val < 256} {hb : b + x.val < 512} :
    arg3.view.readAt (Elt Ideal) (Rect.unit (s := S1x256x512) off S1x64x128.size inb).toLoadRect (harg3.unread x1) (ix3 0 i x)
      = x1 (ix3 0 ⟨a + i.val, ha⟩ ⟨b + x.val, hb⟩) := by
  subst ho
  rw [View.readAt_apply, harg3.read_unread]
  refine congrArg x1 (funext fun z => Fin.ext ?_)
  match z with
  | 0 => rfl
  | 1 => show a + 1 * i.val = a + i.val; omega
  | 2 => show b + 1 * x.val = b + x.val; omega

/-- Where a chunk's rectangle puts an index. -/
theorem emb_at {off : Fin 3 → ℕ} {a b : ℕ} (ho : off = ![0, a, b]) (inb : ∀ a, off a + S1x64x128.size a ≤ S1x256x512.size a) (x : S1x64x128.Idx) :
    ((Rect.unit (s := S1x256x512) off S1x64x128.size inb).emb x 1 : ℕ) = a + (x 1 : ℕ)
      ∧ ((Rect.unit (s := S1x256x512) off S1x64x128.size inb).emb x 2 : ℕ) = b + (x 2 : ℕ) := by
  subst ho
  exact ⟨by show a + 1 * (x 1 : ℕ) = _; omega, by show b + 1 * (x 2 : ℕ) = _; omega⟩

/-- A head's sink. -/
theorem sink_at (arg2 : Memref sig .tc .smem S8 .f32) (harg2 : arg2.IsWhole) (x0 : FVec Ideal S8 .f32) {n : ℕ}
    (inb : ∀ a, (![n] : Fin 1 → ℕ) a + S1.size a ≤ S8.size a) {hn : n < 8} {hp : 0 < (Rect.unit (s := S8) ![n] S1.size inb).toLoadRect.shape.numel} :
    arg2.view.readAt (Elt Ideal) (Rect.unit (s := S8) ![n] S1.size inb).toLoadRect (harg2.unread x0) (Shape.Idx.first hp) = x0 (ix1 ⟨n, hn⟩) := by
  rw [View.readAt_apply, harg2.read_unread]
  refine congrArg x0 (funext fun z => Fin.ext ?_)
  match z with
  | 0 => rfl

section
variable (c : Dev nD) (i : grid0.Coords) (arg2 : Memref sig .tc .smem S8 .f32) (harg2 : arg2.IsWhole) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x256x512 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole)
  (B : Fin 16) (x0 : FVec Ideal S8 .f32) (x1 : FVec Ideal S1x256x512 .f32) (x2 x3 : FVec Ideal S1x256x128 .f32) (x4 x5 : FVec Ideal S1x128x128 .f32)
  (L9 L10 L11 L12 : List (View.Piece (Elt Ideal) S384x128 .f32))
  (h9 : ∀ y, View.canon L9 y = band x4 x2 (y 0) (y 1)) (h10 : ∀ y, View.canon L10 y = band x4 x2 (y 0) (turn (y 1)))
  (h11 : ∀ y, View.canon L11 y = band x5 x3 (y 0) (y 1)) (h12 : ∀ y, View.canon L12 y = band x5 x3 (y 0) (turn (y 1)))
include h9 h10 h11 h12

/-- Every write of a trip is the block's tile at its place. -/
theorem trip_tile (k : Fin k0_t1_loop.trips) : ∀ p ∈ tripL_k0_t1 (F := Ideal) Variants.none c none i arg2 harg2 arg3 harg3 arg4 harg4 arg5 harg5 arg6 harg6 arg7 harg7 arg8 harg8 arg9 harg9 arg10 harg10 arg11 harg11 arg12 harg12 (BitVec.ofNat 32 B.val) k0_pay29 (iota .tc S64x192 32 [1] iota_S64x192_d1_w32) k0_pay30 (harg2.unread x0) (harg3.unread x1) (arg9.view.writes (Elt Ideal) arg9.view.junk L9) (arg10.view.writes (Elt Ideal) arg10.view.junk L10) (arg11.view.writes (Elt Ideal) arg11.view.junk L11) (arg12.view.writes (Elt Ideal) arg12.view.junk L12) k, ∀ x : p.1.shape.Idx,
    p.2 x = tile B.val x0 x1 x2 x3 x4 x5 (p.1.emb x) := by
  rw [trip_eq]
  intro p hp x
  rcases List.mem_cons.mp hp with rfl | hp
  · exact pair_cell B.val x0 x1 x2 x3 x4 x5 3 ⟨k.val, (off1 k).2⟩ _ _ _ _ _ _ _ _ _ _ (mask_at B k) (fun i x => query_at arg3 harg3 x1 (off5 k) _ i x)
      (fun j x => (window_at arg10.view L10 (fun r l => band x4 x2 r (turn l)) h10 k j ⟨x.val, by omega⟩).trans (congrArg (band x4 x2 _) (Fin.ext (by show (x.val + 64) % 128 = 64 * (3 / 2) + x.val; omega))))
      (fun j x => (window_at arg12.view L12 (fun r l => band x5 x3 r (turn l)) h12 k j ⟨x.val, by omega⟩).trans (congrArg (band x5 x3 _) (Fin.ext (by show (x.val + 64) % 128 = 64 * (3 / 2) + x.val; omega))))
      (fun j x => (window_at arg9.view L9 (band x4 x2) h9 k j ⟨64 + x.val, by omega⟩).trans (congrArg (band x4 x2 _) (Fin.ext (by show 64 + x.val = 64 * (3 / 2) + x.val; omega))))
      (fun j x => (window_at arg11.view L11 (band x5 x3) h11 k j ⟨64 + x.val, by omega⟩).trans (congrArg (band x5 x3 _) (Fin.ext (by show 64 + x.val = 64 * (3 / 2) + x.val; omega))))
      (sink_at arg2 harg2 x0 inb_S8_S1_6) (sink_at arg2 harg2 x0 inb_S8_S1_7) rfl rfl x _ (emb_at (off5 k) (k0_off5_inb k) x).1 (emb_at (off5 k) (k0_off5_inb k) x).2
  rcases List.mem_cons.mp hp with rfl | hp
  · exact pair_cell B.val x0 x1 x2 x3 x4 x5 2 ⟨k.val, (off1 k).2⟩ _ _ _ _ _ _ _ _ _ _ (mask_at B k) (fun i x => query_at arg3 harg3 x1 (off4 k) _ i x)
      (fun j x => (window_at arg10.view L10 (fun r l => band x4 x2 r (turn l)) h10 k j ⟨x.val, by omega⟩).trans (congrArg (band x4 x2 _) (Fin.ext (by show (x.val + 64) % 128 = 64 * (2 / 2) + x.val; omega))))
      (fun j x => (window_at arg12.view L12 (fun r l => band x5 x3 r (turn l)) h12 k j ⟨x.val, by omega⟩).trans (congrArg (band x5 x3 _) (Fin.ext (by show (x.val + 64) % 128 = 64 * (2 / 2) + x.val; omega))))
      (fun j x => (window_at arg9.view L9 (band x4 x2) h9 k j ⟨64 + x.val, by omega⟩).trans (congrArg (band x4 x2 _) (Fin.ext (by show 64 + x.val = 64 * (2 / 2) + x.val; omega))))
      (fun j x => (window_at arg11.view L11 (band x5 x3) h11 k j ⟨64 + x.val, by omega⟩).trans (congrArg (band x5 x3 _) (Fin.ext (by show 64 + x.val = 64 * (2 / 2) + x.val; omega))))
      (sink_at arg2 harg2 x0 inb_S8_S1_4) (sink_at arg2 harg2 x0 inb_S8_S1_5) rfl rfl x _ (emb_at (off4 k) (k0_off4_inb k) x).1 (emb_at (off4 k) (k0_off4_inb k) x).2
  rcases List.mem_cons.mp hp with rfl | hp
  · exact pair_cell B.val x0 x1 x2 x3 x4 x5 1 ⟨k.val, (off1 k).2⟩ _ _ _ _ _ _ _ _ _ _ (mask_at B k) (fun i x => query_at arg3 harg3 x1 (off3 k) _ i x)
      (fun j x => (window_at arg9.view L9 (band x4 x2) h9 k j ⟨x.val, by omega⟩).trans (congrArg (band x4 x2 _) (Fin.ext (by show x.val = 64 * (1 / 2) + x.val; omega))))
      (fun j x => (window_at arg11.view L11 (band x5 x3) h11 k j ⟨x.val, by omega⟩).trans (congrArg (band x5 x3 _) (Fin.ext (by show x.val = 64 * (1 / 2) + x.val; omega))))
      (fun j x => (window_at arg10.view L10 (fun r l => band x4 x2 r (turn l)) h10 k j ⟨64 + x.val, by omega⟩).trans (congrArg (band x4 x2 _) (Fin.ext (by show (64 + x.val + 64) % 128 = 64 * (1 / 2) + x.val; omega))))
      (fun j x => (window_at arg12.view L12 (fun r l => band x5 x3 r (turn l)) h12 k j ⟨64 + x.val, by omega⟩).trans (congrArg (band x5 x3 _) (Fin.ext (by show (64 + x.val + 64) % 128 = 64 * (1 / 2) + x.val; omega))))
      (sink_at arg2 harg2 x0 inb_S8_S1_2) (sink_at arg2 harg2 x0 inb_S8_S1_3) rfl rfl x _ (emb_at (off3 k) (k0_off3_inb k) x).1 (emb_at (off3 k) (k0_off3_inb k) x).2
  rcases List.mem_singleton.mp hp with rfl
  · exact pair_cell B.val x0 x1 x2 x3 x4 x5 0 ⟨k.val, (off1 k).2⟩ _ _ _ _ _ _ _ _ _ _ (mask_at B k) (fun i x => query_at arg3 harg3 x1 (off2 k) _ i x)
      (fun j x => (window_at arg9.view L9 (band x4 x2) h9 k j ⟨x.val, by omega⟩).trans (congrArg (band x4 x2 _) (Fin.ext (by show x.val = 64 * (0 / 2) + x.val; omega))))
      (fun j x => (window_at arg11.view L11 (band x5 x3) h11 k j ⟨x.val, by omega⟩).trans (congrArg (band x5 x3 _) (Fin.ext (by show x.val = 64 * (0 / 2) + x.val; omega))))
      (fun j x => (window_at arg10.view L10 (fun r l => band x4 x2 r (turn l)) h10 k j ⟨64 + x.val, by omega⟩).trans (congrArg (band x4 x2 _) (Fin.ext (by show (64 + x.val + 64) % 128 = 64 * (0 / 2) + x.val; omega))))
      (fun j x => (window_at arg12.view L12 (fun r l => band x5 x3 r (turn l)) h12 k j ⟨64 + x.val, by omega⟩).trans (congrArg (band x5 x3 _) (Fin.ext (by show (64 + x.val + 64) % 128 = 64 * (0 / 2) + x.val; omega))))
      (sink_at arg2 harg2 x0 inb_S8_S1_0) (sink_at arg2 harg2 x0 inb_S8_S1_1) rfl rfl x _ (emb_at (off2 k) (k0_off2_inb k) x).1 (emb_at (off2 k) (k0_off2_inb k) x).2

/-- And so is every write of the loop. -/
theorem loop_tile : ∀ n ≤ k0_t1_loop.trips, ∀ p ∈ pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 B.val) k0_pay29 (iota .tc S64x192 32 [1] iota_S64x192_d1_w32) k0_pay30 (harg2.unread x0) (harg3.unread x1) (arg9.view.writes (Elt Ideal) arg9.view.junk L9) (arg10.view.writes (Elt Ideal) arg10.view.junk L10) (arg11.view.writes (Elt Ideal) arg11.view.junk L11) (arg12.view.writes (Elt Ideal) arg12.view.junk L12) n, ∀ x : p.1.shape.Idx,
    p.2 x = tile B.val x0 x1 x2 x3 x4 x5 (p.1.emb x)
  | 0, _, p, hp => absurd hp List.not_mem_nil
  | n + 1, hn, p, hp => by
    have e := pb_k0_t1_succ (F := Ideal) Variants.none c none i arg2 harg2 arg3 harg3 arg4 harg4 arg5 harg5 arg6 harg6 arg7 harg7 arg8 harg8 arg9 harg9 arg10 harg10 arg11 harg11 arg12 harg12 (BitVec.ofNat 32 B.val) k0_pay29 (iota .tc S64x192 32 [1] iota_S64x192_d1_w32) k0_pay30 (harg2.unread x0) (harg3.unread x1) (arg9.view.writes (Elt Ideal) arg9.view.junk L9) (arg10.view.writes (Elt Ideal) arg10.view.junk L10) (arg11.view.writes (Elt Ideal) arg11.view.junk L11) (arg12.view.writes (Elt Ideal) arg12.view.junk L12) ⟨n, hn⟩
    replace hp := e ▸ hp
    rcases List.mem_append.mp hp with hp | hp
    · exact trip_tile c i arg2 harg2 arg3 harg3 arg4 harg4 arg5 harg5 arg6 harg6 arg7 harg7 arg8 harg8 arg9 harg9 arg10 harg10 arg11 harg11 arg12 harg12 B x0 x1 x2 x3 x4 x5 L9 L10 L11 L12 h9 h10 h11 h12 ⟨n, hn⟩ p hp
    · exact loop_tile n (Nat.le_of_succ_le hn) p hp
end

theorem full2 (arg : Memref sig .tc .vmem S1x256x128 .f32) (harg : arg.IsWhole) (x : FVec Ideal S1x256x128 .f32) (inb : ∀ a, (![0, 0, 0] : Fin 3 → ℕ) a + S1x256x128.size a ≤ S1x256x128.size a) :
    arg.view.readAt (Elt Ideal) (Rect.unit (s := S1x256x128) ![0, 0, 0] S1x256x128.size inb).toLoadRect (harg.unread x) = x := by
  rw [View.readAt_full, harg.read_unread]

theorem full4 (arg : Memref sig .tc .vmem S1x128x128 .f32) (harg : arg.IsWhole) (x : FVec Ideal S1x128x128 .f32) (inb : ∀ a, (![0, 0, 0] : Fin 3 → ℕ) a + S1x128x128.size a ≤ S1x128x128.size a) :
    arg.view.readAt (Elt Ideal) (Rect.unit (s := S1x128x128) ![0, 0, 0] S1x128x128.size inb).toLoadRect (harg.unread x) = x := by
  rw [View.readAt_full, harg.read_unread]

/-- A block's output, whatever buffers it is staged in. -/
theorem out_tile (c : Dev nD) (i : grid0.Coords) (arg2 : Memref sig .tc .smem S8 .f32) (harg2 : arg2.IsWhole) (arg3 : Memref sig .tc .vmem S1x256x512 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x256x512 .f32) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole)
    (x0 : Vec Ideal S8 .f32) (x1 : Vec Ideal S1x256x512 .f32) (x2 : Vec Ideal S1x256x128 .f32) (x3 : Vec Ideal S1x256x128 .f32) (x4 : Vec Ideal S1x128x128 .f32) (x5 : Vec Ideal S1x128x128 .f32) :
    out0_A_6 (F := Ideal) c i arg2 harg2 arg3 harg3 arg4 harg4 arg5 harg5 arg6 harg6 arg7 harg7 arg8 harg8 arg9 harg9 arg10 harg10 arg11 harg11 arg12 harg12 x0 x1 x2 x3 x4 x5 = tile (i 1).val x0 x1 x2 x3 x4 x5 := by
  funext y
  unfold out0_A_6
  rw [View.read_writes_junk_eq_canon]
  refine View.canon_apply_of_pieces (Val := Elt Ideal) (S := S1x256x512) (e := .f32) (tile (i 1).val x0 x1 x2 x3 x4 x5) _ ?_ y (cover0_A_6 c i arg2 harg2 arg3 harg3 arg4 harg4 arg5 harg5 arg6 harg6 arg7 harg7 arg8 harg8 arg9 harg9 arg10 harg10 arg11 harg11 arg12 harg12 x0 x1 x2 x3 x4 x5 y)
  have k9 : ∀ y, View.canon (kernelRun0_A.sl.HS0_2 (F := Ideal) c arg4 harg4 arg6 harg6 x2 x4) y = band x4 x2 (y 0) (y 1) :=
    fill_at x4 x2 _ _ (fun r l => (pay31_at _ r l).trans (congrFun (full4 arg6 harg6 x4 _) _)) fun r l => (pay32_at _ r l).trans (congrFun (full2 arg4 harg4 x2 _) _)
  have k11 : ∀ y, View.canon (kernelRun0_A.sl.HS2_2 (F := Ideal) c arg5 harg5 arg7 harg7 x3 x5) y = band x5 x3 (y 0) (y 1) :=
    fill_at x5 x3 _ _ (fun r l => (pay33_at _ r l).trans (congrFun (full4 arg7 harg7 x5 _) _)) fun r l => (pay34_at _ r l).trans (congrFun (full2 arg5 harg5 x3 _) _)
  have k10 : ∀ y, View.canon (kernelRun0_A.sl.HS1_1 (F := Ideal) c arg4 harg4 arg6 harg6 arg9 x2 x4) y = band x4 x2 (y 0) (turn (y 1)) :=
    rolled arg9.view _ (band x4 x2) k9 _ fun r l => roll_at _ r l
  have k12 : ∀ y, View.canon (kernelRun0_A.sl.HS3_1 (F := Ideal) c arg5 harg5 arg7 harg7 arg11 x3 x5) y = band x5 x3 (y 0) (turn (y 1)) :=
    rolled arg11.view _ (band x5 x3) k11 _ fun r l => roll_at' _ r l
  unfold kernelRun0_A
  exact loop_tile c i arg2 harg2 arg3 harg3 arg4 harg4 arg5 harg5 arg6 harg6 arg7 harg7 arg8 harg8 arg9 harg9 arg10 harg10 arg11 harg11 arg12 harg12 (i 1) x0 x1 x2 x3 x4 x5 _ _ _ _ k9 k10 k11 k12 _ (le_refl _)

end Cert.Swa
-- ==== Proof.SwaFinal.lean ====
/- The sliding-window attention kernel: its result array after the run. -/
module

public import proofs.«01_k».proof.Proof.SwaBlock

@[expose] public section

set_option maxRecDepth 16384

noncomputable section

open Idealize.ShloMosaic Idealize.ShloMosaic.TcCoe Idealize.SL.Sem
open Idealize.ShloMosaic.Pipeline (Dat)
open scoped BigOperators

namespace Cert.Swa

open Cert.KernelSwaIdeal Cert.KernelSwaIdeal.Gen

theorem idx : ∀ t : Fin cfg0.N, win0_0.index t = ![0] ∧ win0_1.index t = ![t.val / 16, t.val % 16, 0] ∧ win0_2.index t = ![t.val / 16, t.val % 16, 0]
    ∧ win0_3.index t = ![t.val / 16, t.val % 16, 0] ∧ win0_4.index t = ![t.val / 16, 2 * (t.val % 16) - 1, 0]
    ∧ win0_5.index t = ![t.val / 16, 2 * (t.val % 16) - 1, 0] ∧ win0_6.index t = ![t.val / 16, t.val % 16, 0] ∧ t.val / 16 < 4 :=
  (by decide +kernel : ∀ t : Fin grid0.N, _)

theorem coord : ∀ t : Fin cfg0.N, (grid0.coords t 1).val = t.val % 16 := (by decide +kernel : ∀ t : Fin grid0.N, _)

variable (m : (ℓ : Loc nD τ sig) → Buf (Elt Ideal) ℓ)

/-- The keys' rows a block sees, in the array. -/
theorem keys_at (c : Dev nD) (t : Fin cfg0.N) (r : Fin 384) (l : Fin 128) : band (iblk m c 4 t) (iblk m c 2 t) r l
    = m ((c : Thread nD τ).loc main_arg1) (ix3 ⟨t.val / 16, (idx t).2.2.2.2.2.2.2⟩
      ⟨if t.val % 16 = 0 ∧ (r : ℕ) < 128 then r.val else 256 * (t.val % 16) + r.val - 128, by split <;> omega⟩ l) := by
  unfold band
  have ht := Nat.mod_lt t.val (show 0 < 16 by decide)
  split
  · next h =>
    by_cases h0 : t.val % 16 = 0
    · simp only [h0, h, and_self, if_true]
      blk_ext [iblk, V, idx t]
    · simp only [h0, false_and, if_false]
      blk_ext [iblk, V, idx t]
  · next h =>
    simp only [h, and_false, if_false]
    blk_ext [iblk, V, idx t]

/-- The values' likewise. -/
theorem vals_at (c : Dev nD) (t : Fin cfg0.N) (r : Fin 384) (l : Fin 128) : band (iblk m c 5 t) (iblk m c 3 t) r l
    = m ((c : Thread nD τ).loc main_arg2) (ix3 ⟨t.val / 16, (idx t).2.2.2.2.2.2.2⟩
      ⟨if t.val % 16 = 0 ∧ (r : ℕ) < 128 then r.val else 256 * (t.val % 16) + r.val - 128, by split <;> omega⟩ l) := by
  unfold band
  have ht := Nat.mod_lt t.val (show 0 < 16 by decide)
  split
  · next h =>
    by_cases h0 : t.val % 16 = 0
    · simp only [h0, h, and_self, if_true]
      blk_ext [iblk, V, idx t]
    · simp only [h0, false_and, if_false]
      blk_ext [iblk, V, idx t]
  · next h =>
    simp only [h, and_false, if_false]
    blk_ext [iblk, V, idx t]

theorem row_at (T B : ℕ) (hB : B < 16) (hT : T < 256) (j : Fin 192) (r : ℕ) (hr : r = 64 * (T / 64) + j.val) {C : Fin 64} (hC : C.val = (256 * B + T) / 64)
    {h0 : (if B = 0 ∧ r < 128 then r else 256 * B + r - 128) < 4096} :
    (⟨if B = 0 ∧ r < 128 then r else 256 * B + r - 128, h0⟩ : Fin 4096) = row C j := by
  unfold row
  refine Fin.ext ?_
  dsimp only
  rw [hC]
  split <;> split <;> omega

theorem att_ext {s s' v v' : Fin 192 → EReal} {e e' : EReal} (h : ∀ j, s j = s' j) (he : e = e') (hv : ∀ j, v j = v' j) : att s e v = att s' e' v' := by
  rw [funext h, he, funext hv]

theorem score_ext {q q' k k' : Fin 64 → EReal} {w w' d d' : EReal} (hq : ∀ x, q x = q' x) (hk : ∀ x, k x = k' x) (hw : w = w') (hd : d = d') :
    score q k w d = score q' k' w' d' := by
  rw [funext hq, funext hk, hw, hd]

theorem tile_swa (c : Dev nD) (t : Fin cfg0.N) (y : S1x256x512.Idx) (h1 : (y 1 : ℕ) < 256) (h2 : (y 2 : ℕ) < 512) :
    tile (grid0.coords t 1).val (iblk m c 0 t) (iblk m c 1 t) (iblk m c 2 t) (iblk m c 3 t) (iblk m c 4 t) (iblk m c 5 t) y
      = swa (m ((c : Thread nD τ).loc main_arg0)) (m ((c : Thread nD τ).loc main_arg1)) (m ((c : Thread nD τ).loc main_arg2)) (m ((c : Thread nD τ).loc main_arg3))
        ⟨t.val / 16, (idx t).2.2.2.2.2.2.2⟩ ⟨256 * (t.val % 16) + (y 1).val, by omega⟩ ⟨(y 2).val / 64, by omega⟩ ⟨(y 2).val % 64, by omega⟩ := by
  have ht := Nat.mod_lt t.val (show 0 < 16 by decide)
  unfold tile cell swa
  refine att_ext (fun j => ?_) ?_ fun j => ?_
  · refine if_congr ?_ rfl (score_ext (fun x => ?_) (fun x => ?_) rfl (congrArg (dist · j) (Fin.ext (by dsimp only; omega))))
    · rw [coord]
      dsimp only
      omega
    · dsimp only
      blk_ext [iblk, V, idx t]
    · rw [keys_at]
      exact congrArg (fun r => m ((c : Thread nD τ).loc main_arg1) (ix3 _ r _)) (row_at (y 1).val (t.val % 16) ht h1 j _ rfl rfl)
  · blk_ext [iblk, V, idx t]
  · rw [vals_at]
    exact congrArg (fun r => m ((c : Thread nD τ).loc main_arg2) (ix3 _ r _)) (row_at (y 1).val (t.val % 16) ht h1 j _ rfl rfl)

/-- The result array after the run. -/
theorem final_at (c : Dev nD) : (dats m 0 c).arrAt 6 (cfgs 0).N = fun i : S4x4096x512.Idx =>
      swa (m ((c : Thread nD τ).loc main_arg0)) (m ((c : Thread nD τ).loc main_arg1)) (m ((c : Thread nD τ).loc main_arg2)) (m ((c : Thread nD τ).loc main_arg3))
        (i 0) (i 1) ⟨(i 2).val / 64, by idx_bounds; omega⟩ ⟨(i 2).val % 64, by omega⟩ := by
  refine (dats m 0 c).arrAt_eq_of_covers 6 _ (by decide +kernel) fun t _ y => ?_
  blk_simp
  rw [after0_6]
  unfold outsAt0
  rw [out_tile]
  idx_bounds y
  refine (tile_swa m c t y hb1 hb2).trans ?_
  have hi : (win0_6.blk t).view.emb y = ix3 ⟨t.val / 16, (idx t).2.2.2.2.2.2.2⟩ ⟨256 * (t.val % 16) + (y 1).val, by omega⟩ ⟨(y 2).val, by omega⟩ := by
    blk_ext [idx t]
  have h2 : win0_6.index t 2 = 0 := by rw [(idx t).2.2.2.2.2.2.1]; rfl
  simp only [hi, h2, Nat.zero_mul, Nat.zero_add]
  rfl

end Cert.Swa
-- ==== Proof.SwaRefBand.lean ====
/- The sliding-window reference: the band of keys or values of each chunk, read at an index. -/
module

public import proofs.«01_k».proof.Proof.Gen.ReferenceSwaIdeal.Run
public import proofs.«01_k».proof.Proof.SwaSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SwaRef

open Cert.Swa Cert.ReferenceSwaIdeal Cert.ReferenceSwaIdeal.Gen

/-- The chunks of an array of keys or values, two chunks of zeros before them. -/
abbrev padded (X : FVec Ideal S4x4096x128 .f32) : FVec Ideal S4x66x64x2x64 .f32 :=
  pad S4x66x64x2x64 ![0, 2, 0, 0, 0] ![0, 0, 0, 0, 0] ![0, 0, 0, 0, 0] (shapeCast _ X shapeCasts_S4x4096x128_S4x64x64x2x64)
    (sitofp .f32 (constantI S_ 32 0#32)) pads_S4x64x64x2x64_S4x66x64x2x64_000_200_000_000_000 h_S_

/-- Each chunk's band: the two chunks before it and itself. -/
abbrev bands (P : FVec Ideal S4x66x64x2x64 .f32) : FVec Ideal S4x64x192x2x64 .f32 :=
  concatenate S4x64x192x2x64 2
    [⟨S4x64x64x2x64, extractStridedSlice S4x64x64x2x64 ![0, 0, 0, 0, 0] P slices_S4x66x64x2x64_S4x64x64x2x64_0_0_0_0_0⟩,
      ⟨S4x64x64x2x64, extractStridedSlice S4x64x64x2x64 ![0, 1, 0, 0, 0] P slices_S4x66x64x2x64_S4x64x64x2x64_0_1_0_0_0⟩,
      ⟨S4x64x64x2x64, extractStridedSlice S4x64x64x2x64 ![0, 2, 0, 0, 0] P slices_S4x66x64x2x64_S4x64x64x2x64_0_2_0_0_0⟩]
    concatenates_S4x64x64x2x64_S4x64x64x2x64_S4x64x64x2x64_S4x64x192x2x64_d2

theorem chunk_at (X : FVec Ideal S4x4096x128 .f32) (b : Fin 4) (C r : Fin 64) (g : Fin 2) (x : Fin 64) :
    shapeCast S4x64x64x2x64 X shapeCasts_S4x4096x128_S4x64x64x2x64 (ix5 b C r g x)
      = X (ix3 b ⟨64 * C.val + r.val, by omega⟩ ⟨64 * g.val + x.val, by omega⟩) := by
  pointwise
  simp only [Nat.mul_comm]

theorem pad_at (Y : FVec Ideal S4x64x64x2x64 .f32) (z : FVec Ideal S_ .f32) (b : Fin 4) (C : Fin 66) (r : Fin 64) (g : Fin 2) (x : Fin 64) :
    pad S4x66x64x2x64 ![0, 2, 0, 0, 0] ![0, 0, 0, 0, 0] ![0, 0, 0, 0, 0] Y z pads_S4x64x64x2x64_S4x66x64x2x64_000_200_000_000_000 h_S_ (ix5 b C r g x)
      = if h : C.val < 2 then z ix0 else Y (ix5 b ⟨C.val - 2, by omega⟩ r g x) := by
  pointwise
  by_cases h : C.val < 2
  · rw [dif_pos h, dif_neg (by omega)]
    exact congrArg z (funext fun a => a.elim0)
  · rw [dif_neg h, dif_pos (by omega)]

theorem bands_at (P : FVec Ideal S4x66x64x2x64 .f32) (b : Fin 4) (C : Fin 64) (j : Fin 192) (g : Fin 2) (x : Fin 64) :
    bands P (ix5 b C j g x) = P (ix5 b ⟨C.val + j.val / 64, by omega⟩ ⟨j.val % 64, by omega⟩ g x) := by
  pointwise [bands]
  split
  · exact congrArg₂ (fun u v => P (ix5 b u v g x)) (Fin.ext (by dsimp only; omega)) (Fin.ext (by dsimp only; omega))
  · split
    · exact congrArg₂ (fun u v => P (ix5 b u v g x)) (Fin.ext (by dsimp only; omega)) (Fin.ext (by dsimp only; omega))
    · exact congrArg₂ (fun u v => P (ix5 b u v g x)) (Fin.ext (by dsimp only; omega)) (Fin.ext (by dsimp only; omega))

/-- A band at an index. -/
theorem band_at (X : FVec Ideal S4x4096x128 .f32) (b : Fin 4) (C : Fin 64) (j : Fin 192) (g : Fin 2) (x : Fin 64) :
    bands (padded X) (ix5 b C j g x) = if 64 * C.val + j.val < 128 then 0 else X (ix3 b (row C j) ⟨64 * g.val + x.val, by omega⟩) := by
  refine (bands_at _ b C j g x).trans ((pad_at _ _ b _ _ g x).trans ?_)
  by_cases h : 64 * C.val + j.val < 128
  · rw [dif_pos (by dsimp only; omega), if_pos h]
    exact congrArg (fun r : ℝ => (r : EReal)) Int.cast_zero
  · rw [dif_neg (by dsimp only; omega), if_neg h]
    refine (chunk_at X b _ _ g x).trans (congrArg (fun r => X (ix3 b r _)) (Fin.ext ?_))
    unfold row
    dsimp only
    rw [if_neg h]
    omega

end Cert.SwaRef
-- ==== Proof.SwaRefMask.lean ====
/- The sliding-window reference: which keys of a band there are, how far they lie, and the slopes, each read at an index. -/
module

public import proofs.«01_k».proof.Proof.Gen.ReferenceSwaIdeal.Run
public import proofs.«01_k».proof.Proof.SwaSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.SwaRef

open Cert.Swa Cert.ReferenceSwaIdeal Cert.ReferenceSwaIdeal.Gen

/-- A band's key numbers. -/
abbrev keyNo : IVec S1x192 32 := broadcastInDim S1x192 ![1] bcast_S192_S1x192_1 (iotaInDim S192 32 0)

/-- The chunk's length, laid along the keys. -/
abbrev len : IVec S1x192 32 := broadcastInDim S1x192 ![] bcast_S_S1x192 (id (constantI S_ 32 64#32))

/-- Which of a band's three chunks a key is in. -/
abbrev part : IVec S1x192 32 :=
  select (andi (cmpi .ne (signi keyNo) (broadcastInDim S1x192 ![] bcast_S_S1x192 (signi (id (constantI S_ 32 64#32)))))
      (cmpi .ne (Host.remsi keyNo len) (broadcastInDim S1x192 ![] bcast_S_S1x192 (constantI S_ 32 0#32))))
    (subi (Host.divsi keyNo len) (broadcastInDim S1x192 ![] bcast_S_S1x192 (constantI S_ 32 1#32))) (Host.divsi keyNo len)

/-- Whether a key lies within the sequence. -/
abbrev valid : IVec S64x192 1 :=
  cmpi .sge (addi (broadcastInDim S64x192 ![0, 1] bcast_S64x1_S64x192_0_1 (subi (broadcastInDim S64x1 ![0] bcast_S64_S64x1_0 (iotaInDim S64 32 0))
      (broadcastInDim S64x1 ![] bcast_S_S64x1 (constantI S_ 32 2#32)))) (broadcastInDim S64x192 ![0, 1] bcast_S1x192_S64x192_0_1 part))
    (broadcastInDim S64x192 ![] bcast_S_S64x192 (constantI S_ 32 0#32))

/-- How far each key lies from each query. -/
abbrev dists : FVec Ideal S64x192 .f32 :=
  sitofp .f32 (absi (subi (broadcastInDim S64x192 ![0, 1] bcast_S64x1_S64x192_0_1 (addi (broadcastInDim S64x1 ![] bcast_S_S64x1 (constantI S_ 32 128#32))
    (broadcastInDim S64x1 ![0] bcast_S64_S64x1_0 (iotaInDim S64 32 0)))) (broadcastInDim S64x192 ![0, 1] bcast_S1x192_S64x192_0_1 keyNo)))

/-- The heads' slopes. -/
abbrev slopes : FVec Ideal S8 .f32 :=
  Host.divf (broadcastInDim S8 ![] bcast_S_S8 (constant S_ .f32 0x3F800000#32)) (sitofp .f32 (Host.shli (broadcastInDim S8 ![] bcast_S_S8 (constantI S_ 32 1#32))
    (addi (broadcastInDim S8 ![] bcast_S_S8 (constantI S_ 32 1#32)) (iotaInDim S8 32 0))))

theorem part_at (z : Fin 1) (j : Fin 192) : part (ix2 z j) = BitVec.ofNat 32 (j.val / 64) := by
  have h : ∀ j : Fin 192, Scalar.select (IntOp.andi
        (IntOp.cmpi .ne (if BitVec.ofNat 32 j.val = 0 then 0 else if (BitVec.ofNat 32 j.val).msb = true then -1 else 1)
          (if (64#32 : BitVec 32) = 0 then 0 else if (64#32 : BitVec 32).msb = true then -1 else (1 : BitVec 32)))
        (IntOp.cmpi .ne (IntOp.remsi .host (BitVec.ofNat 32 j.val) 64#32) 0#32))
      (IntOp.subi (IntOp.divsi .host (BitVec.ofNat 32 j.val) 64#32) 1#32) (IntOp.divsi .host (BitVec.ofNat 32 j.val) 64#32)
      = BitVec.ofNat 32 (j.val / 64) := by decide +kernel
  pointwise [part, len, keyNo]
  exact h j

theorem valid_gen (P : IVec S1x192 32) (C : Fin 64) (j : Fin 192) :
    cmpi .sge (addi (broadcastInDim S64x192 ![0, 1] bcast_S64x1_S64x192_0_1 (subi (broadcastInDim S64x1 ![0] bcast_S64_S64x1_0 (iotaInDim S64 32 0))
      (broadcastInDim S64x1 ![] bcast_S_S64x1 (constantI S_ 32 2#32)))) (broadcastInDim S64x192 ![0, 1] bcast_S1x192_S64x192_0_1 P))
    (broadcastInDim S64x192 ![] bcast_S_S64x192 (constantI S_ 32 0#32)) (ix2 C j)
    = IntOp.cmpi .sge (IntOp.addi (IntOp.subi (BitVec.ofNat 32 C) 2#32) (P (ix2 0 j))) 0#32 := by
  pointwise

theorem valid_at (C : Fin 64) (j : Fin 192) : valid (ix2 C j) = if 64 * C.val + j.val < 128 then 0#1 else 1#1 := by
  have h : ∀ (C : Fin 64) (j : Fin 192), IntOp.cmpi .sge (IntOp.addi (IntOp.subi (BitVec.ofNat 32 C) 2#32) (BitVec.ofNat 32 (j.val / 64))) 0#32
      = if 64 * C.val + j.val < 128 then 0#1 else 1#1 := by decide +kernel
  refine (valid_gen part C j).trans ?_
  rw [part_at, h]

theorem dists_at (i : Fin 64) (j : Fin 192) : dists (ix2 i j) = dist i j := by
  have h : ∀ (i : Fin 64) (j : Fin 192), (IntOp.absi (IntOp.subi (IntOp.addi (128#32) (BitVec.ofNat 32 i)) (BitVec.ofNat 32 j))).toInt
      = ((128 + (i : ℤ) - (j : ℤ)).natAbs : ℤ) := by decide +kernel
  have h' : dists (ix2 i j) = (((IntOp.absi (IntOp.subi (IntOp.addi (128#32) (BitVec.ofNat 32 i)) (BitVec.ofNat 32 j))).toInt : ℝ) : EReal) := by
    pointwise [dists, keyNo]
    rfl
  rw [h', h]
  rfl

/-- The slopes' words denote the powers of a half. -/
theorem slope_eq (h : Fin 8) : Swa.slope h = ((1 / 2 ^ (h.val + 1) : ℝ) : EReal) := by
  fin_cases h <;> · simp [Swa.slope, Ideal.ofBits, Ideal.ieee, -EReal.coe_mul]; norm_num

theorem slopes_at (h : Fin 8) : slopes (ix1 h) = Swa.slope h := by
  have e : ∀ h : Fin 8, (IntOp.shli .host (1#32) (IntOp.addi (1#32) (BitVec.ofNat 32 h))).toInt = 2 ^ (h.val + 1) := by decide +kernel
  have e' : slopes (ix1 h) = Ideal.div 1 (((IntOp.shli .host (1#32) (IntOp.addi (1#32) (BitVec.ofNat 32 h))).toInt : ℝ) : EReal) := by
    pointwise [slopes]
    rfl
  have p : (((2 ^ (h.val + 1) : ℤ) : ℝ)) = 2 ^ (h.val + 1) := by push_cast; rfl
  rw [e', e, p, Ideal.div_coe (by positivity), one_mul, slope_eq]

end Cert.SwaRef
-- ==== Proof.SwaRef.lean ====
/- The sliding-window reference, read at an index. -/
module

public import proofs.«01_k».proof.Proof.SwaRefBand
public import proofs.«01_k».proof.Proof.SwaRefMask

@[expose] public section

set_option maxRecDepth 16384

noncomputable section

open Idealize.ShloMosaic Idealize.ShloMosaic.TcCoe Idealize.SL.Sem
open Idealize.ShloMosaic.Pipeline (Dat)
open scoped BigOperators

namespace Cert.SwaRef

open Cert.Swa Cert.ReferenceSwaIdeal Cert.ReferenceSwaIdeal.Gen

/-- The distance penalties, laid over the batch and the chunks. -/
abbrev pens (W : FVec Ideal S8 .f32) (D : FVec Ideal S64x192 .f32) : FVec Ideal S4x64x2x4x64x192 .f32 :=
  broadcastInDim S4x64x2x4x64x192 ![0, 1, 2, 3, 4, 5] bcast_S1x1x2x4x64x192_S4x64x2x4x64x192_0_1_2_3_4_5
    (broadcastInDim S1x1x2x4x64x192 ![2, 3, 4, 5] bcast_S2x4x64x192_S1x1x2x4x64x192_2_3_4_5
      (mulf (broadcastInDim S2x4x64x192 ![0, 1, 2, 3] bcast_S2x4x1x1_S2x4x64x192_0_1_2_3 (shapeCast _ W shapeCasts_S8_S2x4x1x1))
        (broadcastInDim S2x4x64x192 ![0, 1, 2, 3] bcast_S1x1x64x192_S2x4x64x192_0_1_2_3
          (broadcastInDim S1x1x64x192 ![2, 3] bcast_S64x192_S1x1x64x192_2_3 D))))

/-- The products of queries and keys. -/
abbrev dots (Q : FVec Ideal S4x4096x512 .f32) (B : FVec Ideal S4x64x192x2x64 .f32) : FVec Ideal S4x64x2x4x64x192 .f32 :=
  transpose S4x64x2x4x64x192 [0, 1, 2, 5, 4, 3]
    (Host.dotGeneral dot_S4x64x192x2x64_S4x64x64x2x4x64_S4x64x2x192x64x4_4_5_2_24_013_013 none B
      (shapeCast _ Q shapeCasts_S4x4096x512_S4x64x64x2x4x64)) transposes_S4x64x2x192x64x4_S4x64x2x4x64x192_0_1_2_5_4_3

/-- The scores, minus infinity where there is no key. -/
abbrev masked (M : IVec S64x192 1) (A P : FVec Ideal S4x64x2x4x64x192 .f32) : FVec Ideal S4x64x2x4x64x192 .f32 :=
  select (broadcastInDim S4x64x2x4x64x192 ![0, 1, 2, 3, 4, 5] bcast_S1x64x1x1x1x192_S4x64x2x4x64x192_0_1_2_3_4_5
      (broadcastInDim S1x64x1x1x1x192 ![1, 5] bcast_S64x192_S1x64x1x1x1x192_1_5 M))
    (subf (mulf A (broadcastInDim S4x64x2x4x64x192 ![] bcast_S_S4x64x2x4x64x192 (constant S_ .f32 0x3E000000#32))) P)
    (broadcastInDim S4x64x2x4x64x192 ![] bcast_S_S4x64x2x4x64x192 (id (constant S_ .f32 0xFF800000#32)))

/-- The scores with the sink after them. -/
abbrev cat (S : FVec Ideal S4x64x2x4x64x192 .f32) (e : FVec Ideal S8 .f32) : FVec Ideal S4x64x2x4x64x193 .f32 :=
  concatenate S4x64x2x4x64x193 5
    [⟨S4x64x2x4x64x192, S⟩, ⟨S4x64x2x4x64x1, broadcastInDim S4x64x2x4x64x1 ![0, 1, 2, 3, 4, 5] bcast_S1x1x2x4x1x1_S4x64x2x4x64x1_0_1_2_3_4_5
      (shapeCast _ e shapeCasts_S8_S1x1x2x4x1x1)⟩] concatenates_S4x64x2x4x64x192_S4x64x2x4x64x1_S4x64x2x4x64x193_d5

/-- A row statistic laid along its row again. -/
abbrev along (X : FVec Ideal S4x64x2x4x64 .f32) : FVec Ideal S4x64x2x4x64x193 .f32 :=
  broadcastInDim S4x64x2x4x64x193 ![0, 1, 2, 3, 4, 5] bcast_S4x64x2x4x64x1_S4x64x2x4x64x193_0_1_2_3_4_5
    (broadcastInDim S4x64x2x4x64x1 ![0, 1, 2, 3, 4] bcast_S4x64x2x4x64_S4x64x2x4x64x1_0_1_2_3_4 X)

/-- The exponentials of a row less its greatest. -/
abbrev exps (C : FVec Ideal S4x64x2x4x64x193 .f32) : FVec Ideal S4x64x2x4x64x193 .f32 :=
  Host.exp (subf C (along (maximumf (broadcastInDim S4x64x2x4x64 ![] bcast_S_S4x64x2x4x64 (constant S_ .f32 0xFF800000#32))
    (Host.reduce FloatOps.maximumf C (constant S_ .f32 0xFF800000#32) reducesTo_S4x64x2x4x64x193_S4x64x2x4x64_d5 h_S_))))

/-- The keys' shares: all but the sink's. -/
abbrev shares (E : FVec Ideal S4x64x2x4x64x193 .f32) : FVec Ideal S4x64x2x4x64x192 .f32 :=
  extractStridedSlice S4x64x2x4x64x192 ![0, 0, 0, 0, 0, 0]
    (Host.divf E (along (Host.reduceAdd E (constant S_ .f32 0x00000000#32) reducesTo_S4x64x2x4x64x193_S4x64x2x4x64_d5 h_S_)))
    slices_S4x64x2x4x64x193_S4x64x2x4x64x192_0_0_0_0_0_0

/-- The values weighed by the shares. -/
abbrev outs (B : FVec Ideal S4x64x192x2x64 .f32) (P : FVec Ideal S4x64x2x4x64x192 .f32) : FVec Ideal S4x4096x512 .f32 :=
  shapeCast _ (transpose S4x64x64x2x4x64 [0, 1, 5, 2, 4, 3]
    (Host.dotGeneral dot_S4x64x192x2x64_S4x64x2x4x64x192_S4x64x2x64x4x64_2_5_4_34_013_012 none B P)
    transposes_S4x64x2x64x4x64_S4x64x64x2x4x64_0_1_5_2_4_3) shapeCasts_S4x64x64x2x4x64_S4x4096x512

/-- The reference's scores. -/
abbrev SC (Q : FVec Ideal S4x4096x512 .f32) (K : FVec Ideal S4x4096x128 .f32) : FVec Ideal S4x64x2x4x64x192 .f32 :=
  masked valid (dots Q (bands (padded K))) (pens slopes dists)

/-- The reference's result. -/
abbrev REF (Q : FVec Ideal S4x4096x512 .f32) (K V : FVec Ideal S4x4096x128 .f32) (e : FVec Ideal S8 .f32) : FVec Ideal S4x4096x512 .f32 :=
  outs (bands (padded V)) (shares (exps (cat (SC Q K) e)))

section
variable (b : Fin 4) (C : Fin 64) (g : Fin 2) (h : Fin 4) (i : Fin 64) (j : Fin 192)

theorem pens_at (W : FVec Ideal S8 .f32) (D : FVec Ideal S64x192 .f32) :
    pens W D (ix6 b C g h i j) = W (ix1 ⟨4 * g.val + h.val, by omega⟩) * D (ix2 i j) := by
  pointwise [pens]
  simp only [Nat.mul_comm]

theorem dots_at (Q : FVec Ideal S4x4096x512 .f32) (B : FVec Ideal S4x64x192x2x64 .f32) :
    dots Q B (ix6 b C g h i j) = ∑ x : Fin 64, Q (ix3 b ⟨64 * C.val + i.val, by omega⟩ ⟨64 * (4 * g.val + h.val) + x.val, by omega⟩) * B (ix5 b C j g x) := by
  pointwise [dots]
  refine Finset.sum_congr rfl fun x _ => (mul_comm _ _).trans (congrArg (· * _) (congrArg₂ (fun u v => Q (ix3 b u v)) (Fin.ext ?_) (Fin.ext ?_)))
  · dsimp only; omega
  · dsimp only; omega

theorem masked_at (M : IVec S64x192 1) (A P : FVec Ideal S4x64x2x4x64x192 .f32) :
    masked M A P (ix6 b C g h i j) = if M (ix2 C j) = 1#1 then A (ix6 b C g h i j) * SCALE - P (ix6 b C g h i j) else BOT := by
  pointwise [masked]
  rfl

theorem cat_at (S : FVec Ideal S4x64x2x4x64x192 .f32) (e : FVec Ideal S8 .f32) (l : Fin 193) :
    cat S e (ix6 b C g h i l) = if hl : l.val < 192 then S (ix6 b C g h i ⟨l.val, hl⟩) else e (ix1 ⟨4 * g.val + h.val, by omega⟩) := by
  pointwise [cat]
  simp only [Nat.mul_comm]

/-- The indices that a row's statistic gathers. -/
theorem fiber (y : S4x64x2x4x64x193.Idx) :
    reducesTo_S4x64x2x4x64x193_S4x64x2x4x64_d5.drop y = ix5 b C g h i ↔ ∃ l : Fin 193, ix6 b C g h i l = y := by
  constructor
  · intro e
    refine ⟨y 5, ?_⟩
    rw [eq_ix6 y]
    exact (ix6_inj _ _ _ _ _ _ _ _ _ _ _ _).mpr ⟨(congrFun e 0).symm, (congrFun e 1).symm, (congrFun e 2).symm, (congrFun e 3).symm, (congrFun e 4).symm, rfl⟩
  · rintro ⟨l, rfl⟩
    funext a
    fin_cases a <;> rfl

theorem max_at (S : FVec Ideal S4x64x2x4x64x193 .f32) :
    Host.reduce FloatOps.maximumf S (constant S_ .f32 0xFF800000#32) reducesTo_S4x64x2x4x64x193_S4x64x2x4x64_d5 h_S_ (ix5 b C g h i)
      = Finset.univ.fold max BOT fun l : Fin 193 => S (ix6 b C g h i l) := by
  pointwise
  exact Finset.fold_filter_eq_fold_of_fiber max _ (fun l : Fin 193 => ix6 b C g h i l) (fun _ _ e => congrFun e 5) (fiber b C g h i) _ _

theorem sum_at (S : FVec Ideal S4x64x2x4x64x193 .f32) :
    Ideal.hostReduceAdd reducesTo_S4x64x2x4x64x193_S4x64x2x4x64_d5 S 0 (ix5 b C g h i) = ∑ l : Fin 193, S (ix6 b C g h i l) :=
  (zero_add _).trans
    (Finset.sum_filter_eq_sum_of_fiber _ (fun l : Fin 193 => ix6 b C g h i l) (fun _ _ e => congrFun e 5) (fiber b C g h i) _)

theorem exps_gen (S : FVec Ideal S4x64x2x4x64x193 .f32) (X : FVec Ideal S4x64x2x4x64 .f32) (l : Fin 193) :
    Host.exp (subf S (along (maximumf (broadcastInDim S4x64x2x4x64 ![] bcast_S_S4x64x2x4x64 (constant S_ .f32 0xFF800000#32)) X))) (ix6 b C g h i l)
      = Ideal.exp (S (ix6 b C g h i l) - max BOT (X (ix5 b C g h i))) := by
  pointwise [along]

theorem shares_at (E : FVec Ideal S4x64x2x4x64x193 .f32) :
    shares E (ix6 b C g h i j) = Ideal.div (E (ix6 b C g h i j.castSucc)) (∑ l : Fin 193, E (ix6 b C g h i l)) := by
  pointwise [shares, along]
  rw [sum_at]
  rfl

theorem outs_at (B : FVec Ideal S4x64x192x2x64 .f32) (P : FVec Ideal S4x64x2x4x64x192 .f32) (d : Fin 64) :
    outs B P (ix3 b ⟨64 * C.val + i.val, by omega⟩ ⟨64 * (4 * g.val + h.val) + d.val, by omega⟩)
      = ∑ j : Fin 192, P (ix6 b C g h i j) * B (ix5 b C j g d) := by
  pointwise [outs]
  exact Finset.sum_congr rfl fun x _ => mul_comm _ _

/-- The greatest of a row and one entry after it. -/
theorem fold_last {n : ℕ} (B : EReal) (f : Fin (n + 1) → EReal) :
    max B (Finset.univ.fold max B f) = max (Finset.univ.fold max B fun k : Fin n => f k.castSucc) (f (Fin.last n)) := by
  rw [Fin.univ_castSuccEmb, Finset.fold_cons, Finset.fold_map, max_comm (f (Fin.last n)), ← max_assoc]
  exact congrArg (max · _) (max_eq_right (Finset.le_fold_max B |>.mpr (Or.inl le_rfl)))

section
variable (S : FVec Ideal S4x64x2x4x64x192 .f32) (e : FVec Ideal S8 .f32)

theorem cat_key : cat S e (ix6 b C g h i j.castSucc) = S (ix6 b C g h i j) := by
  rw [cat_at, dif_pos (show j.castSucc.val < 192 from j.isLt)]
  rfl

theorem cat_sink : cat S e (ix6 b C g h i (Fin.last 192)) = e (ix1 ⟨4 * g.val + h.val, by omega⟩) := by
  rw [cat_at, dif_neg (show ¬(Fin.last 192).val < 192 by simp)]

theorem exps_at (l : Fin 193) : exps (cat S e) (ix6 b C g h i l)
    = Ideal.exp (cat S e (ix6 b C g h i l) - top (fun j => S (ix6 b C g h i j)) (e (ix1 ⟨4 * g.val + h.val, by omega⟩))) := by
  refine (exps_gen b C g h i _ _ l).trans ?_
  rw [max_at, fold_last, cat_sink]
  simp only [cat_key]
  rfl

theorem shares_wt : shares (exps (cat S e)) (ix6 b C g h i j)
    = Ideal.div (wt (fun j => S (ix6 b C g h i j)) (e (ix1 ⟨4 * g.val + h.val, by omega⟩)) j)
        (den (fun j => S (ix6 b C g h i j)) (e (ix1 ⟨4 * g.val + h.val, by omega⟩))) := by
  refine (shares_at b C g h i j _).trans ?_
  rw [Fin.sum_univ_castSucc]
  simp only [exps_at, cat_key, cat_sink]
  rfl
end

theorem SC_at (Q : FVec Ideal S4x4096x512 .f32) (K : FVec Ideal S4x4096x128 .f32) :
    SC Q K (ix6 b C g h i j) = if 64 * C.val + j.val < 128 then BOT
      else score (fun x => Q (ix3 b ⟨64 * C.val + i.val, by omega⟩ ⟨64 * (4 * g.val + h.val) + x.val, by omega⟩))
        (fun x => K (ix3 b (row C j) ⟨64 * g.val + x.val, by omega⟩)) (Swa.slope ⟨4 * g.val + h.val, by omega⟩) (dist i j) := by
  refine (masked_at b C g h i j _ _ _).trans ?_
  rw [valid_at, dots_at, pens_at, slopes_at, dists_at]
  by_cases hm : 64 * C.val + j.val < 128
  · rw [if_pos hm, if_pos hm, if_neg (by decide)]
  · rw [if_neg hm, if_neg hm, if_pos rfl]
    unfold score
    simp only [band_at, if_neg hm]

theorem ref_at (Q : FVec Ideal S4x4096x512 .f32) (K V : FVec Ideal S4x4096x128 .f32) (e : FVec Ideal S8 .f32) (d : Fin 64) :
    REF Q K V e (ix3 b ⟨64 * C.val + i.val, by omega⟩ ⟨64 * (4 * g.val + h.val) + d.val, by omega⟩)
      = att (fun j => if 64 * C.val + j.val < 128 then BOT
          else score (fun x => Q (ix3 b ⟨64 * C.val + i.val, by omega⟩ ⟨64 * (4 * g.val + h.val) + x.val, by omega⟩))
            (fun x => K (ix3 b (row C j) ⟨64 * g.val + x.val, by omega⟩)) (Swa.slope ⟨4 * g.val + h.val, by omega⟩) (dist i j))
        (e (ix1 ⟨4 * g.val + h.val, by omega⟩))
        (fun j => if 64 * C.val + j.val < 128 then 0 else V (ix3 b (row C j) ⟨64 * g.val + d.val, by omega⟩)) := by
  refine (outs_at b C g h i _ _ d).trans ?_
  simp only [shares_wt, SC_at, band_at]
  rfl
end

end Cert.SwaRef
-- ==== Proof.RowSpec.lean ====
/- Row functions the calls share. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Row

/-- A row `z` over the root of its mean square (of `N` entries, `ε` added), times the gain. -/
def rms {n : ℕ} (N : EReal) (z g : Fin n → EReal) (j : Fin n) : EReal :=
  z j * Ideal.rsqrt (Ideal.div (∑ x, z x * z x) N + Ideal.ofBits .f32 0x358637BD#32) * g j

/-- A row normalised over its 1024 coordinates, then through a matrix: one output coordinate. -/
def proj (x g w : Fin 1024 → EReal) : EReal := ∑ i, rms (Ideal.ofBits .f32 0x44800000#32) x g i * w i

/-- A head of 128 such coordinates, normalised again. -/
def projHead (x g : Fin 1024 → EReal) (w : Fin 1024 → Fin 128 → EReal) (kg : Fin 128 → EReal) (d : Fin 128) : EReal :=
  rms (Ideal.ofBits .f32 0x43000000#32) (fun j => proj x g fun i => w i j) kg d

theorem proj_congr {x x' g g' w w' : Fin 1024 → EReal} (hx : ∀ i, x i = x' i) (hg : ∀ i, g i = g' i) (hw : ∀ i, w i = w' i) :
    proj x g w = proj x' g' w' := by
  obtain rfl : x = x' := funext hx
  obtain rfl : g = g' := funext hg
  obtain rfl : w = w' := funext hw
  rfl

theorem projHead_congr {x x' g g' : Fin 1024 → EReal} {w w' : Fin 1024 → Fin 128 → EReal} {kg kg' : Fin 128 → EReal} {d d' : Fin 128}
    (hx : ∀ i, x i = x' i) (hg : ∀ i, g i = g' i) (hw : ∀ i j, w i j = w' i j) (hk : ∀ i, kg i = kg' i) (hd : d = d') :
    projHead x g w kg d = projHead x' g' w' kg' d' := by
  obtain rfl : x = x' := funext hx
  obtain rfl : g = g' := funext hg
  obtain rfl : w = w' := funext fun i => funext (hw i)
  obtain rfl : kg = kg' := funext hk
  subst hd
  rfl

end Cert.Row
-- ==== Proof.InSpec.lean ====
/- Normalisation of the two 64-wide heads that share one 128-wide slot: the sum over a head written with a 0/1 block mask and a rounded-off remainder, and the conditions under which it is the plain normalisation. -/
module

public import proofs.«01_k».proof.Proof.RowSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.In

open Cert.Row

/-- A value that is neither of the two infinities. -/
def Fin' (a : EReal) : Prop := ∃ r : ℝ, a = (r : EReal)

theorem fin_add {a b : EReal} (ha : Fin' a) (hb : Fin' b) : Fin' (a + b) := by
  obtain ⟨x, rfl⟩ := ha; obtain ⟨y, rfl⟩ := hb; exact ⟨x + y, by norm_cast⟩

theorem fin_mul {a b : EReal} (ha : Fin' a) (hb : Fin' b) : Fin' (a * b) := by
  obtain ⟨x, rfl⟩ := ha; obtain ⟨y, rfl⟩ := hb; exact ⟨x * y, by norm_cast⟩

theorem coe_sum {n : ℕ} (f : Fin n → ℝ) : ((∑ i, f i : ℝ) : EReal) = ∑ i, (f i : EReal) := by
  classical
  induction (Finset.univ : Finset (Fin n)) using Finset.induction_on with
  | empty => simp
  | insert a s ha ih => rw [Finset.sum_insert ha, Finset.sum_insert ha, EReal.coe_add, ih]

theorem fin_sum {n : ℕ} {f : Fin n → EReal} (h : ∀ i, Fin' (f i)) : Fin' (∑ i, f i) := by
  choose g hg using h
  exact ⟨∑ i, g i, by rw [coe_sum]; exact Finset.sum_congr rfl fun i _ => hg i⟩

theorem fin_sub_self {a : EReal} (ha : Fin' a) : a - a = 0 := by
  obtain ⟨x, rfl⟩ := ha
  exact EReal.sub_self (EReal.coe_ne_top x) (EReal.coe_ne_bot x)

theorem sq_nonneg' (a : EReal) : 0 ≤ a * a := by
  induction a using EReal.rec with
  | bot => simp
  | coe x => exact_mod_cast mul_self_nonneg x
  | top => simp

/-- The small number added to a mean square. -/
theorem word_eps : ∃ r : ℝ, 0 < r ∧ Ideal.ofBits .f32 0x358637BD#32 = (r : EReal) :=
  ⟨_, by
    have h : Ideal.ofBits .f32 0x358637BD#32 = ((8796093 / 8796093022208 : ℝ) : EReal) := by
      simp [Ideal.ofBits, Ideal.ieee, -EReal.coe_mul]; norm_num
    exact ⟨by norm_num, h⟩⟩

theorem word_1024 : Ideal.ofBits .f32 0x44800000#32 = ((1024 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_inv64 : Ideal.ofBits .f32 0x3C800000#32 = ((1 / 64 : ℝ) : EReal) := by
  simp [Ideal.ofBits, Ideal.ieee, -EReal.coe_mul]; norm_num

/-- A normalised row is finite when its gains are, whatever the row: an infinite entry makes the mean square infinite,
    and the factor the row is multiplied by zero. -/
theorem fin_rms (z g : Fin 1024 → EReal) (hg : ∀ i, Fin' (g i)) (j : Fin 1024) :
    Fin' (Row.rms (Ideal.ofBits .f32 0x44800000#32) z g j) := by
  obtain ⟨e, he, hE⟩ := word_eps
  unfold Row.rms
  rw [word_1024, Ideal.div_coe (by norm_num), hE]
  refine fin_mul ?_ (hg j)
  by_cases hz : ∀ i, Fin' (z i)
  · choose y hy using hz
    have hs : (∑ i, z i * z i) = ((∑ i, y i * y i : ℝ) : EReal) := by
      rw [coe_sum]
      exact Finset.sum_congr rfl fun i _ => by rw [hy i]; norm_cast
    have hp : 0 < (∑ i, y i * y i) * (1 / 1024 : ℝ) + e :=
      add_pos_of_nonneg_of_pos (mul_nonneg (Finset.sum_nonneg fun i _ => mul_self_nonneg _) (by norm_num)) he
    rw [hs, hy j, ← EReal.coe_mul, ← EReal.coe_add, Ideal.rsqrt_coe, if_neg (not_lt.mpr hp.le), if_neg hp.ne']
    exact fin_mul ⟨_, rfl⟩ ⟨_, rfl⟩
  · rw [not_forall] at hz
    obtain ⟨i, hi⟩ := hz
    have ht : z i * z i = ⊤ := by
      induction h : z i using EReal.rec with
      | bot => simp
      | coe x => exact absurd ⟨x, h⟩ hi
      | top => simp
    have hs : (∑ k, z k * z k) = ⊤ :=
      top_unique (ht ▸ Finset.single_le_sum (f := fun k => z k * z k) (fun k _ => sq_nonneg' (z k)) (Finset.mem_univ i))
    rw [hs, EReal.top_mul_coe_of_pos (by norm_num), EReal.top_add_coe, Ideal.rsqrt_top, mul_zero]
    exact ⟨0, by simp⟩

/-- A projection of a normalised row is finite when the gains and the column of weights are. -/
theorem fin_proj (x g w : Fin 1024 → EReal) (hg : ∀ i, Fin' (g i)) (hw : ∀ i, Fin' (w i)) : Fin' (Row.proj x g w) :=
  fin_sum fun i => fin_mul (fin_rms x g hg i) (hw i)

/-- Coordinate `d` of a slot that holds two heads, normalised with the mask `e`: the squares masked and summed, plus what
    rounding took from the squares masked and summed, times 1/64. -/
def segRms (z e g : Fin 128 → EReal) (d : Fin 128) : EReal :=
  z d * Ideal.rsqrt (((∑ k, z k * z k * e k) + ∑ k, (z k * z k - z k * z k) * e k)
    * Ideal.ofBits .f32 0x3C800000#32 + Ideal.ofBits .f32 0x358637BD#32) * g d

/-- Coordinate `c` of the head at `d`'s side of a slot. -/
def side (d : Fin 128) (c : Fin 64) : Fin 128 := ⟨64 * (d.val / 64) + c.val, by omega⟩

/-- The masked sum runs over the one head. -/
theorem sum_side (f : Fin 128 → EReal) (d : Fin 128) :
    (∑ k : Fin 128, f k * (if k.val / 64 = d.val / 64 then (1 : EReal) else 0)) = ∑ c : Fin 64, f (side d c) := by
  simp only [mul_ite, mul_one, mul_zero]
  rw [← Finset.sum_filter]
  symm
  refine Finset.sum_bij (fun c _ => side d c) (fun c _ => ?_) (fun a _ b _ h => ?_) (fun k hk => ?_) (fun c _ => rfl)
  · simp only [Finset.mem_filter, Finset.mem_univ, true_and, side]; omega
  · have := congrArg Fin.val h; simp only [side] at this; exact Fin.ext (by omega)
  · have hk' : k.val / 64 = d.val / 64 := (Finset.mem_filter.mp hk).2
    exact ⟨⟨k.val % 64, by omega⟩, Finset.mem_univ _, Fin.ext (by simp only [side]; omega)⟩

/-- Normalising a slot with the mask is normalising the head, when the slot is finite. -/
theorem segRms_eq (z g : Fin 128 → EReal) (hz : ∀ k, Fin' (z k)) (d : Fin 128) :
    segRms z (fun k => if k.val / 64 = d.val / 64 then 1 else 0) g d
      = Row.rms (Ideal.ofBits .f32 0x42800000#32) (fun c : Fin 64 => z (side d c)) (fun c => g (side d c))
          ⟨d.val % 64, Nat.mod_lt _ (by norm_num)⟩ := by
  have hd : side d ⟨d.val % 64, Nat.mod_lt _ (by norm_num)⟩ = d := Fin.ext (by simp only [side]; omega)
  have h0 : (∑ k : Fin 128, (z k * z k - z k * z k) * (if k.val / 64 = d.val / 64 then (1 : EReal) else 0)) = 0 :=
    Finset.sum_eq_zero fun k _ => by rw [fin_sub_self (fin_mul (hz k) (hz k)), zero_mul]
  unfold segRms Row.rms
  rw [h0, add_zero, sum_side (fun k => z k * z k) d, word_inv64, word_64, Ideal.div_coe (by norm_num)]
  dsimp only
  rw [hd]

end Cert.In
-- ==== Proof.InKernel.lean ====
/- The input projection: one grid step of the kernel, read at an index. -/
module

public import proofs.«01_k».proof.Proof.Gen.KernelInIdeal.Frame
public import proofs.«01_k».proof.Proof.InSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.In

open Cert.KernelInIdeal Cert.KernelInIdeal.Gen Cert.Row

/-- A slot of two heads, projected and normalised with the mask. -/
def segHead (x g : Fin 1024 → EReal) (w : Fin 1024 → Fin 128 → EReal) (e kg : Fin 128 → EReal) (d : Fin 128) : EReal :=
  segRms (fun j => proj x g fun i => w i j) e kg d

/-- The logistic function of a projection. -/
def gate (x g w : Fin 1024 → EReal) : EReal := Ideal.div 1 (1 + Ideal.exp (0 - proj x g w))

theorem segHead_congr {x x' g g' : Fin 1024 → EReal} {w w' : Fin 1024 → Fin 128 → EReal} {e e' kg kg' : Fin 128 → EReal} {d d' : Fin 128}
    (hx : ∀ i, x i = x' i) (hg : ∀ i, g i = g' i) (hw : ∀ i j, w i j = w' i j) (he : ∀ i, e i = e' i) (hk : ∀ i, kg i = kg' i)
    (hd : d = d') : segHead x g w e kg d = segHead x' g' w' e' kg' d' := by
  obtain rfl : x = x' := funext hx
  obtain rfl : g = g' := funext hg
  obtain rfl : w = w' := funext fun i => funext (hw i)
  obtain rfl : e = e' := funext he
  obtain rfl : kg = kg' := funext hk
  subst hd
  rfl

theorem gate_congr {x x' g g' w w' : Fin 1024 → EReal} (hx : ∀ i, x i = x' i) (hg : ∀ i, g i = g' i) (hw : ∀ i, w i = w' i) :
    gate x g w = gate x' g' w' := by
  unfold gate
  rw [proj_congr hx hg hw]

theorem norm_at (a : Vec Ideal S1x256x1024 .f32) (g : Vec Ideal S1x1024 .f32) (r : Fin 256) (i : Fin 1024) :
    k0_pay1 a g (ix2 r i) = rms (Ideal.ofBits .f32 0x44800000#32) (fun x => a (ix3 0 r x)) (fun x => g (ix2 0 x)) i := by
  pointwise [k0_pay1, rms]

theorem plain_at (h : FVec Ideal S256x1024 .bf16) (w : Vec Ideal S1024x128 .bf16) (r : Fin 256) (d : Fin 128) :
    k0_pay18 h w (ix3 0 r d) = ∑ i : Fin 1024, h (ix2 r i) * w (ix2 i d) := by
  pointwise [k0_pay18]

theorem wide_at (a : Vec Ideal S1x256x1024 .f32) (g : Vec Ideal S1x1024 .f32) (w : Vec Ideal S1024x1792 .bf16) (r : Fin 256) (d : Fin 1792) :
    k0_pay3 a g w (ix3 0 r d) = ∑ i : Fin 1024, k0_pay1 a g (ix2 r i) * w (ix2 i d) := by
  pointwise [k0_pay3]

theorem sig_at (h : FVec Ideal S256x1024 .bf16) (w : Vec Ideal S1024x1024 .bf16) (r : Fin 256) (d : Fin 1024) :
    k0_pay25 h w (ix3 0 r d) = Ideal.div 1 (1 + Ideal.exp (0 - ∑ i : Fin 1024, h (ix2 r i) * w (ix2 i d))) := by
  pointwise [k0_pay25]

theorem head_at (h : FVec Ideal S256x1024 .bf16) (w : Vec Ideal S1024x128 .bf16) (kg : Vec Ideal S1x128 .f32) (r : Fin 256) (d : Fin 128) :
    k0_pay21 h w kg (ix3 0 r d) = rms (Ideal.ofBits .f32 0x43000000#32) (fun j => ∑ i : Fin 1024, h (ix2 r i) * w (ix2 i j)) (fun x => kg (ix2 0 x)) d := by
  pointwise [k0_pay21, rms]

theorem slot_at (h : FVec Ideal S256x1024 .bf16) (e : FVec Ideal S128x128 .bf16) (w : Vec Ideal S1024x128 .bf16) (kg : Vec Ideal S1x128 .f32)
    (r : Fin 256) (d : Fin 128) : k0_pay11 h e w kg (ix3 0 r d)
      = segRms (fun j => ∑ i : Fin 1024, h (ix2 r i) * w (ix2 i j)) (fun k => e (ix2 k d)) (fun x => kg (ix2 0 x)) d := by
  pointwise [k0_pay11, segRms]

theorem pay10_eq (a : Vec Ideal S1x256x1024 .f32) (g : Vec Ideal S1x1024 .f32) (e : Vec Ideal S128x128 .bf16) (w : Vec Ideal S1024x128 .bf16)
    (kg : Vec Ideal S1x128 .f32) : k0_pay10 (k0_pay2 e) (k0_pay4 a g w) (k0_pay5 kg) (k0_pay8 a g w) (k0_pay9 a g e w)
      = k0_pay11 (k0_pay1 a g) (k0_pay2 e) w kg := rfl
theorem pay13_eq (h : FVec Ideal S256x1024 .bf16) (e : FVec Ideal S128x128 .bf16) (w : Vec Ideal S1024x128 .bf16) (kg : Vec Ideal S1x128 .f32) :
    k0_pay13 h e (k0_pay12 w) (constant S256x128 .f32 0x00000000#32) kg = k0_pay11 h e w kg := rfl
theorem pay16_eq (h : FVec Ideal S256x1024 .bf16) (e : FVec Ideal S128x128 .bf16) (w : Vec Ideal S1024x128 .bf16) (kg : Vec Ideal S1x128 .f32) :
    k0_pay16 (k0_pay14 h e w) (k0_pay15 kg) = k0_pay11 h e w kg := rfl
theorem pay17_eq (h : FVec Ideal S256x1024 .bf16) (e : FVec Ideal S128x128 .bf16) (w : Vec Ideal S1024x128 .bf16) (kg : Vec Ideal S1x128 .f32) :
    k0_pay17 h e w kg = k0_pay11 h e w kg := rfl
theorem pay20_eq (h : FVec Ideal S256x1024 .bf16) (w : Vec Ideal S1024x128 .bf16) (kg : Vec Ideal S1x128 .f32) :
    k0_pay20 h (k0_pay19 w) (constant S256x128 .f32 0x00000000#32) kg = k0_pay21 h w kg := rfl
theorem pay22_eq (h : FVec Ideal S256x1024 .bf16) (w : Vec Ideal S1024x128 .bf16) (kg : Vec Ideal S1x128 .f32) :
    k0_pay22 h w kg = k0_pay21 h w kg := rfl
theorem pay23_eq (h : FVec Ideal S256x1024 .bf16) (w : Vec Ideal S1024x128 .bf16) (kg : Vec Ideal S1x128 .f32) :
    k0_pay23 h w kg = k0_pay21 h w kg := rfl
theorem pay24_eq (h : FVec Ideal S256x1024 .bf16) (w : Vec Ideal S1024x1024 .bf16) : k0_pay24 h w = k0_pay25 h w := rfl
theorem pay26_eq (h : FVec Ideal S256x1024 .bf16) (w : Vec Ideal S1024x1024 .bf16) : k0_pay26 h w = k0_pay25 h w := rfl

theorem mask_at (e : Vec Ideal S128x128 .bf16) (k d : Fin 128) : k0_pay2 e (ix2 k d) = e (ix2 k d) := by
  pointwise [k0_pay2]

theorem plainP_at (a : Vec Ideal S1x256x1024 .f32) (g : Vec Ideal S1x1024 .f32) (w : Vec Ideal S1024x128 .bf16) (r : Fin 256) (d : Fin 128) :
    k0_pay18 (k0_pay1 a g) w (ix3 0 r d) = proj (fun x => a (ix3 0 r x)) (fun x => g (ix2 0 x)) (fun i => w (ix2 i d)) := by
  rw [plain_at]
  simp only [norm_at]
  rfl

theorem wideP_at (a : Vec Ideal S1x256x1024 .f32) (g : Vec Ideal S1x1024 .f32) (w : Vec Ideal S1024x1792 .bf16) (r : Fin 256) (d : Fin 1792) :
    k0_pay3 a g w (ix3 0 r d) = proj (fun x => a (ix3 0 r x)) (fun x => g (ix2 0 x)) (fun i => w (ix2 i d)) := by
  rw [wide_at]
  simp only [norm_at]
  rfl

theorem sigP_at (a : Vec Ideal S1x256x1024 .f32) (g : Vec Ideal S1x1024 .f32) (w : Vec Ideal S1024x1024 .bf16) (r : Fin 256) (d : Fin 1024) :
    k0_pay25 (k0_pay1 a g) w (ix3 0 r d) = gate (fun x => a (ix3 0 r x)) (fun x => g (ix2 0 x)) (fun i => w (ix2 i d)) := by
  rw [sig_at]
  simp only [norm_at]
  rfl

theorem headP_at (a : Vec Ideal S1x256x1024 .f32) (g : Vec Ideal S1x1024 .f32) (w : Vec Ideal S1024x128 .bf16) (kg : Vec Ideal S1x128 .f32)
    (r : Fin 256) (d : Fin 128) : k0_pay21 (k0_pay1 a g) w kg (ix3 0 r d)
      = projHead (fun x => a (ix3 0 r x)) (fun x => g (ix2 0 x)) (fun i j => w (ix2 i j)) (fun x => kg (ix2 0 x)) d := by
  rw [head_at]
  simp only [norm_at]
  rfl

theorem slotP_at (a : Vec Ideal S1x256x1024 .f32) (g : Vec Ideal S1x1024 .f32) (e : Vec Ideal S128x128 .bf16) (w : Vec Ideal S1024x128 .bf16)
    (kg : Vec Ideal S1x128 .f32) (r : Fin 256) (d : Fin 128) : k0_pay11 (k0_pay1 a g) (k0_pay2 e) w kg (ix3 0 r d)
      = segHead (fun x => a (ix3 0 r x)) (fun x => g (ix2 0 x)) (fun i j => w (ix2 i j)) (fun k => e (ix2 k d)) (fun x => kg (ix2 0 x)) d := by
  rw [slot_at]
  simp only [norm_at, mask_at]
  rfl

theorem out7_at (x0 : Vec Ideal S1x256x1024 .f32) (x1 : Vec Ideal S1x1024 .f32) (x2 : Vec Ideal S1024x6144 .bf16) (x3 x4 x5 : Vec Ideal S1x128 .f32) (x6 : Vec Ideal S128x128 .bf16)
    (r : Fin 256) (d : Fin 1792) (i : S1x256x1792.Idx) (h1 : (i 1 : ℕ) = r) (h2 : (i 2 : ℕ) = d.val) :
    out0_7 x0 x1 x2 x3 x4 x5 x6 i = proj (fun x => x0 (ix3 0 r x)) (fun x => x1 (ix2 0 x)) (fun i => x2 (ix2 i ⟨d.val, by omega⟩)) := by
  unfold out0_7
  canon_tiles x hx
  all_goals
    obtain rfl : x = ix3 0 r d := by blk_ext
    rw [wideP_at]
    refine proj_congr (fun x => ?_) (fun x => ?_) (fun i => ?_) <;> pointwise <;> blk_ext

theorem out8_at (x0 : Vec Ideal S1x256x1024 .f32) (x1 : Vec Ideal S1x1024 .f32) (x2 : Vec Ideal S1024x6144 .bf16) (x3 x4 x5 : Vec Ideal S1x128 .f32) (x6 : Vec Ideal S128x128 .bf16)
    (h : Fin 4) (r : Fin 256) (d : Fin 128) (i : S1x256x512.Idx) (h1 : (i 1 : ℕ) = r) (h2 : (i 2 : ℕ) = h.val * 128 + d.val) :
    out0_8 x0 x1 x2 x3 x4 x5 x6 i = segHead (fun x => x0 (ix3 0 r x)) (fun x => x1 (ix2 0 x))
      (fun i j => x2 (ix2 i ⟨1792 + (h.val * 128 + j.val), by omega⟩)) (fun k => x6 (ix2 k d)) (fun x => x3 (ix2 0 x)) d := by
  unfold out0_8 k0_pay28 k0_pay27
  canon_tiles x hx
  all_goals
    obtain rfl : x = ix3 0 r d := by blk_ext
    first | rw [pay10_eq] | rw [pay13_eq] | rw [pay16_eq] | skip
    rw [slotP_at]
    refine segHead_congr (fun x => ?_) (fun x => ?_) (fun i j => ?_) (fun x => ?_) (fun x => ?_) rfl <;> pointwise <;> blk_ext

theorem out9_at (x0 : Vec Ideal S1x256x1024 .f32) (x1 : Vec Ideal S1x1024 .f32) (x2 : Vec Ideal S1024x6144 .bf16) (x3 x4 x5 : Vec Ideal S1x128 .f32) (x6 : Vec Ideal S128x128 .bf16)
    (r : Fin 256) (d : Fin 128) (i : S1x256x128.Idx) (h1 : (i 1 : ℕ) = r) (h2 : (i 2 : ℕ) = d.val) :
    out0_9 x0 x1 x2 x3 x4 x5 x6 i = segHead (fun x => x0 (ix3 0 r x)) (fun x => x1 (ix2 0 x))
      (fun i j => x2 (ix2 i ⟨2304 + j.val, by omega⟩)) (fun k => x6 (ix2 k d)) (fun x => x4 (ix2 0 x)) d := by
  unfold out0_9 k0_pay28 k0_pay27
  canon_tiles x hx
  all_goals
    obtain rfl : x = ix3 0 r d := by blk_ext
    rw [pay17_eq, slotP_at]
    refine segHead_congr (fun x => ?_) (fun x => ?_) (fun i j => ?_) (fun x => ?_) (fun x => ?_) rfl <;> pointwise <;> blk_ext

theorem out10_at (x0 : Vec Ideal S1x256x1024 .f32) (x1 : Vec Ideal S1x1024 .f32) (x2 : Vec Ideal S1024x6144 .bf16) (x3 x4 x5 : Vec Ideal S1x128 .f32) (x6 : Vec Ideal S128x128 .bf16)
    (r : Fin 256) (d : Fin 128) (i : S1x256x128.Idx) (h1 : (i 1 : ℕ) = r) (h2 : (i 2 : ℕ) = d.val) :
    out0_10 x0 x1 x2 x3 x4 x5 x6 i = proj (fun x => x0 (ix3 0 r x)) (fun x => x1 (ix2 0 x)) (fun i => x2 (ix2 i ⟨2432 + d.val, by omega⟩)) := by
  unfold out0_10 k0_pay27
  canon_tiles x hx
  all_goals
    obtain rfl : x = ix3 0 r d := by blk_ext
    rw [plainP_at]
    refine proj_congr (fun x => ?_) (fun x => ?_) (fun i => ?_) <;> pointwise <;> blk_ext

theorem out11_at (x0 : Vec Ideal S1x256x1024 .f32) (x1 : Vec Ideal S1x1024 .f32) (x2 : Vec Ideal S1024x6144 .bf16) (x3 x4 x5 : Vec Ideal S1x128 .f32) (x6 : Vec Ideal S128x128 .bf16)
    (h : Fin 4) (r : Fin 256) (d : Fin 128) (i : S1x256x512.Idx) (h1 : (i 1 : ℕ) = r) (h2 : (i 2 : ℕ) = h.val * 128 + d.val) :
    out0_11 x0 x1 x2 x3 x4 x5 x6 i = projHead (fun x => x0 (ix3 0 r x)) (fun x => x1 (ix2 0 x))
      (fun i j => x2 (ix2 i ⟨2560 + (h.val * 128 + j.val), by omega⟩)) (fun x => x5 (ix2 0 x)) d := by
  unfold out0_11 k0_pay27
  canon_tiles x hx
  all_goals
    obtain rfl : x = ix3 0 r d := by blk_ext
    first | rw [pay20_eq] | rw [pay22_eq] | rw [pay23_eq] | skip
    rw [headP_at]
    refine projHead_congr (fun x => ?_) (fun x => ?_) (fun i j => ?_) (fun x => ?_) rfl <;> pointwise <;> blk_ext

theorem out12_at (x0 : Vec Ideal S1x256x1024 .f32) (x1 : Vec Ideal S1x1024 .f32) (x2 : Vec Ideal S1024x6144 .bf16) (x3 x4 x5 : Vec Ideal S1x128 .f32) (x6 : Vec Ideal S128x128 .bf16)
    (h : Fin 3) (r : Fin 256) (d : Fin 1024) (i : S1x256x3072.Idx) (h1 : (i 1 : ℕ) = r) (h2 : (i 2 : ℕ) = h.val * 1024 + d.val) :
    out0_12 x0 x1 x2 x3 x4 x5 x6 i = gate (fun x => x0 (ix3 0 r x)) (fun x => x1 (ix2 0 x))
      (fun i => x2 (ix2 i ⟨3072 + (h.val * 1024 + d.val), by omega⟩)) := by
  unfold out0_12 k0_pay27
  canon_tiles x hx
  all_goals
    obtain rfl : x = ix3 0 r d := by blk_ext
    first | rw [pay24_eq] | rw [pay26_eq] | skip
    rw [sigP_at]
    refine gate_congr (fun x => ?_) (fun x => ?_) (fun i => ?_) <;> pointwise <;> blk_ext

end Cert.In
-- ==== Proof.InFinal.lean ====
/- The input projection: the arrays the kernel leaves. -/
module

public import proofs.«01_k».proof.Proof.InKernel
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.In

open Cert.KernelInIdeal Cert.KernelInIdeal.Gen Cert.Row

theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 16, t.val % 16, 0] ∧ win0_8.index t = ![t.val / 16, t.val % 16, 0]
    ∧ win0_9.index t = ![t.val / 16, t.val % 16, 0] ∧ win0_10.index t = ![t.val / 16, t.val % 16, 0]
    ∧ win0_11.index t = ![t.val / 16, t.val % 16, 0] ∧ win0_12.index t = ![t.val / 16, t.val % 16, 0] ∧ t.val < 64 :=
  (by decide +kernel : ∀ t : Fin grid0.N, _)

variable (m : (ℓ : Loc nD τ sig) → Buf (Elt Ideal) ℓ)

/-- Division by 64 rounded down, as the host writes it: the quotient, less one where the signs differ and a remainder is left. -/
abbrev floorDiv (v : IVec S128 32) : IVec S128 32 :=
  select (andi (cmpi .ne (signi v) (broadcastInDim S128 ![] bcast_S_S128 (signi (constantI S_ 32 64#32))))
      (cmpi .ne (Host.remsi v (broadcastInDim S128 ![] bcast_S_S128 (constantI S_ 32 64#32))) (broadcastInDim S128 ![] bcast_S_S128 (constantI S_ 32 0#32))))
    (subi (Host.divsi v (broadcastInDim S128 ![] bcast_S_S128 (constantI S_ 32 64#32))) (broadcastInDim S128 ![] bcast_S_S128 (constantI S_ 32 1#32)))
    (Host.divsi v (broadcastInDim S128 ![] bcast_S_S128 (constantI S_ 32 64#32)))

theorem half_open (c : Dev nD) : V m c main_v12 = floorDiv (iotaInDim S128 32 0) := by
  simp only [V, V0, hostOps0, hostOps0_1, hostOps0_2, List.flatten_cons, List.flatten_nil, List.append_nil, List.cons_append, List.nil_append]
  after_results_simp
  rfl

/-- Which of a slot's two heads a coordinate is in. -/
theorem half_vec : ∀ k : Fin 128, floorDiv (iotaInDim S128 32 0) (ix1 k) = BitVec.ofNat 32 (k.val / 64) := by
  decide +kernel

theorem half (c : Dev nD) (k : Fin 128) : V m c main_v12 (ix1 k) = BitVec.ofNat 32 (k.val / 64) :=
  (congrFun (half_open m c) (ix1 k)).trans (half_vec k)

theorem mask_open (c : Dev nD) : V m c main_v18 = (uitofp .bf16 (cmpi .eq
      (broadcastInDim S128x128 ![0, 1] bcast_S128x1_S128x128_0_1 (broadcastInDim S128x1 ![0] bcast_S128_S128x1_0 (V m c main_v12)))
      (broadcastInDim S128x128 ![0, 1] bcast_S1x128_S128x128_0_1 (broadcastInDim S1x128 ![1] bcast_S128_S1x128_1 (V m c main_v12))))
    : FVec Ideal S128x128 .bf16) := by
  simp only [V, V0, hostOps0, hostOps0_1, hostOps0_2, List.flatten_cons, List.flatten_nil, List.append_nil, List.cons_append, List.nil_append]
  after_results_simp

theorem mask_vec (v : IVec S128 32) (k d : Fin 128) : (uitofp .bf16 (cmpi .eq
      (broadcastInDim S128x128 ![0, 1] bcast_S128x1_S128x128_0_1 (broadcastInDim S128x1 ![0] bcast_S128_S128x1_0 v))
      (broadcastInDim S128x128 ![0, 1] bcast_S1x128_S128x128_0_1 (broadcastInDim S1x128 ![1] bcast_S128_S1x128_1 v)))
    : FVec Ideal S128x128 .bf16) (ix2 k d) = if v (ix1 k) = v (ix1 d) then (1 : EReal) else 0 := by
  have h : ∀ a b : BitVec 32, (((IntOp.cmpi .eq a b).toNat : ℝ) : EReal) = if a = b then 1 else 0 := by
    intro a b
    by_cases hab : a = b
    · subst hab
      simp [IntOp.cmpi]
    · simp [IntOp.cmpi, hab]
  refine Eq.trans ?_ (h _ _)
  pointwise
  rfl

theorem half_eq (k d : Fin 128) : (BitVec.ofNat 32 (k.val / 64) = BitVec.ofNat 32 (d.val / 64)) ↔ k.val / 64 = d.val / 64 := by
  revert k d
  decide +kernel

/-- The mask: 1 where the two coordinates are in the same head. -/
theorem mask_V (c : Dev nD) (k d : Fin 128) :
    V m c main_v18 (ix2 k d) = if k.val / 64 = d.val / 64 then (1 : EReal) else 0 := by
  rw [mask_open]
  refine (mask_vec (V m c main_v12) k d).trans ?_
  rw [half, half]
  exact if_congr (half_eq k d) rfl rfl

theorem norm_V (c : Dev nD) (x : Fin 1024) : V m c main_v0 (ix2 0 x) = m ((c : Thread nD τ).loc main_arg1) (ix1 x) := by
  simp only [V, V0, hostOps0, hostOps0_1, hostOps0_2, List.flatten_cons, List.flatten_nil, List.append_nil, List.cons_append, List.nil_append]
  after_results_simp
  pointwise

theorem weight_V (c : Dev nD) (x : Fin 1024) (j : Fin 6144) : V m c main_v1 (ix2 x j) = m ((c : Thread nD τ).loc main_arg2) (ix2 x j) := by
  simp only [V, V0, hostOps0, hostOps0_1, hostOps0_2, List.flatten_cons, List.flatten_nil, List.append_nil, List.cons_append, List.nil_append]
  after_results_simp
  pointwise

theorem qgain_V (c : Dev nD) (x : Fin 128) :
    V m c main_v5 (ix2 0 x) = m ((c : Thread nD τ).loc main_arg3) (ix1 ⟨x.val % 64, by omega⟩) := by
  simp only [V, V0, hostOps0, hostOps0_1, hostOps0_2, List.flatten_cons, List.flatten_nil, List.append_nil, List.cons_append, List.nil_append]
  after_results_simp
  pointwise

theorem kgain_V (c : Dev nD) (x : Fin 128) :
    V m c main_v9 (ix2 0 x) = m ((c : Thread nD τ).loc main_arg4) (ix1 ⟨x.val % 64, by omega⟩) := by
  simp only [V, V0, hostOps0, hostOps0_1, hostOps0_2, List.flatten_cons, List.flatten_nil, List.append_nil, List.cons_append, List.nil_append]
  after_results_simp
  pointwise

theorem mgain_V (c : Dev nD) (x : Fin 128) : V m c main_v10 (ix2 0 x) = m ((c : Thread nD τ).loc main_arg5) (ix1 x) := by
  simp only [V, V0, hostOps0, hostOps0_1, hostOps0_2, List.flatten_cons, List.flatten_nil, List.append_nil, List.cons_append, List.nil_append]
  after_results_simp
  pointwise

theorem blk0 (c : Dev nD) (t : Fin cfg0.N) (r : Fin 256) (x : Fin 1024) : iblk m c 0 t (ix3 0 r x)
    = m ((c : Thread nD τ).loc main_arg0) (ix3 ⟨t.val / 16, by have := (idx t).2.2.2.2.2.2.2.2.2.2.2.2.2; omega⟩
        ⟨t.val % 16 * 256 + r.val, by omega⟩ x) := by
  rw [← V_main_arg0 m c]
  blk_ext [iblk, idx t]

theorem blk1 (c : Dev nD) (t : Fin cfg0.N) (x : Fin 1024) : iblk m c 1 t (ix2 0 x) = m ((c : Thread nD τ).loc main_arg1) (ix1 x) := by
  refine Eq.trans ?_ (norm_V m c x)
  blk_ext [iblk, idx t]

theorem blk2 (c : Dev nD) (t : Fin cfg0.N) (x : Fin 1024) (j : Fin 6144) :
    iblk m c 2 t (ix2 x j) = m ((c : Thread nD τ).loc main_arg2) (ix2 x j) := by
  refine Eq.trans ?_ (weight_V m c x j)
  blk_ext [iblk, idx t]

theorem blk3 (c : Dev nD) (t : Fin cfg0.N) (x : Fin 128) :
    iblk m c 3 t (ix2 0 x) = m ((c : Thread nD τ).loc main_arg3) (ix1 ⟨x.val % 64, by omega⟩) := by
  refine Eq.trans ?_ (qgain_V m c x)
  blk_ext [iblk, idx t]

theorem blk4 (c : Dev nD) (t : Fin cfg0.N) (x : Fin 128) :
    iblk m c 4 t (ix2 0 x) = m ((c : Thread nD τ).loc main_arg4) (ix1 ⟨x.val % 64, by omega⟩) := by
  refine Eq.trans ?_ (kgain_V m c x)
  blk_ext [iblk, idx t]

theorem blk5 (c : Dev nD) (t : Fin cfg0.N) (x : Fin 128) : iblk m c 5 t (ix2 0 x) = m ((c : Thread nD τ).loc main_arg5) (ix1 x) := by
  refine Eq.trans ?_ (mgain_V m c x)
  blk_ext [iblk, idx t]

theorem blk6 (c : Dev nD) (t : Fin cfg0.N) (k d : Fin 128) :
    iblk m c 6 t (ix2 k d) = if k.val / 64 = d.val / 64 then (1 : EReal) else 0 := by
  refine Eq.trans ?_ (mask_V m c k d)
  blk_ext [iblk, idx t]

/-- The columns projected and left as they are. -/
theorem final7_at (c : Dev nD) : (dats m 0 c).arrAt 7 (cfgs 0).N = fun i : S4x4096x1792.Idx =>
    proj (fun x => m ((c : Thread nD τ).loc main_arg0) (ix3 (i 0) (i 1) x)) (fun x => m ((c : Thread nD τ).loc main_arg1) (ix1 x))
      (fun y => m ((c : Thread nD τ).loc main_arg2) (ix2 y ⟨0 + (i 2).val, by idx_bounds; omega⟩)) := by
  refine (dats m 0 c).arrAt_eq_of_covers 7 _ (by decide +kernel) fun t _ y => ?_
  blk_simp
  rw [after0_7]
  idx_bounds y
  refine (out7_at _ _ _ _ _ _ _ ⟨(y 1 : ℕ), by omega⟩ ⟨(y 2 : ℕ), by omega⟩ y rfl rfl).trans ?_
  refine proj_congr (fun x => ?_) (fun x => ?_) (fun i => ?_)
  · refine (blk0 m c t _ x).trans ?_
    blk_ext [idx t]
  · exact blk1 m c t x
  · refine (blk2 m c t i _).trans ?_
    blk_ext [idx t]

/-- The queries' heads: slot `i 2 / 128`, coordinate `i 2 % 128`. -/
theorem final8_at (c : Dev nD) : (dats m 0 c).arrAt 8 (cfgs 0).N = fun i : S4x4096x512.Idx =>
    segHead (fun x => m ((c : Thread nD τ).loc main_arg0) (ix3 (i 0) (i 1) x)) (fun x => m ((c : Thread nD τ).loc main_arg1) (ix1 x))
      (fun y j => m ((c : Thread nD τ).loc main_arg2) (ix2 y ⟨1792 + ((i 2).val / 128 * 128 + j.val), by idx_bounds; omega⟩))
      (fun k => if k.val / 64 = (i 2).val % 128 / 64 then 1 else 0)
      (fun x => m ((c : Thread nD τ).loc main_arg3) (ix1 ⟨x.val % 64, by omega⟩)) ⟨(i 2).val % 128, by omega⟩ := by
  refine (dats m 0 c).arrAt_eq_of_covers 8 _ (by decide +kernel) fun t _ y => ?_
  blk_simp
  rw [after0_8]
  idx_bounds y
  refine (out8_at _ _ _ _ _ _ _ ⟨(y 2 : ℕ) / 128, by omega⟩ ⟨(y 1 : ℕ), by omega⟩ ⟨(y 2 : ℕ) % 128, by omega⟩ y rfl (by dsimp only; omega)).trans ?_
  refine segHead_congr (fun x => ?_) (fun x => ?_) (fun i j => ?_) (fun k => ?_) (fun x => ?_) ?_
  · refine (blk0 m c t _ x).trans ?_
    blk_ext [idx t]
  · exact blk1 m c t x
  · refine (blk2 m c t i _).trans ?_
    blk_ext [idx t]
  · refine (blk6 m c t k _).trans ?_
    blk_simp [idx t]
  · exact blk3 m c t x
  · blk_ext [idx t]
/-- The keys' heads: one slot. -/
theorem final9_at (c : Dev nD) : (dats m 0 c).arrAt 9 (cfgs 0).N = fun i : S4x4096x128.Idx =>
    segHead (fun x => m ((c : Thread nD τ).loc main_arg0) (ix3 (i 0) (i 1) x)) (fun x => m ((c : Thread nD τ).loc main_arg1) (ix1 x))
      (fun y j => m ((c : Thread nD τ).loc main_arg2) (ix2 y ⟨2304 + j.val, by omega⟩))
      (fun k => if k.val / 64 = (i 2).val / 64 then 1 else 0)
      (fun x => m ((c : Thread nD τ).loc main_arg4) (ix1 ⟨x.val % 64, by omega⟩)) ⟨(i 2).val, by idx_bounds; omega⟩ := by
  refine (dats m 0 c).arrAt_eq_of_covers 9 _ (by decide +kernel) fun t _ y => ?_
  blk_simp
  rw [after0_9]
  idx_bounds y
  refine (out9_at _ _ _ _ _ _ _ ⟨(y 1 : ℕ), by omega⟩ ⟨(y 2 : ℕ), by omega⟩ y rfl rfl).trans ?_
  refine segHead_congr (fun x => ?_) (fun x => ?_) (fun i j => ?_) (fun k => ?_) (fun x => ?_) ?_
  · refine (blk0 m c t _ x).trans ?_
    blk_ext [idx t]
  · exact blk1 m c t x
  · exact blk2 m c t i _
  · refine (blk6 m c t k _).trans ?_
    blk_simp [idx t]
  · exact blk4 m c t x
  · blk_ext [idx t]

/-- The values. -/
theorem final10_at (c : Dev nD) : (dats m 0 c).arrAt 10 (cfgs 0).N = fun i : S4x4096x128.Idx =>
    proj (fun x => m ((c : Thread nD τ).loc main_arg0) (ix3 (i 0) (i 1) x)) (fun x => m ((c : Thread nD τ).loc main_arg1) (ix1 x))
      (fun y => m ((c : Thread nD τ).loc main_arg2) (ix2 y ⟨2432 + (i 2).val, by idx_bounds; omega⟩)) := by
  refine (dats m 0 c).arrAt_eq_of_covers 10 _ (by decide +kernel) fun t _ y => ?_
  blk_simp
  rw [after0_10]
  idx_bounds y
  refine (out10_at _ _ _ _ _ _ _ ⟨(y 1 : ℕ), by omega⟩ ⟨(y 2 : ℕ), by omega⟩ y rfl rfl).trans ?_
  refine proj_congr (fun x => ?_) (fun x => ?_) (fun i => ?_)
  · refine (blk0 m c t _ x).trans ?_
    blk_ext [idx t]
  · exact blk1 m c t x
  · refine (blk2 m c t i _).trans ?_
    blk_ext [idx t]

/-- The memory queries' heads. -/
theorem final11_at (c : Dev nD) : (dats m 0 c).arrAt 11 (cfgs 0).N = fun i : S4x4096x512.Idx =>
    projHead (fun x => m ((c : Thread nD τ).loc main_arg0) (ix3 (i 0) (i 1) x)) (fun x => m ((c : Thread nD τ).loc main_arg1) (ix1 x))
      (fun y j => m ((c : Thread nD τ).loc main_arg2) (ix2 y ⟨2560 + ((i 2).val / 128 * 128 + j.val), by idx_bounds; omega⟩))
      (fun x => m ((c : Thread nD τ).loc main_arg5) (ix1 x)) ⟨(i 2).val % 128, by omega⟩ := by
  refine (dats m 0 c).arrAt_eq_of_covers 11 _ (by decide +kernel) fun t _ y => ?_
  blk_simp
  rw [after0_11]
  idx_bounds y
  refine (out11_at _ _ _ _ _ _ _ ⟨(y 2 : ℕ) / 128, by omega⟩ ⟨(y 1 : ℕ), by omega⟩ ⟨(y 2 : ℕ) % 128, by omega⟩ y rfl (by dsimp only; omega)).trans ?_
  refine projHead_congr (fun x => ?_) (fun x => ?_) (fun i j => ?_) (fun x => ?_) ?_
  · refine (blk0 m c t _ x).trans ?_
    blk_ext [idx t]
  · exact blk1 m c t x
  · refine (blk2 m c t i _).trans ?_
    blk_ext [idx t]
  · exact blk5 m c t x
  · blk_ext [idx t]

/-- The gates. -/
theorem final12_at (c : Dev nD) : (dats m 0 c).arrAt 12 (cfgs 0).N = fun i : S4x4096x3072.Idx =>
    gate (fun x => m ((c : Thread nD τ).loc main_arg0) (ix3 (i 0) (i 1) x)) (fun x => m ((c : Thread nD τ).loc main_arg1) (ix1 x))
      (fun y => m ((c : Thread nD τ).loc main_arg2) (ix2 y ⟨3072 + (i 2).val, by idx_bounds; omega⟩)) := by
  refine (dats m 0 c).arrAt_eq_of_covers 12 _ (by decide +kernel) fun t _ y => ?_
  blk_simp
  rw [after0_12]
  idx_bounds y
  refine (out12_at _ _ _ _ _ _ _ ⟨(y 2 : ℕ) / 1024, by omega⟩ ⟨(y 1 : ℕ), by omega⟩ ⟨(y 2 : ℕ) % 1024, by omega⟩ y rfl (by dsimp only; omega)).trans ?_
  refine gate_congr (fun x => ?_) (fun x => ?_) (fun i => ?_)
  · refine (blk0 m c t _ x).trans ?_
    blk_ext [idx t]
  · exact blk1 m c t x
  · refine (blk2 m c t i _).trans ?_
    blk_ext [idx t]

end Cert.In
-- ==== Proof.InRef.lean ====
/- The input projection: the reference, read at an index. -/
module

public import proofs.«01_k».proof.Proof.Gen.ReferenceInIdeal.Run
public import proofs.«01_k».proof.Proof.RowSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.In

open Cert.ReferenceInIdeal Cert.ReferenceInIdeal.Gen Cert.Row

/-- The reference's normalised rows. -/
abbrev normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf
      (broadcastInDim S4x4096x1 ![0, 1] bcast_S4x4096_S4x4096x1_0_1 (Host.reduceAdd (mulf x x) (constant S_ .f32 0x00000000#32)
        reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The projected rows before they are split. -/
abbrev PROJ (x : FVec Ideal S4x4096x1024 .f32) (g : FVec Ideal S1024 .f32) (w : FVec Ideal S1024x6144 .f32) : FVec Ideal S4x4096x6144 .f32 :=
  Host.dotGeneral dot_S4x4096x1024_S1024x6144_S4x4096x6144_2_0_01_1_n_n none (normed x g) w

/-- Heads normalised. -/
abbrev heads8 (z : FVec Ideal S4x4096x8x64 .f32) (kg : FVec Ideal S64 .f32) : FVec Ideal S4x4096x8x64 .f32 :=
  mulf (mulf z (broadcastInDim S4x4096x8x64 ![0, 1, 2, 3] bcast_S4x4096x8x1_S4x4096x8x64_0_1_2_3 (Host.rsqrt (addf (Host.divf
      (broadcastInDim S4x4096x8x1 ![0, 1, 2] bcast_S4x4096x8_S4x4096x8x1_0_1_2 (Host.reduceAdd (mulf z z) (constant S_ .f32 0x00000000#32)
        reducesTo_S4x4096x8x64_S4x4096x8_d3 h_S_)) (broadcastInDim S4x4096x8x1 ![] bcast_S_S4x4096x8x1 (constant S_ .f32 0x42800000#32)))
      (broadcastInDim S4x4096x8x1 ![] bcast_S_S4x4096x8x1 (constant S_ .f32 0x358637BD#32))))))
    (broadcastInDim S4x4096x8x64 ![0, 1, 2, 3] bcast_S1x1x1x64_S4x4096x8x64_0_1_2_3 (broadcastInDim S1x1x1x64 ![3] bcast_S64_S1x1x1x64_3 kg))

theorem heads8_at (z : FVec Ideal S4x4096x8x64 .f32) (kg : FVec Ideal S64 .f32) (b : Fin 4) (r : Fin 4096) (h : Fin 8) (d : Fin 64) :
    heads8 z kg (ix4 b r h d) = rms (Ideal.ofBits .f32 0x42800000#32) (fun y => z (ix4 b r h y)) (fun y => kg (ix1 y)) d := by
  pointwise [heads8, rms]

theorem heads8_lay (z : FVec Ideal S4x4096x8x64 .f32) (b : Fin 4) (r : Fin 4096) (h : Fin 8) (d : Fin 64) :
    shapeCast S4x4096x512 z shapeCasts_S4x4096x8x64_S4x4096x512 (ix3 b r ⟨h.val * 64 + d.val, by omega⟩) = z (ix4 b r h d) := by
  pointwise

/-- Heads normalised. -/
abbrev heads2 (z : FVec Ideal S4x4096x2x64 .f32) (kg : FVec Ideal S64 .f32) : FVec Ideal S4x4096x2x64 .f32 :=
  mulf (mulf z (broadcastInDim S4x4096x2x64 ![0, 1, 2, 3] bcast_S4x4096x2x1_S4x4096x2x64_0_1_2_3 (Host.rsqrt (addf (Host.divf
      (broadcastInDim S4x4096x2x1 ![0, 1, 2] bcast_S4x4096x2_S4x4096x2x1_0_1_2 (Host.reduceAdd (mulf z z) (constant S_ .f32 0x00000000#32)
        reducesTo_S4x4096x2x64_S4x4096x2_d3 h_S_)) (broadcastInDim S4x4096x2x1 ![] bcast_S_S4x4096x2x1 (constant S_ .f32 0x42800000#32)))
      (broadcastInDim S4x4096x2x1 ![] bcast_S_S4x4096x2x1 (constant S_ .f32 0x358637BD#32))))))
    (broadcastInDim S4x4096x2x64 ![0, 1, 2, 3] bcast_S1x1x1x64_S4x4096x2x64_0_1_2_3 (broadcastInDim S1x1x1x64 ![3] bcast_S64_S1x1x1x64_3 kg))

theorem heads2_at (z : FVec Ideal S4x4096x2x64 .f32) (kg : FVec Ideal S64 .f32) (b : Fin 4) (r : Fin 4096) (h : Fin 2) (d : Fin 64) :
    heads2 z kg (ix4 b r h d) = rms (Ideal.ofBits .f32 0x42800000#32) (fun y => z (ix4 b r h y)) (fun y => kg (ix1 y)) d := by
  pointwise [heads2, rms]

theorem heads2_lay (z : FVec Ideal S4x4096x2x64 .f32) (b : Fin 4) (r : Fin 4096) (h : Fin 2) (d : Fin 64) :
    shapeCast S4x4096x128 z shapeCasts_S4x4096x2x64_S4x4096x128 (ix3 b r ⟨h.val * 64 + d.val, by omega⟩) = z (ix4 b r h d) := by
  pointwise

/-- Heads normalised. -/
abbrev heads4 (z : FVec Ideal S4x4096x4x128 .f32) (kg : FVec Ideal S128 .f32) : FVec Ideal S4x4096x4x128 .f32 :=
  mulf (mulf z (broadcastInDim S4x4096x4x128 ![0, 1, 2, 3] bcast_S4x4096x4x1_S4x4096x4x128_0_1_2_3 (Host.rsqrt (addf (Host.divf
      (broadcastInDim S4x4096x4x1 ![0, 1, 2] bcast_S4x4096x4_S4x4096x4x1_0_1_2 (Host.reduceAdd (mulf z z) (constant S_ .f32 0x00000000#32)
        reducesTo_S4x4096x4x128_S4x4096x4_d3 h_S_)) (broadcastInDim S4x4096x4x1 ![] bcast_S_S4x4096x4x1 (constant S_ .f32 0x43000000#32)))
      (broadcastInDim S4x4096x4x1 ![] bcast_S_S4x4096x4x1 (constant S_ .f32 0x358637BD#32))))))
    (broadcastInDim S4x4096x4x128 ![0, 1, 2, 3] bcast_S1x1x1x128_S4x4096x4x128_0_1_2_3 (broadcastInDim S1x1x1x128 ![3] bcast_S128_S1x1x1x128_3 kg))

theorem heads4_at (z : FVec Ideal S4x4096x4x128 .f32) (kg : FVec Ideal S128 .f32) (b : Fin 4) (r : Fin 4096) (h : Fin 4) (d : Fin 128) :
    heads4 z kg (ix4 b r h d) = rms (Ideal.ofBits .f32 0x43000000#32) (fun y => z (ix4 b r h y)) (fun y => kg (ix1 y)) d := by
  pointwise [heads4, rms]

theorem heads4_lay (z : FVec Ideal S4x4096x4x128 .f32) (b : Fin 4) (r : Fin 4096) (h : Fin 4) (d : Fin 128) :
    shapeCast S4x4096x512 z shapeCasts_S4x4096x4x128_S4x4096x512 (ix3 b r ⟨h.val * 128 + d.val, by omega⟩) = z (ix4 b r h d) := by
  pointwise

theorem normed_at (x : FVec Ideal S4x4096x1024 .f32) (g : FVec Ideal S1024 .f32) (b : Fin 4) (r : Fin 4096) (i : Fin 1024) :
    normed x g (ix3 b r i) = rms (Ideal.ofBits .f32 0x44800000#32) (fun y => x (ix3 b r y)) (fun y => g (ix1 y)) i := by
  pointwise [normed, rms]

theorem dot_at (z : FVec Ideal S4x4096x1024 .f32) (w : FVec Ideal S1024x6144 .f32) (b : Fin 4) (r : Fin 4096) (j : Fin 6144) :
    Host.dotGeneral dot_S4x4096x1024_S1024x6144_S4x4096x6144_2_0_01_1_n_n none z w (ix3 b r j) = ∑ i : Fin 1024, z (ix3 b r i) * w (ix2 i j) := by
  pointwise

theorem PROJ_at (x : FVec Ideal S4x4096x1024 .f32) (g : FVec Ideal S1024 .f32) (w : FVec Ideal S1024x6144 .f32) (b : Fin 4) (r : Fin 4096) (j : Fin 6144) :
    PROJ x g w (ix3 b r j) = proj (fun y => x (ix3 b r y)) (fun y => g (ix1 y)) (fun i => w (ix2 i j)) := by
  refine (dot_at _ w b r j).trans ?_
  simp only [normed_at]
  rfl

theorem q_cut (z : FVec Ideal S4x4096x6144 .f32) (b : Fin 4) (r : Fin 4096) (h : Fin 8) (d : Fin 64) :
    shapeCast S4x4096x8x64 (extractStridedSlice S4x4096x512 ![0, 0, 1792] z slices_S4x4096x6144_S4x4096x512_0_0_1792)
      shapeCasts_S4x4096x512_S4x4096x8x64 (ix4 b r h d) = z (ix3 b r ⟨1792 + (h.val * 64 + d.val), by omega⟩) := by
  pointwise

abbrev Q (x : FVec Ideal S4x4096x1024 .f32) (g : FVec Ideal S1024 .f32) (w : FVec Ideal S1024x6144 .f32) (kg : FVec Ideal S64 .f32) :
    FVec Ideal S4x4096x512 .f32 :=
  shapeCast _ (heads8 (shapeCast _ (extractStridedSlice S4x4096x512 ![0, 0, 1792] (PROJ x g w) slices_S4x4096x6144_S4x4096x512_0_0_1792)
    shapeCasts_S4x4096x512_S4x4096x8x64) kg) shapeCasts_S4x4096x8x64_S4x4096x512

theorem Q_at (x : FVec Ideal S4x4096x1024 .f32) (g : FVec Ideal S1024 .f32) (w : FVec Ideal S1024x6144 .f32) (kg : FVec Ideal S64 .f32)
    (b : Fin 4) (r : Fin 4096) (h : Fin 8) (d : Fin 64) : Q x g w kg (ix3 b r ⟨h.val * 64 + d.val, by omega⟩)
      = rms (Ideal.ofBits .f32 0x42800000#32) (fun j : Fin 64 => proj (fun y => x (ix3 b r y)) (fun y => g (ix1 y))
          (fun i => w (ix2 i ⟨1792 + (h.val * 64 + j.val), by omega⟩))) (fun y => kg (ix1 y)) d := by
  refine (heads8_lay _ b r h d).trans ((heads8_at _ kg b r h d).trans ?_)
  simp only [q_cut, PROJ_at]

theorem k_cut (z : FVec Ideal S4x4096x6144 .f32) (b : Fin 4) (r : Fin 4096) (h : Fin 2) (d : Fin 64) :
    shapeCast S4x4096x2x64 (extractStridedSlice S4x4096x128 ![0, 0, 2304] z slices_S4x4096x6144_S4x4096x128_0_0_2304)
      shapeCasts_S4x4096x128_S4x4096x2x64 (ix4 b r h d) = z (ix3 b r ⟨2304 + (h.val * 64 + d.val), by omega⟩) := by
  pointwise

abbrev K (x : FVec Ideal S4x4096x1024 .f32) (g : FVec Ideal S1024 .f32) (w : FVec Ideal S1024x6144 .f32) (kg : FVec Ideal S64 .f32) :
    FVec Ideal S4x4096x128 .f32 :=
  shapeCast _ (heads2 (shapeCast _ (extractStridedSlice S4x4096x128 ![0, 0, 2304] (PROJ x g w) slices_S4x4096x6144_S4x4096x128_0_0_2304)
    shapeCasts_S4x4096x128_S4x4096x2x64) kg) shapeCasts_S4x4096x2x64_S4x4096x128

theorem K_at (x : FVec Ideal S4x4096x1024 .f32) (g : FVec Ideal S1024 .f32) (w : FVec Ideal S1024x6144 .f32) (kg : FVec Ideal S64 .f32)
    (b : Fin 4) (r : Fin 4096) (h : Fin 2) (d : Fin 64) : K x g w kg (ix3 b r ⟨h.val * 64 + d.val, by omega⟩)
      = rms (Ideal.ofBits .f32 0x42800000#32) (fun j : Fin 64 => proj (fun y => x (ix3 b r y)) (fun y => g (ix1 y))
          (fun i => w (ix2 i ⟨2304 + (h.val * 64 + j.val), by omega⟩))) (fun y => kg (ix1 y)) d := by
  refine (heads2_lay _ b r h d).trans ((heads2_at _ kg b r h d).trans ?_)
  simp only [k_cut, PROJ_at]

theorem qm_cut (z : FVec Ideal S4x4096x6144 .f32) (b : Fin 4) (r : Fin 4096) (h : Fin 4) (d : Fin 128) :
    shapeCast S4x4096x4x128 (extractStridedSlice S4x4096x512 ![0, 0, 2560] z slices_S4x4096x6144_S4x4096x512_0_0_2560)
      shapeCasts_S4x4096x512_S4x4096x4x128 (ix4 b r h d) = z (ix3 b r ⟨2560 + (h.val * 128 + d.val), by omega⟩) := by
  pointwise

abbrev QM (x : FVec Ideal S4x4096x1024 .f32) (g : FVec Ideal S1024 .f32) (w : FVec Ideal S1024x6144 .f32) (kg : FVec Ideal S128 .f32) :
    FVec Ideal S4x4096x512 .f32 :=
  shapeCast _ (heads4 (shapeCast _ (extractStridedSlice S4x4096x512 ![0, 0, 2560] (PROJ x g w) slices_S4x4096x6144_S4x4096x512_0_0_2560)
    shapeCasts_S4x4096x512_S4x4096x4x128) kg) shapeCasts_S4x4096x4x128_S4x4096x512

theorem QM_at (x : FVec Ideal S4x4096x1024 .f32) (g : FVec Ideal S1024 .f32) (w : FVec Ideal S1024x6144 .f32) (kg : FVec Ideal S128 .f32)
    (b : Fin 4) (r : Fin 4096) (h : Fin 4) (d : Fin 128) : QM x g w kg (ix3 b r ⟨h.val * 128 + d.val, by omega⟩)
      = rms (Ideal.ofBits .f32 0x43000000#32) (fun j : Fin 128 => proj (fun y => x (ix3 b r y)) (fun y => g (ix1 y))
          (fun i => w (ix2 i ⟨2560 + (h.val * 128 + j.val), by omega⟩))) (fun y => kg (ix1 y)) d := by
  refine (heads4_lay _ b r h d).trans ((heads4_at _ kg b r h d).trans ?_)
  simp only [qm_cut, PROJ_at]

abbrev P (x : FVec Ideal S4x4096x1024 .f32) (g : FVec Ideal S1024 .f32) (w : FVec Ideal S1024x6144 .f32) : FVec Ideal S4x4096x1792 .f32 :=
  extractStridedSlice S4x4096x1792 ![0, 0, 0] (PROJ x g w) slices_S4x4096x6144_S4x4096x1792_0_0_0

theorem P_cut (z : FVec Ideal S4x4096x6144 .f32) (b : Fin 4) (r : Fin 4096) (d : Fin 1792) :
    extractStridedSlice S4x4096x1792 ![0, 0, 0] z slices_S4x4096x6144_S4x4096x1792_0_0_0 (ix3 b r d) = z (ix3 b r ⟨0 + d.val, by omega⟩) := by
  pointwise

theorem P_at (x : FVec Ideal S4x4096x1024 .f32) (g : FVec Ideal S1024 .f32) (w : FVec Ideal S1024x6144 .f32) (b : Fin 4) (r : Fin 4096) (d : Fin 1792) :
    P x g w (ix3 b r d) = proj (fun y => x (ix3 b r y)) (fun y => g (ix1 y)) (fun i => w (ix2 i ⟨0 + d.val, by omega⟩)) :=
  (P_cut _ b r d).trans (PROJ_at x g w b r _)

abbrev VV (x : FVec Ideal S4x4096x1024 .f32) (g : FVec Ideal S1024 .f32) (w : FVec Ideal S1024x6144 .f32) : FVec Ideal S4x4096x128 .f32 :=
  extractStridedSlice S4x4096x128 ![0, 0, 2432] (PROJ x g w) slices_S4x4096x6144_S4x4096x128_0_0_2432

theorem VV_cut (z : FVec Ideal S4x4096x6144 .f32) (b : Fin 4) (r : Fin 4096) (d : Fin 128) :
    extractStridedSlice S4x4096x128 ![0, 0, 2432] z slices_S4x4096x6144_S4x4096x128_0_0_2432 (ix3 b r d) = z (ix3 b r ⟨2432 + d.val, by omega⟩) := by
  pointwise

theorem VV_at (x : FVec Ideal S4x4096x1024 .f32) (g : FVec Ideal S1024 .f32) (w : FVec Ideal S1024x6144 .f32) (b : Fin 4) (r : Fin 4096) (d : Fin 128) :
    VV x g w (ix3 b r d) = proj (fun y => x (ix3 b r y)) (fun y => g (ix1 y)) (fun i => w (ix2 i ⟨2432 + d.val, by omega⟩)) :=
  (VV_cut _ b r d).trans (PROJ_at x g w b r _)

abbrev SIG (z : FVec Ideal S4x4096x6144 .f32) : FVec Ideal S4x4096x3072 .f32 :=
  Host.divf (broadcastInDim S4x4096x3072 ![] bcast_S_S4x4096x3072 (constant S_ .f32 0x3F800000#32)) (addf (broadcastInDim S4x4096x3072 ![]
    bcast_S_S4x4096x3072 (constant S_ .f32 0x3F800000#32)) (Host.exp (Host.negf (extractStridedSlice S4x4096x3072 ![0, 0, 3072] z
      slices_S4x4096x6144_S4x4096x3072_0_0_3072))))

theorem SIG_at (z : FVec Ideal S4x4096x6144 .f32) (b : Fin 4) (r : Fin 4096) (d : Fin 3072) :
    SIG z (ix3 b r d) = Ideal.div 1 (1 + Ideal.exp (- z (ix3 b r ⟨3072 + d.val, by omega⟩))) := by
  pointwise [SIG]

abbrev GATES (x : FVec Ideal S4x4096x1024 .f32) (g : FVec Ideal S1024 .f32) (w : FVec Ideal S1024x6144 .f32) : FVec Ideal S4x4096x3072 .f32 :=
  SIG (PROJ x g w)

theorem GATES_at (x : FVec Ideal S4x4096x1024 .f32) (g : FVec Ideal S1024 .f32) (w : FVec Ideal S1024x6144 .f32) (b : Fin 4) (r : Fin 4096) (d : Fin 3072) :
    GATES x g w (ix3 b r d) = Ideal.div 1 (1 + Ideal.exp (- proj (fun y => x (ix3 b r y)) (fun y => g (ix1 y))
      (fun i => w (ix2 i ⟨3072 + d.val, by omega⟩)))) := by
  refine (SIG_at _ b r d).trans ?_
  rw [PROJ_at]

end Cert.In
-- ==== Proof.InTail.lean ====
/- The input projection: what the host keeps of the call's results for later chunks, the last rows of keys, values and plain
   columns. -/
module

public import proofs.«01_k».proof.Proof.InFinal
public import proofs.«01_k».proof.Proof.InRef

@[expose] public section

set_option maxRecDepth 16384

noncomputable section

open Idealize.ShloMosaic Idealize.ShloMosaic.TcCoe Idealize.SL.Sem
open Idealize.ShloMosaic.Pipeline (Dat)

namespace Cert.In

open Cert.KernelInIdeal Cert.KernelInIdeal.Gen

/-- The last 128 rows of a 128-wide array, by head. -/
abbrev lastRows (z : FVec Ideal S4x4096x128 .f32) : FVec Ideal S4x128x2x64 .f32 :=
  shapeCast S4x128x2x64 (extractStridedSlice S4x128x128 ![0, 3968, 0] z slices_S4x4096x128_S4x128x128_0_3968_0) shapeCasts_S4x128x128_S4x128x2x64

/-- The last row of the plain columns. -/
abbrev lastRow (z : FVec Ideal S4x4096x1792 .f32) : FVec Ideal S4x1x1792 .f32 :=
  extractStridedSlice S4x1x1792 ![0, 4095, 0] z slices_S4x4096x1792_S4x1x1792_0_4095_0

/-- One of the last rows at an index. -/
theorem lastRows_at (z : FVec Ideal S4x4096x128 .f32) (b : Fin 4) (r : Fin 128) (h : Fin 2) (d : Fin 64) :
    lastRows z (ix4 b r h d) = z (ix3 b ⟨3968 + r.val, by omega⟩ ⟨h.val * 64 + d.val, by omega⟩) := by
  pointwise [lastRows]

/-- The last rows of heads by number, cut after they are laid side by side, are the last rows cut before. -/
theorem lastRows_heads (z : FVec Ideal ReferenceInIdeal.S4x4096x2x64 .f32) :
    lastRows (shapeCast _ z ReferenceInIdeal.Gen.shapeCasts_S4x4096x2x64_S4x4096x128)
      = extractStridedSlice ReferenceInIdeal.S4x128x2x64 ![0, 3968, 0, 0] z ReferenceInIdeal.Gen.slices_S4x4096x2x64_S4x128x2x64_0_3968_0_0 := by
  funext i
  have hi : i = ix4 (i 0) (i 1) (i 2) (i 3) := by blk_ext
  rw [hi]
  refine (lastRows_at _ _ _ _ _).trans ((heads2_lay z _ _ _ _).trans ?_)
  pointwise

/-- The last rows by head are those of the array by head. -/
theorem lastRows_split (z : FVec Ideal ReferenceInIdeal.S4x4096x128 .f32) :
    lastRows z = extractStridedSlice ReferenceInIdeal.S4x128x2x64 ![0, 3968, 0, 0]
      (shapeCast ReferenceInIdeal.S4x4096x2x64 z ReferenceInIdeal.Gen.shapeCasts_S4x4096x128_S4x4096x2x64)
      ReferenceInIdeal.Gen.slices_S4x4096x2x64_S4x128x2x64_0_3968_0_0 := by
  funext i
  have hi : i = ix4 (i 0) (i 1) (i 2) (i 3) := by blk_ext
  rw [hi]
  refine (lastRows_at _ _ _ _ _).trans ?_
  pointwise

variable (m : (ℓ : Loc nD τ sig) → Buf (Elt Ideal) ℓ) (ρ : Dev nD → PrngReg)

/-- What the region leaves, before the host's last lines. -/
abbrev left (c : Dev nD) : Valuation τ sig (Elt Ideal) :=
  Pipeline.withArrays (cfgs 0).spec c (V0 m c) fun w => (dats m 0 c).arrAt w (cfgs 0).N

theorem left_arr (c : Dev nD) (w : Fin 13) : left m c (Proc.devRef .tc (Pipeline.arrRef spec0 w)) = (dats m 0 c).arrAt w cfg0.N :=
  Pipeline.withArrays_arr _ launch0.win.arr_inj c _ _ w

/-- The host's lines cut the keys. -/
theorem tail_k (c : Dev nD) : Pipeline.afterTail₀ cfgs (dats m) 0 (V0 m) [hostOps1] c main_v21 = lastRows ((dats m 0 c).arrAt 9 cfg0.N) := by
  refine Eq.trans (b := lastRows (left m c (Proc.devRef .tc main_v19_2))) ?_ (congrArg lastRows (left_arr m c 9))
  unfold Pipeline.afterTail₀
  after_results_simp <;> rfl

/-- The host's lines cut the values. -/
theorem tail_v (c : Dev nD) : Pipeline.afterTail₀ cfgs (dats m) 0 (V0 m) [hostOps1] c main_v23 = lastRows ((dats m 0 c).arrAt 10 cfg0.N) := by
  refine Eq.trans (b := lastRows (left m c (Proc.devRef .tc main_v19_3))) ?_ (congrArg lastRows (left_arr m c 10))
  unfold Pipeline.afterTail₀
  after_results_simp <;> rfl

/-- The host's lines cut the plain columns. -/
theorem tail_p (c : Dev nD) : Pipeline.afterTail₀ cfgs (dats m) 0 (V0 m) [hostOps1] c main_v24 = lastRow ((dats m 0 c).arrAt 7 cfg0.N) := by
  refine Eq.trans (b := lastRow (left m c (Proc.devRef .tc main_v19_0))) ?_ (congrArg lastRow (left_arr m c 7))
  unfold Pipeline.afterTail₀
  after_results_simp <;> rfl

/-- The whole run, with every result named. -/
theorem run_all : θ_run defs (onTc (τ := τ) (main (F := Ideal))) ⟨m, fun _ => 0, ρ⟩ fun r => ∀ c : Dev nD,
      r.2.mem ((c.tc : Thread nD τ).loc main_v19_0) = (dats m 0 c).arrAt 7 cfg0.N
      ∧ r.2.mem ((c.tc : Thread nD τ).loc main_v19_1) = (dats m 0 c).arrAt 8 cfg0.N
      ∧ r.2.mem ((c.tc : Thread nD τ).loc main_v19_2) = (dats m 0 c).arrAt 9 cfg0.N
      ∧ r.2.mem ((c.tc : Thread nD τ).loc main_v19_3) = (dats m 0 c).arrAt 10 cfg0.N
      ∧ r.2.mem ((c.tc : Thread nD τ).loc main_v19_4) = (dats m 0 c).arrAt 11 cfg0.N
      ∧ r.2.mem ((c.tc : Thread nD τ).loc main_v19_5) = (dats m 0 c).arrAt 12 cfg0.N
      ∧ r.2.mem ((c.tc : Thread nD τ).loc main_v21) = lastRows ((dats m 0 c).arrAt 9 cfg0.N)
      ∧ r.2.mem ((c.tc : Thread nD τ).loc main_v23) = lastRows ((dats m 0 c).arrAt 10 cfg0.N)
      ∧ r.2.mem ((c.tc : Thread nD τ).loc main_v24) = lastRow ((dats m 0 c).arrAt 7 cfg0.N) :=
  (θ_run defs _ _).mono (fun r h c => ⟨(h c).1 7, (h c).1 8, (h c).1 9, (h c).1 10, (h c).1 11, (h c).1 12,
      ((h c).2 main_v21 (Pipeline.mem_restRefs_of main_v21 (by decide) (by decide))).trans (tail_k m c),
      ((h c).2 main_v23 (Pipeline.mem_restRefs_of main_v23 (by decide) (by decide))).trans (tail_v m c),
      ((h c).2 main_v24 (Pipeline.mem_restRefs_of main_v24 (by decide) (by decide))).trans (tail_p m c)⟩)
    (run_main m ρ)

end Cert.In
-- ==== Proof.InClaim.lean ====
/- The input projection: the claims. -/
module

public import proofs.«01_k».proof.Defs
public import proofs.«01_k».proof.Proof.InTail
public import proofs.«01_k».proof.Proof.Gen.KernelIn.Frame
public import proofs.«01_k».proof.Proof.Gen.Pre_finite_weights
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.In

open Cert Cert.Row

theorem and_bits {p q : Bool} (h : IntOp.andi (BitVec.ofBool p) (BitVec.ofBool q) = 1#1) : p = true ∧ q = true := by
  revert h
  revert p q
  decide

theorem word_inf : Ideal.ofBits .f32 0x7F800000#32 = ⊤ := by
  simp [Ideal.ofBits, Ideal.ieee]

/-- A value whose size is below the infinity is no infinity. -/
theorem fin_of_abs {a : EReal} (h : decide ((FloatOps.absf (F := Ideal) (φ := .f32) a : EReal) < Ideal.ofBits .f32 0x7F800000#32) = true) :
    Fin' a := by
  have h' : max a (-a) < Ideal.ofBits .f32 0x7F800000#32 := of_decide_eq_true h
  rw [word_inf] at h'
  induction a using EReal.rec with
  | bot => exact absurd h' (by simp)
  | coe x => exact ⟨x, rfl⟩
  | top => exact absurd h' (by simp)

/-- What the condition says: the gains and the columns that make queries and keys hold no infinity. -/
theorem finite_of (x : FVec Ideal Pre_finite_weights.S4x4096x1024 .f32) (g : FVec Ideal Pre_finite_weights.S1024 .f32)
    (w : FVec Ideal Pre_finite_weights.S1024x6144 .f32) (a b : FVec Ideal Pre_finite_weights.S64 .f32) (d : FVec Ideal Pre_finite_weights.S128 .f32)
    (h : Pre_finite_weights.fn (F := Ideal) x g w a b d = fun _ => 1#1) :
    (∀ i : Fin 1024, Fin' (g (ix1 i))) ∧ ∀ (i : Fin 1024) (j : Fin 6144), 1792 ≤ j.val → j.val < 2432 → Fin' (w (ix2 i j)) := by
  have key : ∀ (i : Fin 1024) (j : Fin 640), Fin' (g (ix1 i)) ∧ Fin' (w (ix2 i ⟨1792 + j.val, by omega⟩)) := by
    intro i j
    have hb := congrFun h (ix2 i j)
    have e : Pre_finite_weights.fn (F := Ideal) x g w a b d (ix2 i j)
        = IntOp.andi (BitVec.ofBool (decide ((FloatOps.absf (F := Ideal) (φ := .f32) (g (ix1 i)) : EReal) < Ideal.ofBits .f32 0x7F800000#32)))
          (BitVec.ofBool (decide ((FloatOps.absf (F := Ideal) (φ := .f32) (w (ix2 i ⟨1792 + j.val, by omega⟩)) : EReal) < Ideal.ofBits .f32 0x7F800000#32))) := by
      pointwise [Pre_finite_weights.fn]
    have hb' := e.symm.trans hb
    exact ⟨fin_of_abs (and_bits hb').1, fin_of_abs (and_bits hb').2⟩
  exact ⟨fun i => (key i 0).1, fun i j h1 h2 => by
    have e : (⟨1792 + (j.val - 1792), by omega⟩ : Fin 6144) = j := Fin.ext (by simp only; omega)
    have := (key i ⟨j.val - 1792, by omega⟩).2
    simp only [e] at this
    exact this⟩

theorem rms_congr {n : ℕ} {N : EReal} {z z' g g' : Fin n → EReal} {j j' : Fin n} (hz : ∀ x, z x = z' x) (hg : ∀ x, g x = g' x) (hj : j = j') :
    rms N z g j = rms N z' g' j' := by
  obtain rfl : z = z' := funext hz
  obtain rfl : g = g' := funext hg
  subst hj
  rfl

/-- A slot with the mask is its heads normalised, when gains and weights are finite. -/
theorem segHead_eq (x g : Fin 1024 → EReal) (w : Fin 1024 → Fin 128 → EReal) (kg : Fin 128 → EReal) (d : Fin 128)
    (hg : ∀ i, Fin' (g i)) (hw : ∀ i j, Fin' (w i j)) :
    segHead x g w (fun k => if k.val / 64 = d.val / 64 then 1 else 0) kg d
      = rms (Ideal.ofBits .f32 0x42800000#32) (fun c : Fin 64 => proj x g fun i => w i (side d c)) (fun c => kg (side d c))
          ⟨d.val % 64, Nat.mod_lt _ (by norm_num)⟩ :=
  segRms_eq _ kg (fun k => fin_proj x g _ hg fun i => hw i k) d

variable (m : (ℓ : Loc KernelInIdeal.nD KernelInIdeal.τ KernelInIdeal.sig) → Buf (Elt Ideal) ℓ) (c : Dev KernelInIdeal.nD)

/-- The plain columns the call leaves are the reference's. -/
theorem p_eq : (KernelInIdeal.Gen.dats m 0 c).arrAt 7 KernelInIdeal.cfg0.N
    = P (m (c.tc.loc KernelInIdeal.main_arg0)) (m (c.tc.loc KernelInIdeal.main_arg1)) (m (c.tc.loc KernelInIdeal.main_arg2)) := by
  refine (final7_at m c).trans (funext fun i => ?_)
  have hi : i = ix3 (i 0) (i 1) (i 2) := by blk_ext
  refine Eq.trans ?_ ((congrArg _ hi).trans (P_at _ _ _ (i 0) (i 1) (i 2))).symm
  rfl

/-- The values the call leaves are the reference's. -/
theorem v_eq : (KernelInIdeal.Gen.dats m 0 c).arrAt 10 KernelInIdeal.cfg0.N
    = VV (m (c.tc.loc KernelInIdeal.main_arg0)) (m (c.tc.loc KernelInIdeal.main_arg1)) (m (c.tc.loc KernelInIdeal.main_arg2)) := by
  refine (final10_at m c).trans (funext fun i => ?_)
  have hi : i = ix3 (i 0) (i 1) (i 2) := by blk_ext
  refine Eq.trans ?_ ((congrArg _ hi).trans (VV_at _ _ _ (i 0) (i 1) (i 2))).symm
  rfl

/-- The gates the call leaves are the reference's. -/
theorem gates_eq : (KernelInIdeal.Gen.dats m 0 c).arrAt 12 KernelInIdeal.cfg0.N
    = GATES (m (c.tc.loc KernelInIdeal.main_arg0)) (m (c.tc.loc KernelInIdeal.main_arg1)) (m (c.tc.loc KernelInIdeal.main_arg2)) := by
  refine (final12_at m c).trans (funext fun i => ?_)
  have hi : i = ix3 (i 0) (i 1) (i 2) := by blk_ext
  refine Eq.trans ?_ ((congrArg _ hi).trans (GATES_at _ _ _ (i 0) (i 1) (i 2))).symm
  exact congrArg (fun y => Ideal.div 1 (1 + Ideal.exp y)) (zero_sub _)

/-- The memory queries the call leaves are the reference's. -/
theorem qm_eq : (KernelInIdeal.Gen.dats m 0 c).arrAt 11 KernelInIdeal.cfg0.N
    = QM (m (c.tc.loc KernelInIdeal.main_arg0)) (m (c.tc.loc KernelInIdeal.main_arg1)) (m (c.tc.loc KernelInIdeal.main_arg2)) (m (c.tc.loc KernelInIdeal.main_arg5)) := by
  refine (final11_at m c).trans (funext fun i => ?_)
  have h2 : (i 2 : ℕ) < 512 := (i 2).isLt
  have hi : i = ix3 (i 0) (i 1) ⟨(i 2 : ℕ) / 128 * 128 + (i 2 : ℕ) % 128, by omega⟩ := by blk_ext
  refine Eq.trans ?_ ((congrArg _ hi).trans (QM_at _ _ _ _ (i 0) (i 1) ⟨(i 2 : ℕ) / 128, by omega⟩ ⟨(i 2 : ℕ) % 128, by omega⟩)).symm
  rfl

/-- The queries the call leaves are the reference's, when gains and weights are finite. -/
theorem q_eq (hg : ∀ i : Fin 1024, Fin' ((m (c.tc.loc KernelInIdeal.main_arg1)) (ix1 i)))
    (hw : ∀ (i : Fin 1024) (j : Fin 6144), 1792 ≤ j.val → j.val < 2432 → Fin' ((m (c.tc.loc KernelInIdeal.main_arg2)) (ix2 i j))) :
    (KernelInIdeal.Gen.dats m 0 c).arrAt 8 KernelInIdeal.cfg0.N = Q (m (c.tc.loc KernelInIdeal.main_arg0)) (m (c.tc.loc KernelInIdeal.main_arg1)) (m (c.tc.loc KernelInIdeal.main_arg2)) (m (c.tc.loc KernelInIdeal.main_arg3)) := by
  refine (final8_at m c).trans (funext fun i => ?_)
  have h2 : (i 2 : ℕ) < 512 := (i 2).isLt
  have hi : i = ix3 (i 0) (i 1) ⟨(i 2 : ℕ) / 64 * 64 + (i 2 : ℕ) % 64, by omega⟩ := by blk_ext
  refine Eq.trans ?_ ((congrArg _ hi).trans (Q_at _ _ _ _ (i 0) (i 1) ⟨(i 2 : ℕ) / 64, by omega⟩ ⟨(i 2 : ℕ) % 64, by omega⟩)).symm
  refine (segHead_eq _ _ _ _ ⟨(i 2 : ℕ) % 128, by omega⟩ hg fun y j => hw y _ (by dsimp only; omega) (by dsimp only; omega)).trans ?_
  refine rms_congr (fun x => proj_congr (fun _ => rfl) (fun _ => rfl) fun y => ?_) (fun x => ?_) (Fin.ext (by dsimp only; omega))
  · refine congrArg _ (congrArg (ix2 y) (Fin.ext ?_))
    simp only [side]
    omega
  · refine congrArg _ (congrArg ix1 (Fin.ext ?_))
    simp only [side]
    omega

/-- The keys the call leaves are the reference's, when gains and weights are finite. -/
theorem k_eq (hg : ∀ i : Fin 1024, Fin' ((m (c.tc.loc KernelInIdeal.main_arg1)) (ix1 i)))
    (hw : ∀ (i : Fin 1024) (j : Fin 6144), 1792 ≤ j.val → j.val < 2432 → Fin' ((m (c.tc.loc KernelInIdeal.main_arg2)) (ix2 i j))) :
    (KernelInIdeal.Gen.dats m 0 c).arrAt 9 KernelInIdeal.cfg0.N = K (m (c.tc.loc KernelInIdeal.main_arg0)) (m (c.tc.loc KernelInIdeal.main_arg1)) (m (c.tc.loc KernelInIdeal.main_arg2)) (m (c.tc.loc KernelInIdeal.main_arg4)) := by
  refine (final9_at m c).trans (funext fun i => ?_)
  have h2 : (i 2 : ℕ) < 128 := (i 2).isLt
  have hi : i = ix3 (i 0) (i 1) ⟨(i 2 : ℕ) / 64 * 64 + (i 2 : ℕ) % 64, by omega⟩ := by blk_ext
  refine Eq.trans ?_ ((congrArg _ hi).trans (K_at _ _ _ _ (i 0) (i 1) ⟨(i 2 : ℕ) / 64, by omega⟩ ⟨(i 2 : ℕ) % 64, by omega⟩)).symm
  refine (segHead_eq _ _ _ _ ⟨(i 2 : ℕ), by omega⟩ hg fun y j => hw y _ (by dsimp only; omega) (by dsimp only; omega)).trans ?_
  refine rms_congr (fun x => proj_congr (fun _ => rfl) (fun _ => rfl) fun y => ?_) (fun x => ?_) (Fin.ext (by dsimp only))
  · refine congrArg _ (congrArg (ix2 y) (Fin.ext ?_))
    simp only [side]
    omega
  · refine congrArg _ (congrArg ix1 (Fin.ext ?_))
    simp only [side]
    omega

theorem frame : quiescent_KernelIn := fun m ρ _ => KernelIn.Gen.frame m ρ
theorem frame_ideal : quiescent_KernelInIdeal := fun m ρ _ => KernelInIdeal.Gen.frame m ρ
theorem frame_ideal_pre : quiescent_KernelInIdeal_pre_finite_weights := fun m ρ _ => KernelInIdeal.Gen.frame m ρ
theorem frame_ref : quiescent_ReferenceInIdeal := fun m ρ _ =>
  (θ_run ReferenceInIdeal.defs _ _).mono (fun r h => ⟨fun c => (h c).2.2.2.2.2.2.2.2.2,
      Idealize.ShloMosaic.sem_eq_zero_of_no_sems (by decide) r.2⟩)
    (ReferenceInIdeal.Value.run (F := Ideal) m ρ)
theorem frame_ref_pre : quiescent_ReferenceInIdeal_pre_finite_weights := fun m ρ _ => frame_ref m ρ trivial

set_option maxHeartbeats 1000000 in
/-- The call and the mathematics leave the same nine arrays. -/
theorem algebraic : algebraic_KernelInIdeal_ReferenceInIdeal_pre_finite_weights := by
  intro m g m' g' hpre hagree
  have hf := fun c => finite_of _ _ _ _ _ _ (hpre c)
  refine ⟨fun c => (KernelInIdeal.Gen.dats m 0 c).arrAt 7 KernelInIdeal.cfg0.N, fun c => (KernelInIdeal.Gen.dats m 0 c).arrAt 8 KernelInIdeal.cfg0.N,
    fun c => (KernelInIdeal.Gen.dats m 0 c).arrAt 9 KernelInIdeal.cfg0.N, fun c => (KernelInIdeal.Gen.dats m 0 c).arrAt 10 KernelInIdeal.cfg0.N,
    fun c => (KernelInIdeal.Gen.dats m 0 c).arrAt 11 KernelInIdeal.cfg0.N, fun c => (KernelInIdeal.Gen.dats m 0 c).arrAt 12 KernelInIdeal.cfg0.N,
    fun c => lastRows ((KernelInIdeal.Gen.dats m 0 c).arrAt 9 KernelInIdeal.cfg0.N),
    fun c => lastRows ((KernelInIdeal.Gen.dats m 0 c).arrAt 10 KernelInIdeal.cfg0.N),
    fun c => lastRow ((KernelInIdeal.Gen.dats m 0 c).arrAt 7 KernelInIdeal.cfg0.N), ?_, ?_⟩
  · exact (θ_run KernelInIdeal.defs _ _).mono (fun r h c => ⟨(h.1 c).1, (h.1 c).2.1, (h.1 c).2.2.1, (h.1 c).2.2.2.1, (h.1 c).2.2.2.2.1,
      (h.1 c).2.2.2.2.2.1, (h.1 c).2.2.2.2.2.2.1, (h.1 c).2.2.2.2.2.2.2.1, (h.1 c).2.2.2.2.2.2.2.2, h.2 c⟩)
      (θ_run_and (run_all m g) (KernelInIdeal.Gen.unchanged (F := Ideal) m g))
  · refine (θ_run ReferenceInIdeal.defs _ _).mono (fun r h c => ⟨(h c).1.trans ?_, (h c).2.1.trans ?_, (h c).2.2.1.trans ?_,
      (h c).2.2.2.1.trans ?_, (h c).2.2.2.2.1.trans ?_, (h c).2.2.2.2.2.1.trans ?_,
      (h c).2.2.2.2.2.2.1.trans ?_, (h c).2.2.2.2.2.2.2.1.trans ?_, (h c).2.2.2.2.2.2.2.2.1.trans ?_, (h c).2.2.2.2.2.2.2.2.2⟩)
      (ReferenceInIdeal.Value.run (F := Ideal) m' g')
    · rw [(hagree c).1, (hagree c).2.1, (hagree c).2.2.1]
      exact (p_eq m c).symm
    · rw [(hagree c).1, (hagree c).2.1, (hagree c).2.2.1, (hagree c).2.2.2.1]
      exact (q_eq m c (hf c).1 (hf c).2).symm
    · rw [(hagree c).1, (hagree c).2.1, (hagree c).2.2.1, (hagree c).2.2.2.2.1]
      exact (k_eq m c (hf c).1 (hf c).2).symm
    · rw [(hagree c).1, (hagree c).2.1, (hagree c).2.2.1]
      exact (v_eq m c).symm
    · rw [(hagree c).1, (hagree c).2.1, (hagree c).2.2.1, (hagree c).2.2.2.2.2]
      exact (qm_eq m c).symm
    · rw [(hagree c).1, (hagree c).2.1, (hagree c).2.2.1]
      exact (gates_eq m c).symm
    · rw [(hagree c).1, (hagree c).2.1, (hagree c).2.2.1, (hagree c).2.2.2.2.1]
      exact (lastRows_heads _).symm.trans (congrArg lastRows (k_eq m c (hf c).1 (hf c).2).symm)
    · rw [(hagree c).1, (hagree c).2.1, (hagree c).2.2.1]
      exact (lastRows_split _).symm.trans (congrArg lastRows (v_eq m c).symm)
    · rw [(hagree c).1, (hagree c).2.1, (hagree c).2.2.1]
      exact congrArg lastRow (p_eq m c).symm

end Cert.In
-- ==== Proof.SwaClaim.lean ====
/- The sliding-window attention: the claims. -/
module

public import proofs.«01_k».proof.Defs
public import proofs.«01_k».proof.Proof.SwaFinal
public import proofs.«01_k».proof.Proof.SwaRef
public import proofs.«01_k».proof.Proof.InClaim
public import proofs.«01_k».proof.Proof.Gen.KernelSwa.Frame
public import proofs.«01_k».proof.Proof.Gen.Pre_finite_scores
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Swa

open Cert
open Cert.In (Fin' fin_mul fin_sum)

/-- What the condition says: the queries, the keys and the sinks hold no infinity. -/
theorem finite_of (q : FVec Ideal Pre_finite_scores.S4x4096x512 .f32) (k v : FVec Ideal Pre_finite_scores.S4x4096x128 .f32)
    (e : FVec Ideal Pre_finite_scores.S8 .f32) (H : Pre_finite_scores.fn (F := Ideal) q k v e = fun _ => 1#1) :
    (∀ (b : Fin 4) (t : Fin 4096) (x : Fin 512), Fin' (q (ix3 b t x))) ∧ (∀ (b : Fin 4) (t : Fin 4096) (x : Fin 128), Fin' (k (ix3 b t x)))
      ∧ ∀ h : Fin 8, Fin' (e (ix1 h)) := by
  have key : ∀ (h : Fin 8) (b : Fin 4) (t : Fin 4096) (a : Fin 4) (x : Fin 128),
      (Fin' (q (ix3 b t ⟨a.val * 128 + x.val, by omega⟩)) ∧ Fin' (k (ix3 b t x))) ∧ Fin' (e (ix1 h)) := by
    intro h b t a x
    have hb := congrFun H (ix5 h b t a x)
    have e' : Pre_finite_scores.fn (F := Ideal) q k v e (ix5 h b t a x)
        = IntOp.andi (IntOp.andi
            (BitVec.ofBool (decide ((FloatOps.absf (F := Ideal) (φ := .f32) (q (ix3 b t ⟨a.val * 128 + x.val, by omega⟩)) : EReal) < Ideal.ofBits .f32 0x7F800000#32)))
            (BitVec.ofBool (decide ((FloatOps.absf (F := Ideal) (φ := .f32) (k (ix3 b t x)) : EReal) < Ideal.ofBits .f32 0x7F800000#32))))
          (BitVec.ofBool (decide ((FloatOps.absf (F := Ideal) (φ := .f32) (e (ix1 h)) : EReal) < Ideal.ofBits .f32 0x7F800000#32))) := by
      pointwise [Pre_finite_scores.fn]
    have hb' := e'.symm.trans hb
    have split : ∀ {u w : BitVec 1}, IntOp.andi u w = 1#1 → u = 1#1 ∧ w = 1#1 := by decide
    have ofB : ∀ {p : Bool}, BitVec.ofBool p = 1#1 → p = true := by decide
    have h1 := split hb'
    have h2 := split h1.1
    exact ⟨⟨In.fin_of_abs (ofB h2.1), In.fin_of_abs (ofB h2.2)⟩, In.fin_of_abs (ofB h1.2)⟩
  refine ⟨fun b t x => ?_, fun b t x => (key 0 b t 0 x).1.2, fun h => (key h 0 0 0 0).2⟩
  have hx : (⟨x.val / 128 * 128 + x.val % 128, by omega⟩ : Fin 512) = x := Fin.ext (by dsimp only; omega)
  have := (key 0 b t ⟨x.val / 128, by omega⟩ ⟨x.val % 128, by omega⟩).1.1
  simp only [hx] at this
  exact this

/-- A score of real queries and keys is real. -/
theorem score_ne (q k : Fin 64 → EReal) (h : Fin 8) (i : Fin 64) (j : Fin 192) (hq : ∀ x, Fin' (q x)) (hk : ∀ x, Fin' (k x)) :
    score q k (Swa.slope h) (dist i j) ≠ ⊤ := by
  have hS : Fin' SCALE := ⟨1 / 8, by simp [SCALE, Ideal.ofBits, Ideal.ieee, -EReal.coe_mul]; norm_num⟩
  obtain ⟨a, ha⟩ := fin_mul (fin_sum fun x => fin_mul (hq x) (hk x)) hS
  obtain ⟨b, hb⟩ := fin_mul ⟨_, SwaRef.slope_eq h⟩ (⟨_, rfl⟩ : Fin' (dist i j))
  unfold score
  rw [ha, hb, ← EReal.coe_sub]
  exact EReal.coe_ne_top _

theorem swa_split (q : (⟨3, ![4, 4096, 512]⟩ : Shape).Idx → EReal) (k v : (⟨3, ![4, 4096, 128]⟩ : Shape).Idx → EReal) (s : (⟨1, ![8]⟩ : Shape).Idx → EReal)
    (b : Fin 4) (C i : Fin 64) (g : Fin 2) (h : Fin 4) (d : Fin 64) :
    swa q k v s b ⟨64 * C.val + i.val, by omega⟩ ⟨4 * g.val + h.val, by omega⟩ d
      = att (fun j => if 64 * C.val + j.val < 128 then BOT
          else score (fun x => q (ix3 b ⟨64 * C.val + i.val, by omega⟩ ⟨64 * (4 * g.val + h.val) + x.val, by omega⟩))
            (fun x => k (ix3 b (row C j) ⟨64 * g.val + x.val, by omega⟩)) (Swa.slope ⟨4 * g.val + h.val, by omega⟩) (dist i j))
        (s (ix1 ⟨4 * g.val + h.val, by omega⟩)) (fun j => v (ix3 b (row C j) ⟨64 * g.val + d.val, by omega⟩)) := by
  have h1 : (64 * C.val + i.val) / 64 = C.val := by omega
  have h2 : (64 * C.val + i.val) % 64 = i.val := by omega
  have h3 : (4 * g.val + h.val) / 4 = g.val := by omega
  unfold swa
  simp only [h1, h2, h3, Fin.eta]

/-- The reference at an index, when queries, keys and sinks are finite: what stands in a masked key's place does not matter. -/
theorem ref_swa (q : FVec Ideal ReferenceSwaIdeal.S4x4096x512 .f32) (k v : FVec Ideal ReferenceSwaIdeal.S4x4096x128 .f32) (e : FVec Ideal ReferenceSwaIdeal.S8 .f32)
    (hq : ∀ (b : Fin 4) (t : Fin 4096) (x : Fin 512), Fin' (q (ix3 b t x))) (hk : ∀ (b : Fin 4) (t : Fin 4096) (x : Fin 128), Fin' (k (ix3 b t x)))
    (he : ∀ h : Fin 8, Fin' (e (ix1 h))) (b : Fin 4) (C i : Fin 64) (g : Fin 2) (h : Fin 4) (d : Fin 64) :
    SwaRef.REF q k v e (ix3 b ⟨64 * C.val + i.val, by omega⟩ ⟨64 * (4 * g.val + h.val) + d.val, by omega⟩)
      = swa q k v e b ⟨64 * C.val + i.val, by omega⟩ ⟨4 * g.val + h.val, by omega⟩ d := by
  rw [SwaRef.ref_at, swa_split]
  obtain ⟨r, hr⟩ := he ⟨4 * g.val + h.val, by omega⟩
  rw [hr]
  refine att_congr (fun j => ?_) fun j => ?_
  · split
    · rw [bot_eq]
      exact bot_ne_top
    · exact score_ne _ _ _ _ _ (fun x => hq _ _ _) fun x => hk _ _ _
  · by_cases hm : 64 * C.val + j.val < 128
    · left
      rw [if_pos hm, bot_eq]
    · right
      rw [if_neg hm]

variable (m : (ℓ : Loc KernelSwaIdeal.nD KernelSwaIdeal.τ KernelSwaIdeal.sig) → Buf (Elt Ideal) ℓ) (c : Dev KernelSwaIdeal.nD)

/-- What the call leaves is the reference's result. -/
theorem out_eq (H : Pre_finite_scores.fn (F := Ideal) (m (c.tc.loc KernelSwaIdeal.main_arg0)) (m (c.tc.loc KernelSwaIdeal.main_arg1))
      (m (c.tc.loc KernelSwaIdeal.main_arg2)) (m (c.tc.loc KernelSwaIdeal.main_arg3)) = fun _ => 1#1) :
    (KernelSwaIdeal.Gen.dats m 0 c).arrAt 6 KernelSwaIdeal.cfg0.N
      = SwaRef.REF (m (c.tc.loc KernelSwaIdeal.main_arg0)) (m (c.tc.loc KernelSwaIdeal.main_arg1)) (m (c.tc.loc KernelSwaIdeal.main_arg2)) (m (c.tc.loc KernelSwaIdeal.main_arg3)) := by
  obtain ⟨hq, hk, he⟩ := finite_of _ _ _ _ H
  refine (final_at m c).trans (funext fun y => ?_)
  have h1 : (y 1 : ℕ) < 4096 := (y 1).isLt
  have h2 : (y 2 : ℕ) < 512 := (y 2).isLt
  have hy : y = ix3 (y 0) ⟨64 * ((y 1 : ℕ) / 64) + (y 1 : ℕ) % 64, by omega⟩
      ⟨64 * (4 * ((y 2 : ℕ) / 256) + (y 2 : ℕ) / 64 % 4) + (y 2 : ℕ) % 64, by omega⟩ := by blk_ext
  refine Eq.trans ?_ ((congrArg _ hy).trans (ref_swa _ _ _ _ hq hk he (y 0) ⟨(y 1 : ℕ) / 64, by omega⟩ ⟨(y 1 : ℕ) % 64, by omega⟩
    ⟨(y 2 : ℕ) / 256, by omega⟩ ⟨(y 2 : ℕ) / 64 % 4, by omega⟩ ⟨(y 2 : ℕ) % 64, by omega⟩)).symm
  have e1 : (⟨64 * ((y 1 : ℕ) / 64) + (y 1 : ℕ) % 64, by omega⟩ : Fin 4096) = y 1 := Fin.ext (by dsimp only; omega)
  have e2 : (⟨4 * ((y 2 : ℕ) / 256) + (y 2 : ℕ) / 64 % 4, by omega⟩ : Fin 8) = ⟨(y 2 : ℕ) / 64, by omega⟩ := Fin.ext (by dsimp only; omega)
  dsimp only
  rw [e1, e2]

theorem frame : quiescent_KernelSwa := fun m ρ _ => KernelSwa.Gen.frame m ρ
theorem frame_ideal : quiescent_KernelSwaIdeal := fun m ρ _ => KernelSwaIdeal.Gen.frame m ρ
theorem frame_ideal_pre : quiescent_KernelSwaIdeal_pre_finite_scores := fun m ρ _ => KernelSwaIdeal.Gen.frame m ρ
theorem frame_ref : quiescent_ReferenceSwaIdeal := fun m ρ _ =>
  (θ_run ReferenceSwaIdeal.defs _ _).mono (fun r h => ⟨fun c => (h c).2,
      Idealize.ShloMosaic.sem_eq_zero_of_no_sems (by decide) r.2⟩)
    (ReferenceSwaIdeal.Value.run (F := Ideal) m ρ)
theorem frame_ref_pre : quiescent_ReferenceSwaIdeal_pre_finite_scores := fun m ρ _ => frame_ref m ρ trivial

theorem algebraic : algebraic_KernelSwaIdeal_ReferenceSwaIdeal_pre_finite_scores := by
  intro m g m' g' hpre hagree
  refine ⟨fun c => (KernelSwaIdeal.Gen.dats m 0 c).arrAt 6 KernelSwaIdeal.cfg0.N, ?_, ?_⟩
  · exact (θ_run KernelSwaIdeal.defs _ _).mono (fun r h c => h c)
      (KernelSwaIdeal.Value.run_blocks (F := Ideal) m g)
  · refine (θ_run ReferenceSwaIdeal.defs _ _).mono (fun r h c => ⟨(h c).1.trans ?_, (h c).2⟩)
      (ReferenceSwaIdeal.Value.run (F := Ideal) m' g')
    refine Eq.trans ?_ (out_eq m c (hpre c)).symm
    rw [← (hagree c).1, ← (hagree c).2.1, ← (hagree c).2.2.1, ← (hagree c).2.2.2]
    rfl

end Cert.Swa
-- ==== Proof.MemSpec.lean ====
/- Softmax attention over a memory, one output coordinate, on the extended reals. -/
module

public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MemAtt

/-- One output coordinate of softmax attention: a query row `q`, the keys' rows `k`, and the values' column `v`. -/
def attend (q : Fin 128 → EReal) (k : Fin 256 → Fin 128 → EReal) (v : Fin 256 → EReal) : EReal :=
  let s : Fin 256 → EReal := fun j => (∑ d, q d * k j d) * (((Real.sqrt 128)⁻¹ : ℝ) : EReal)
  let e : Fin 256 → EReal := fun j => Ideal.exp (s j - Finset.univ.fold max (Ideal.ofBits .f32 0xFF800000#32) s)
  ∑ j, Ideal.div (e j) (∑ l, e l) * v j

end Cert.MemAtt
-- ==== Proof.MemKernel.lean ====
/- The kernel's payloads for the memory attention, read at an index. -/
module

public import proofs.«01_k».proof.Proof.Gen.KernelMemIdeal.Value
public import proofs.«01_k».proof.Proof.MemSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MemAtt

open Cert.KernelMemIdeal Cert.KernelMemIdeal.Gen

/-- The kernel's scale, by its name, is the reciprocal of the root of 128. -/
theorem scale_eq : Named.named (F := Ideal) κ "mem_scale" (φ := .f32) 0x3DB504F3#32 = (((Real.sqrt 128)⁻¹ : ℝ) : EReal) :=
  IdealRules.named_const.ideal_named_scalar _ _ _ _ rfl

theorem pay1_at (a b c : Vec Ideal S1x256x128 .f32) (r : Fin 256) (d : Fin 128) :
    k0_pay1 a b c (ix3 0 r d) = attend (fun x => a (ix3 0 r x)) (fun j x => b (ix3 0 j x)) (fun j => c (ix3 0 j d)) := by
  pointwise [k0_pay1, attend, scale_eq]

theorem pay3_at (a b c : Vec Ideal S1x256x128 .f32) (r : Fin 256) (d : Fin 128) :
    k0_pay3 (k0_pay2 a b) c (ix3 0 r d) = attend (fun x => a (ix3 0 r x)) (fun j x => b (ix3 0 j x)) (fun j => c (ix3 0 j d)) := by
  pointwise [k0_pay3, k0_pay2, attend, scale_eq]

theorem pay5_at (a b c : Vec Ideal S1x256x128 .f32) (r : Fin 256) (d : Fin 128) :
    k0_pay5 (k0_pay4 a b) c (ix3 0 r d) = attend (fun x => a (ix3 0 r x)) (fun j x => b (ix3 0 j x)) (fun j => c (ix3 0 j d)) := by
  pointwise [k0_pay5, k0_pay4, attend, scale_eq]

theorem pay6_at (a b c : Vec Ideal S1x256x128 .f32) (r : Fin 256) (d : Fin 128) :
    k0_pay6 a b c (ix3 0 r d) = attend (fun x => a (ix3 0 r x)) (fun j x => b (ix3 0 j x)) (fun j => c (ix3 0 j d)) := by
  pointwise [k0_pay6, attend, scale_eq]

theorem attend_congr {q q' : Fin 128 → EReal} {k k' : Fin 256 → Fin 128 → EReal} {v v' : Fin 256 → EReal}
    (hq : ∀ x, q x = q' x) (hk : ∀ j x, k j x = k' j x) (hv : ∀ j, v j = v' j) : attend q k v = attend q' k' v' := by
  obtain rfl : q = q' := funext hq
  obtain rfl : k = k' := funext fun j => funext (hk j)
  obtain rfl : v = v' := funext hv
  rfl

theorem out_at (x0 x1 x2 : Vec Ideal S1x256x512 .f32) (h : Fin 4) (r : Fin 256) (d : Fin 128) (i : S1x256x512.Idx)
    (h1 : (i 1 : ℕ) = r) (h2 : (i 2 : ℕ) = h.val * 128 + d.val) :
    out0_3 x0 x1 x2 i = attend (fun x => x0 (ix3 0 r ⟨h.val * 128 + x.val, by omega⟩))
      (fun j x => x1 (ix3 0 j ⟨h.val * 128 + x.val, by omega⟩)) (fun j => x2 (ix3 0 j ⟨h.val * 128 + d.val, by omega⟩)) := by
  unfold out0_3
  canon_tiles x hx
  all_goals
    obtain rfl : x = ix3 0 r d := by blk_ext
    first | rw [pay6_at] | rw [pay5_at] | rw [pay3_at] | rw [pay1_at]
    refine attend_congr (fun x => ?_) (fun j x => ?_) (fun j => ?_) <;> pointwise <;> blk_ext

theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0] ∧ t.val / 16 < 4 :=
  (by decide +kernel : ∀ t : Fin grid0.N, _)

variable (m : (ℓ : Loc nD τ sig) → Buf (Elt Ideal) ℓ)

/-- The result array after the run, at query `t` of batch `b`, coordinate `d` of head `h`. -/
theorem final_at (c : Dev nD) : (dats m 0 c).arrAt 3 (cfgs 0).N = fun i : S4x4096x512.Idx =>
      attend (fun x => m ((c : Thread nD τ).loc main_arg0) (ix3 (i 0) (i 1) ⟨(i 2).val / 128 * 128 + x.val, by idx_bounds; omega⟩))
      (fun j x => m ((c : Thread nD τ).loc main_arg1) (ix3 (i 0) j ⟨(i 2).val / 128 * 128 + x.val, by idx_bounds; omega⟩))
      (fun j => m ((c : Thread nD τ).loc main_arg2) (ix3 (i 0) j (i 2))) := by
  refine (dats m 0 c).arrAt_eq_of_covers 3 _ (by decide +kernel) fun t _ y => ?_
  blk_simp
  rw [after0_3]
  idx_bounds y
  refine (out_at _ _ _ ⟨(y 2 : ℕ) / 128, by omega⟩ ⟨(y 1 : ℕ), by omega⟩ ⟨(y 2 : ℕ) % 128, by omega⟩ y rfl (by dsimp only; omega)).trans ?_
  refine attend_congr (fun x => ?_) (fun j x => ?_) (fun j => ?_)
  all_goals blk_ext [iblk, V, idx t]

end Cert.MemAtt
-- ==== Proof.MemRef.lean ====
/- The reference's term for the memory attention, read at an index. -/
module

public import proofs.«01_k».proof.Proof.Gen.ReferenceMemIdeal.Run
public import proofs.«01_k».proof.Proof.MemSpec

@[expose] public section

set_option maxRecDepth 16384

noncomputable section

open Idealize.ShloMosaic Idealize.ShloMosaic.TcCoe Idealize.SL.Sem
open Idealize.ShloMosaic.Pipeline (Dat)
open scoped BigOperators

namespace Cert.MemAtt

open Cert.ReferenceMemIdeal Cert.ReferenceMemIdeal.Gen

/-- The reference's scaled scores: batch, head, query, key. -/
abbrev scores (Q : FVec Ideal S4x4096x512 .f32) (K : FVec Ideal S4x256x512 .f32) : FVec Ideal S4x4x4096x256 .f32 :=
  Host.divf (Host.dotGeneral dot_S4x4096x4x128_S4x256x4x128_S4x4x4096x256_3_3_1_1_02_02 none
      (shapeCast S4x4096x4x128 Q shapeCasts_S4x4096x512_S4x4096x4x128) (shapeCast S4x256x4x128 K shapeCasts_S4x256x512_S4x256x4x128))
    (broadcastInDim S4x4x4096x256 ![] bcast_S_S4x4x4096x256 (Host.sqrt (constant S_ .f32 0x43000000#32)))

/-- A row statistic laid along its row again. -/
abbrev along (x : FVec Ideal S4x4x4096 .f32) : FVec Ideal S4x4x4096x256 .f32 :=
  broadcastInDim S4x4x4096x256 ![0, 1, 2, 3] bcast_S4x4x4096x1_S4x4x4096x256_0_1_2_3
    (broadcastInDim S4x4x4096x1 ![0, 1, 2] bcast_S4x4x4096_S4x4x4096x1_0_1_2 x)

/-- The exponentials of the scores less their row's greatest. -/
abbrev exps (S : FVec Ideal S4x4x4096x256 .f32) : FVec Ideal S4x4x4096x256 .f32 :=
  Host.exp (subf S (along (maximumf (broadcastInDim S4x4x4096 ![] bcast_S_S4x4x4096 (constant S_ .f32 0xFF800000#32))
    (Host.reduce FloatOps.maximumf S (constant S_ .f32 0xFF800000#32) reducesTo_S4x4x4096x256_S4x4x4096_d3 h_S_))))

/-- The reference's result. -/
abbrev REF (Q : FVec Ideal S4x4096x512 .f32) (K V : FVec Ideal S4x256x512 .f32) :
    FVec Ideal S4x4096x512 .f32 :=
  shapeCast _ (transpose S4x4096x4x128 [0, 3, 1, 2]
      (Host.dotGeneral dot_S4x256x4x128_S4x4x4096x256_S4x4x128x4096_1_3_3_2_02_01 none
        (shapeCast S4x256x4x128 V shapeCasts_S4x256x512_S4x256x4x128)
        (Host.divf (exps (scores Q K)) (along (Host.reduceAdd (exps (scores Q K)) (constant S_ .f32 0x00000000#32)
          reducesTo_S4x4x4096x256_S4x4x4096_d3 h_S_))))
      transposes_S4x4x128x4096_S4x4096x4x128_0_3_1_2) shapeCasts_S4x4096x4x128_S4x4096x512

/-- The word of 128.0 denotes 128. -/
theorem word_128 : Ideal.ofBits .f32 0x43000000#32 = ((128 : ℝ) : EReal) := by
  simp [Ideal.ofBits, Ideal.ieee, -EReal.coe_mul]; norm_num

/-- Division by the root of 128 is multiplication by its reciprocal. -/
theorem div_root (x : EReal) : Ideal.div x (Ideal.sqrt (Ideal.ofBits .f32 0x43000000#32)) = x * (((Real.sqrt 128)⁻¹ : ℝ) : EReal) := by
  rw [word_128, Ideal.sqrt_coe, if_neg (by norm_num), Ideal.div_coe (Real.sqrt_pos.mpr (by norm_num)).ne', one_div]

theorem scores_at (Q : FVec Ideal S4x4096x512 .f32) (K : FVec Ideal S4x256x512 .f32) (b : Fin 4) (h : Fin 4) (t : Fin 4096) (j : Fin 256) :
    scores Q K (ix4 b h t j) = (∑ x : Fin 128, Q (ix3 b t ⟨h.val * 128 + x.val, by omega⟩) * K (ix3 b j ⟨h.val * 128 + x.val, by omega⟩))
      * (((Real.sqrt 128)⁻¹ : ℝ) : EReal) := by
  rw [← div_root]
  pointwise [scores]

theorem red_at (S : FVec Ideal S4x4x4096x256 .f32) (b h : Fin 4) (t : Fin 4096) :
    Host.reduce FloatOps.maximumf S (constant S_ .f32 0xFF800000#32) reducesTo_S4x4x4096x256_S4x4x4096_d3 h_S_ (ix3 b h t) = Finset.univ.fold max (Ideal.ofBits .f32 0xFF800000#32) (fun l : Fin 256 => S (ix4 b h t l)) := by
  pointwise

theorem along_at (S : FVec Ideal S4x4x4096 .f32) (b h : Fin 4) (t : Fin 4096) (j : Fin 256) :
    along S (ix4 b h t j) = S (ix3 b h t) := by
  pointwise [along]

theorem le_fold (s : Fin 256 → EReal) (b : EReal) : max b (Finset.univ.fold max b s) = Finset.univ.fold max b s :=
  max_eq_right (Finset.le_fold_max b |>.mpr (Or.inl le_rfl))

theorem exps_gen (S : FVec Ideal S4x4x4096x256 .f32) (X : FVec Ideal S4x4x4096 .f32) (b h : Fin 4) (t : Fin 4096) (j : Fin 256) :
    Host.exp (subf S (along (maximumf (broadcastInDim S4x4x4096 ![] bcast_S_S4x4x4096 (constant S_ .f32 0xFF800000#32)) X)))
      (ix4 b h t j) = Ideal.exp (S (ix4 b h t j) - max (Ideal.ofBits .f32 0xFF800000#32) (X (ix3 b h t))) := by
  pointwise [along]

theorem exps_at (S : FVec Ideal S4x4x4096x256 .f32) (b h : Fin 4) (t : Fin 4096) (j : Fin 256) :
    exps S (ix4 b h t j) = Ideal.exp (S (ix4 b h t j)
      - Finset.univ.fold max (Ideal.ofBits .f32 0xFF800000#32) (fun l : Fin 256 => S (ix4 b h t l))) := by
  unfold exps
  rw [exps_gen, red_at, le_fold]

theorem lay_at (G : FVec Ideal S4x4x128x4096 .f32) (b h : Fin 4) (t : Fin 4096) (d : Fin 128) :
    shapeCast S4x4096x512 (transpose S4x4096x4x128 [0, 3, 1, 2] G transposes_S4x4x128x4096_S4x4096x4x128_0_3_1_2)
      shapeCasts_S4x4096x4x128_S4x4096x512 (ix3 b t ⟨h.val * 128 + d.val, by omega⟩) = G (ix4 b h d t) := by
  pointwise

theorem dot_at (V : FVec Ideal S4x256x512 .f32) (E : FVec Ideal S4x4x4096x256 .f32) (b h : Fin 4) (t : Fin 4096) (d : Fin 128) :
      (Host.dotGeneral dot_S4x256x4x128_S4x4x4096x256_S4x4x128x4096_1_3_3_2_02_01 none
        (shapeCast S4x256x4x128 V shapeCasts_S4x256x512_S4x256x4x128)
        (Host.divf E (along (Host.reduceAdd E (constant S_ .f32 0x00000000#32)
          reducesTo_S4x4x4096x256_S4x4x4096_d3 h_S_)))) (ix4 b h d t)
    = ∑ j : Fin 256, Ideal.div (E (ix4 b h t j)) (∑ l : Fin 256, E (ix4 b h t l)) * V (ix3 b j ⟨h.val * 128 + d.val, by omega⟩) := by
  pointwise [along]
  exact Finset.sum_congr rfl fun k _ => mul_comm _ _

theorem ref_at (Q : FVec Ideal S4x4096x512 .f32) (K V : FVec Ideal S4x256x512 .f32) (b : Fin 4) (t : Fin 4096) (h : Fin 4) (d : Fin 128) :
    REF Q K V (ix3 b t ⟨h.val * 128 + d.val, by omega⟩) = attend (fun x => Q (ix3 b t ⟨h.val * 128 + x.val, by omega⟩))
      (fun j x => K (ix3 b j ⟨h.val * 128 + x.val, by omega⟩)) (fun j => V (ix3 b j ⟨h.val * 128 + d.val, by omega⟩)) := by
  refine (lay_at _ b h t d).trans ((dot_at V (exps (scores Q K)) b h t d).trans ?_)
  simp only [exps_at, scores_at]
  rfl

end Cert.MemAtt
-- ==== Proof.MemClaim.lean ====
/- The memory cross-attention call: its claims. -/
module

public import proofs.«01_k».proof.Defs
public import proofs.«01_k».proof.Proof.MemKernel
public import proofs.«01_k».proof.Proof.MemRef
public import proofs.«01_k».proof.Proof.Gen.KernelMem.Frame
public import Idealize.ShloMosaic.Lib.Quiescent

@[expose] public section

set_option maxRecDepth 16384

noncomputable section

open Idealize.ShloMosaic Idealize.ShloMosaic.TcCoe Idealize.SL.Sem

namespace Cert.MemAtt

/-- The call's result array is the reference's term of the arguments. -/
theorem final_ref (m : (ℓ : Loc Cert.KernelMemIdeal.nD Cert.KernelMemIdeal.τ Cert.KernelMemIdeal.sig) → Buf (Elt Ideal) ℓ) (c : Dev Cert.KernelMemIdeal.nD) :
    (Cert.KernelMemIdeal.Gen.dats m 0 c).arrAt 3 Cert.KernelMemIdeal.cfg0.N
      = REF (m ((c : Thread Cert.KernelMemIdeal.nD Cert.KernelMemIdeal.τ).loc Cert.KernelMemIdeal.main_arg0))
          (m ((c : Thread Cert.KernelMemIdeal.nD Cert.KernelMemIdeal.τ).loc Cert.KernelMemIdeal.main_arg1))
          (m ((c : Thread Cert.KernelMemIdeal.nD Cert.KernelMemIdeal.τ).loc Cert.KernelMemIdeal.main_arg2)) := by
  refine (final_at m c).trans (funext fun i => ?_)
  have h2 : (i 2 : ℕ) < 512 := (i 2).isLt
  have hi : i = ix3 (i 0) (i 1) ⟨(i 2 : ℕ) / 128 * 128 + (i 2 : ℕ) % 128, by omega⟩ := by blk_ext
  rw [hi]
  refine Eq.trans ?_ (ref_at _ _ _ (i 0) (i 1) ⟨(i 2 : ℕ) / 128, by omega⟩ ⟨(i 2 : ℕ) % 128, by omega⟩).symm
  refine attend_congr (fun x => ?_) (fun j x => ?_) (fun j => ?_)
  all_goals blk_ext

theorem frame : Cert.quiescent_KernelMem := fun m ρ _ => Cert.KernelMem.Gen.frame m ρ
theorem frame_ideal : Cert.quiescent_KernelMemIdeal := fun m ρ _ => Cert.KernelMemIdeal.Gen.frame m ρ
theorem frame_ref : Cert.quiescent_ReferenceMemIdeal := fun m ρ _ =>
  (θ_run Cert.ReferenceMemIdeal.defs _ _).mono (fun r h => ⟨fun c => (h c).2,
      Idealize.ShloMosaic.sem_eq_zero_of_no_sems (by decide) r.2⟩)
    (Cert.ReferenceMemIdeal.Value.run (F := Ideal) m ρ)

/-- The one constant that the ideal program names is the value that its table gives it. -/
theorem preserves : Cert.preserves_KernelMem_KernelMemIdeal :=
  IdealRules.named_const.statement Cert.KernelMemIdeal.κ "mem_scale" .f32 0x3DB504F3#32 (((Real.sqrt 128)⁻¹ : ℝ) : EReal) rfl

theorem algebraic : Cert.algebraic_KernelMemIdeal_ReferenceMemIdeal := by
  intro m g m' g' _ hagree
  refine ⟨fun c => (Cert.KernelMemIdeal.Gen.dats m 0 c).arrAt 3 Cert.KernelMemIdeal.cfg0.N, ?_, ?_⟩
  · exact (θ_run Cert.KernelMemIdeal.defs _ _).mono (fun r h c => h c)
      (Cert.KernelMemIdeal.Value.run_blocks (F := Ideal) m g)
  · refine (θ_run Cert.ReferenceMemIdeal.defs _ _).mono (fun r h c => ⟨(h c).1.trans ?_, (h c).2⟩)
      (Cert.ReferenceMemIdeal.Value.run (F := Ideal) m' g')
    rw [(hagree c).1, (hagree c).2.1, (hagree c).2.2]
    exact (final_ref m c).symm

end Cert.MemAtt

end
-- ==== Proof.MergeSpec.lean ====
/- The gated merge of the three branches at one output coordinate. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Merge

/-- One branch's row through its matrix, gated. -/
def branch (g : EReal) (o w : Fin 512 → EReal) : EReal := g * ∑ c, o c * w c

/-- The residual and the merged branches through the output matrix. -/
def merge (x : EReal) (a b c : Fin 512 → EReal) (g : Fin 3 → Fin 1024 → EReal) (w : Fin 3 → Fin 512 → Fin 1024 → EReal)
    (wo : Fin 1024 → EReal) : EReal :=
  x + ∑ e, (branch (g 0 e) a (fun i => w 0 i e) + branch (g 1 e) b (fun i => w 1 i e) + branch (g 2 e) c (fun i => w 2 i e)) * wo e

theorem merge_congr {x x' : EReal} {a a' b b' c c' : Fin 512 → EReal} {g g' : Fin 3 → Fin 1024 → EReal}
    {w w' : Fin 3 → Fin 512 → Fin 1024 → EReal} {wo wo' : Fin 1024 → EReal} (hx : x = x') (ha : ∀ i, a i = a' i) (hb : ∀ i, b i = b' i)
    (hc : ∀ i, c i = c' i) (hg : ∀ n e, g n e = g' n e) (hw : ∀ n i e, w n i e = w' n i e) (ho : ∀ e, wo e = wo' e) :
    merge x a b c g w wo = merge x' a' b' c' g' w' wo' := by
  obtain rfl : a = a' := funext ha
  obtain rfl : b = b' := funext hb
  obtain rfl : c = c' := funext hc
  obtain rfl : g = g' := funext fun n => funext (hg n)
  obtain rfl : w = w' := funext fun n => funext fun i => funext (hw n i)
  obtain rfl : wo = wo' := funext ho
  rw [hx]

end Cert.Merge
-- ==== Proof.MergeKernel.lean ====
/- The gated merge: the kernel, read at an index. -/
module

public import proofs.«01_k».proof.Proof.Gen.KernelMergeIdeal.Value
public import proofs.«01_k».proof.Proof.MergeSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Merge

open Cert.KernelMergeIdeal Cert.KernelMergeIdeal.Gen

theorem pay3_at (o : Vec Ideal S1x256x512 .f32) (w : Vec Ideal S1x512x1024 .bf16) (g : Vec Ideal S1x256x1024 .f32) (r : Fin 256) (e : Fin 1024) :
    k0_pay3 o w g (ix2 r e) = branch (g (ix3 0 r e)) (fun i => o (ix3 0 r i)) (fun i => w (ix3 0 i e)) := by
  pointwise [k0_pay3, branch]

theorem pay2_at (o : Vec Ideal S1x256x512 .f32) (w : Vec Ideal S1x512x1024 .bf16) (g : Vec Ideal S1x256x1024 .f32)
    (o' : Vec Ideal S1x256x512 .f32) (w' : Vec Ideal S1x512x1024 .bf16) (g' : Vec Ideal S1x256x1024 .f32) (r : Fin 256) (e : Fin 1024) :
    k0_pay2 o w g o' w' g' (ix2 r e) = branch (g (ix3 0 r e)) (fun i => o (ix3 0 r i)) (fun i => w (ix3 0 i e))
      + branch (g' (ix3 0 r e)) (fun i => o' (ix3 0 r i)) (fun i => w' (ix3 0 i e)) := by
  pointwise [k0_pay2, branch]

theorem pay1_at (p q : FVec Ideal S256x1024 .f32) (x : Vec Ideal S1x256x1024 .f32) (wo : Vec Ideal S1024x1024 .bf16) (r : Fin 256) (d : Fin 1024) :
    k0_pay1 p q x wo (ix3 0 r d) = x (ix3 0 r d) + ∑ e : Fin 1024, (p (ix2 r e) + q (ix2 r e)) * wo (ix2 e d) := by
  pointwise [k0_pay1]

/-- A gate load reads its branch's 1024 columns. -/
theorem gate_at (x4 : Vec Ideal S1x256x3072 .f32) (r : Fin 256) (e : Fin 1024) :
    View.ld x4 r0_2 (ix3 0 r e) = x4 (ix3 0 r ⟨(0 : Fin 3).val * 1024 + e.val, by have := e.isLt; simp; omega⟩)
    ∧ View.ld x4 r0_4 (ix3 0 r e) = x4 (ix3 0 r ⟨(1 : Fin 3).val * 1024 + e.val, by have := e.isLt; simp; omega⟩)
    ∧ View.ld x4 r0_6 (ix3 0 r e) = x4 (ix3 0 r ⟨(2 : Fin 3).val * 1024 + e.val, by have := e.isLt; simp; omega⟩) := by
  refine ⟨?_, ?_, ?_⟩ <;> pointwise <;> blk_ext

/-- A weight load reads its branch's matrix. -/
theorem weight_at (x5 : Vec Ideal S3x512x1024 .bf16) (i : Fin 512) (e : Fin 1024) :
    View.ld x5 r0_1 (ix3 0 i e) = x5 (ix3 0 i e) ∧ View.ld x5 r0_3 (ix3 0 i e) = x5 (ix3 1 i e)
    ∧ View.ld x5 r0_5 (ix3 0 i e) = x5 (ix3 2 i e) := by
  refine ⟨?_, ?_, ?_⟩ <;> pointwise <;> blk_ext

/-- The other loads read their whole block. -/
theorem whole_at (x : Vec Ideal S1x256x512 .f32) (x' : Vec Ideal S1x256x1024 .f32) (x'' : Vec Ideal S1024x1024 .bf16)
    (r : Fin 256) (c : Fin 512) (d e : Fin 1024) :
    View.ld x r0_0 (ix3 0 r c) = x (ix3 0 r c) ∧ View.ld x' r0_7 (ix3 0 r d) = x' (ix3 0 r d)
    ∧ View.ld x'' r0_8 (ix2 e d) = x'' (ix2 e d) := by
  refine ⟨?_, ?_, ?_⟩ <;> pointwise <;> blk_ext

theorem out_at (x0 : Vec Ideal S1x256x1024 .f32) (x1 x2 x3 : Vec Ideal S1x256x512 .f32) (x4 : Vec Ideal S1x256x3072 .f32)
    (x5 : Vec Ideal S3x512x1024 .bf16) (x6 : Vec Ideal S1024x1024 .bf16) (r : Fin 256) (d : Fin 1024) (i : S1x256x1024.Idx)
    (h1 : (i 1 : ℕ) = r) (h2 : (i 2 : ℕ) = d.val) :
    out0_7 x0 x1 x2 x3 x4 x5 x6 i = merge (x0 (ix3 0 r d)) (fun c => x1 (ix3 0 r c)) (fun c => x2 (ix3 0 r c)) (fun c => x3 (ix3 0 r c))
      (fun n e => x4 (ix3 0 r ⟨n.val * 1024 + e.val, by omega⟩)) (fun n i e => x5 (ix3 n i e)) (fun e => x6 (ix2 e d)) := by
  unfold out0_7
  canon_tiles x hx
  obtain rfl : x = ix3 0 r d := by blk_ext
  rw [pay1_at]
  simp only [pay2_at, pay3_at, (whole_at x1 x0 x6 _ _ 0 0).1, (whole_at x2 x0 x6 _ _ 0 0).1, (whole_at x3 x0 x6 _ _ 0 0).1, (whole_at x1 x0 x6 _ 0 _ 0).2.1, (whole_at x1 x0 x6 0 0 _ _).2.2, (gate_at x4 _ _).1, (gate_at x4 _ _).2.1, (gate_at x4 _ _).2.2,
    (weight_at x5 _ _).1, (weight_at x5 _ _).2.1, (weight_at x5 _ _).2.2]
  rfl

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16, 0] ∧ win0_5.index t = ![0, 0, 0] ∧ win0_6.index t = ![0, 0]
    ∧ win0_7.index t = ![t.val / 16, t.val % 16, 0] ∧ t.val / 16 < 4 :=
  (by decide +kernel : ∀ t : Fin grid0.N, _)

variable (m : (ℓ : Loc nD τ sig) → Buf (Elt Ideal) ℓ)

/-- The result array after the run, at coordinate `i 2` of token `i 1` of batch `i 0`. -/
theorem final_at (c : Dev nD) : (dats m 0 c).arrAt 7 (cfgs 0).N = fun i : S4x4096x1024.Idx =>
    merge (m (c.tc.loc main_arg0) (ix3 (i 0) (i 1) (i 2))) (fun x => m (c.tc.loc main_arg1) (ix3 (i 0) (i 1) x))
      (fun x => m (c.tc.loc main_arg2) (ix3 (i 0) (i 1) x)) (fun x => m (c.tc.loc main_arg3) (ix3 (i 0) (i 1) x))
      (fun n e => m (c.tc.loc main_arg4) (ix3 (i 0) (i 1) ⟨n.val * 1024 + e.val, by omega⟩))
      (fun n x e => m (c.tc.loc main_arg5) (ix3 n x e)) (fun e => m (c.tc.loc main_arg6) (ix2 e (i 2))) := by
  refine (dats m 0 c).arrAt_eq_of_covers 7 _ (by decide +kernel) fun t _ y => ?_
  blk_simp
  rw [after0_7]
  idx_bounds y
  refine (out_at _ _ _ _ _ _ _ ⟨(y 1 : ℕ), by omega⟩ ⟨(y 2 : ℕ), by omega⟩ y rfl rfl).trans ?_
  refine merge_congr ?_ (fun x => ?_) (fun x => ?_) (fun x => ?_) (fun n e => ?_) (fun n x e => ?_) (fun e => ?_)
  all_goals first | blk_point [iblk, V, idx t] | blk_ext [iblk, V, idx t]

end Cert.Merge
-- ==== Proof.MergeRef.lean ====
/- The gated merge: the reference, read at an index. -/
module

public import proofs.«01_k».proof.Proof.Gen.ReferenceMergeIdeal.Run
public import proofs.«01_k».proof.Proof.MergeSpec

@[expose] public section

set_option maxRecDepth 16384

noncomputable section

open Idealize.ShloMosaic Idealize.ShloMosaic.TcCoe Idealize.SL.Sem
open Idealize.ShloMosaic.Pipeline (Dat)
open scoped BigOperators

namespace Cert.Merge

open Cert.ReferenceMergeIdeal Cert.ReferenceMergeIdeal.Gen

/-- A branch laid as one of three. -/
abbrev lay (o : FVec Ideal S4x4096x512 .f32) : FVec Ideal S4x4096x1x512 .f32 :=
  broadcastInDim S4x4096x1x512 ![0, 1, 3] bcast_S4x4096x512_S4x4096x1x512_0_1_3 o

/-- The three branches, stacked. -/
abbrev stack (a b c : FVec Ideal S4x4096x512 .f32) : FVec Ideal S4x4096x3x512 .f32 :=
  concatenate S4x4096x3x512 2 [⟨S4x4096x1x512, (lay a : (⟨S4x4096x1x512, .f32⟩ : BufTy).Contents (Elt Ideal))⟩,
    ⟨S4x4096x1x512, (lay b : (⟨S4x4096x1x512, .f32⟩ : BufTy).Contents (Elt Ideal))⟩,
    ⟨S4x4096x1x512, (lay c : (⟨S4x4096x1x512, .f32⟩ : BufTy).Contents (Elt Ideal))⟩] concatenates_S4x4096x1x512_S4x4096x1x512_S4x4096x1x512_S4x4096x3x512_d2

/-- The gated branches. -/
abbrev gated (G : FVec Ideal S4x4096x3072 .f32) (W : FVec Ideal S3x512x1024 .f32) (S : FVec Ideal S4x4096x3x512 .f32) : FVec Ideal S4x4096x3x1024 .f32 :=
  mulf (shapeCast _ G shapeCasts_S4x4096x3072_S4x4096x3x1024) (transpose S4x4096x3x1024 [2, 3, 0, 1]
    (Host.dotGeneral dot_S3x512x1024_S4x4096x3x512_S3x1024x4x4096_1_3_2_01_0_2 none W S) transposes_S3x1024x4x4096_S4x4096x3x1024_2_3_0_1)

/-- The reference's result. -/
abbrev REF (X : FVec Ideal S4x4096x1024 .f32) (A B C : FVec Ideal S4x4096x512 .f32) (G : FVec Ideal S4x4096x3072 .f32)
    (W : FVec Ideal S3x512x1024 .f32) (O : FVec Ideal S1024x1024 .f32) : FVec Ideal S4x4096x1024 .f32 :=
  addf X (Host.dotGeneral dot_S4x4096x1024_S1024x1024_S4x4096x1024_2_0_01_1_n_n none
    (Host.reduceAdd (gated G W (stack A B C)) (constant S_ .f32 0x00000000#32) reducesTo_S4x4096x3x1024_S4x4096x1024_d2 h_S_) O)

theorem stack_at (a b c : FVec Ideal S4x4096x512 .f32) (n : Fin 4) (t : Fin 4096) (i : Fin 512) :
    stack a b c (ix4 n t 0 i) = a (ix3 n t i) ∧ stack a b c (ix4 n t 1 i) = b (ix3 n t i) ∧ stack a b c (ix4 n t 2 i) = c (ix3 n t i) := by
  refine ⟨?_, ?_, ?_⟩ <;> pointwise [stack, lay]

theorem gated_at (G : FVec Ideal S4x4096x3072 .f32) (W : FVec Ideal S3x512x1024 .f32) (S : FVec Ideal S4x4096x3x512 .f32)
    (n : Fin 4) (t : Fin 4096) (k : Fin 3) (e : Fin 1024) :
    gated G W S (ix4 n t k e) = branch (G (ix3 n t ⟨k.val * 1024 + e.val, by omega⟩)) (fun i => S (ix4 n t k i)) (fun i => W (ix3 k i e)) := by
  pointwise [gated, branch]
  exact congrArg _ (Finset.sum_congr rfl fun i _ => mul_comm _ _)

theorem outer_at (X : FVec Ideal S4x4096x1024 .f32) (Z : FVec Ideal S4x4096x1024 .f32) (O : FVec Ideal S1024x1024 .f32)
    (n : Fin 4) (t : Fin 4096) (d : Fin 1024) :
    addf X (Host.dotGeneral dot_S4x4096x1024_S1024x1024_S4x4096x1024_2_0_01_1_n_n none Z O) (ix3 n t d)
      = X (ix3 n t d) + ∑ e : Fin 1024, Z (ix3 n t e) * O (ix2 e d) := by
  pointwise

theorem sum_at (Z : FVec Ideal S4x4096x3x1024 .f32) (n : Fin 4) (t : Fin 4096) (e : Fin 1024) :
    Host.reduceAdd Z (constant S_ .f32 0x00000000#32) reducesTo_S4x4096x3x1024_S4x4096x1024_d2 h_S_ (ix3 n t e)
      = Z (ix4 n t 0 e) + Z (ix4 n t 1 e) + Z (ix4 n t 2 e) := by
  pointwise
  exact Fin.sum_univ_three _

theorem ref_at (X : FVec Ideal S4x4096x1024 .f32) (A B C : FVec Ideal S4x4096x512 .f32) (G : FVec Ideal S4x4096x3072 .f32)
    (W : FVec Ideal S3x512x1024 .f32) (O : FVec Ideal S1024x1024 .f32) (n : Fin 4) (t : Fin 4096) (d : Fin 1024) :
    REF X A B C G W O (ix3 n t d) = merge (X (ix3 n t d)) (fun c => A (ix3 n t c)) (fun c => B (ix3 n t c)) (fun c => C (ix3 n t c))
      (fun k e => G (ix3 n t ⟨k.val * 1024 + e.val, by omega⟩)) (fun k i e => W (ix3 k i e)) (fun e => O (ix2 e d)) := by
  refine (outer_at X _ O n t d).trans ?_
  simp only [sum_at, gated_at, (stack_at A B C _ _ _).1, (stack_at A B C _ _ _).2.1, (stack_at A B C _ _ _).2.2]
  rfl

end Cert.Merge
-- ==== Proof.MergeClaim.lean ====
/- The gated merge: the claims. -/
module

public import proofs.«01_k».proof.Defs
public import proofs.«01_k».proof.Proof.MergeKernel
public import proofs.«01_k».proof.Proof.MergeRef
public import proofs.«01_k».proof.Proof.Gen.KernelMerge.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Merge

open Cert

/-- The call's result array is the reference's term of the arguments. -/
theorem final_ref (m : (ℓ : Loc KernelMergeIdeal.nD KernelMergeIdeal.τ KernelMergeIdeal.sig) → Buf (Elt Ideal) ℓ) (c : Dev KernelMergeIdeal.nD) :
    (KernelMergeIdeal.Gen.dats m 0 c).arrAt 7 KernelMergeIdeal.cfg0.N
      = REF (m (c.tc.loc KernelMergeIdeal.main_arg0)) (m (c.tc.loc KernelMergeIdeal.main_arg1)) (m (c.tc.loc KernelMergeIdeal.main_arg2))
          (m (c.tc.loc KernelMergeIdeal.main_arg3)) (m (c.tc.loc KernelMergeIdeal.main_arg4)) (m (c.tc.loc KernelMergeIdeal.main_arg5))
          (m (c.tc.loc KernelMergeIdeal.main_arg6)) := by
  refine (final_at m c).trans (funext fun i => ?_)
  have hi : i = ix3 (i 0) (i 1) (i 2) := by blk_ext
  refine Eq.trans ?_ ((congrArg _ hi).trans (ref_at _ _ _ _ _ _ _ (i 0) (i 1) (i 2))).symm
  rfl

theorem frame : quiescent_KernelMerge := fun m ρ _ => KernelMerge.Gen.frame m ρ
theorem frame_ideal : quiescent_KernelMergeIdeal := fun m ρ _ => KernelMergeIdeal.Gen.frame m ρ
theorem frame_ref : quiescent_ReferenceMergeIdeal := fun m ρ _ =>
  (θ_run ReferenceMergeIdeal.defs _ _).mono (fun r h => ⟨fun c => (h c).2,
      Idealize.ShloMosaic.sem_eq_zero_of_no_sems (by decide) r.2⟩)
    (ReferenceMergeIdeal.Value.run (F := Ideal) m ρ)

theorem algebraic : algebraic_KernelMergeIdeal_ReferenceMergeIdeal := by
  intro m g m' g' _ hagree
  refine ⟨fun c => (KernelMergeIdeal.Gen.dats m 0 c).arrAt 7 KernelMergeIdeal.cfg0.N, ?_, ?_⟩
  · exact (θ_run KernelMergeIdeal.defs _ _).mono (fun r h c => h c) (KernelMergeIdeal.Value.run_blocks (F := Ideal) m g)
  · refine (θ_run ReferenceMergeIdeal.defs _ _).mono (fun r h c => ⟨(h c).1.trans ?_, (h c).2⟩)
      (ReferenceMergeIdeal.Value.run (F := Ideal) m' g')
    obtain ⟨h0, h1, h2, h3, h4, h5, h6⟩ := hagree c
    rw [h0, h1, h2, h3, h4, h5, h6]
    exact (final_ref m c).symm

end Cert.Merge
-- ==== Proof.FfnSpec.lean ====
/- The feed-forward block: what one of its results is. -/
module

public import proofs.«01_k».proof.Proof.RowSpec

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row

/-- The three taps of the convolution over tokens, and its bias. -/
def conv (w₀ w₁ w₂ bias two one z : EReal) : EReal := bias + two * w₀ + one * w₁ + z * w₂

/-- The gate `gelu c`, in its tanh form, times `u`. -/
def act (c u : EReal) : EReal :=
  Ideal.ofBits .f32 0x3F000000#32 * c * (1 + Ideal.tanh (Ideal.ofBits .f32 0x3F4C422A#32
    * (c + Ideal.ofBits .f32 0x3D372713#32 * (c * c * c)))) * u

/-- One token back, in a tile of 256 whose two tokens before it are `C`. -/
def back1 (A : Fin 256 → EReal) (C : Fin 2 → EReal) (r : Fin 256) : EReal :=
  if r.val = 0 then C 1 else A ⟨r.val - 1, by omega⟩

/-- Two tokens back. -/
def back2 (A : Fin 256 → EReal) (C : Fin 2 → EReal) (r : Fin 256) : EReal :=
  if r.val = 0 then C 0 else if r.val = 1 then C 1 else A ⟨r.val - 2, by omega⟩

/-- The convolution inside a tile. -/
def tileConv (A : Fin 256 → EReal) (C : Fin 2 → EReal) (w : Fin 3 → EReal) (bias : EReal) (r : Fin 256) : EReal :=
  conv (w 0) (w 1) (w 2) bias (back2 A C r) (back1 A C r) (A r)

theorem tileConv_congr {A A' : Fin 256 → EReal} {C C' : Fin 2 → EReal} {w w' : Fin 3 → EReal} {b b' : EReal} (r : Fin 256)
    (hA : ∀ ρ, A ρ = A' ρ) (hC : ∀ s, C s = C' s) (hw : w = w') (hb : b = b') : tileConv A C w b r = tileConv A' C' w' b' r := by
  obtain rfl : A = A' := funext hA
  obtain rfl : C = C' := funext hC
  rw [hw, hb]

/-- One result of a tile of 256 tokens whose two tokens before it have the first product's columns `C`. -/
def tileOut (x : Fin 256 → Fin 1024 → EReal) (g : Fin 1024 → EReal) (wu : Fin 1024 → Fin 5632 → EReal) (cw : Fin 3 → Fin 2816 → EReal)
    (cb : Fin 2816 → EReal) (wd : Fin 2816 → Fin 1024 → EReal) (C : Fin 2 → Fin 2816 → EReal) (r : Fin 256) (d : Fin 1024) : EReal :=
  x r d + ∑ j : Fin 2816, act (tileConv (fun ρ => proj (x ρ) g fun i => wu i ⟨j.val, by omega⟩) (fun s => C s j) (fun k => cw k j) (cb j) r)
    (proj (x r) g fun i => wu i ⟨2816 + j.val, by omega⟩) * wd j d

/-- A sum over the 2816 hidden coordinates, as the two halves. -/
theorem halves (f : Fin 2816 → EReal) :
    (∑ j : Fin 1408, f ⟨j.val, by omega⟩) + (∑ j : Fin 1408, f ⟨1408 + j.val, by omega⟩) = ∑ j, f j :=
  (Fin.sum_univ_add (a := 1408) (b := 1408) f).symm

end Cert.Ffn
-- ==== Proof.FfnPay.lean ====
/- The feed-forward block: the operations of one grid point, read at an index. -/
module

public import proofs.«01_k».proof.Proof.Gen.KernelFfnIdeal.Value
public import proofs.«01_k».proof.Proof.FfnSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row Cert.KernelFfnIdeal Cert.KernelFfnIdeal.Gen

theorem rows_at (x : Vec Ideal S1x256x1024 .f32) (g : Vec Ideal S1x1024 .f32) (r : Fin 256) (i : Fin 1024) :
    k0_pay4 x g (ix2 r i) = rms (Ideal.ofBits .f32 0x44800000#32) (fun y => x (ix3 0 r y)) (fun y => g (ix2 0 y)) i := by
  pointwise [k0_pay4, k0_pay3, rms]

theorem dot_at (z : FVec Ideal S256x1024 .bf16) (w : Vec Ideal S1024x1408 .bf16) (r : Fin 256) (j : Fin 1408) :
    k0_pay17 z w (ix2 r j) = ∑ i : Fin 1024, z (ix2 r i) * w (ix2 i j) := by
  pointwise [k0_pay17]

theorem dot5 (x : Vec Ideal S1x256x1024 .f32) (g : Vec Ideal S1x1024 .f32) (w : Vec Ideal S1024x1408 .bf16) :
    k0_pay5 x g w = k0_pay17 (k0_pay4 x g) w ∧ k0_pay6 x g w = k0_pay17 (k0_pay4 x g) w
    ∧ k0_pay18 (k0_pay4 x g) w = k0_pay17 (k0_pay4 x g) w := ⟨rfl, rfl, rfl⟩

/-- A column of the first product. -/
theorem col_at (x : Vec Ideal S1x256x1024 .f32) (g : Vec Ideal S1x1024 .f32) (w : Vec Ideal S1024x1408 .bf16) (r : Fin 256) (j : Fin 1408) :
    k0_pay17 (k0_pay4 x g) w (ix2 r j) = proj (fun y => x (ix3 0 r y)) (fun y => g (ix2 0 y)) (fun i => w (ix2 i j)) := by
  rw [dot_at]
  simp only [rows_at]
  rfl

theorem keep_at (A : FVec Ideal S256x1408 .f32) (s : Fin 2) (j : Fin 1408) :
    k0_pay11 A (ix3 0 s j) = A (ix2 ⟨254 + s.val, by omega⟩ j) ∧ k0_pay26 A (ix3 0 s j) = A (ix2 ⟨254 + s.val, by omega⟩ j) := by
  constructor <;> pointwise [k0_pay11, k0_pay26]

abbrev rot1 (A : FVec Ideal S256x1408 .f32) : FVec Ideal S256x1408 .f32 := dynamicRotate 0 1#32 none A rotates_S256x1408_d0

/-- Selecting at a row of a tile by comparing its number. -/
theorem sel_at (r : Fin 256) (a b : EReal) :
    Scalar.select (IntOp.cmpi CmpIPredicate.eq (BitVec.ofNat 32 r.val) 0#32) a b = (if r.val = 0 then a else b)
    ∧ Scalar.select (IntOp.cmpi CmpIPredicate.eq (BitVec.ofNat 32 r.val) 1#32) a b = (if r.val = 1 then a else b) := by
  have key : ∀ k : ℕ, k < 2 → (BitVec.ofNat 32 r.val == BitVec.ofNat 32 k) = decide (r.val = k) := by
    intro k hk
    rw [Bool.eq_iff_iff]
    simp only [beq_iff_eq, decide_eq_true_eq]
    constructor
    · intro h
      have := congrArg BitVec.toNat h
      simp only [BitVec.toNat_ofNat] at this
      omega
    · rintro h; rw [h]
  constructor
  · simp only [IntOp.cmpi, key 0 (by omega), Scalar.select]
    by_cases h : r.val = 0 <;> simp [h]
  · simp only [IntOp.cmpi, key 1 (by omega), Scalar.select]
    by_cases h : r.val = 1 <;> simp [h]

theorem back_at (A : Fin 256 → EReal) (C : Fin 2 → EReal) (r : Fin 256) :
    (if r.val = 0 then C 1 else A ⟨(r.val + 256 - 1) % 256, Nat.mod_lt _ (by omega)⟩) = back1 A C r
    ∧ (if r.val = 0 then C 0 else if r.val = 1 then C 1 else A ⟨(r.val + 256 - 2) % 256, Nat.mod_lt _ (by omega)⟩) = back2 A C r := by
  unfold back1 back2
  constructor
  · split_ifs with h
    · rfl
    · exact congrArg A (Fin.ext (by show (r.val + 256 - 1) % 256 = r.val - 1; omega))
  · split_ifs with h h'
    · rfl
    · rfl
    · exact congrArg A (Fin.ext (by show (r.val + 256 - 2) % 256 = r.val - 2; omega))

theorem conv_at (A : FVec Ideal S256x1408 .f32) (C : Vec Ideal S1x2x1408 .f32) (b w₀ w₁ w₂ : Vec Ideal S1x1408 .f32) (r : Fin 256) (j : Fin 1408) :
    k0_pay12 (iota Kind.tc S256x1 32 [0] iota_S256x1_d0_w32) A (k0_pay7 C) (rot1 A) k0_pay9 (k0_pay10 C) b w₀ w₁ w₂ (ix2 r j)
      = tileConv (fun ρ => A (ix2 ρ j)) (fun s => C (ix3 0 s j)) ![w₀ (ix2 0 j), w₁ (ix2 0 j), w₂ (ix2 0 j)] (b (ix2 0 j)) r := by
  pointwise [k0_pay12, k0_pay7, k0_pay9, k0_pay10, rot1]
  simp only [(sel_at r _ _).1, (sel_at r _ _).2, tileConv, conv, ← (back_at _ _ r).1, ← (back_at _ _ r).2]
  rfl

theorem first_at (x : Vec Ideal S1x256x1024 .f32) (U c : FVec Ideal S256x1408 .f32) (w : Vec Ideal S1408x1024 .bf16) (h k : FVec Ideal S256x1408 .f32)
    (hh : ∀ r j, h (ix2 r j) = Ideal.ofBits .f32 0x3F000000#32 * c (ix2 r j))
    (hk : ∀ r j, k (ix2 r j) = c (ix2 r j) * c (ix2 r j) * c (ix2 r j)) (r : Fin 256) (d : Fin 1024) :
    k0_pay16 (k0_pay3 x) U c h k k0_pay15 w (ix2 r d) = x (ix3 0 r d) + ∑ j : Fin 1408, act (c (ix2 r j)) (U (ix2 r j)) * w (ix2 j d) := by
  pointwise [k0_pay16, k0_pay3, k0_pay15, act, hh, hk]

theorem last_at (Y : FVec Ideal S256x1024 .f32) (G : FVec Ideal S256x1408 .bf16) (w : Vec Ideal S1408x1024 .bf16) (r : Fin 256) (d : Fin 1024) :
    k0_pay1 Y G w (ix3 0 r d) = Y (ix2 r d) + ∑ j : Fin 1408, G (ix2 r j) * w (ix2 j d) := by
  pointwise [k0_pay1]

theorem one_at (z : FVec Ideal S256x1024 .bf16) (w : Vec Ideal S1024x1408 .bf16) (C : Vec Ideal S1x2x1408 .f32) (r : Fin 256) (j : Fin 1408) :
    k0_pay20 z (iota Kind.tc S256x1 32 [0] iota_S256x1_d0_w32) w C (ix2 r j)
      = back1 (fun ρ => k0_pay17 z w (ix2 ρ j)) (fun s => C (ix3 0 s j)) r := by
  unfold k0_pay20
  generalize k0_pay17 z w = A
  pointwise [k0_pay19]
  rw [(sel_at r _ _).1]
  exact (back_at (fun ρ => A (ix2 ρ j)) (fun s => C (ix3 0 s j)) r).1

theorem second_at (A U O R : FVec Ideal S256x1408 .f32) (C : Vec Ideal S1x2x1408 .f32) (b w₀ w₁ w₂ : Vec Ideal S1x1408 .f32)
    (hO : ∀ r j, O (ix2 r j) = back1 (fun ρ => A (ix2 ρ j)) (fun s => C (ix3 0 s j)) r)
    (hR : R = dynamicRotate 0 2#32 none A rotates_S256x1408_d0) (r : Fin 256) (j : Fin 1408) :
    k0_pay27 A U O (k0_pay21 (iota Kind.tc S256x1 32 [0] iota_S256x1_d0_w32)) (k0_pay22 C) R
        (k0_pay24 (iota Kind.tc S256x1 32 [0] iota_S256x1_d0_w32)) (k0_pay25 C) b w₀ w₁ w₂ (ix2 r j)
      = act (tileConv (fun ρ => A (ix2 ρ j)) (fun s => C (ix3 0 s j)) ![w₀ (ix2 0 j), w₁ (ix2 0 j), w₂ (ix2 0 j)] (b (ix2 0 j)) r)
        (U (ix2 r j)) := by
  subst hR
  have h2 : dynamicRotate 0 2#32 none A rotates_S256x1408_d0 (ix2 r j) = A (ix2 ⟨(r.val + 256 - 2) % 256, Nat.mod_lt _ (by omega)⟩ j) := by
    pointwise
  have h21 : k0_pay21 (iota Kind.tc S256x1 32 [0] iota_S256x1_d0_w32) (ix2 r 0) = IntOp.cmpi CmpIPredicate.eq (BitVec.ofNat 32 r.val) 0#32 := by
    pointwise [k0_pay21]
  have h24 : k0_pay24 (iota Kind.tc S256x1 32 [0] iota_S256x1_d0_w32) (ix2 r j) = IntOp.cmpi CmpIPredicate.eq (BitVec.ofNat 32 r.val) 1#32 := by
    pointwise [k0_pay24]
  have h22 : k0_pay22 C (ix2 0 j) = C (ix3 0 0 j) := by pointwise [k0_pay22, k0_pay19]
  have h25 : k0_pay25 C (ix2 0 j) = C (ix3 0 1 j) := by pointwise [k0_pay25, k0_pay19]
  pointwise [k0_pay27, hO]
  simp only [h21, h22, h24, h25, (sel_at r _ _).1, (sel_at r _ _).2, act, tileConv, conv, ← (back_at _ _ r).2]
  rfl

end Cert.Ffn
-- ==== Proof.FfnPoint.lean ====
/- The feed-forward block: what one grid point stores. -/
module

public import proofs.«01_k».proof.Proof.FfnPay

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row Cert.KernelFfnIdeal Cert.KernelFfnIdeal.Gen

/-- The tile of results a grid point stores, from its blocks and the two halves of the carried tokens. -/
def point (x : Vec Ideal S1x256x1024 .f32) (g : Vec Ideal S1x1024 .f32) (wu : Vec Ideal S1024x5632 .bf16) (cw : Vec Ideal S3x2816 .f32)
    (cb : Vec Ideal S1x2816 .f32) (wd : Vec Ideal S2816x1024 .bf16) (C₀ C₁ : Vec Ideal S1x2x1408 .f32) : Vec Ideal S1x256x1024 .f32 :=
  let io : IVec S256x1 32 := iota Kind.tc S256x1 32 [0] iota_S256x1_d0_w32
  let z := k0_pay4 x g
  let u := View.ld wu (Rect.unit ![0, 0] ![1024, 1408] inb_S1024x5632_S1024x1408_0_0)
  let u' := View.ld wu (Rect.unit ![0, 1408] ![1024, 1408] inb_S1024x5632_S1024x1408_0_1408)
  let b := View.ld cb (Rect.unit ![0, 0] ![1, 1408] inb_S1x2816_S1x1408_0_0)
  let c := View.ld cw (Rect.unit ![0, 0] ![1, 1408] inb_S3x2816_S1x1408_0_0)
  let c' := View.ld cw (Rect.unit ![1, 0] ![1, 1408] inb_S3x2816_S1x1408_1_0)
  let c'' := View.ld cw (Rect.unit ![2, 0] ![1, 1408] inb_S3x2816_S1x1408_2_0)
  k0_pay1 (k0_pay16 (k0_pay3 x) (k0_pay6 x g (View.ld wu (Rect.unit ![0, 2816] ![1024, 1408] inb_S1024x5632_S1024x1408_0_2816)))
      (k0_pay12 io (k0_pay5 x g u) (k0_pay7 C₀) (k0_pay8 x g u) k0_pay9 (k0_pay10 C₀) b c c' c'')
      (k0_pay13 io (k0_pay5 x g u) (k0_pay7 C₀) (k0_pay8 x g u) k0_pay9 (k0_pay10 C₀) b c c' c'')
      (k0_pay14 io (k0_pay5 x g u) (k0_pay7 C₀) (k0_pay8 x g u) k0_pay9 (k0_pay10 C₀) b c c' c'') k0_pay15
      (View.ld wd (Rect.unit ![0, 0] ![1408, 1024] inb_S2816x1024_S1408x1024_0_0)))
    (k0_pay27 (k0_pay17 z u') (k0_pay18 z (View.ld wu (Rect.unit ![0, 4224] ![1024, 1408] inb_S1024x5632_S1024x1408_0_4224)))
      (k0_pay20 z io u' C₁) (k0_pay21 io) (k0_pay22 C₁) (k0_pay23 z u') (k0_pay24 io) (k0_pay25 C₁)
      (View.ld cb (Rect.unit ![0, 1408] ![1, 1408] inb_S1x2816_S1x1408_0_1408)) (View.ld cw (Rect.unit ![0, 1408] ![1, 1408] inb_S3x2816_S1x1408_0_1408))
      (View.ld cw (Rect.unit ![1, 1408] ![1, 1408] inb_S3x2816_S1x1408_1_1408)) (View.ld cw (Rect.unit ![2, 1408] ![1, 1408] inb_S3x2816_S1x1408_2_1408)))
    (View.ld wd (Rect.unit ![1408, 0] ![1408, 1024] inb_S2816x1024_S1408x1024_1408_0))

/-- The loads of the first weight, by columns. -/
theorem up_at (w : Vec Ideal S1024x5632 .bf16) (i : Fin 1024) (j : Fin 1408) :
    View.ld w (Rect.unit ![0, 0] ![1024, 1408] inb_S1024x5632_S1024x1408_0_0) (ix2 i j) = w (ix2 i ⟨j.val, by omega⟩)
    ∧ View.ld w (Rect.unit ![0, 1408] ![1024, 1408] inb_S1024x5632_S1024x1408_0_1408) (ix2 i j) = w (ix2 i ⟨1408 + j.val, by omega⟩)
    ∧ View.ld w (Rect.unit ![0, 2816] ![1024, 1408] inb_S1024x5632_S1024x1408_0_2816) (ix2 i j) = w (ix2 i ⟨2816 + j.val, by omega⟩)
    ∧ View.ld w (Rect.unit ![0, 4224] ![1024, 1408] inb_S1024x5632_S1024x1408_0_4224) (ix2 i j) = w (ix2 i ⟨2816 + (1408 + j.val), by omega⟩) := by
  refine ⟨?_, ?_, ?_, ?_⟩ <;> pointwise <;> blk_ext

/-- The loads of the second weight, by rows. -/
theorem down_at (w : Vec Ideal S2816x1024 .bf16) (j : Fin 1408) (d : Fin 1024) :
    View.ld w (Rect.unit ![0, 0] ![1408, 1024] inb_S2816x1024_S1408x1024_0_0) (ix2 j d) = w (ix2 ⟨j.val, by omega⟩ d)
    ∧ View.ld w (Rect.unit ![1408, 0] ![1408, 1024] inb_S2816x1024_S1408x1024_1408_0) (ix2 j d) = w (ix2 ⟨1408 + j.val, by omega⟩ d) := by
  refine ⟨?_, ?_⟩ <;> pointwise <;> blk_ext

theorem bias_at (b : Vec Ideal S1x2816 .f32) (j : Fin 1408) :
    View.ld b (Rect.unit ![0, 0] ![1, 1408] inb_S1x2816_S1x1408_0_0) (ix2 0 j) = b (ix2 0 ⟨j.val, by omega⟩)
    ∧ View.ld b (Rect.unit ![0, 1408] ![1, 1408] inb_S1x2816_S1x1408_0_1408) (ix2 0 j) = b (ix2 0 ⟨1408 + j.val, by omega⟩) := by
  refine ⟨?_, ?_⟩ <;> pointwise <;> blk_ext

/-- The loads of the convolution's weights. -/
theorem taps_at (w : Vec Ideal S3x2816 .f32) (j : Fin 1408) :
    ![View.ld w (Rect.unit ![0, 0] ![1, 1408] inb_S3x2816_S1x1408_0_0) (ix2 0 j), View.ld w (Rect.unit ![1, 0] ![1, 1408] inb_S3x2816_S1x1408_1_0) (ix2 0 j),
      View.ld w (Rect.unit ![2, 0] ![1, 1408] inb_S3x2816_S1x1408_2_0) (ix2 0 j)] = (fun k : Fin 3 => w (ix2 k ⟨j.val, by omega⟩))
    ∧ ![View.ld w (Rect.unit ![0, 1408] ![1, 1408] inb_S3x2816_S1x1408_0_1408) (ix2 0 j), View.ld w (Rect.unit ![1, 1408] ![1, 1408] inb_S3x2816_S1x1408_1_1408) (ix2 0 j),
      View.ld w (Rect.unit ![2, 1408] ![1, 1408] inb_S3x2816_S1x1408_2_1408) (ix2 0 j)] = (fun k : Fin 3 => w (ix2 k ⟨1408 + j.val, by omega⟩)) := by
  constructor
  all_goals
    funext k
    fin_cases k <;> pointwise <;> blk_ext

/-- The two halves of a tile's result, over any columns. -/
theorem assemble (x : Vec Ideal S1x256x1024 .f32) (A U A' U' O R : FVec Ideal S256x1408 .f32) (C₀ C₁ : Vec Ideal S1x2x1408 .f32)
    (b c c' c'' e f f' f'' : Vec Ideal S1x1408 .f32) (w w' : Vec Ideal S1408x1024 .bf16)
    (hO : ∀ r j, O (ix2 r j) = back1 (fun ρ => A' (ix2 ρ j)) (fun s => C₁ (ix3 0 s j)) r)
    (hR : R = dynamicRotate 0 2#32 none A' rotates_S256x1408_d0) (r : Fin 256) (d : Fin 1024) :
    k0_pay1 (k0_pay16 (k0_pay3 x) U
        (k0_pay12 (iota Kind.tc S256x1 32 [0] iota_S256x1_d0_w32) A (k0_pay7 C₀) (rot1 A) k0_pay9 (k0_pay10 C₀) b c c' c'')
        (k0_pay13 (iota Kind.tc S256x1 32 [0] iota_S256x1_d0_w32) A (k0_pay7 C₀) (rot1 A) k0_pay9 (k0_pay10 C₀) b c c' c'')
        (k0_pay14 (iota Kind.tc S256x1 32 [0] iota_S256x1_d0_w32) A (k0_pay7 C₀) (rot1 A) k0_pay9 (k0_pay10 C₀) b c c' c'') k0_pay15 w)
      (k0_pay27 A' U' O (k0_pay21 (iota Kind.tc S256x1 32 [0] iota_S256x1_d0_w32)) (k0_pay22 C₁) R
        (k0_pay24 (iota Kind.tc S256x1 32 [0] iota_S256x1_d0_w32)) (k0_pay25 C₁) e f f' f'') w' (ix3 0 r d)
      = x (ix3 0 r d)
        + ∑ j : Fin 1408, act (tileConv (fun ρ => A (ix2 ρ j)) (fun s => C₀ (ix3 0 s j)) ![c (ix2 0 j), c' (ix2 0 j), c'' (ix2 0 j)] (b (ix2 0 j)) r)
            (U (ix2 r j)) * w (ix2 j d)
        + ∑ j : Fin 1408, act (tileConv (fun ρ => A' (ix2 ρ j)) (fun s => C₁ (ix3 0 s j)) ![f (ix2 0 j), f' (ix2 0 j), f'' (ix2 0 j)] (e (ix2 0 j)) r)
            (U' (ix2 r j)) * w' (ix2 j d) := by
  rw [last_at]
  refine congrArg₂ (· + ·) ((first_at x _ _ _ _ _ (fun _ _ => ?_) (fun _ _ => ?_) r d).trans ?_) ?_
  · unfold k0_pay13
    generalize k0_pay12 (F := Ideal) _ _ _ _ _ _ _ _ _ _ = q
    pointwise
  · unfold k0_pay14
    generalize k0_pay12 (F := Ideal) _ _ _ _ _ _ _ _ _ _ = q
    pointwise
  · exact congrArg _ (Finset.sum_congr rfl fun j _ => congrArg (act · _ * _) (conv_at A C₀ b c c' c'' r j))
  · exact Finset.sum_congr rfl fun j _ => congrArg (· * _) (second_at A' U' O R C₁ e f f' f'' hO hR r j)

theorem point_at (x : Vec Ideal S1x256x1024 .f32) (g : Vec Ideal S1x1024 .f32) (wu : Vec Ideal S1024x5632 .bf16) (cw : Vec Ideal S3x2816 .f32)
    (cb : Vec Ideal S1x2816 .f32) (wd : Vec Ideal S2816x1024 .bf16) (C₀ C₁ : Vec Ideal S1x2x1408 .f32) (C : Fin 2 → Fin 2816 → EReal)
    (h₀ : ∀ s j, C₀ (ix3 0 s j) = C s ⟨j.val, by omega⟩) (h₁ : ∀ s j, C₁ (ix3 0 s j) = C s ⟨1408 + j.val, by omega⟩) (r : Fin 256) (d : Fin 1024) :
    point x g wu cw cb wd C₀ C₁ (ix3 0 r d) = tileOut (fun ρ y => x (ix3 0 ρ y)) (fun y => g (ix2 0 y)) (fun i j => wu (ix2 i j))
      (fun k j => cw (ix2 k j)) (fun j => cb (ix2 0 j)) (fun j e => wd (ix2 j e)) C r d := by
  unfold point tileOut
  dsimp only
  rw [← halves, ← add_assoc]
  refine (assemble x (k0_pay17 (k0_pay4 x g) _) (k0_pay17 (k0_pay4 x g) _) (k0_pay17 (k0_pay4 x g) _) (k0_pay17 (k0_pay4 x g) _) _ _ C₀ C₁
    _ _ _ _ _ _ _ _ _ _ (fun ρ j => one_at _ _ C₁ ρ j) rfl r d).trans ?_
  refine congrArg₂ (· + ·) (congrArg (x (ix3 0 r d) + ·) (Finset.sum_congr rfl fun j _ => ?_)) (Finset.sum_congr rfl fun j _ => ?_)
  · exact congrArg₂ (· * ·) (congrArg₂ act (tileConv_congr r
        (fun ρ => (col_at x g _ ρ j).trans (proj_congr (fun _ => rfl) (fun _ => rfl) fun i => (up_at wu i j).1))
        (fun s => h₀ s j) (taps_at cw j).1 (bias_at cb j).1)
      ((col_at x g _ r j).trans (proj_congr (fun _ => rfl) (fun _ => rfl) fun i => (up_at wu i j).2.2.1))) (down_at wd j d).1
  · exact congrArg₂ (· * ·) (congrArg₂ act (tileConv_congr r
        (fun ρ => (col_at x g _ ρ j).trans (proj_congr (fun _ => rfl) (fun _ => rfl) fun i => (up_at wu i j).2.1))
        (fun s => h₁ s j) (taps_at cw j).2 (bias_at cb j).2)
      ((col_at x g _ r j).trans (proj_congr (fun _ => rfl) (fun _ => rfl) fun i => (up_at wu i j).2.2.2))) (down_at wd j d).2

end Cert.Ffn
-- ==== Proof.FfnCarry.lean ====
/- The feed-forward block: the two tokens carried from one tile to the next. -/
module

public import proofs.«01_k».proof.Proof.FfnPoint
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row Cert.KernelFfnIdeal Cert.KernelFfnIdeal.Gen

/-- The last two rows of the two halves, side by side. -/
def lastTwo (A A' : FVec Ideal S256x1408 .f32) (i : S1x2x2816.Idx) : EReal :=
  if h : (i 2 : ℕ) < 1408 then A (ix2 ⟨254 + (i 1 : ℕ), by have := (i 1).isLt; simp at this; omega⟩ ⟨i 2, h⟩)
  else A' (ix2 ⟨254 + (i 1 : ℕ), by have := (i 1).isLt; simp at this; omega⟩ ⟨(i 2 : ℕ) - 1408, by have := (i 2).isLt; simp at this; omega⟩)

/-- The two stores into the carried scratch, over anything stored before them. -/
theorem stored (A A' : FVec Ideal S256x1408 .f32) (L : List (View.Piece (Elt Ideal) S1x2x2816 .f32)) (i : S1x2x2816.Idx) :
    View.canon ([⟨Rect.unit ![0, 0, 1408] ![1, 2, 1408] inb_S1x2x2816_S1x2x1408_0_0_1408, k0_pay26 A'⟩,
      ⟨Rect.unit ![0, 0, 0] ![1, 2, 1408] inb_S1x2x2816_S1x2x1408_0_0_0, k0_pay11 A⟩] ++ L) i = lastTwo A A' i := by
  have hp : View.PiecesOf (Val := Elt Ideal) (e := .f32) (lastTwo A A') [⟨Rect.unit ![0, 0, 1408] ![1, 2, 1408] inb_S1x2x2816_S1x2x1408_0_0_1408, k0_pay26 A'⟩,
      ⟨Rect.unit ![0, 0, 0] ![1, 2, 1408] inb_S1x2x2816_S1x2x1408_0_0_0, k0_pay11 A⟩] := by
    refine ⟨fun x => ?_, fun x => ?_, trivial⟩
    · obtain ⟨s, j, rfl⟩ : ∃ (s : Fin 2) (j : Fin 1408), x = ix3 0 s j := ⟨x 1, x 2, by blk_ext⟩
      refine (keep_at A' s j).2.trans ?_
      unfold lastTwo
      refine Eq.trans ?_ (dif_neg (by simp)).symm
      congr 1
      blk_ext
    · obtain ⟨s, j, rfl⟩ : ∃ (s : Fin 2) (j : Fin 1408), x = ix3 0 s j := ⟨x 1, x 2, by blk_ext⟩
      refine (keep_at A s j).1.trans ?_
      unfold lastTwo
      refine Eq.trans ?_ (dif_pos (by simp)).symm
      congr 1
      blk_ext
  refine View.canon_append_of_piecesOf (lastTwo A A') L _ hp i ?_
  idx_bounds i
  by_cases h : (i 2 : ℕ) < 1408
  · refine ⟨_, List.mem_cons_of_mem _ (List.mem_singleton.mpr rfl), (Rect.mem_set_unit (inb := inb_S1x2x2816_S1x2x1408_0_0_0)).mpr fun a => ?_⟩
    fin_cases a <;> simp <;> omega
  · refine ⟨_, List.mem_cons_self, (Rect.mem_set_unit (inb := inb_S1x2x2816_S1x2x1408_0_0_1408)).mpr fun a => ?_⟩
    fin_cases a <;> simp <;> omega

/-- A half of the carried scratch, loaded. -/
theorem half_at (X : Vec Ideal S1x2x2816 .f32) (s : Fin 2) (j : Fin 1408) :
    View.ld X (Rect.unit ![0, 0, 0] ![1, 2, 1408] inb_S1x2x2816_S1x2x1408_0_0_0) (ix3 0 s j) = X (ix3 0 s ⟨j.val, by omega⟩)
    ∧ View.ld X (Rect.unit ![0, 0, 1408] ![1, 2, 1408] inb_S1x2x2816_S1x2x1408_0_0_1408) (ix3 0 s j) = X (ix3 0 s ⟨1408 + j.val, by omega⟩) := by
  refine ⟨?_, ?_⟩ <;> pointwise <;> blk_ext

theorem start_eq (X : Vec Ideal S1x2x2816 .f32) : k0_pay2 X = X := by
  funext i
  obtain ⟨s, j, rfl⟩ : ∃ (s : Fin 2) (j : Fin 2816), i = ix3 0 s j := ⟨i 1, i 2, by blk_ext⟩
  pointwise [k0_pay2]

variable (m : (ℓ : Loc nD τ sig) → Buf (Elt Ideal) ℓ)

/-- What a grid point leaves for the next: its own last two rows. -/
theorem carry_eq (c : Dev nD) (t : Fin cfg0.N) (i : S1x2x2816.Idx) : (outsAt0 m c t.val t.isLt).2.2 i
    = lastTwo (k0_pay5 (iblk m c 0 t) (iblk m c 2 t) (View.ld (iblk m c 3 t) (Rect.unit ![0, 0] ![1024, 1408] inb_S1024x5632_S1024x1408_0_0)))
        (k0_pay17 (k0_pay4 (iblk m c 0 t) (iblk m c 2 t)) (View.ld (iblk m c 3 t) (Rect.unit ![0, 1408] ![1024, 1408] inb_S1024x5632_S1024x1408_0_1408))) i := by
  by_cases h0 : t.val % 16 = 0
  · rw [outsAt0_A m c t h0 (by omega)]
    frame_out
    exact stored _ _ _ i
  by_cases h1 : t.val % 16 = 15
  · rw [outsAt0_C m c t h0 h1]
    frame_out
    exact stored _ _ [] i
  · rw [outsAt0_B m c t h0 h1]
    frame_out
    exact stored _ _ [] i

/-- The last tile's carried tokens are the second result's block. -/
theorem conv_out_eq (c : Dev nD) (t : Fin cfg0.N) (h1 : t.val % 16 = 15) (i : S1x2x2816.Idx) : (outsAt0 m c t.val t.isLt).2.1 i
    = lastTwo (k0_pay5 (iblk m c 0 t) (iblk m c 2 t) (View.ld (iblk m c 3 t) (Rect.unit ![0, 0] ![1024, 1408] inb_S1024x5632_S1024x1408_0_0)))
        (k0_pay17 (k0_pay4 (iblk m c 0 t) (iblk m c 2 t)) (View.ld (iblk m c 3 t) (Rect.unit ![0, 1408] ![1024, 1408] inb_S1024x5632_S1024x1408_0_1408))) i := by
  rw [outsAt0_C m c t (by omega) h1]
  frame_out
  rw [View.readCov_eq_canon']
  refine (stored _ _ [] _).trans (congrArg _ ?_)
  funext a
  refine Fin.ext ((Rect.idx_unit_val _ _ _ i a).trans ?_)
  fin_cases a <;> simp

end Cert.Ffn
-- ==== Proof.FfnWhole.lean ====
/- The feed-forward block over a sequence, and its tiles of 256 tokens. -/
module

public import proofs.«01_k».proof.Proof.FfnSpec

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row

/-- The hidden coordinates of a sequence with the two of the tokens before it put in front. -/
def pad (cin : Fin 2 → Fin 2816 → EReal) (A : Fin 4096 → Fin 2816 → EReal) (s : Fin 4098) (j : Fin 2816) : EReal :=
  if h : s.val < 2 then cin ⟨s.val, h⟩ j else A ⟨s.val - 2, by omega⟩ j

/-- The first product's first half at a token: what the convolution runs over. -/
def hid (x : Fin 4096 → Fin 1024 → EReal) (g : Fin 1024 → EReal) (wu : Fin 1024 → Fin 5632 → EReal) (τ : Fin 4096) (j : Fin 2816) : EReal :=
  proj (x τ) g fun i => wu i ⟨j.val, by omega⟩

/-- One result of the block. -/
def block (x : Fin 4096 → Fin 1024 → EReal) (g : Fin 1024 → EReal) (wu : Fin 1024 → Fin 5632 → EReal) (cw : Fin 3 → Fin 2816 → EReal)
    (cb : Fin 2816 → EReal) (wd : Fin 2816 → Fin 1024 → EReal) (cin : Fin 2 → Fin 2816 → EReal) (τ : Fin 4096) (d : Fin 1024) : EReal :=
  x τ d + ∑ j : Fin 2816, act (conv (cw 0 j) (cw 1 j) (cw 2 j) (cb j) (pad cin (hid x g wu) ⟨τ.val, by omega⟩ j)
    (pad cin (hid x g wu) ⟨τ.val + 1, by omega⟩ j) (pad cin (hid x g wu) ⟨τ.val + 2, by omega⟩ j)) (proj (x τ) g fun i => wu i ⟨2816 + j.val, by omega⟩) * wd j d

theorem block_congr {x x' : Fin 4096 → Fin 1024 → EReal} {g g' : Fin 1024 → EReal} {wu wu' : Fin 1024 → Fin 5632 → EReal} {cw cw' : Fin 3 → Fin 2816 → EReal}
    {cb cb' : Fin 2816 → EReal} {wd wd' : Fin 2816 → Fin 1024 → EReal} {cin cin' : Fin 2 → Fin 2816 → EReal} {τ τ' : Fin 4096} {d d' : Fin 1024}
    (h : ∀ s i, x s i = x' s i) (hg : ∀ i, g i = g' i) (hu : ∀ i j, wu i j = wu' i j) (hw : ∀ k j, cw k j = cw' k j) (hb : ∀ j, cb j = cb' j)
    (hd : ∀ j e, wd j e = wd' j e) (hc : ∀ s j, cin s j = cin' s j) (hτ : τ = τ') (hdd : d = d') :
    block x g wu cw cb wd cin τ d = block x' g' wu' cw' cb' wd' cin' τ' d' := by
  obtain rfl : x = x' := funext fun s => funext (h s)
  obtain rfl : g = g' := funext hg
  obtain rfl : wu = wu' := funext fun s => funext (hu s)
  obtain rfl : cw = cw' := funext fun s => funext (hw s)
  obtain rfl : cb = cb' := funext hb
  obtain rfl : wd = wd' := funext fun s => funext (hd s)
  obtain rfl : cin = cin' := funext fun s => funext (hc s)
  subst hτ hdd
  rfl

/-- A tile's result is the sequence's, when the two tokens before the tile are the sequence's. -/
theorem tile_eq (x : Fin 4096 → Fin 1024 → EReal) (g : Fin 1024 → EReal) (wu : Fin 1024 → Fin 5632 → EReal) (cw : Fin 3 → Fin 2816 → EReal)
    (cb : Fin 2816 → EReal) (wd : Fin 2816 → Fin 1024 → EReal) (cin C : Fin 2 → Fin 2816 → EReal) (q : Fin 16)
    (hC : ∀ s j, C s j = pad cin (hid x g wu) ⟨q.val * 256 + s.val, by omega⟩ j) (r : Fin 256) (d : Fin 1024) :
    tileOut (fun ρ => x ⟨q.val * 256 + ρ.val, by omega⟩) g wu cw cb wd C r d = block x g wu cw cb wd cin ⟨q.val * 256 + r.val, by omega⟩ d := by
  unfold tileOut block
  refine congrArg _ (Finset.sum_congr rfl fun j _ => ?_)
  refine congrArg (act · _ * _) ?_
  unfold tileConv
  have h2 : back2 (fun ρ => proj (x ⟨q.val * 256 + ρ.val, by omega⟩) g fun i => wu i ⟨j.val, by omega⟩) (fun s => C s j) r
      = pad cin (hid x g wu) ⟨q.val * 256 + r.val, by omega⟩ j := by
    unfold back2
    split_ifs with h h'
    · exact (hC 0 j).trans (congrArg (pad cin _ · j) (Fin.ext (by simp [h])))
    · exact (hC 1 j).trans (congrArg (pad cin _ · j) (Fin.ext (by simp [h'])))
    · unfold pad
      rw [dif_neg (by simp; omega)]
      exact congrArg (hid x g wu · j) (Fin.ext (by simp; omega))
  have h1 : back1 (fun ρ => proj (x ⟨q.val * 256 + ρ.val, by omega⟩) g fun i => wu i ⟨j.val, by omega⟩) (fun s => C s j) r
      = pad cin (hid x g wu) ⟨q.val * 256 + r.val + 1, by omega⟩ j := by
    unfold back1
    split_ifs with h
    · exact (hC 1 j).trans (congrArg (pad cin _ · j) (Fin.ext (by simp [h])))
    · unfold pad
      rw [dif_neg (by simp; omega)]
      exact congrArg (hid x g wu · j) (Fin.ext (by simp; omega))
  have h0 : (proj (x ⟨q.val * 256 + r.val, by omega⟩) g fun i => wu i ⟨j.val, by omega⟩)
      = pad cin (hid x g wu) ⟨q.val * 256 + r.val + 2, by omega⟩ j := by
    unfold pad
    rw [dif_neg (by simp)]
    exact congrArg (hid x g wu · j) (Fin.ext (by simp))
  rw [h2, h1]
  exact congrArg (conv _ _ _ _ _ _) h0

end Cert.Ffn
-- ==== Proof.FfnKernel.lean ====
/- The feed-forward block: the kernel, read at an index. -/
module

public import proofs.«01_k».proof.Proof.FfnCarry
public import proofs.«01_k».proof.Proof.FfnWhole

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row Cert.KernelFfnIdeal Cert.KernelFfnIdeal.Gen

theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![0, 0] ∧ win0_5.index t = ![0, 0] ∧ win0_6.index t = ![0, 0]
    ∧ win0_7.index t = ![t.val / 16, t.val % 16, 0] ∧ win0_8.index t = ![t.val / 16, 0, 0] ∧ t.val / 16 < 4 :=
  (by decide +kernel : ∀ t : Fin grid0.N, _)

variable (m : (ℓ : Loc nD τ sig) → Buf (Elt Ideal) ℓ)

/-- The arguments as functions of their coordinates. -/
abbrev X (c : Dev nD) (b : Fin 4) (s : Fin 4096) (y : Fin 1024) : EReal := m (c.tc.loc main_arg0) (ix3 b s y)
abbrev CIN (c : Dev nD) (b : Fin 4) (s : Fin 2) (j : Fin 2816) : EReal := m (c.tc.loc main_arg1) (ix3 b s j)
abbrev G (c : Dev nD) (y : Fin 1024) : EReal := m (c.tc.loc main_arg2) (ix1 y)
abbrev WU (c : Dev nD) (i : Fin 1024) (j : Fin 5632) : EReal := m (c.tc.loc main_arg3) (ix2 i j)
abbrev CW (c : Dev nD) (k : Fin 3) (j : Fin 2816) : EReal := m (c.tc.loc main_arg4) (ix2 k j)
abbrev CB (c : Dev nD) (j : Fin 2816) : EReal := m (c.tc.loc main_arg5) (ix1 j)
abbrev WD (c : Dev nD) (j : Fin 2816) (d : Fin 1024) : EReal := m (c.tc.loc main_arg6) (ix2 j d)

/-- The blocks a grid point reads. -/
theorem blocks_at (c : Dev nD) (t : Fin cfg0.N) :
    (∀ (r : Fin 256) y, iblk m c 0 t (ix3 0 r y) = X m c ⟨t.val / 16, (idx t).2.2.2.2.2.2.2.2.2⟩ ⟨t.val % 16 * 256 + r.val, by omega⟩ y)
    ∧ (∀ s j, iblk m c 1 t (ix3 0 s j) = CIN m c ⟨t.val / 16, (idx t).2.2.2.2.2.2.2.2.2⟩ s j)
    ∧ (∀ y, iblk m c 2 t (ix2 0 y) = G m c y) ∧ (∀ i j, iblk m c 3 t (ix2 i j) = WU m c i j) ∧ (∀ k j, iblk m c 4 t (ix2 k j) = CW m c k j)
    ∧ (∀ j, iblk m c 5 t (ix2 0 j) = CB m c j) ∧ (∀ j d, iblk m c 6 t (ix2 j d) = WD m c j d) := by
  refine ⟨fun r y => ?_, fun s j => ?_, fun y => ?_, fun i j => ?_, fun k j => ?_, fun j => ?_, fun j d => ?_⟩
  all_goals blk_point [iblk, V, idx t]

/-- The last two rows of a tile, in the arguments. -/
theorem lastTwo_at (c : Dev nD) (t : Fin cfg0.N) (s : Fin 2) (j : Fin 2816) :
    lastTwo (k0_pay5 (iblk m c 0 t) (iblk m c 2 t) (View.ld (iblk m c 3 t) (Rect.unit ![0, 0] ![1024, 1408] inb_S1024x5632_S1024x1408_0_0)))
        (k0_pay17 (k0_pay4 (iblk m c 0 t) (iblk m c 2 t)) (View.ld (iblk m c 3 t) (Rect.unit ![0, 1408] ![1024, 1408] inb_S1024x5632_S1024x1408_0_1408)))
        (ix3 0 s j)
      = hid (X m c ⟨t.val / 16, (idx t).2.2.2.2.2.2.2.2.2⟩) (G m c) (WU m c) ⟨t.val % 16 * 256 + (254 + s.val), by omega⟩ j := by
  obtain ⟨h0, -, h2, h3, -⟩ := blocks_at m c t
  unfold lastTwo
  split_ifs with h
  · refine (col_at _ _ _ _ _).trans (proj_congr (fun y => h0 _ y) (fun y => h2 y) fun i => ?_)
    exact ((up_at _ _ _).1).trans (h3 _ _)
  · refine (col_at _ _ _ _ _).trans (proj_congr (fun y => h0 _ y) (fun y => h2 y) fun i => ?_)
    refine ((up_at _ _ _).2.1).trans ((h3 _ _).trans (congrArg (WU m c i) (Fin.ext ?_)))
    show 1408 + (j.val - 1408) = j.val
    have : ¬ j.val < 1408 := h
    omega

theorem carry_at (c : Dev nD) (n : ℕ) (hn : n < cfg0.N) (s : Fin 2) (j : Fin 2816) (hq : (n + 1) % 16 ≠ 0) (hb : (n + 1) / 16 < 4) :
    (outsAt0 m c n hn).2.2 (ix3 0 s j)
      = pad (CIN m c ⟨(n + 1) / 16, hb⟩) (hid (X m c ⟨(n + 1) / 16, hb⟩) (G m c) (WU m c)) ⟨(n + 1) % 16 * 256 + s.val, by omega⟩ j := by
  refine (carry_eq m c ⟨n, hn⟩ _).trans ((lastTwo_at m c ⟨n, hn⟩ s j).trans ?_)
  unfold pad
  rw [dif_neg (by simp; omega)]
  have e : n / 16 = (n + 1) / 16 := by omega
  congr 1
  · exact congrArg (X m c) (Fin.ext e)
  · refine Fin.ext ?_
    show n % 16 * 256 + (254 + s.val) = (n + 1) % 16 * 256 + s.val - 2
    omega

theorem from_point (c : Dev nD) (t : Fin cfg0.N) (C₀ C₁ : Vec Ideal S1x2x1408 .f32) (C : Vec Ideal S1x2x2816 .f32)
    (h₀ : ∀ s j, C₀ (ix3 0 s j) = C (ix3 0 s ⟨j.val, by omega⟩)) (h₁ : ∀ s j, C₁ (ix3 0 s j) = C (ix3 0 s ⟨1408 + j.val, by omega⟩))
    (hC : ∀ s j, C (ix3 0 s j) = pad (CIN m c ⟨t.val / 16, (idx t).2.2.2.2.2.2.2.2.2⟩) (hid (X m c ⟨t.val / 16, (idx t).2.2.2.2.2.2.2.2.2⟩) (G m c) (WU m c))
      ⟨t.val % 16 * 256 + s.val, by omega⟩ j) (r : Fin 256) (d : Fin 1024) :
    point (iblk m c 0 t) (iblk m c 2 t) (iblk m c 3 t) (iblk m c 4 t) (iblk m c 5 t) (iblk m c 6 t) C₀ C₁ (ix3 0 r d)
      = block (X m c ⟨t.val / 16, (idx t).2.2.2.2.2.2.2.2.2⟩) (G m c) (WU m c) (CW m c) (CB m c) (WD m c) (CIN m c ⟨t.val / 16, (idx t).2.2.2.2.2.2.2.2.2⟩)
        ⟨t.val % 16 * 256 + r.val, by omega⟩ d := by
  obtain ⟨h0, -, h2, h3, h4, h5, h6⟩ := blocks_at m c t
  refine (point_at _ _ _ _ _ _ C₀ C₁ (fun s j => C (ix3 0 s j)) h₀ h₁ r d).trans ?_
  simp only [h0, h2, h3, h4, h5, h6]
  exact tile_eq _ _ _ _ _ _ _ _ ⟨t.val % 16, by omega⟩ hC r d

theorem out_at (c : Dev nD) (t : Fin cfg0.N) (r : Fin 256) (d : Fin 1024) : (outsAt0 m c t.val t.isLt).1 (ix3 0 r d)
      = block (X m c ⟨t.val / 16, (idx t).2.2.2.2.2.2.2.2.2⟩) (G m c) (WU m c) (CW m c) (CB m c) (WD m c) (CIN m c ⟨t.val / 16, (idx t).2.2.2.2.2.2.2.2.2⟩)
        ⟨t.val % 16 * 256 + r.val, by omega⟩ d := by
  by_cases h0 : t.val % 16 = 0
  · rw [outsAt0_A m c t h0 (by omega)]
    frame_open
    simp (disch := decide) only [↓ View.readCov_skip, ↓ View.readCov_fill]
    frame_out
    refine from_point m c t _ _ (k0_pay2 (iblk m c 1 t)) (fun s j => ?_) (fun s j => ?_) (fun s j => ?_) r d
    · exact (half_at _ s j).1
    · exact (half_at _ s j).2
    · rw [start_eq]
      refine ((blocks_at m c t).2.1 s j).trans ?_
      unfold pad
      rw [dif_pos (by simp [h0]; omega)]
      exact congrArg (CIN m c _ · j) (Fin.ext (by simp [h0]))
  have carried : ∀ s j, (outsAt0 m c (t.val - 1) (by have := t.isLt; omega)).2.2 (ix3 0 s j)
      = pad (CIN m c ⟨t.val / 16, (idx t).2.2.2.2.2.2.2.2.2⟩) (hid (X m c ⟨t.val / 16, (idx t).2.2.2.2.2.2.2.2.2⟩) (G m c) (WU m c))
        ⟨t.val % 16 * 256 + s.val, by omega⟩ j := by
    obtain ⟨n, hn⟩ := t
    cases n with
    | zero => exact absurd rfl h0
    | succ n => exact fun s j => carry_at m c n _ s j h0 _
  by_cases h1 : t.val % 16 = 15
  · rw [outsAt0_C m c t h0 h1]
    frame_out
    simp only [read_unread_whole]
    exact from_point m c t _ _ _ (fun s j => (half_at _ s j).1) (fun s j => (half_at _ s j).2) carried r d
  · rw [outsAt0_B m c t h0 h1]
    frame_out
    simp only [read_unread_whole]
    exact from_point m c t _ _ _ (fun s j => (half_at _ s j).1) (fun s j => (half_at _ s j).2) carried r d

/-- What the first result should hold. -/
def yOf (c : Dev nD) (i : S4x4096x1024.Idx) : EReal :=
  block (X m c (i 0)) (G m c) (WU m c) (CW m c) (CB m c) (WD m c) (CIN m c (i 0)) (i 1) (i 2)

/-- What the second result should hold: the last two rows of each sequence. -/
def convOf (c : Dev nD) (i : S4x2x2816.Idx) : EReal :=
  hid (X m c (i 0)) (G m c) (WU m c) ⟨4094 + (i 1 : ℕ), by have := (i 1).isLt; simp at this; omega⟩ (i 2)

theorem final_y (c : Dev nD) : (dats m 0 c).arrAt 7 (cfgs 0).N = yOf m c := by
  refine (dats m 0 c).arrAt_eq_of_covers 7 _ (by decide +kernel) fun t _ y => ?_
  obtain ⟨r, d, rfl⟩ : ∃ (r : Fin 256) (d : Fin 1024), y = ix3 0 r d := ⟨y 1, y 2, by blk_ext⟩
  have e : (win0_7.blk t).view.emb (ix3 0 r d) = ix3 ⟨t.val / 16, (idx t).2.2.2.2.2.2.2.2.2⟩ ⟨t.val % 16 * 256 + r.val, by omega⟩ d := by
    blk_ext [idx t]
  refine (congrFun (after0_7 m c t) _).trans ((out_at m c t r d).trans ?_)
  exact (congrArg (yOf m c) e).symm

theorem final_conv (c : Dev nD) : (dats m 0 c).arrAt 8 (cfgs 0).N = convOf m c := by
  refine (dats m 0 c).arrAt_eq_of_covers 8 _ (by decide +kernel) fun t ht y => ?_
  have h1 : t.val % 16 = 15 := (flush0_8 t).mp ht
  obtain ⟨s, j, rfl⟩ : ∃ (s : Fin 2) (j : Fin 2816), y = ix3 0 s j := ⟨y 1, y 2, by blk_ext⟩
  have e : (win0_8.blk t).view.emb (ix3 0 s j) = ix3 ⟨t.val / 16, (idx t).2.2.2.2.2.2.2.2.2⟩ s j := by
    blk_ext [idx t]
  refine (congrFun (after0_8 m c t) _).trans ((conv_out_eq m c t h1 _).trans ((lastTwo_at m c t s j).trans ?_))
  refine Eq.trans ?_ (congrArg (convOf m c) e).symm
  exact congrArg (hid (X m c _) (G m c) (WU m c) · j) (Fin.ext (by
    show t.val % 16 * 256 + (254 + s.val) = 4094 + s.val
    omega))

end Cert.Ffn
-- ==== Proof.FfnRef.lean ====
/- The feed-forward block: the reference, read at an index. -/
module

public import proofs.«01_k».proof.Proof.Gen.ReferenceFfnIdeal.Run
public import proofs.«01_k».proof.Proof.FfnWhole

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row Cert.ReferenceFfnIdeal Cert.ReferenceFfnIdeal.Gen

/-- The reference's normalised rows. -/
abbrev normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf
      (broadcastInDim S4x4096x1 ![0, 1] bcast_S4x4096_S4x4096x1_0_1 (Host.reduceAdd (mulf x x) (constant S_ .f32 0x00000000#32)
        reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The first product. -/
abbrev up (x : FVec Ideal S4x4096x1024 .f32) (g : FVec Ideal S1024 .f32) (w : FVec Ideal S1024x5632 .f32) : FVec Ideal S4x4096x5632 .f32 :=
  Host.dotGeneral dot_S4x4096x1024_S1024x5632_S4x4096x5632_2_0_01_1_n_n none (normed x g) w

/-- Its first half, the two tokens before it put in front. -/
abbrev padded (cin : FVec Ideal S4x2x2816 .f32) (z : FVec Ideal S4x4096x5632 .f32) : FVec Ideal S4x4098x2816 .f32 :=
  concatenate S4x4098x2816 1 [⟨S4x2x2816, (cin : (⟨S4x2x2816, .f32⟩ : BufTy).Contents (Elt Ideal))⟩,
    ⟨S4x4096x2816, (extractStridedSlice S4x4096x2816 ![0, 0, 0] z slices_S4x4096x5632_S4x4096x2816_0_0_0)⟩]
    concatenates_S4x2x2816_S4x4096x2816_S4x4098x2816_d1

/-- A vector along the last axis, at every token. -/
abbrev along (v : FVec Ideal S2816 .f32) : FVec Ideal S4x4096x2816 .f32 :=
  broadcastInDim S4x4096x2816 ![0, 1, 2] bcast_S1x1x2816_S4x4096x2816_0_1_2 (broadcastInDim S1x1x2816 ![2] bcast_S2816_S1x1x2816_2 v)

/-- The convolution over tokens. -/
abbrev convolved (p : FVec Ideal S4x4098x2816 .f32) (w : FVec Ideal S3x2816 .f32) (b : FVec Ideal S2816 .f32) : FVec Ideal S4x4096x2816 .f32 :=
  addf (along b) (addf (addf (addf (broadcastInDim S4x4096x2816 ![] bcast_S_S4x4096x2816 (constant S_ .f32 0x00000000#32))
      (mulf (extractStridedSlice S4x4096x2816 ![0, 0, 0] p slices_S4x4098x2816_S4x4096x2816_0_0_0)
        (along (shapeCast _ (extractStridedSlice S1x2816 ![0, 0] w slices_S3x2816_S1x2816_0_0) shapeCasts_S1x2816_S2816))))
      (mulf (extractStridedSlice S4x4096x2816 ![0, 1, 0] p slices_S4x4098x2816_S4x4096x2816_0_1_0)
        (along (shapeCast _ (extractStridedSlice S1x2816 ![1, 0] w slices_S3x2816_S1x2816_1_0) shapeCasts_S1x2816_S2816))))
      (mulf (extractStridedSlice S4x4096x2816 ![0, 2, 0] p slices_S4x4098x2816_S4x4096x2816_0_2_0)
        (along (shapeCast _ (extractStridedSlice S1x2816 ![2, 0] w slices_S3x2816_S1x2816_2_0) shapeCasts_S1x2816_S2816))))

/-- A number at every entry. -/
abbrev all (b : BitVec 32) : FVec Ideal S4x4096x2816 .f32 := broadcastInDim S4x4096x2816 ![] bcast_S_S4x4096x2816 (constant S_ .f32 b)

/-- The gate times the first product's second half. -/
abbrev gated (k : FVec Ideal S4x4096x2816 .f32) (z : FVec Ideal S4x4096x5632 .f32) : FVec Ideal S4x4096x2816 .f32 :=
  mulf (mulf k (mulf (all 0x3F000000#32) (addf (all 0x3F800000#32) (Host.tanh (mulf (all 0x3F4C422A#32)
      (addf k (mulf (all 0x3D372713#32) (mulf (mulf k k) k))))))))
    (extractStridedSlice S4x4096x2816 ![0, 0, 2816] z slices_S4x4096x5632_S4x4096x2816_0_0_2816)

/-- The reference's first result. -/
abbrev YREF (x : FVec Ideal S4x4096x1024 .f32) (cin : FVec Ideal S4x2x2816 .f32) (g : FVec Ideal S1024 .f32) (wu : FVec Ideal S1024x5632 .f32)
    (cw : FVec Ideal S3x2816 .f32) (cb : FVec Ideal S2816 .f32) (wd : FVec Ideal S2816x1024 .f32) : FVec Ideal S4x4096x1024 .f32 :=
  addf x (Host.dotGeneral dot_S4x4096x2816_S2816x1024_S4x4096x1024_2_0_01_1_n_n none
    (gated (convolved (padded cin (up x g wu)) cw cb) (up x g wu)) wd)

/-- The reference's second result. -/
abbrev CREF (x : FVec Ideal S4x4096x1024 .f32) (cin : FVec Ideal S4x2x2816 .f32) (g : FVec Ideal S1024 .f32) (wu : FVec Ideal S1024x5632 .f32) :
    FVec Ideal S4x2x2816 .f32 :=
  extractStridedSlice S4x2x2816 ![0, 4096, 0] (padded cin (up x g wu)) slices_S4x4098x2816_S4x2x2816_0_4096_0

theorem normed_at (x : FVec Ideal S4x4096x1024 .f32) (g : FVec Ideal S1024 .f32) (b : Fin 4) (r : Fin 4096) (i : Fin 1024) :
    normed x g (ix3 b r i) = rms (Ideal.ofBits .f32 0x44800000#32) (fun y => x (ix3 b r y)) (fun y => g (ix1 y)) i := by
  pointwise [normed, rms]

theorem dotu_at (z : FVec Ideal S4x4096x1024 .f32) (w : FVec Ideal S1024x5632 .f32) (b : Fin 4) (r : Fin 4096) (j : Fin 5632) :
    Host.dotGeneral dot_S4x4096x1024_S1024x5632_S4x4096x5632_2_0_01_1_n_n none z w (ix3 b r j) = ∑ i : Fin 1024, z (ix3 b r i) * w (ix2 i j) := by
  pointwise

theorem up_ref_at (x : FVec Ideal S4x4096x1024 .f32) (g : FVec Ideal S1024 .f32) (w : FVec Ideal S1024x5632 .f32) (b : Fin 4) (r : Fin 4096) (j : Fin 5632) :
    up x g w (ix3 b r j) = proj (fun y => x (ix3 b r y)) (fun y => g (ix1 y)) (fun i => w (ix2 i j)) := by
  refine (dotu_at _ w b r j).trans ?_
  simp only [normed_at]
  rfl

theorem padded_at (cin : FVec Ideal S4x2x2816 .f32) (z : FVec Ideal S4x4096x5632 .f32) (b : Fin 4) (s : Fin 4098) (j : Fin 2816) :
    padded cin z (ix3 b s j) = pad (fun s j => cin (ix3 b s j)) (fun τ j => z (ix3 b τ ⟨j.val, by omega⟩)) s j := by
  unfold pad
  split_ifs with h
  · pointwise [padded, h]
  · pointwise [padded, h]

theorem convolved_at (p : FVec Ideal S4x4098x2816 .f32) (w : FVec Ideal S3x2816 .f32) (v : FVec Ideal S2816 .f32) (b : Fin 4) (τ : Fin 4096) (j : Fin 2816) :
    convolved p w v (ix3 b τ j) = conv (w (ix2 0 j)) (w (ix2 1 j)) (w (ix2 2 j)) (v (ix1 j)) (p (ix3 b ⟨τ.val, by omega⟩ j))
      (p (ix3 b ⟨τ.val + 1, by omega⟩ j)) (p (ix3 b ⟨τ.val + 2, by omega⟩ j)) := by
  pointwise [convolved, along, conv]
  have e1 : (⟨1 + τ.val, by omega⟩ : Fin 4098) = ⟨τ.val + 1, by omega⟩ := Fin.ext (Nat.add_comm _ _)
  have e2 : (⟨2 + τ.val, by omega⟩ : Fin 4098) = ⟨τ.val + 2, by omega⟩ := Fin.ext (Nat.add_comm _ _)
  simp only [e1, e2, add_assoc]

theorem gated_at (k : FVec Ideal S4x4096x2816 .f32) (z : FVec Ideal S4x4096x5632 .f32) (b : Fin 4) (τ : Fin 4096) (j : Fin 2816) :
    gated k z (ix3 b τ j) = act (k (ix3 b τ j)) (z (ix3 b τ ⟨2816 + j.val, by omega⟩)) := by
  pointwise [gated, all, act]
  refine congrArg (· * _) ?_
  rw [← mul_assoc, mul_comm (k (ix3 b τ j)) (Ideal.ofBits .f32 _)]

theorem outer_at (x : FVec Ideal S4x4096x1024 .f32) (h : FVec Ideal S4x4096x2816 .f32) (w : FVec Ideal S2816x1024 .f32) (b : Fin 4) (τ : Fin 4096) (d : Fin 1024) :
    addf x (Host.dotGeneral dot_S4x4096x2816_S2816x1024_S4x4096x1024_2_0_01_1_n_n none h w) (ix3 b τ d)
      = x (ix3 b τ d) + ∑ j : Fin 2816, h (ix3 b τ j) * w (ix2 j d) := by
  pointwise

theorem y_ref_at (x : FVec Ideal S4x4096x1024 .f32) (cin : FVec Ideal S4x2x2816 .f32) (g : FVec Ideal S1024 .f32) (wu : FVec Ideal S1024x5632 .f32)
    (cw : FVec Ideal S3x2816 .f32) (cb : FVec Ideal S2816 .f32) (wd : FVec Ideal S2816x1024 .f32) (b : Fin 4) (τ : Fin 4096) (d : Fin 1024) :
    YREF x cin g wu cw cb wd (ix3 b τ d) = block (fun s y => x (ix3 b s y)) (fun y => g (ix1 y)) (fun i j => wu (ix2 i j)) (fun k j => cw (ix2 k j))
      (fun j => cb (ix1 j)) (fun j e => wd (ix2 j e)) (fun s j => cin (ix3 b s j)) τ d := by
  refine (outer_at x _ wd b τ d).trans ?_
  refine congrArg _ (Finset.sum_congr rfl fun j _ => congrArg (· * _) ?_)
  refine (gated_at _ _ b τ j).trans (congrArg₂ act ((convolved_at _ cw cb b τ j).trans ?_) (up_ref_at x g wu b τ _))
  simp only [padded_at, up_ref_at]
  rfl

theorem last_ref_at (z : FVec Ideal S4x4098x2816 .f32) (b : Fin 4) (s : Fin 2) (j : Fin 2816) :
    extractStridedSlice S4x2x2816 ![0, 4096, 0] z slices_S4x4098x2816_S4x2x2816_0_4096_0 (ix3 b s j) = z (ix3 b ⟨4096 + s.val, by omega⟩ j) := by
  pointwise

theorem c_ref_at (x : FVec Ideal S4x4096x1024 .f32) (cin : FVec Ideal S4x2x2816 .f32) (g : FVec Ideal S1024 .f32) (wu : FVec Ideal S1024x5632 .f32)
    (b : Fin 4) (s : Fin 2) (j : Fin 2816) :
    CREF x cin g wu (ix3 b s j) = hid (fun s y => x (ix3 b s y)) (fun y => g (ix1 y)) (fun i j => wu (ix2 i j)) ⟨4094 + s.val, by omega⟩ j := by
  refine (last_ref_at _ b s j).trans ((padded_at _ _ b _ j).trans ?_)
  unfold pad
  rw [dif_neg (by simp; omega)]
  refine (up_ref_at x g wu b _ _).trans ?_
  unfold hid
  exact congrArg (fun τ : Fin 4096 => proj (fun y => x (ix3 b τ y)) (fun y => g (ix1 y)) fun i => wu (ix2 i ⟨j.val, by omega⟩)) (Fin.ext (by simp; omega))

end Cert.Ffn
-- ==== Proof.FfnClaim.lean ====
/- The feed-forward block: kernel and reference agree. -/
module

public import proofs.«01_k».proof.Proof.Gen.KernelFfn.Frame
public import Idealize.ShloMosaic.Lib.Quiescent
public import proofs.«01_k».proof.Defs
public import proofs.«01_k».proof.Proof.FfnKernel
public import proofs.«01_k».proof.Proof.FfnRef

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.Row

theorem frame : quiescent_KernelFfn := fun m ρ _ => KernelFfn.Gen.frame m ρ

theorem frame_ideal : quiescent_KernelFfnIdeal := fun m ρ _ => KernelFfnIdeal.Gen.frame m ρ

theorem frame_ref : quiescent_ReferenceFfnIdeal := fun m ρ _ =>
  (θ_run ReferenceFfnIdeal.defs _ _).mono (fun r h => ⟨fun c => (h c).2.2, Idealize.ShloMosaic.sem_eq_zero_of_no_sems (by decide) r.2⟩)
    (ReferenceFfnIdeal.Value.run (F := Ideal) m ρ)

theorem y_eq (m : (ℓ : Loc KernelFfnIdeal.nD KernelFfnIdeal.τ KernelFfnIdeal.sig) → Buf (Elt Ideal) ℓ) (c : Dev KernelFfnIdeal.nD) :
    YREF (m (c.tc.loc KernelFfnIdeal.main_arg0)) (m (c.tc.loc KernelFfnIdeal.main_arg1))
      (m (c.tc.loc KernelFfnIdeal.main_arg2)) (m (c.tc.loc KernelFfnIdeal.main_arg3))
      (m (c.tc.loc KernelFfnIdeal.main_arg4)) (m (c.tc.loc KernelFfnIdeal.main_arg5))
      (m (c.tc.loc KernelFfnIdeal.main_arg6))
      = (KernelFfnIdeal.Gen.dats m 0 c).arrAt 7 KernelFfnIdeal.cfg0.N := by
  refine Eq.trans ?_ (final_y m c).symm
  funext i
  have hi : i = ix3 (i 0) (i 1) (i 2) := by blk_ext
  exact (congrArg _ hi).trans (y_ref_at _ _ _ _ _ _ _ (i 0) (i 1) (i 2))

theorem c_eq (m : (ℓ : Loc KernelFfnIdeal.nD KernelFfnIdeal.τ KernelFfnIdeal.sig) → Buf (Elt Ideal) ℓ) (c : Dev KernelFfnIdeal.nD) :
    CREF (m (c.tc.loc KernelFfnIdeal.main_arg0)) (m (c.tc.loc KernelFfnIdeal.main_arg1))
      (m (c.tc.loc KernelFfnIdeal.main_arg2)) (m (c.tc.loc KernelFfnIdeal.main_arg3))
      = (KernelFfnIdeal.Gen.dats m 0 c).arrAt 8 KernelFfnIdeal.cfg0.N := by
  refine Eq.trans ?_ (final_conv m c).symm
  funext i
  have hi : i = ix3 (i 0) (i 1) (i 2) := by blk_ext
  exact (congrArg _ hi).trans (c_ref_at _ _ _ _ (i 0) (i 1) (i 2))

theorem algebraic : algebraic_KernelFfnIdeal_ReferenceFfnIdeal := by
  intro m g m' g' _ hagree
  refine ⟨fun c => (KernelFfnIdeal.Gen.dats m 0 c).arrAt 7 KernelFfnIdeal.cfg0.N, fun c => (KernelFfnIdeal.Gen.dats m 0 c).arrAt 8 KernelFfnIdeal.cfg0.N, ?_, ?_⟩
  · exact (θ_run KernelFfnIdeal.defs _ _).mono (fun r h c => h c) (KernelFfnIdeal.Value.run_blocks (F := Ideal) m g)
  · refine (θ_run ReferenceFfnIdeal.defs _ _).mono (fun r h c => ⟨(h c).1.trans ?_, (h c).2.1.trans ?_, (h c).2.2⟩)
      (ReferenceFfnIdeal.Value.run (F := Ideal) m' g')
    · obtain ⟨h0, h1, h2, h3, h4, h5, h6⟩ := hagree c
      unfold ReferenceFfnIdeal.Value.res_main_v57
      rw [h0, h1, h2, h3, h4, h5, h6]
      exact y_eq m c
    · obtain ⟨h0, h1, h2, h3, h4, h5, h6⟩ := hagree c
      rw [h0, h1, h2, h3]
      exact c_eq m c

end Cert.Ffn
-- ==== Proof.KvKernel.lean ====
/- The memory keys and values: the kernel, read at an index. -/
module

public import proofs.«01_k».proof.Proof.Gen.KernelMemKvIdeal.Value
public import proofs.«01_k».proof.Proof.RowSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MemKv

open Cert.KernelMemKvIdeal Cert.KernelMemKvIdeal.Gen Cert.Row

theorem norm_at (a : Vec Ideal S1x256x1024 .f32) (g : Vec Ideal S1x1024 .f32) (r : Fin 256) (i : Fin 1024) :
    k0_pay3 a g (ix2 r i) = rms (Ideal.ofBits .f32 0x44800000#32) (fun x => a (ix3 0 r x)) (fun x => g (ix2 0 x)) i := by
  pointwise [k0_pay3, rms]

/-- A head of keys, from normalised rows. -/
theorem pay1_at (h : FVec Ideal S256x1024 .bf16) (w : Vec Ideal S1024x128 .bf16) (kg : Vec Ideal S1x128 .f32) (r : Fin 256) (d : Fin 128) :
    k0_pay1 h w kg (ix3 0 r d) = rms (Ideal.ofBits .f32 0x43000000#32) (fun j => ∑ i : Fin 1024, h (ix2 r i) * w (ix2 i j)) (fun x => kg (ix2 0 x)) d := by
  pointwise [k0_pay1, rms]

theorem pay2_at (h : FVec Ideal S256x1024 .bf16) (w : Vec Ideal S1024x512 .bf16) (r : Fin 256) (d : Fin 512) :
    k0_pay2 h w (ix3 0 r d) = ∑ i : Fin 1024, h (ix2 r i) * w (ix2 i d) := by
  pointwise [k0_pay2]

theorem pay4_eq (a : Vec Ideal S1x256x1024 .f32) (g : Vec Ideal S1x1024 .f32) (w : Vec Ideal S1024x128 .bf16) (kg : Vec Ideal S1x128 .f32) :
    k0_pay4 a g w kg = k0_pay1 (k0_pay3 a g) w kg := rfl
theorem pay5_eq (h : FVec Ideal S256x1024 .bf16) (w : Vec Ideal S1024x128 .bf16) (kg : Vec Ideal S1x128 .f32) :
    k0_pay5 h w kg = k0_pay1 h w kg := rfl
theorem pay6_eq (h : FVec Ideal S256x1024 .bf16) (w : Vec Ideal S1024x128 .bf16) (kg : Vec Ideal S1x128 .f32) :
    k0_pay6 h w kg = k0_pay1 h w kg := rfl

theorem key_at (a : Vec Ideal S1x256x1024 .f32) (g : Vec Ideal S1x1024 .f32) (w : Vec Ideal S1024x128 .bf16) (kg : Vec Ideal S1x128 .f32)
    (r : Fin 256) (d : Fin 128) : k0_pay1 (k0_pay3 a g) w kg (ix3 0 r d)
      = projHead (fun x => a (ix3 0 r x)) (fun x => g (ix2 0 x)) (fun i j => w (ix2 i j)) (fun x => kg (ix2 0 x)) d := by
  rw [pay1_at]
  simp only [norm_at]
  rfl

theorem val_at (a : Vec Ideal S1x256x1024 .f32) (g : Vec Ideal S1x1024 .f32) (w : Vec Ideal S1024x512 .bf16) (r : Fin 256) (d : Fin 512) :
    k0_pay2 (k0_pay3 a g) w (ix3 0 r d) = proj (fun x => a (ix3 0 r x)) (fun x => g (ix2 0 x)) (fun i => w (ix2 i d)) := by
  rw [pay2_at]
  simp only [norm_at]
  rfl

theorem out4_at (x0 : Vec Ideal S1x256x1024 .f32) (x1 : Vec Ideal S1x1024 .f32) (x2 : Vec Ideal S1024x1024 .bf16) (x3 : Vec Ideal S1x128 .f32)
    (h : Fin 4) (r : Fin 256) (d : Fin 128) (i : S1x256x512.Idx) (h1 : (i 1 : ℕ) = r) (h2 : (i 2 : ℕ) = h.val * 128 + d.val) :
    out0_4 x0 x1 x2 x3 i = projHead (fun x => x0 (ix3 0 r x)) (fun x => x1 (ix2 0 x))
      (fun i j => x2 (ix2 i ⟨h.val * 128 + j.val, by omega⟩)) (fun x => x3 (ix2 0 x)) d := by
  unfold out0_4 k0_pay7
  canon_tiles x hx
  all_goals
    obtain rfl : x = ix3 0 r d := by blk_ext
    first | rw [pay4_eq] | rw [pay5_eq] | rw [pay6_eq] | skip
    rw [key_at]
    refine projHead_congr (fun x => ?_) (fun x => ?_) (fun i j => ?_) (fun x => ?_) rfl <;> pointwise <;> blk_ext

theorem out5_at (x0 : Vec Ideal S1x256x1024 .f32) (x1 : Vec Ideal S1x1024 .f32) (x2 : Vec Ideal S1024x1024 .bf16) (x3 : Vec Ideal S1x128 .f32)
    (r : Fin 256) (d : Fin 512) (i : S1x256x512.Idx) (h1 : (i 1 : ℕ) = r) (h2 : (i 2 : ℕ) = d.val) :
    out0_5 x0 x1 x2 x3 i = proj (fun x => x0 (ix3 0 r x)) (fun x => x1 (ix2 0 x))
      (fun i => x2 (ix2 i ⟨512 + d.val, by omega⟩)) := by
  unfold out0_5 k0_pay7
  canon_tiles x hx
  all_goals
    obtain rfl : x = ix3 0 r d := by blk_ext
    rw [val_at]
    refine proj_congr (fun x => ?_) (fun x => ?_) (fun i => ?_) <;> pointwise <;> blk_ext

theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] ∧ t.val < 4 :=
  (by decide +kernel : ∀ t : Fin grid0.N, _)

variable (m : (ℓ : Loc nD τ sig) → Buf (Elt Ideal) ℓ)

/-- The keys after the run: token `i 1` of batch `i 0`, coordinate `i 2 % 128` of head `i 2 / 128`. -/
theorem final4_at (c : Dev nD) : (dats m 0 c).arrAt 4 (cfgs 0).N = fun i : S4x256x512.Idx =>
    projHead (fun x => m ((c : Thread nD τ).loc main_arg0) (ix3 (i 0) (i 1) x)) (fun x => m ((c : Thread nD τ).loc main_arg1) (ix1 x))
      (fun y j => m ((c : Thread nD τ).loc main_arg2) (ix2 y ⟨(i 2).val / 128 * 128 + j.val, by idx_bounds; omega⟩))
      (fun x => m ((c : Thread nD τ).loc main_arg3) (ix1 x)) ⟨(i 2).val % 128, by omega⟩ := by
  refine (dats m 0 c).arrAt_eq_of_covers 4 _ (by decide +kernel) fun t _ y => ?_
  blk_simp
  rw [after0_4]
  idx_bounds y
  refine (out4_at _ _ _ _ ⟨(y 2 : ℕ) / 128, by omega⟩ ⟨(y 1 : ℕ), by omega⟩ ⟨(y 2 : ℕ) % 128, by omega⟩ y rfl (by dsimp only; omega)).trans ?_
  refine projHead_congr (fun x => ?_) (fun x => ?_) (fun i j => ?_) (fun x => ?_) ?_
  all_goals first | blk_point [iblk, V, idx t] | blk_ext [iblk, V, idx t]

theorem final5_at (c : Dev nD) : (dats m 0 c).arrAt 5 (cfgs 0).N = fun i : S4x256x512.Idx =>
    proj (fun x => m ((c : Thread nD τ).loc main_arg0) (ix3 (i 0) (i 1) x)) (fun x => m ((c : Thread nD τ).loc main_arg1) (ix1 x))
      (fun y => m ((c : Thread nD τ).loc main_arg2) (ix2 y ⟨512 + (i 2).val, by idx_bounds; omega⟩)) := by
  refine (dats m 0 c).arrAt_eq_of_covers 5 _ (by decide +kernel) fun t _ y => ?_
  blk_simp
  rw [after0_5]
  idx_bounds y
  refine (out5_at _ _ _ _ ⟨(y 1 : ℕ), by omega⟩ ⟨(y 2 : ℕ), by omega⟩ y rfl rfl).trans ?_
  refine proj_congr (fun x => ?_) (fun x => ?_) (fun i => ?_)
  all_goals first | blk_point [iblk, V, idx t] | blk_ext [iblk, V, idx t]

end Cert.MemKv
-- ==== Proof.KvRef.lean ====
/- The memory keys and values: the reference, read at an index. -/
module

public import proofs.«01_k».proof.Proof.Gen.ReferenceMemKvIdeal.Run
public import proofs.«01_k».proof.Proof.RowSpec

@[expose] public section

set_option maxRecDepth 16384

noncomputable section

open Idealize.ShloMosaic Idealize.ShloMosaic.TcCoe Idealize.SL.Sem
open Idealize.ShloMosaic.Pipeline (Dat)
open scoped BigOperators

namespace Cert.MemKv

open Cert.ReferenceMemKvIdeal Cert.ReferenceMemKvIdeal.Gen Cert.Row

/-- The reference's normalised rows. -/
abbrev normed (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf (Host.divf
      (broadcastInDim S4x256x1 ![0, 1] bcast_S4x256_S4x256x1_0_1 (Host.reduceAdd (mulf x x) (constant S_ .f32 0x00000000#32)
        reducesTo_S4x256x1024_S4x256_d2 h_S_)) (broadcastInDim S4x256x1 ![] bcast_S_S4x256x1 (constant S_ .f32 0x44800000#32)))
      (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))

/-- Keys and values before they are split. -/
abbrev both (x : FVec Ideal S4x256x1024 .f32) (g : FVec Ideal S1024 .f32) (w : FVec Ideal S1024x1024 .f32) : FVec Ideal S4x256x1024 .f32 :=
  Host.dotGeneral dot_S4x256x1024_S1024x1024_S4x256x1024_2_0_01_1_n_n none (normed x g) w

/-- Heads of keys normalised. -/
abbrev heads (z : FVec Ideal S4x256x4x128 .f32) (kg : FVec Ideal S128 .f32) : FVec Ideal S4x256x4x128 .f32 :=
  mulf (mulf z (broadcastInDim S4x256x4x128 ![0, 1, 2, 3] bcast_S4x256x4x1_S4x256x4x128_0_1_2_3 (Host.rsqrt (addf (Host.divf
      (broadcastInDim S4x256x4x1 ![0, 1, 2] bcast_S4x256x4_S4x256x4x1_0_1_2 (Host.reduceAdd (mulf z z) (constant S_ .f32 0x00000000#32)
        reducesTo_S4x256x4x128_S4x256x4_d3 h_S_)) (broadcastInDim S4x256x4x1 ![] bcast_S_S4x256x4x1 (constant S_ .f32 0x43000000#32)))
      (broadcastInDim S4x256x4x1 ![] bcast_S_S4x256x4x1 (constant S_ .f32 0x358637BD#32))))))
    (broadcastInDim S4x256x4x128 ![0, 1, 2, 3] bcast_S1x1x1x128_S4x256x4x128_0_1_2_3 (broadcastInDim S1x1x1x128 ![3] bcast_S128_S1x1x1x128_3 kg))

abbrev KEYS (x : FVec Ideal S4x256x1024 .f32) (g : FVec Ideal S1024 .f32) (w : FVec Ideal S1024x1024 .f32) (kg : FVec Ideal S128 .f32) :
    FVec Ideal S4x256x512 .f32 :=
  shapeCast _ (heads (shapeCast _ (extractStridedSlice S4x256x512 ![0, 0, 0] (both x g w) slices_S4x256x1024_S4x256x512_0_0_0)
    shapeCasts_S4x256x512_S4x256x4x128) kg) shapeCasts_S4x256x4x128_S4x256x512

abbrev VALS (x : FVec Ideal S4x256x1024 .f32) (g : FVec Ideal S1024 .f32) (w : FVec Ideal S1024x1024 .f32) : FVec Ideal S4x256x512 .f32 :=
  extractStridedSlice S4x256x512 ![0, 0, 512] (both x g w) slices_S4x256x1024_S4x256x512_0_0_512

theorem normed_at (x : FVec Ideal S4x256x1024 .f32) (g : FVec Ideal S1024 .f32) (b : Fin 4) (r : Fin 256) (i : Fin 1024) :
    normed x g (ix3 b r i) = rms (Ideal.ofBits .f32 0x44800000#32) (fun y => x (ix3 b r y)) (fun y => g (ix1 y)) i := by
  pointwise [normed, rms]

theorem dot_at (z : FVec Ideal S4x256x1024 .f32) (w : FVec Ideal S1024x1024 .f32) (b : Fin 4) (r : Fin 256) (j : Fin 1024) :
    Host.dotGeneral dot_S4x256x1024_S1024x1024_S4x256x1024_2_0_01_1_n_n none z w (ix3 b r j) = ∑ i : Fin 1024, z (ix3 b r i) * w (ix2 i j) := by
  pointwise

theorem both_at (x : FVec Ideal S4x256x1024 .f32) (g : FVec Ideal S1024 .f32) (w : FVec Ideal S1024x1024 .f32) (b : Fin 4) (r : Fin 256) (j : Fin 1024) :
    both x g w (ix3 b r j) = proj (fun y => x (ix3 b r y)) (fun y => g (ix1 y)) (fun i => w (ix2 i j)) := by
  refine (dot_at _ w b r j).trans ?_
  simp only [normed_at]
  rfl

theorem heads_at (z : FVec Ideal S4x256x4x128 .f32) (kg : FVec Ideal S128 .f32) (b : Fin 4) (r : Fin 256) (h : Fin 4) (d : Fin 128) :
    heads z kg (ix4 b r h d) = rms (Ideal.ofBits .f32 0x43000000#32) (fun y => z (ix4 b r h y)) (fun y => kg (ix1 y)) d := by
  pointwise [heads, rms]

theorem lay_at (z : FVec Ideal S4x256x4x128 .f32) (b : Fin 4) (r : Fin 256) (h : Fin 4) (d : Fin 128) :
    shapeCast S4x256x512 z shapeCasts_S4x256x4x128_S4x256x512 (ix3 b r ⟨h.val * 128 + d.val, by omega⟩) = z (ix4 b r h d) := by
  pointwise

theorem cut_at (z : FVec Ideal S4x256x1024 .f32) (b : Fin 4) (r : Fin 256) (h : Fin 4) (d : Fin 128) :
    shapeCast S4x256x4x128 (extractStridedSlice S4x256x512 ![0, 0, 0] z slices_S4x256x1024_S4x256x512_0_0_0)
      shapeCasts_S4x256x512_S4x256x4x128 (ix4 b r h d) = z (ix3 b r ⟨h.val * 128 + d.val, by omega⟩) := by
  pointwise

theorem cut_val (z : FVec Ideal S4x256x1024 .f32) (b : Fin 4) (r : Fin 256) (d : Fin 512) :
    extractStridedSlice S4x256x512 ![0, 0, 512] z slices_S4x256x1024_S4x256x512_0_0_512 (ix3 b r d) = z (ix3 b r ⟨512 + d.val, by omega⟩) := by
  pointwise

theorem keys_at (x : FVec Ideal S4x256x1024 .f32) (g : FVec Ideal S1024 .f32) (w : FVec Ideal S1024x1024 .f32) (kg : FVec Ideal S128 .f32)
    (b : Fin 4) (r : Fin 256) (h : Fin 4) (d : Fin 128) :
    KEYS x g w kg (ix3 b r ⟨h.val * 128 + d.val, by omega⟩) = projHead (fun y => x (ix3 b r y)) (fun y => g (ix1 y))
      (fun i j => w (ix2 i ⟨h.val * 128 + j.val, by omega⟩)) (fun y => kg (ix1 y)) d := by
  refine (lay_at _ b r h d).trans ((heads_at _ kg b r h d).trans ?_)
  simp only [cut_at, both_at]
  rfl

theorem vals_at (x : FVec Ideal S4x256x1024 .f32) (g : FVec Ideal S1024 .f32) (w : FVec Ideal S1024x1024 .f32)
    (b : Fin 4) (r : Fin 256) (d : Fin 512) :
    VALS x g w (ix3 b r d) = proj (fun y => x (ix3 b r y)) (fun y => g (ix1 y)) (fun i => w (ix2 i ⟨512 + d.val, by omega⟩)) := by
  exact (cut_val _ b r d).trans (both_at x g w b r ⟨512 + d.val, by omega⟩)

end Cert.MemKv
-- ==== Proof.KvClaim.lean ====
/- The memory keys and values: the claims. -/
module

public import proofs.«01_k».proof.Defs
public import proofs.«01_k».proof.Proof.KvKernel
public import proofs.«01_k».proof.Proof.KvRef
public import proofs.«01_k».proof.Proof.Gen.KernelMemKv.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MemKv

open Cert Cert.Row

/-- The keys the call leaves are the reference's. -/
theorem keys_eq (m : (ℓ : Loc KernelMemKvIdeal.nD KernelMemKvIdeal.τ KernelMemKvIdeal.sig) → Buf (Elt Ideal) ℓ) (c : Dev KernelMemKvIdeal.nD) :
    (KernelMemKvIdeal.Gen.dats m 0 c).arrAt 4 KernelMemKvIdeal.cfg0.N
      = KEYS (m (c.tc.loc KernelMemKvIdeal.main_arg0)) (m (c.tc.loc KernelMemKvIdeal.main_arg1))
          (m (c.tc.loc KernelMemKvIdeal.main_arg2)) (m (c.tc.loc KernelMemKvIdeal.main_arg3)) := by
  refine (final4_at m c).trans (funext fun i => ?_)
  have h2 : (i 2 : ℕ) < 512 := (i 2).isLt
  have hi : i = ix3 (i 0) (i 1) ⟨(i 2 : ℕ) / 128 * 128 + (i 2 : ℕ) % 128, by omega⟩ := by blk_ext
  refine Eq.trans ?_ ((congrArg _ hi).trans (keys_at _ _ _ _ (i 0) (i 1) ⟨(i 2 : ℕ) / 128, by omega⟩ ⟨(i 2 : ℕ) % 128, by omega⟩)).symm
  rfl

/-- The values the call leaves are the reference's. -/
theorem vals_eq (m : (ℓ : Loc KernelMemKvIdeal.nD KernelMemKvIdeal.τ KernelMemKvIdeal.sig) → Buf (Elt Ideal) ℓ) (c : Dev KernelMemKvIdeal.nD) :
    (KernelMemKvIdeal.Gen.dats m 0 c).arrAt 5 KernelMemKvIdeal.cfg0.N
      = VALS (m (c.tc.loc KernelMemKvIdeal.main_arg0)) (m (c.tc.loc KernelMemKvIdeal.main_arg1))
          (m (c.tc.loc KernelMemKvIdeal.main_arg2)) := by
  refine (final5_at m c).trans (funext fun i => ?_)
  have hi : i = ix3 (i 0) (i 1) (i 2) := by blk_ext
  refine Eq.trans ?_ ((congrArg _ hi).trans (vals_at _ _ _ (i 0) (i 1) (i 2))).symm
  rfl

theorem frame : quiescent_KernelMemKv := fun m ρ _ => KernelMemKv.Gen.frame m ρ
theorem frame_ideal : quiescent_KernelMemKvIdeal := fun m ρ _ => KernelMemKvIdeal.Gen.frame m ρ
theorem frame_ref : quiescent_ReferenceMemKvIdeal := fun m ρ _ =>
  (θ_run ReferenceMemKvIdeal.defs _ _).mono (fun r h => ⟨fun c => (h c).2.2,
      Idealize.ShloMosaic.sem_eq_zero_of_no_sems (by decide) r.2⟩)
    (ReferenceMemKvIdeal.Value.run (F := Ideal) m ρ)

theorem algebraic : algebraic_KernelMemKvIdeal_ReferenceMemKvIdeal := by
  intro m g m' g' _ hagree
  refine ⟨fun c => (KernelMemKvIdeal.Gen.dats m 0 c).arrAt 4 KernelMemKvIdeal.cfg0.N,
    fun c => (KernelMemKvIdeal.Gen.dats m 0 c).arrAt 5 KernelMemKvIdeal.cfg0.N, ?_, ?_⟩
  · exact (θ_run KernelMemKvIdeal.defs _ _).mono (fun r h c => h c)
      (KernelMemKvIdeal.Value.run_blocks (F := Ideal) m g)
  · refine (θ_run ReferenceMemKvIdeal.defs _ _).mono (fun r h c => ⟨(h c).1.trans ?_, (h c).2.1.trans ?_, (h c).2.2⟩)
      (ReferenceMemKvIdeal.Value.run (F := Ideal) m' g')
    · rw [(hagree c).1, (hagree c).2.1, (hagree c).2.2.1, (hagree c).2.2.2]
      exact (keys_eq m c).symm
    · rw [(hagree c).1, (hagree c).2.1, (hagree c).2.2.1]
      exact (vals_eq m c).symm

end Cert.MemKv
-- ==== Proof.InsKernel.lean ====
/- The input projection of the sample batch: one grid step of the kernel, eight sequences at a time, read at an index. -/
module

public import proofs.«01_k».proof.Proof.Gen.KernelInSIdeal.Frame
public import proofs.«01_k».proof.Proof.InKernel
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InS

open Cert.KernelInSIdeal Cert.KernelInSIdeal.Gen Cert.Row
open Cert.In (segRms segHead gate segHead_congr gate_congr)

section Payloads

variable (a : Vec Ideal S8x64x1024 .f32) (g : Vec Ideal S1x1024 .f32) (h : FVec Ideal S512x1024 .bf16) (w : Vec Ideal S1024x128 .bf16)
  (e : Vec Ideal S128x128 .bf16) (kg : Vec Ideal S1x128 .f32) (s : Fin 8) (r : Fin 64)

theorem norm_at (i : Fin 1024) : k0_pay1 a g (ix2 ⟨s.val * 64 + r.val, by omega⟩ i)
    = rms (Ideal.ofBits .f32 0x44800000#32) (fun x => a (ix3 s r x)) (fun x => g (ix2 0 x)) i := by
  pointwise [k0_pay1, rms]

theorem plain_at (d : Fin 128) :
    k0_pay18 h w (ix3 s r d) = ∑ i : Fin 1024, h (ix2 ⟨s.val * 64 + r.val, by omega⟩ i) * w (ix2 i d) := by
  pointwise [k0_pay18]

theorem wide_at (v : Vec Ideal S1024x1792 .bf16) (d : Fin 1792) :
    k0_pay3 a g v (ix3 s r d) = ∑ i : Fin 1024, k0_pay1 a g (ix2 ⟨s.val * 64 + r.val, by omega⟩ i) * v (ix2 i d) := by
  pointwise [k0_pay3]

theorem sig_at (v : Vec Ideal S1024x1024 .bf16) (d : Fin 1024) : k0_pay25 h v (ix3 s r d)
    = Ideal.div 1 (1 + Ideal.exp (0 - ∑ i : Fin 1024, h (ix2 ⟨s.val * 64 + r.val, by omega⟩ i) * v (ix2 i d))) := by
  pointwise [k0_pay25]

theorem head_at (d : Fin 128) : k0_pay21 h w kg (ix3 s r d)
    = rms (Ideal.ofBits .f32 0x43000000#32) (fun j => ∑ i : Fin 1024, h (ix2 ⟨s.val * 64 + r.val, by omega⟩ i) * w (ix2 i j))
        (fun x => kg (ix2 0 x)) d := by
  pointwise [k0_pay21, rms]

theorem slot_at (b : FVec Ideal S128x128 .bf16) (d : Fin 128) : k0_pay11 h b w kg (ix3 s r d)
    = segRms (fun j => ∑ i : Fin 1024, h (ix2 ⟨s.val * 64 + r.val, by omega⟩ i) * w (ix2 i j)) (fun k => b (ix2 k d))
        (fun x => kg (ix2 0 x)) d := by
  pointwise [k0_pay11, segRms]

theorem mask_at (k d : Fin 128) : k0_pay2 e (ix2 k d) = e (ix2 k d) := by
  pointwise [k0_pay2]

theorem pay10_eq : k0_pay10 (k0_pay2 e) (k0_pay4 a g w) (k0_pay5 kg) (k0_pay8 a g w) (k0_pay9 a g e w)
    = k0_pay11 (k0_pay1 a g) (k0_pay2 e) w kg := rfl
theorem pay13_eq (b : FVec Ideal S128x128 .bf16) :
    k0_pay13 h b (k0_pay12 w) (constant S512x128 .f32 0x00000000#32) kg = k0_pay11 h b w kg := rfl
theorem pay16_eq (b : FVec Ideal S128x128 .bf16) : k0_pay16 (k0_pay14 h b w) (k0_pay15 kg) = k0_pay11 h b w kg := rfl
theorem pay17_eq (b : FVec Ideal S128x128 .bf16) : k0_pay17 h b w kg = k0_pay11 h b w kg := rfl
theorem pay20_eq : k0_pay20 h (k0_pay19 w) (constant S512x128 .f32 0x00000000#32) kg = k0_pay21 h w kg := rfl
theorem pay22_eq : k0_pay22 h w kg = k0_pay21 h w kg := rfl
theorem pay23_eq : k0_pay23 h w kg = k0_pay21 h w kg := rfl
theorem pay24_eq (v : Vec Ideal S1024x1024 .bf16) : k0_pay24 h v = k0_pay25 h v := rfl
theorem pay26_eq (v : Vec Ideal S1024x1024 .bf16) : k0_pay26 h v = k0_pay25 h v := rfl

theorem plainP_at (d : Fin 128) : k0_pay18 (k0_pay1 a g) w (ix3 s r d)
    = proj (fun x => a (ix3 s r x)) (fun x => g (ix2 0 x)) (fun i => w (ix2 i d)) := by
  rw [plain_at]
  simp only [norm_at]
  rfl

theorem wideP_at (v : Vec Ideal S1024x1792 .bf16) (d : Fin 1792) : k0_pay3 a g v (ix3 s r d)
    = proj (fun x => a (ix3 s r x)) (fun x => g (ix2 0 x)) (fun i => v (ix2 i d)) := by
  rw [wide_at]
  simp only [norm_at]
  rfl

theorem sigP_at (v : Vec Ideal S1024x1024 .bf16) (d : Fin 1024) : k0_pay25 (k0_pay1 a g) v (ix3 s r d)
    = gate (fun x => a (ix3 s r x)) (fun x => g (ix2 0 x)) (fun i => v (ix2 i d)) := by
  rw [sig_at]
  simp only [norm_at]
  rfl

theorem headP_at (d : Fin 128) : k0_pay21 (k0_pay1 a g) w kg (ix3 s r d)
    = projHead (fun x => a (ix3 s r x)) (fun x => g (ix2 0 x)) (fun i j => w (ix2 i j)) (fun x => kg (ix2 0 x)) d := by
  rw [head_at]
  simp only [norm_at]
  rfl

theorem slotP_at (d : Fin 128) : k0_pay11 (k0_pay1 a g) (k0_pay2 e) w kg (ix3 s r d)
    = segHead (fun x => a (ix3 s r x)) (fun x => g (ix2 0 x)) (fun i j => w (ix2 i j)) (fun k => e (ix2 k d)) (fun x => kg (ix2 0 x)) d := by
  rw [slot_at]
  simp only [norm_at, mask_at]
  rfl

end Payloads

section Outputs

variable (x0 : Vec Ideal S8x64x1024 .f32) (x1 : Vec Ideal S1x1024 .f32) (x2 : Vec Ideal S1024x6144 .bf16) (x3 x4 x5 : Vec Ideal S1x128 .f32)
  (x6 : Vec Ideal S128x128 .bf16) (s : Fin 8) (r : Fin 64)

theorem out7_at (d : Fin 1792) (i : S8x64x1792.Idx) (h0 : (i 0 : ℕ) = s) (h1 : (i 1 : ℕ) = r) (h2 : (i 2 : ℕ) = d.val) :
    out0_7 x0 x1 x2 x3 x4 x5 x6 i = proj (fun x => x0 (ix3 s r x)) (fun x => x1 (ix2 0 x)) (fun i => x2 (ix2 i ⟨d.val, by omega⟩)) := by
  unfold out0_7
  canon_tiles x hx
  all_goals
    obtain rfl : x = ix3 s r d := by blk_ext
    rw [wideP_at]
    refine proj_congr (fun x => ?_) (fun x => ?_) (fun i => ?_) <;> pointwise <;> blk_ext

theorem out8_at (h : Fin 4) (d : Fin 128) (i : S8x64x512.Idx) (h0 : (i 0 : ℕ) = s) (h1 : (i 1 : ℕ) = r) (h2 : (i 2 : ℕ) = h.val * 128 + d.val) :
    out0_8 x0 x1 x2 x3 x4 x5 x6 i = segHead (fun x => x0 (ix3 s r x)) (fun x => x1 (ix2 0 x))
      (fun i j => x2 (ix2 i ⟨1792 + (h.val * 128 + j.val), by omega⟩)) (fun k => x6 (ix2 k d)) (fun x => x3 (ix2 0 x)) d := by
  unfold out0_8 k0_pay28 k0_pay27
  canon_tiles x hx
  all_goals
    obtain rfl : x = ix3 s r d := by blk_ext
    first | rw [pay10_eq] | rw [pay13_eq] | rw [pay16_eq] | skip
    rw [slotP_at]
    refine segHead_congr (fun x => ?_) (fun x => ?_) (fun i j => ?_) (fun x => ?_) (fun x => ?_) rfl <;> pointwise <;> blk_ext

theorem out9_at (d : Fin 128) (i : S8x64x128.Idx) (h0 : (i 0 : ℕ) = s) (h1 : (i 1 : ℕ) = r) (h2 : (i 2 : ℕ) = d.val) :
    out0_9 x0 x1 x2 x3 x4 x5 x6 i = segHead (fun x => x0 (ix3 s r x)) (fun x => x1 (ix2 0 x))
      (fun i j => x2 (ix2 i ⟨2304 + j.val, by omega⟩)) (fun k => x6 (ix2 k d)) (fun x => x4 (ix2 0 x)) d := by
  unfold out0_9 k0_pay28 k0_pay27
  canon_tiles x hx
  all_goals
    obtain rfl : x = ix3 s r d := by blk_ext
    rw [pay17_eq, slotP_at]
    refine segHead_congr (fun x => ?_) (fun x => ?_) (fun i j => ?_) (fun x => ?_) (fun x => ?_) rfl <;> pointwise <;> blk_ext

theorem out10_at (d : Fin 128) (i : S8x64x128.Idx) (h0 : (i 0 : ℕ) = s) (h1 : (i 1 : ℕ) = r) (h2 : (i 2 : ℕ) = d.val) :
    out0_10 x0 x1 x2 x3 x4 x5 x6 i
      = proj (fun x => x0 (ix3 s r x)) (fun x => x1 (ix2 0 x)) (fun i => x2 (ix2 i ⟨2432 + d.val, by omega⟩)) := by
  unfold out0_10 k0_pay27
  canon_tiles x hx
  all_goals
    obtain rfl : x = ix3 s r d := by blk_ext
    rw [plainP_at]
    refine proj_congr (fun x => ?_) (fun x => ?_) (fun i => ?_) <;> pointwise <;> blk_ext

theorem out11_at (h : Fin 4) (d : Fin 128) (i : S8x64x512.Idx) (h0 : (i 0 : ℕ) = s) (h1 : (i 1 : ℕ) = r) (h2 : (i 2 : ℕ) = h.val * 128 + d.val) :
    out0_11 x0 x1 x2 x3 x4 x5 x6 i = projHead (fun x => x0 (ix3 s r x)) (fun x => x1 (ix2 0 x))
      (fun i j => x2 (ix2 i ⟨2560 + (h.val * 128 + j.val), by omega⟩)) (fun x => x5 (ix2 0 x)) d := by
  unfold out0_11 k0_pay27
  canon_tiles x hx
  all_goals
    obtain rfl : x = ix3 s r d := by blk_ext
    first | rw [pay20_eq] | rw [pay22_eq] | rw [pay23_eq] | skip
    rw [headP_at]
    refine projHead_congr (fun x => ?_) (fun x => ?_) (fun i j => ?_) (fun x => ?_) rfl <;> pointwise <;> blk_ext

theorem out12_at (h : Fin 3) (d : Fin 1024) (i : S8x64x3072.Idx) (h0 : (i 0 : ℕ) = s) (h1 : (i 1 : ℕ) = r) (h2 : (i 2 : ℕ) = h.val * 1024 + d.val) :
    out0_12 x0 x1 x2 x3 x4 x5 x6 i = gate (fun x => x0 (ix3 s r x)) (fun x => x1 (ix2 0 x))
      (fun i => x2 (ix2 i ⟨3072 + (h.val * 1024 + d.val), by omega⟩)) := by
  unfold out0_12 k0_pay27
  canon_tiles x hx
  all_goals
    obtain rfl : x = ix3 s r d := by blk_ext
    first | rw [pay24_eq] | rw [pay26_eq] | skip
    rw [sigP_at]
    refine gate_congr (fun x => ?_) (fun x => ?_) (fun i => ?_) <;> pointwise <;> blk_ext

end Outputs

end Cert.InS
-- ==== Proof.InsFinal.lean ====
/- The input projection of the sample batch: the arrays the kernel leaves. -/
module

public import proofs.«01_k».proof.Proof.InsKernel
public import proofs.«01_k».proof.Proof.InFinal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InS

open Cert.KernelInSIdeal Cert.KernelInSIdeal.Gen Cert.Row
open Cert.In (segHead gate segHead_congr gate_congr floorDiv half_vec mask_vec half_eq)

theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ win0_9.index t = ![t.val, 0, 0]
    ∧ win0_10.index t = ![t.val, 0, 0] ∧ win0_11.index t = ![t.val, 0, 0] ∧ win0_12.index t = ![t.val, 0, 0] ∧ t.val < 4 :=
  (by decide +kernel : ∀ t : Fin grid0.N, _)

variable (m : (ℓ : Loc nD τ sig) → Buf (Elt Ideal) ℓ) (c : Dev nD)

theorem half_open : V m c main_v14 = floorDiv (iotaInDim S128 32 0) := by
  simp only [V, V0, hostOps0, hostOps0_1, hostOps0_2, List.flatten_cons, List.flatten_nil, List.append_nil, List.cons_append, List.nil_append]
  after_results_simp
  rfl

theorem half (k : Fin 128) : V m c main_v14 (ix1 k) = BitVec.ofNat 32 (k.val / 64) :=
  (congrFun (half_open m c) (ix1 k)).trans (half_vec k)

theorem mask_open : V m c main_v20 = (uitofp .bf16 (cmpi .eq
      (broadcastInDim S128x128 ![0, 1] bcast_S128x1_S128x128_0_1 (broadcastInDim S128x1 ![0] bcast_S128_S128x1_0 (V m c main_v14)))
      (broadcastInDim S128x128 ![0, 1] bcast_S1x128_S128x128_0_1 (broadcastInDim S1x128 ![1] bcast_S128_S1x128_1 (V m c main_v14))))
    : FVec Ideal S128x128 .bf16) := by
  simp only [V, V0, hostOps0, hostOps0_1, hostOps0_2, List.flatten_cons, List.flatten_nil, List.append_nil, List.cons_append, List.nil_append]
  after_results_simp

/-- The mask: 1 where the two coordinates are in the same head. -/
theorem mask_V (k d : Fin 128) : V m c main_v20 (ix2 k d) = if k.val / 64 = d.val / 64 then (1 : EReal) else 0 := by
  rw [mask_open]
  refine (mask_vec (V m c main_v14) k d).trans ?_
  rw [half, half]
  exact if_congr (half_eq k d) rfl rfl

theorem norm_V (x : Fin 1024) : V m c main_v2 (ix2 0 x) = m ((c : Thread nD τ).loc main_arg3) (ix1 x) := by
  simp only [V, V0, hostOps0, hostOps0_1, hostOps0_2, List.flatten_cons, List.flatten_nil, List.append_nil, List.cons_append, List.nil_append]
  after_results_simp
  pointwise

theorem weight_V (x : Fin 1024) (j : Fin 6144) : V m c main_v3 (ix2 x j) = m ((c : Thread nD τ).loc main_arg4) (ix2 x j) := by
  simp only [V, V0, hostOps0, hostOps0_1, hostOps0_2, List.flatten_cons, List.flatten_nil, List.append_nil, List.cons_append, List.nil_append]
  after_results_simp
  pointwise

theorem qgain_V (x : Fin 128) : V m c main_v7 (ix2 0 x) = m ((c : Thread nD τ).loc main_arg5) (ix1 ⟨x.val % 64, by omega⟩) := by
  simp only [V, V0, hostOps0, hostOps0_1, hostOps0_2, List.flatten_cons, List.flatten_nil, List.append_nil, List.cons_append, List.nil_append]
  after_results_simp
  pointwise

theorem kgain_V (x : Fin 128) : V m c main_v11 (ix2 0 x) = m ((c : Thread nD τ).loc main_arg6) (ix1 ⟨x.val % 64, by omega⟩) := by
  simp only [V, V0, hostOps0, hostOps0_1, hostOps0_2, List.flatten_cons, List.flatten_nil, List.append_nil, List.cons_append, List.nil_append]
  after_results_simp
  pointwise

theorem mgain_V (x : Fin 128) : V m c main_v12 (ix2 0 x) = m ((c : Thread nD τ).loc main_arg7) (ix1 x) := by
  simp only [V, V0, hostOps0, hostOps0_1, hostOps0_2, List.flatten_cons, List.flatten_nil, List.append_nil, List.cons_append, List.nil_append]
  after_results_simp
  pointwise

section Blocks

variable (t : Fin cfg0.N)

theorem blk0 (s : Fin 8) (r : Fin 64) (x : Fin 1024) : iblk m c 0 t (ix3 s r x) = m ((c : Thread nD τ).loc main_arg0)
    (ix3 ⟨t.val * 8 + s.val, by have := (idx t).2.2.2.2.2.2.2.2.2.2.2.2.2; omega⟩ r x) := by
  rw [← V_main_arg0 m c]
  blk_ext [iblk, idx t]

theorem blk1 (x : Fin 1024) : iblk m c 1 t (ix2 0 x) = m ((c : Thread nD τ).loc main_arg3) (ix1 x) := by
  refine Eq.trans ?_ (norm_V m c x)
  blk_ext [iblk, idx t]

theorem blk2 (x : Fin 1024) (j : Fin 6144) : iblk m c 2 t (ix2 x j) = m ((c : Thread nD τ).loc main_arg4) (ix2 x j) := by
  refine Eq.trans ?_ (weight_V m c x j)
  blk_ext [iblk, idx t]

theorem blk3 (x : Fin 128) : iblk m c 3 t (ix2 0 x) = m ((c : Thread nD τ).loc main_arg5) (ix1 ⟨x.val % 64, by omega⟩) := by
  refine Eq.trans ?_ (qgain_V m c x)
  blk_ext [iblk, idx t]

theorem blk4 (x : Fin 128) : iblk m c 4 t (ix2 0 x) = m ((c : Thread nD τ).loc main_arg6) (ix1 ⟨x.val % 64, by omega⟩) := by
  refine Eq.trans ?_ (kgain_V m c x)
  blk_ext [iblk, idx t]

theorem blk5 (x : Fin 128) : iblk m c 5 t (ix2 0 x) = m ((c : Thread nD τ).loc main_arg7) (ix1 x) := by
  refine Eq.trans ?_ (mgain_V m c x)
  blk_ext [iblk, idx t]

theorem blk6 (k d : Fin 128) : iblk m c 6 t (ix2 k d) = if k.val / 64 = d.val / 64 then (1 : EReal) else 0 := by
  refine Eq.trans ?_ (mask_V m c k d)
  blk_ext [iblk, idx t]

end Blocks

/-- The columns projected and left as they are. -/
theorem final7_at : (dats m 0 c).arrAt 7 (cfgs 0).N = fun i : S32x64x1792.Idx =>
    proj (fun x => m ((c : Thread nD τ).loc main_arg0) (ix3 (i 0) (i 1) x)) (fun x => m ((c : Thread nD τ).loc main_arg3) (ix1 x))
      (fun y => m ((c : Thread nD τ).loc main_arg4) (ix2 y ⟨0 + (i 2).val, by idx_bounds; omega⟩)) := by
  refine (dats m 0 c).arrAt_eq_of_covers 7 _ (by decide +kernel) fun t _ y => ?_
  blk_simp
  rw [after0_7]
  idx_bounds y
  refine (out7_at _ _ _ _ _ _ _ ⟨(y 0 : ℕ), by omega⟩ ⟨(y 1 : ℕ), by omega⟩ ⟨(y 2 : ℕ), by omega⟩ y rfl rfl rfl).trans ?_
  refine proj_congr (fun x => ?_) (fun x => ?_) (fun i => ?_)
  · refine (blk0 m c t _ _ x).trans ?_
    blk_ext [idx t]
  · exact blk1 m c t x
  · refine (blk2 m c t i _).trans ?_
    blk_ext [idx t]

/-- The queries' heads: slot `i 2 / 128`, coordinate `i 2 % 128`. -/
theorem final8_at : (dats m 0 c).arrAt 8 (cfgs 0).N = fun i : S32x64x512.Idx =>
    segHead (fun x => m ((c : Thread nD τ).loc main_arg0) (ix3 (i 0) (i 1) x)) (fun x => m ((c : Thread nD τ).loc main_arg3) (ix1 x))
      (fun y j => m ((c : Thread nD τ).loc main_arg4) (ix2 y ⟨1792 + ((i 2).val / 128 * 128 + j.val), by idx_bounds; omega⟩))
      (fun k => if k.val / 64 = (i 2).val % 128 / 64 then 1 else 0)
      (fun x => m ((c : Thread nD τ).loc main_arg5) (ix1 ⟨x.val % 64, by omega⟩)) ⟨(i 2).val % 128, by omega⟩ := by
  refine (dats m 0 c).arrAt_eq_of_covers 8 _ (by decide +kernel) fun t _ y => ?_
  blk_simp
  rw [after0_8]
  idx_bounds y
  refine (out8_at _ _ _ _ _ _ _ ⟨(y 0 : ℕ), by omega⟩ ⟨(y 1 : ℕ), by omega⟩ ⟨(y 2 : ℕ) / 128, by omega⟩ ⟨(y 2 : ℕ) % 128, by omega⟩ y
    rfl rfl (by dsimp only; omega)).trans ?_
  refine segHead_congr (fun x => ?_) (fun x => ?_) (fun i j => ?_) (fun k => ?_) (fun x => ?_) ?_
  · refine (blk0 m c t _ _ x).trans ?_
    blk_ext [idx t]
  · exact blk1 m c t x
  · refine (blk2 m c t i _).trans ?_
    blk_ext [idx t]
  · refine (blk6 m c t k _).trans ?_
    blk_simp [idx t]
  · exact blk3 m c t x
  · blk_ext [idx t]

/-- The keys' heads: one slot. -/
theorem final9_at : (dats m 0 c).arrAt 9 (cfgs 0).N = fun i : S32x64x128.Idx =>
    segHead (fun x => m ((c : Thread nD τ).loc main_arg0) (ix3 (i 0) (i 1) x)) (fun x => m ((c : Thread nD τ).loc main_arg3) (ix1 x))
      (fun y j => m ((c : Thread nD τ).loc main_arg4) (ix2 y ⟨2304 + j.val, by omega⟩))
      (fun k => if k.val / 64 = (i 2).val / 64 then 1 else 0)
      (fun x => m ((c : Thread nD τ).loc main_arg6) (ix1 ⟨x.val % 64, by omega⟩)) ⟨(i 2).val, by idx_bounds; omega⟩ := by
  refine (dats m 0 c).arrAt_eq_of_covers 9 _ (by decide +kernel) fun t _ y => ?_
  blk_simp
  rw [after0_9]
  idx_bounds y
  refine (out9_at _ _ _ _ _ _ _ ⟨(y 0 : ℕ), by omega⟩ ⟨(y 1 : ℕ), by omega⟩ ⟨(y 2 : ℕ), by omega⟩ y rfl rfl rfl).trans ?_
  refine segHead_congr (fun x => ?_) (fun x => ?_) (fun i j => ?_) (fun k => ?_) (fun x => ?_) ?_
  · refine (blk0 m c t _ _ x).trans ?_
    blk_ext [idx t]
  · exact blk1 m c t x
  · exact blk2 m c t i _
  · refine (blk6 m c t k _).trans ?_
    blk_simp [idx t]
  · exact blk4 m c t x
  · blk_ext [idx t]

/-- The values. -/
theorem final10_at : (dats m 0 c).arrAt 10 (cfgs 0).N = fun i : S32x64x128.Idx =>
    proj (fun x => m ((c : Thread nD τ).loc main_arg0) (ix3 (i 0) (i 1) x)) (fun x => m ((c : Thread nD τ).loc main_arg3) (ix1 x))
      (fun y => m ((c : Thread nD τ).loc main_arg4) (ix2 y ⟨2432 + (i 2).val, by idx_bounds; omega⟩)) := by
  refine (dats m 0 c).arrAt_eq_of_covers 10 _ (by decide +kernel) fun t _ y => ?_
  blk_simp
  rw [after0_10]
  idx_bounds y
  refine (out10_at _ _ _ _ _ _ _ ⟨(y 0 : ℕ), by omega⟩ ⟨(y 1 : ℕ), by omega⟩ ⟨(y 2 : ℕ), by omega⟩ y rfl rfl rfl).trans ?_
  refine proj_congr (fun x => ?_) (fun x => ?_) (fun i => ?_)
  · refine (blk0 m c t _ _ x).trans ?_
    blk_ext [idx t]
  · exact blk1 m c t x
  · refine (blk2 m c t i _).trans ?_
    blk_ext [idx t]

/-- The memory queries' heads. -/
theorem final11_at : (dats m 0 c).arrAt 11 (cfgs 0).N = fun i : S32x64x512.Idx =>
    projHead (fun x => m ((c : Thread nD τ).loc main_arg0) (ix3 (i 0) (i 1) x)) (fun x => m ((c : Thread nD τ).loc main_arg3) (ix1 x))
      (fun y j => m ((c : Thread nD τ).loc main_arg4) (ix2 y ⟨2560 + ((i 2).val / 128 * 128 + j.val), by idx_bounds; omega⟩))
      (fun x => m ((c : Thread nD τ).loc main_arg7) (ix1 x)) ⟨(i 2).val % 128, by omega⟩ := by
  refine (dats m 0 c).arrAt_eq_of_covers 11 _ (by decide +kernel) fun t _ y => ?_
  blk_simp
  rw [after0_11]
  idx_bounds y
  refine (out11_at _ _ _ _ _ _ _ ⟨(y 0 : ℕ), by omega⟩ ⟨(y 1 : ℕ), by omega⟩ ⟨(y 2 : ℕ) / 128, by omega⟩ ⟨(y 2 : ℕ) % 128, by omega⟩ y
    rfl rfl (by dsimp only; omega)).trans ?_
  refine projHead_congr (fun x => ?_) (fun x => ?_) (fun i j => ?_) (fun x => ?_) ?_
  · refine (blk0 m c t _ _ x).trans ?_
    blk_ext [idx t]
  · exact blk1 m c t x
  · refine (blk2 m c t i _).trans ?_
    blk_ext [idx t]
  · exact blk5 m c t x
  · blk_ext [idx t]

/-- The gates. -/
theorem final12_at : (dats m 0 c).arrAt 12 (cfgs 0).N = fun i : S32x64x3072.Idx =>
    gate (fun x => m ((c : Thread nD τ).loc main_arg0) (ix3 (i 0) (i 1) x)) (fun x => m ((c : Thread nD τ).loc main_arg3) (ix1 x))
      (fun y => m ((c : Thread nD τ).loc main_arg4) (ix2 y ⟨3072 + (i 2).val, by idx_bounds; omega⟩)) := by
  refine (dats m 0 c).arrAt_eq_of_covers 12 _ (by decide +kernel) fun t _ y => ?_
  blk_simp
  rw [after0_12]
  idx_bounds y
  refine (out12_at _ _ _ _ _ _ _ ⟨(y 0 : ℕ), by omega⟩ ⟨(y 1 : ℕ), by omega⟩ ⟨(y 2 : ℕ) / 1024, by omega⟩ ⟨(y 2 : ℕ) % 1024, by omega⟩ y
    rfl rfl (by dsimp only; omega)).trans ?_
  refine gate_congr (fun x => ?_) (fun x => ?_) (fun i => ?_)
  · refine (blk0 m c t _ _ x).trans ?_
    blk_ext [idx t]
  · exact blk1 m c t x
  · refine (blk2 m c t i _).trans ?_
    blk_ext [idx t]

end Cert.InS
-- ==== Proof.InsRef.lean ====
/- The input projection of the sample batch: the reference, read at an index. -/
module

public import proofs.«01_k».proof.Proof.Gen.ReferenceInSIdeal.Run
public import proofs.«01_k».proof.Proof.RowSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InS

open Cert.ReferenceInSIdeal Cert.ReferenceInSIdeal.Gen Cert.Row

/-- The reference's normalised rows. -/
abbrev normed (x : FVec Ideal S32x64x1024 .f32) (g : FVec Ideal S1024 .f32) : FVec Ideal S32x64x1024 .f32 :=
  mulf (mulf x (broadcastInDim S32x64x1024 ![0, 1, 2] bcast_S32x64x1_S32x64x1024_0_1_2 (Host.rsqrt (addf (Host.divf
      (broadcastInDim S32x64x1 ![0, 1] bcast_S32x64_S32x64x1_0_1 (Host.reduceAdd (mulf x x) (constant S_ .f32 0x00000000#32)
        reducesTo_S32x64x1024_S32x64_d2 h_S_)) (broadcastInDim S32x64x1 ![] bcast_S_S32x64x1 (constant S_ .f32 0x44800000#32)))
      (broadcastInDim S32x64x1 ![] bcast_S_S32x64x1 (constant S_ .f32 0x358637BD#32))))))
    (broadcastInDim S32x64x1024 ![0, 1, 2] bcast_S1x1x1024_S32x64x1024_0_1_2 (broadcastInDim S1x1x1024 ![2] bcast_S1024_S1x1x1024_2 g))

/-- The queries' heads normalised. -/
abbrev heads8 (z : FVec Ideal S32x64x8x64 .f32) (kg : FVec Ideal S64 .f32) : FVec Ideal S32x64x8x64 .f32 :=
  mulf (mulf z (broadcastInDim S32x64x8x64 ![0, 1, 2, 3] bcast_S32x64x8x1_S32x64x8x64_0_1_2_3 (Host.rsqrt (addf (Host.divf
      (broadcastInDim S32x64x8x1 ![0, 1, 2] bcast_S32x64x8_S32x64x8x1_0_1_2 (Host.reduceAdd (mulf z z) (constant S_ .f32 0x00000000#32)
        reducesTo_S32x64x8x64_S32x64x8_d3 h_S_)) (broadcastInDim S32x64x8x1 ![] bcast_S_S32x64x8x1 (constant S_ .f32 0x42800000#32)))
      (broadcastInDim S32x64x8x1 ![] bcast_S_S32x64x8x1 (constant S_ .f32 0x358637BD#32))))))
    (broadcastInDim S32x64x8x64 ![0, 1, 2, 3] bcast_S1x1x1x64_S32x64x8x64_0_1_2_3 (broadcastInDim S1x1x1x64 ![3] bcast_S64_S1x1x1x64_3 kg))

/-- The keys' heads normalised. -/
abbrev heads2 (z : FVec Ideal S32x64x2x64 .f32) (kg : FVec Ideal S64 .f32) : FVec Ideal S32x64x2x64 .f32 :=
  mulf (mulf z (broadcastInDim S32x64x2x64 ![0, 1, 2, 3] bcast_S32x64x2x1_S32x64x2x64_0_1_2_3 (Host.rsqrt (addf (Host.divf
      (broadcastInDim S32x64x2x1 ![0, 1, 2] bcast_S32x64x2_S32x64x2x1_0_1_2 (Host.reduceAdd (mulf z z) (constant S_ .f32 0x00000000#32)
        reducesTo_S32x64x2x64_S32x64x2_d3 h_S_)) (broadcastInDim S32x64x2x1 ![] bcast_S_S32x64x2x1 (constant S_ .f32 0x42800000#32)))
      (broadcastInDim S32x64x2x1 ![] bcast_S_S32x64x2x1 (constant S_ .f32 0x358637BD#32))))))
    (broadcastInDim S32x64x2x64 ![0, 1, 2, 3] bcast_S1x1x1x64_S32x64x2x64_0_1_2_3 (broadcastInDim S1x1x1x64 ![3] bcast_S64_S1x1x1x64_3 kg))

/-- The memory queries' heads normalised. -/
abbrev heads4 (z : FVec Ideal S32x64x4x128 .f32) (kg : FVec Ideal S128 .f32) : FVec Ideal S32x64x4x128 .f32 :=
  mulf (mulf z (broadcastInDim S32x64x4x128 ![0, 1, 2, 3] bcast_S32x64x4x1_S32x64x4x128_0_1_2_3 (Host.rsqrt (addf (Host.divf
      (broadcastInDim S32x64x4x1 ![0, 1, 2] bcast_S32x64x4_S32x64x4x1_0_1_2 (Host.reduceAdd (mulf z z) (constant S_ .f32 0x00000000#32)
        reducesTo_S32x64x4x128_S32x64x4_d3 h_S_)) (broadcastInDim S32x64x4x1 ![] bcast_S_S32x64x4x1 (constant S_ .f32 0x43000000#32)))
      (broadcastInDim S32x64x4x1 ![] bcast_S_S32x64x4x1 (constant S_ .f32 0x358637BD#32))))))
    (broadcastInDim S32x64x4x128 ![0, 1, 2, 3] bcast_S1x1x1x128_S32x64x4x128_0_1_2_3 (broadcastInDim S1x1x1x128 ![3] bcast_S128_S1x1x1x128_3 kg))

/-- The logistic function of the last columns. -/
abbrev SIG (z : FVec Ideal S32x64x6144 .f32) : FVec Ideal S32x64x3072 .f32 :=
  Host.divf (broadcastInDim S32x64x3072 ![] bcast_S_S32x64x3072 (constant S_ .f32 0x3F800000#32)) (addf (broadcastInDim S32x64x3072 ![]
    bcast_S_S32x64x3072 (constant S_ .f32 0x3F800000#32)) (Host.exp (Host.negf (extractStridedSlice S32x64x3072 ![0, 0, 3072] z
      slices_S32x64x6144_S32x64x3072_0_0_3072))))

section Reads

variable (b : Fin 32) (r : Fin 64) (z : FVec Ideal S32x64x6144 .f32)

theorem heads8_at (y : FVec Ideal S32x64x8x64 .f32) (kg : FVec Ideal S64 .f32) (h : Fin 8) (d : Fin 64) :
    heads8 y kg (ix4 b r h d) = rms (Ideal.ofBits .f32 0x42800000#32) (fun j => y (ix4 b r h j)) (fun j => kg (ix1 j)) d := by
  pointwise [heads8, rms]

theorem heads2_at (y : FVec Ideal S32x64x2x64 .f32) (kg : FVec Ideal S64 .f32) (h : Fin 2) (d : Fin 64) :
    heads2 y kg (ix4 b r h d) = rms (Ideal.ofBits .f32 0x42800000#32) (fun j => y (ix4 b r h j)) (fun j => kg (ix1 j)) d := by
  pointwise [heads2, rms]

theorem heads4_at (y : FVec Ideal S32x64x4x128 .f32) (kg : FVec Ideal S128 .f32) (h : Fin 4) (d : Fin 128) :
    heads4 y kg (ix4 b r h d) = rms (Ideal.ofBits .f32 0x43000000#32) (fun j => y (ix4 b r h j)) (fun j => kg (ix1 j)) d := by
  pointwise [heads4, rms]

theorem heads8_lay (y : FVec Ideal S32x64x8x64 .f32) (h : Fin 8) (d : Fin 64) :
    shapeCast S32x64x512 y shapeCasts_S32x64x8x64_S32x64x512 (ix3 b r ⟨h.val * 64 + d.val, by omega⟩) = y (ix4 b r h d) := by
  pointwise

theorem heads2_lay (y : FVec Ideal S32x64x2x64 .f32) (h : Fin 2) (d : Fin 64) :
    shapeCast S32x64x128 y shapeCasts_S32x64x2x64_S32x64x128 (ix3 b r ⟨h.val * 64 + d.val, by omega⟩) = y (ix4 b r h d) := by
  pointwise

theorem heads4_lay (y : FVec Ideal S32x64x4x128 .f32) (h : Fin 4) (d : Fin 128) :
    shapeCast S32x64x512 y shapeCasts_S32x64x4x128_S32x64x512 (ix3 b r ⟨h.val * 128 + d.val, by omega⟩) = y (ix4 b r h d) := by
  pointwise

theorem q_cut (h : Fin 8) (d : Fin 64) :
    shapeCast S32x64x8x64 (extractStridedSlice S32x64x512 ![0, 0, 1792] z slices_S32x64x6144_S32x64x512_0_0_1792)
      shapeCasts_S32x64x512_S32x64x8x64 (ix4 b r h d) = z (ix3 b r ⟨1792 + (h.val * 64 + d.val), by omega⟩) := by
  pointwise

theorem k_cut (h : Fin 2) (d : Fin 64) :
    shapeCast S32x64x2x64 (extractStridedSlice S32x64x128 ![0, 0, 2304] z slices_S32x64x6144_S32x64x128_0_0_2304)
      shapeCasts_S32x64x128_S32x64x2x64 (ix4 b r h d) = z (ix3 b r ⟨2304 + (h.val * 64 + d.val), by omega⟩) := by
  pointwise

theorem qm_cut (h : Fin 4) (d : Fin 128) :
    shapeCast S32x64x4x128 (extractStridedSlice S32x64x512 ![0, 0, 2560] z slices_S32x64x6144_S32x64x512_0_0_2560)
      shapeCasts_S32x64x512_S32x64x4x128 (ix4 b r h d) = z (ix3 b r ⟨2560 + (h.val * 128 + d.val), by omega⟩) := by
  pointwise

theorem p_cut (d : Fin 1792) : extractStridedSlice S32x64x1792 ![0, 0, 0] z slices_S32x64x6144_S32x64x1792_0_0_0 (ix3 b r d)
    = z (ix3 b r ⟨0 + d.val, by omega⟩) := by
  pointwise

theorem v_cut (d : Fin 128) : extractStridedSlice S32x64x128 ![0, 0, 2432] z slices_S32x64x6144_S32x64x128_0_0_2432 (ix3 b r d)
    = z (ix3 b r ⟨2432 + d.val, by omega⟩) := by
  pointwise

theorem sig_cut (d : Fin 3072) : SIG z (ix3 b r d) = Ideal.div 1 (1 + Ideal.exp (- z (ix3 b r ⟨3072 + d.val, by omega⟩))) := by
  pointwise [SIG]

theorem normed_at (x : FVec Ideal S32x64x1024 .f32) (g : FVec Ideal S1024 .f32) (i : Fin 1024) :
    normed x g (ix3 b r i) = rms (Ideal.ofBits .f32 0x44800000#32) (fun y => x (ix3 b r y)) (fun y => g (ix1 y)) i := by
  pointwise [normed, rms]

theorem dot_at (y : FVec Ideal S32x64x1024 .f32) (w : FVec Ideal S1024x6144 .f32) (j : Fin 6144) :
    Host.dotGeneral dot_S32x64x1024_S1024x6144_S32x64x6144_2_0_01_1_n_n none y w (ix3 b r j) = ∑ i : Fin 1024, y (ix3 b r i) * w (ix2 i j) := by
  pointwise

end Reads

section Results

variable (x : FVec Ideal S32x64x1024 .f32) (g : FVec Ideal S1024 .f32) (w : FVec Ideal S1024x6144 .f32) (kg : FVec Ideal S64 .f32)
  (mg : FVec Ideal S128 .f32) (b : Fin 32) (r : Fin 64)

/-- The projected rows before they are split. -/
abbrev PROJ : FVec Ideal S32x64x6144 .f32 :=
  Host.dotGeneral dot_S32x64x1024_S1024x6144_S32x64x6144_2_0_01_1_n_n none (normed x g) w

/-- The columns left as they are. -/
abbrev P : FVec Ideal S32x64x1792 .f32 := extractStridedSlice S32x64x1792 ![0, 0, 0] (PROJ x g w) slices_S32x64x6144_S32x64x1792_0_0_0

/-- The queries. -/
abbrev Q : FVec Ideal S32x64x512 .f32 :=
  shapeCast _ (heads8 (shapeCast _ (extractStridedSlice S32x64x512 ![0, 0, 1792] (PROJ x g w) slices_S32x64x6144_S32x64x512_0_0_1792)
    shapeCasts_S32x64x512_S32x64x8x64) kg) shapeCasts_S32x64x8x64_S32x64x512

/-- The keys by head. -/
abbrev KH : FVec Ideal S32x64x2x64 .f32 :=
  heads2 (shapeCast _ (extractStridedSlice S32x64x128 ![0, 0, 2304] (PROJ x g w) slices_S32x64x6144_S32x64x128_0_0_2304)
    shapeCasts_S32x64x128_S32x64x2x64) kg

/-- The keys. -/
abbrev K : FVec Ideal S32x64x128 .f32 := shapeCast _ (KH x g w kg) shapeCasts_S32x64x2x64_S32x64x128

/-- The values. -/
abbrev VV : FVec Ideal S32x64x128 .f32 := extractStridedSlice S32x64x128 ![0, 0, 2432] (PROJ x g w) slices_S32x64x6144_S32x64x128_0_0_2432

/-- The memory queries. -/
abbrev QM : FVec Ideal S32x64x512 .f32 :=
  shapeCast _ (heads4 (shapeCast _ (extractStridedSlice S32x64x512 ![0, 0, 2560] (PROJ x g w) slices_S32x64x6144_S32x64x512_0_0_2560)
    shapeCasts_S32x64x512_S32x64x4x128) mg) shapeCasts_S32x64x4x128_S32x64x512

/-- The gates. -/
abbrev GATES : FVec Ideal S32x64x3072 .f32 := SIG (PROJ x g w)

theorem PROJ_at (j : Fin 6144) : PROJ x g w (ix3 b r j) = proj (fun y => x (ix3 b r y)) (fun y => g (ix1 y)) (fun i => w (ix2 i j)) := by
  refine (dot_at b r _ w j).trans ?_
  simp only [normed_at]
  rfl

theorem P_at (d : Fin 1792) :
    P x g w (ix3 b r d) = proj (fun y => x (ix3 b r y)) (fun y => g (ix1 y)) (fun i => w (ix2 i ⟨0 + d.val, by omega⟩)) :=
  (p_cut b r _ d).trans (PROJ_at x g w b r _)

theorem VV_at (d : Fin 128) :
    VV x g w (ix3 b r d) = proj (fun y => x (ix3 b r y)) (fun y => g (ix1 y)) (fun i => w (ix2 i ⟨2432 + d.val, by omega⟩)) :=
  (v_cut b r _ d).trans (PROJ_at x g w b r _)

theorem GATES_at (d : Fin 3072) : GATES x g w (ix3 b r d) = Ideal.div 1 (1 + Ideal.exp (- proj (fun y => x (ix3 b r y))
    (fun y => g (ix1 y)) (fun i => w (ix2 i ⟨3072 + d.val, by omega⟩)))) := by
  refine (sig_cut b r _ d).trans ?_
  rw [PROJ_at]

theorem Q_at (h : Fin 8) (d : Fin 64) : Q x g w kg (ix3 b r ⟨h.val * 64 + d.val, by omega⟩)
    = rms (Ideal.ofBits .f32 0x42800000#32) (fun j : Fin 64 => proj (fun y => x (ix3 b r y)) (fun y => g (ix1 y))
        (fun i => w (ix2 i ⟨1792 + (h.val * 64 + j.val), by omega⟩))) (fun y => kg (ix1 y)) d := by
  refine (heads8_lay b r _ h d).trans ((heads8_at b r _ kg h d).trans ?_)
  simp only [q_cut, PROJ_at]

theorem K_at (h : Fin 2) (d : Fin 64) : K x g w kg (ix3 b r ⟨h.val * 64 + d.val, by omega⟩)
    = rms (Ideal.ofBits .f32 0x42800000#32) (fun j : Fin 64 => proj (fun y => x (ix3 b r y)) (fun y => g (ix1 y))
        (fun i => w (ix2 i ⟨2304 + (h.val * 64 + j.val), by omega⟩))) (fun y => kg (ix1 y)) d := by
  refine (heads2_lay b r _ h d).trans ((heads2_at b r _ kg h d).trans ?_)
  simp only [k_cut, PROJ_at]

theorem QM_at (h : Fin 4) (d : Fin 128) : QM x g w mg (ix3 b r ⟨h.val * 128 + d.val, by omega⟩)
    = rms (Ideal.ofBits .f32 0x43000000#32) (fun j : Fin 128 => proj (fun y => x (ix3 b r y)) (fun y => g (ix1 y))
        (fun i => w (ix2 i ⟨2560 + (h.val * 128 + j.val), by omega⟩))) (fun y => mg (ix1 y)) d := by
  refine (heads4_lay b r _ h d).trans ((heads4_at b r _ mg h d).trans ?_)
  simp only [qm_cut, PROJ_at]

end Results

end Cert.InS
-- ==== Proof.InsTail.lean ====
/- The input projection of the sample batch: what the host keeps for later chunks, the last rows of the cached keys and values
   with the new ones behind them, and the last row of the plain columns. -/
module

public import proofs.«01_k».proof.Proof.InsFinal
public import proofs.«01_k».proof.Proof.InsRef

@[expose] public section

set_option maxRecDepth 16384

noncomputable section

open Idealize.ShloMosaic Idealize.ShloMosaic.TcCoe Idealize.SL.Sem
open Idealize.ShloMosaic.Pipeline (Dat)

namespace Cert.InS

open Cert.KernelInSIdeal Cert.KernelInSIdeal.Gen

/-- The cached rows, laid flat. -/
abbrev flat (z : FVec Ideal S32x128x2x64 .f32) : FVec Ideal S32x128x128 .f32 := shapeCast S32x128x128 z shapeCasts_S32x128x2x64_S32x128x128

/-- Of the cached rows and the new ones behind them, the last 128, by head. -/
abbrev kept (z : FVec Ideal S32x128x128 .f32) (y : FVec Ideal S32x64x128 .f32) : FVec Ideal S32x128x2x64 .f32 :=
  shapeCast S32x128x2x64 (extractStridedSlice S32x128x128 ![0, 64, 0]
    (concatenate S32x192x128 1 [⟨S32x128x128, z⟩, ⟨S32x64x128, y⟩] concatenates_S32x128x128_S32x64x128_S32x192x128_d1)
    slices_S32x192x128_S32x128x128_0_64_0) shapeCasts_S32x128x128_S32x128x2x64

/-- The same, of rows that are by head already. -/
abbrev keptHeads (z : FVec Ideal S32x128x2x64 .f32) (y : FVec Ideal ReferenceInSIdeal.S32x64x2x64 .f32) : FVec Ideal S32x128x2x64 .f32 :=
  extractStridedSlice ReferenceInSIdeal.S32x128x2x64 ![0, 64, 0, 0]
    (concatenate ReferenceInSIdeal.S32x192x2x64 1 [⟨ReferenceInSIdeal.S32x128x2x64, z⟩, ⟨ReferenceInSIdeal.S32x64x2x64, y⟩]
      ReferenceInSIdeal.Gen.concatenates_S32x128x2x64_S32x64x2x64_S32x192x2x64_d1) ReferenceInSIdeal.Gen.slices_S32x192x2x64_S32x128x2x64_0_64_0_0

/-- The last row of the plain columns. -/
abbrev lastRow (z : FVec Ideal S32x64x1792 .f32) : FVec Ideal S32x1x1792 .f32 :=
  extractStridedSlice S32x1x1792 ![0, 63, 0] z slices_S32x64x1792_S32x1x1792_0_63_0

theorem kept_at (z : FVec Ideal S32x128x2x64 .f32) (y : FVec Ideal S32x64x128 .f32) (b : Fin 32) (r : Fin 128) (h : Fin 2) (d : Fin 64) :
    kept (flat z) y (ix4 b r h d) = if hr : 64 + r.val < 128 then z (ix4 b ⟨64 + r.val, hr⟩ h d)
      else y (ix3 b ⟨64 + r.val - 128, by omega⟩ ⟨h.val * 64 + d.val, by omega⟩) := by
  pointwise [kept, flat]

theorem keptHeads_at (z : FVec Ideal S32x128x2x64 .f32) (y : FVec Ideal ReferenceInSIdeal.S32x64x2x64 .f32) (b : Fin 32) (r : Fin 128)
    (h : Fin 2) (d : Fin 64) : keptHeads z y (ix4 b r h d) = if hr : 64 + r.val < 128 then z (ix4 b ⟨64 + r.val, hr⟩ h d)
      else y (ix4 b ⟨64 + r.val - 128, by omega⟩ h d) := by
  pointwise [keptHeads]

/-- Keeping rows that were laid side by side is keeping them by head. -/
theorem kept_heads (z : FVec Ideal S32x128x2x64 .f32) (y : FVec Ideal S32x64x128 .f32) (y' : FVec Ideal ReferenceInSIdeal.S32x64x2x64 .f32)
    (hy : ∀ (b : Fin 32) (r : Fin 64) (h : Fin 2) (d : Fin 64), y (ix3 b r ⟨h.val * 64 + d.val, by omega⟩) = y' (ix4 b r h d)) :
    kept (flat z) y = keptHeads z y' := by
  funext i
  have hi : i = ix4 (i 0) (i 1) (i 2) (i 3) := by blk_ext
  rw [hi]
  refine (kept_at _ _ _ _ _ _).trans (Eq.trans ?_ (keptHeads_at _ _ _ _ _ _).symm)
  exact dite_congr rfl (fun _ => rfl) fun _ => hy _ _ _ _

/-- An array of rows by head. -/
theorem split_at (y : FVec Ideal ReferenceInSIdeal.S32x64x128 .f32) (b : Fin 32) (r : Fin 64) (h : Fin 2) (d : Fin 64) :
    y (ix3 b r ⟨h.val * 64 + d.val, by omega⟩)
      = shapeCast ReferenceInSIdeal.S32x64x2x64 y ReferenceInSIdeal.Gen.shapeCasts_S32x64x128_S32x64x2x64 (ix4 b r h d) := by
  refine Eq.symm ?_
  pointwise

variable (m : (ℓ : Loc nD τ sig) → Buf (Elt Ideal) ℓ) (ρ : Dev nD → PrngReg) (c : Dev nD)

/-- What the region leaves, before the host's last lines. -/
abbrev left : Valuation τ sig (Elt Ideal) :=
  Pipeline.withArrays (cfgs 0).spec c (V0 m c) fun w => (dats m 0 c).arrAt w (cfgs 0).N

theorem left_arr (w : Fin 13) : left m c (Proc.devRef .tc (Pipeline.arrRef spec0 w)) = (dats m 0 c).arrAt w cfg0.N :=
  Pipeline.withArrays_arr _ launch0.win.arr_inj c _ _ w

/-- What the region does not write is as the host's first lines left it. -/
theorem left_k : left m c (Proc.devRef .tc main_v0) = flat (m ((c : Thread nD τ).loc main_arg1)) := by
  refine (Pipeline.withArrays_of_ne _ c _ _ _ (by decide)).trans ?_
  simp only [V0, hostOps0, hostOps0_1, hostOps0_2, List.flatten_cons, List.flatten_nil, List.append_nil, List.cons_append, List.nil_append]
  after_results_simp <;> rfl

theorem left_v : left m c (Proc.devRef .tc main_v1) = flat (m ((c : Thread nD τ).loc main_arg2)) := by
  refine (Pipeline.withArrays_of_ne _ c _ _ _ (by decide)).trans ?_
  simp only [V0, hostOps0, hostOps0_1, hostOps0_2, List.flatten_cons, List.flatten_nil, List.append_nil, List.cons_append, List.nil_append]
  after_results_simp <;> rfl

set_option maxHeartbeats 1000000 in
/-- The host's lines keep the keys. -/
theorem tail_k : Pipeline.afterTail₀ cfgs (dats m) 0 (V0 m) [hostOps1] c main_v24
    = kept (flat (m ((c : Thread nD τ).loc main_arg1))) ((dats m 0 c).arrAt 9 cfg0.N) := by
  refine Eq.trans (b := kept (left m c (Proc.devRef .tc main_v0)) (left m c (Proc.devRef .tc main_v21_2))) ?_
    (congrArg₂ kept (left_k m c) (left_arr m c 9))
  unfold Pipeline.afterTail₀
  after_results_simp <;> rfl

set_option maxHeartbeats 1000000 in
/-- The host's lines keep the values. -/
theorem tail_v : Pipeline.afterTail₀ cfgs (dats m) 0 (V0 m) [hostOps1] c main_v27
    = kept (flat (m ((c : Thread nD τ).loc main_arg2))) ((dats m 0 c).arrAt 10 cfg0.N) := by
  refine Eq.trans (b := kept (left m c (Proc.devRef .tc main_v1)) (left m c (Proc.devRef .tc main_v21_3))) ?_
    (congrArg₂ kept (left_v m c) (left_arr m c 10))
  unfold Pipeline.afterTail₀
  after_results_simp <;> rfl

/-- The host's lines cut the plain columns. -/
theorem tail_p : Pipeline.afterTail₀ cfgs (dats m) 0 (V0 m) [hostOps1] c main_v28 = lastRow ((dats m 0 c).arrAt 7 cfg0.N) := by
  refine Eq.trans (b := lastRow (left m c (Proc.devRef .tc main_v21_0))) ?_ (congrArg lastRow (left_arr m c 7))
  unfold Pipeline.afterTail₀
  after_results_simp <;> rfl

/-- The whole run, with every result named. -/
theorem run_all : θ_run defs (onTc (τ := τ) (main (F := Ideal))) ⟨m, fun _ => 0, ρ⟩ fun r => ∀ c : Dev nD,
      r.2.mem ((c.tc : Thread nD τ).loc main_v21_0) = (dats m 0 c).arrAt 7 cfg0.N
      ∧ r.2.mem ((c.tc : Thread nD τ).loc main_v21_1) = (dats m 0 c).arrAt 8 cfg0.N
      ∧ r.2.mem ((c.tc : Thread nD τ).loc main_v21_2) = (dats m 0 c).arrAt 9 cfg0.N
      ∧ r.2.mem ((c.tc : Thread nD τ).loc main_v21_3) = (dats m 0 c).arrAt 10 cfg0.N
      ∧ r.2.mem ((c.tc : Thread nD τ).loc main_v21_4) = (dats m 0 c).arrAt 11 cfg0.N
      ∧ r.2.mem ((c.tc : Thread nD τ).loc main_v21_5) = (dats m 0 c).arrAt 12 cfg0.N
      ∧ r.2.mem ((c.tc : Thread nD τ).loc main_v24) = kept (flat (m ((c : Thread nD τ).loc main_arg1))) ((dats m 0 c).arrAt 9 cfg0.N)
      ∧ r.2.mem ((c.tc : Thread nD τ).loc main_v27) = kept (flat (m ((c : Thread nD τ).loc main_arg2))) ((dats m 0 c).arrAt 10 cfg0.N)
      ∧ r.2.mem ((c.tc : Thread nD τ).loc main_v28) = lastRow ((dats m 0 c).arrAt 7 cfg0.N) :=
  (θ_run defs _ _).mono (fun r h c => ⟨(h c).1 7, (h c).1 8, (h c).1 9, (h c).1 10, (h c).1 11, (h c).1 12,
      ((h c).2 main_v24 (Pipeline.mem_restRefs_of main_v24 (by decide) (by decide))).trans (tail_k m c),
      ((h c).2 main_v27 (Pipeline.mem_restRefs_of main_v27 (by decide) (by decide))).trans (tail_v m c),
      ((h c).2 main_v28 (Pipeline.mem_restRefs_of main_v28 (by decide) (by decide))).trans (tail_p m c)⟩)
    (run_main m ρ)

end Cert.InS
-- ==== Proof.InsClaim.lean ====
/- The input projection of the sample batch: the claims. -/
module

public import proofs.«01_k».proof.Defs
public import proofs.«01_k».proof.Proof.InsTail
public import proofs.«01_k».proof.Proof.InClaim
public import proofs.«01_k».proof.Proof.Gen.KernelInS.Frame
public import proofs.«01_k».proof.Proof.Gen.Pre_finite_weights_sample
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.InS

open Cert Cert.Row
open Cert.In (Fin' side segHead_eq rms_congr)

/-- The condition says of gains and weights what the prompt's condition says. -/
theorem finite_of (x : FVec Ideal Pre_finite_weights_sample.S32x64x1024 .f32) (ck cv : FVec Ideal Pre_finite_weights_sample.S32x128x2x64 .f32)
    (g : FVec Ideal Pre_finite_weights_sample.S1024 .f32) (w : FVec Ideal Pre_finite_weights_sample.S1024x6144 .f32)
    (a b : FVec Ideal Pre_finite_weights_sample.S64 .f32) (d : FVec Ideal Pre_finite_weights_sample.S128 .f32)
    (h : Pre_finite_weights_sample.fn (F := Ideal) x ck cv g w a b d = fun _ => 1#1) :
    (∀ i : Fin 1024, Fin' (g (ix1 i))) ∧ ∀ (i : Fin 1024) (j : Fin 6144), 1792 ≤ j.val → j.val < 2432 → Fin' (w (ix2 i j)) :=
  Cert.In.finite_of (fun _ => 0) g w a b d h

section Values

variable (m : (ℓ : Loc KernelInSIdeal.nD KernelInSIdeal.τ KernelInSIdeal.sig) → Buf (Elt Ideal) ℓ) (c : Dev KernelInSIdeal.nD)

/-- The plain columns the call leaves are the reference's. -/
theorem p_eq : (KernelInSIdeal.Gen.dats m 0 c).arrAt 7 KernelInSIdeal.cfg0.N
    = P (m (c.tc.loc KernelInSIdeal.main_arg0)) (m (c.tc.loc KernelInSIdeal.main_arg3)) (m (c.tc.loc KernelInSIdeal.main_arg4)) := by
  refine (final7_at m c).trans (funext fun i => ?_)
  have hi : i = ix3 (i 0) (i 1) (i 2) := by blk_ext
  refine Eq.trans ?_ ((congrArg _ hi).trans (P_at _ _ _ (i 0) (i 1) (i 2))).symm
  rfl

/-- The values the call leaves are the reference's. -/
theorem v_eq : (KernelInSIdeal.Gen.dats m 0 c).arrAt 10 KernelInSIdeal.cfg0.N
    = VV (m (c.tc.loc KernelInSIdeal.main_arg0)) (m (c.tc.loc KernelInSIdeal.main_arg3)) (m (c.tc.loc KernelInSIdeal.main_arg4)) := by
  refine (final10_at m c).trans (funext fun i => ?_)
  have hi : i = ix3 (i 0) (i 1) (i 2) := by blk_ext
  refine Eq.trans ?_ ((congrArg _ hi).trans (VV_at _ _ _ (i 0) (i 1) (i 2))).symm
  rfl

/-- The gates the call leaves are the reference's. -/
theorem gates_eq : (KernelInSIdeal.Gen.dats m 0 c).arrAt 12 KernelInSIdeal.cfg0.N
    = GATES (m (c.tc.loc KernelInSIdeal.main_arg0)) (m (c.tc.loc KernelInSIdeal.main_arg3)) (m (c.tc.loc KernelInSIdeal.main_arg4)) := by
  refine (final12_at m c).trans (funext fun i => ?_)
  have hi : i = ix3 (i 0) (i 1) (i 2) := by blk_ext
  refine Eq.trans ?_ ((congrArg _ hi).trans (GATES_at _ _ _ (i 0) (i 1) (i 2))).symm
  exact congrArg (fun y => Ideal.div 1 (1 + Ideal.exp y)) (zero_sub _)

/-- The memory queries the call leaves are the reference's. -/
theorem qm_eq : (KernelInSIdeal.Gen.dats m 0 c).arrAt 11 KernelInSIdeal.cfg0.N = QM (m (c.tc.loc KernelInSIdeal.main_arg0))
    (m (c.tc.loc KernelInSIdeal.main_arg3)) (m (c.tc.loc KernelInSIdeal.main_arg4)) (m (c.tc.loc KernelInSIdeal.main_arg7)) := by
  refine (final11_at m c).trans (funext fun i => ?_)
  have h2 : (i 2 : ℕ) < 512 := (i 2).isLt
  have hi : i = ix3 (i 0) (i 1) ⟨(i 2 : ℕ) / 128 * 128 + (i 2 : ℕ) % 128, by omega⟩ := by blk_ext
  refine Eq.trans ?_ ((congrArg _ hi).trans (QM_at _ _ _ _ (i 0) (i 1) ⟨(i 2 : ℕ) / 128, by omega⟩ ⟨(i 2 : ℕ) % 128, by omega⟩)).symm
  rfl

variable (hg : ∀ i : Fin 1024, Fin' ((m (c.tc.loc KernelInSIdeal.main_arg3)) (ix1 i)))
  (hw : ∀ (i : Fin 1024) (j : Fin 6144), 1792 ≤ j.val → j.val < 2432 → Fin' ((m (c.tc.loc KernelInSIdeal.main_arg4)) (ix2 i j)))

include hg hw

/-- The queries the call leaves are the reference's, when gains and weights are finite. -/
theorem q_eq : (KernelInSIdeal.Gen.dats m 0 c).arrAt 8 KernelInSIdeal.cfg0.N = Q (m (c.tc.loc KernelInSIdeal.main_arg0))
    (m (c.tc.loc KernelInSIdeal.main_arg3)) (m (c.tc.loc KernelInSIdeal.main_arg4)) (m (c.tc.loc KernelInSIdeal.main_arg5)) := by
  refine (final8_at m c).trans (funext fun i => ?_)
  have h2 : (i 2 : ℕ) < 512 := (i 2).isLt
  have hi : i = ix3 (i 0) (i 1) ⟨(i 2 : ℕ) / 64 * 64 + (i 2 : ℕ) % 64, by omega⟩ := by blk_ext
  refine Eq.trans ?_ ((congrArg _ hi).trans (Q_at _ _ _ _ (i 0) (i 1) ⟨(i 2 : ℕ) / 64, by omega⟩ ⟨(i 2 : ℕ) % 64, by omega⟩)).symm
  refine (segHead_eq _ _ _ _ ⟨(i 2 : ℕ) % 128, by omega⟩ hg fun y j => hw y _ (by dsimp only; omega) (by dsimp only; omega)).trans ?_
  refine rms_congr (fun x => proj_congr (fun _ => rfl) (fun _ => rfl) fun y => ?_) (fun x => ?_) (Fin.ext (by dsimp only; omega))
  · refine congrArg _ (congrArg (ix2 y) (Fin.ext ?_))
    simp only [side]
    omega
  · refine congrArg _ (congrArg ix1 (Fin.ext ?_))
    simp only [side]
    omega

/-- The keys the call leaves are the reference's, when gains and weights are finite. -/
theorem k_eq : (KernelInSIdeal.Gen.dats m 0 c).arrAt 9 KernelInSIdeal.cfg0.N = K (m (c.tc.loc KernelInSIdeal.main_arg0))
    (m (c.tc.loc KernelInSIdeal.main_arg3)) (m (c.tc.loc KernelInSIdeal.main_arg4)) (m (c.tc.loc KernelInSIdeal.main_arg6)) := by
  refine (final9_at m c).trans (funext fun i => ?_)
  have h2 : (i 2 : ℕ) < 128 := (i 2).isLt
  have hi : i = ix3 (i 0) (i 1) ⟨(i 2 : ℕ) / 64 * 64 + (i 2 : ℕ) % 64, by omega⟩ := by blk_ext
  refine Eq.trans ?_ ((congrArg _ hi).trans (K_at _ _ _ _ (i 0) (i 1) ⟨(i 2 : ℕ) / 64, by omega⟩ ⟨(i 2 : ℕ) % 64, by omega⟩)).symm
  refine (segHead_eq _ _ _ _ ⟨(i 2 : ℕ), by omega⟩ hg fun y j => hw y _ (by dsimp only; omega) (by dsimp only; omega)).trans ?_
  refine rms_congr (fun x => proj_congr (fun _ => rfl) (fun _ => rfl) fun y => ?_) (fun x => ?_) (Fin.ext (by dsimp only))
  · refine congrArg _ (congrArg (ix2 y) (Fin.ext ?_))
    simp only [side]
    omega
  · refine congrArg _ (congrArg ix1 (Fin.ext ?_))
    simp only [side]
    omega

/-- The keys kept are the reference's. -/
theorem kept_k_eq : kept (flat (m (c.tc.loc KernelInSIdeal.main_arg1))) ((KernelInSIdeal.Gen.dats m 0 c).arrAt 9 KernelInSIdeal.cfg0.N)
    = keptHeads (m (c.tc.loc KernelInSIdeal.main_arg1)) (KH (m (c.tc.loc KernelInSIdeal.main_arg0)) (m (c.tc.loc KernelInSIdeal.main_arg3))
        (m (c.tc.loc KernelInSIdeal.main_arg4)) (m (c.tc.loc KernelInSIdeal.main_arg6))) :=
  (congrArg (kept _) (k_eq m c hg hw)).trans (kept_heads _ _ _ fun b r h d => heads2_lay b r _ h d)

end Values

theorem frame : quiescent_KernelInS := fun m ρ _ => KernelInS.Gen.frame m ρ
theorem frame_ideal : quiescent_KernelInSIdeal := fun m ρ _ => KernelInSIdeal.Gen.frame m ρ
theorem frame_ideal_pre : quiescent_KernelInSIdeal_pre_finite_weights_sample := fun m ρ _ => KernelInSIdeal.Gen.frame m ρ
theorem frame_ref : quiescent_ReferenceInSIdeal := fun m ρ _ =>
  (θ_run ReferenceInSIdeal.defs _ _).mono (fun r h => ⟨fun c => (h c).2.2.2.2.2.2.2.2.2,
      Idealize.ShloMosaic.sem_eq_zero_of_no_sems (by decide) r.2⟩)
    (ReferenceInSIdeal.Value.run (F := Ideal) m ρ)
theorem frame_ref_pre : quiescent_ReferenceInSIdeal_pre_finite_weights_sample := fun m ρ _ => frame_ref m ρ trivial

set_option maxHeartbeats 1000000 in
/-- The call and the mathematics leave the same nine arrays. -/
theorem algebraic : algebraic_KernelInSIdeal_ReferenceInSIdeal_pre_finite_weights_sample := by
  intro m g m' g' hpre hagree
  have hf := fun c => finite_of _ _ _ _ _ _ _ _ (hpre c)
  refine ⟨fun c => (KernelInSIdeal.Gen.dats m 0 c).arrAt 7 KernelInSIdeal.cfg0.N, fun c => (KernelInSIdeal.Gen.dats m 0 c).arrAt 8 KernelInSIdeal.cfg0.N,
    fun c => (KernelInSIdeal.Gen.dats m 0 c).arrAt 9 KernelInSIdeal.cfg0.N, fun c => (KernelInSIdeal.Gen.dats m 0 c).arrAt 10 KernelInSIdeal.cfg0.N,
    fun c => (KernelInSIdeal.Gen.dats m 0 c).arrAt 11 KernelInSIdeal.cfg0.N, fun c => (KernelInSIdeal.Gen.dats m 0 c).arrAt 12 KernelInSIdeal.cfg0.N,
    fun c => kept (flat (m (c.tc.loc KernelInSIdeal.main_arg1))) ((KernelInSIdeal.Gen.dats m 0 c).arrAt 9 KernelInSIdeal.cfg0.N),
    fun c => kept (flat (m (c.tc.loc KernelInSIdeal.main_arg2))) ((KernelInSIdeal.Gen.dats m 0 c).arrAt 10 KernelInSIdeal.cfg0.N),
    fun c => lastRow ((KernelInSIdeal.Gen.dats m 0 c).arrAt 7 KernelInSIdeal.cfg0.N), ?_, ?_⟩
  · exact (θ_run KernelInSIdeal.defs _ _).mono (fun r h c => ⟨(h.1 c).1, (h.1 c).2.1, (h.1 c).2.2.1, (h.1 c).2.2.2.1, (h.1 c).2.2.2.2.1,
      (h.1 c).2.2.2.2.2.1, (h.1 c).2.2.2.2.2.2.1, (h.1 c).2.2.2.2.2.2.2.1, (h.1 c).2.2.2.2.2.2.2.2, h.2 c⟩)
      (θ_run_and (run_all m g) (KernelInSIdeal.Gen.unchanged (F := Ideal) m g))
  · refine (θ_run ReferenceInSIdeal.defs _ _).mono (fun r h c => ⟨(h c).1.trans ?_, (h c).2.1.trans ?_, (h c).2.2.1.trans ?_,
      (h c).2.2.2.1.trans ?_, (h c).2.2.2.2.1.trans ?_, (h c).2.2.2.2.2.1.trans ?_,
      (h c).2.2.2.2.2.2.1.trans ?_, (h c).2.2.2.2.2.2.2.1.trans ?_, (h c).2.2.2.2.2.2.2.2.1.trans ?_, (h c).2.2.2.2.2.2.2.2.2⟩)
      (ReferenceInSIdeal.Value.run (F := Ideal) m' g')
    all_goals obtain ⟨e0, e1, e2, e3, e4, e5, e6, e7⟩ := hagree c
    · rw [e0, e3, e4]
      exact (p_eq m c).symm
    · rw [e0, e3, e4, e5]
      exact (q_eq m c (hf c).1 (hf c).2).symm
    · rw [e0, e3, e4, e6]
      exact (k_eq m c (hf c).1 (hf c).2).symm
    · rw [e0, e3, e4]
      exact (v_eq m c).symm
    · rw [e0, e3, e4, e7]
      exact (qm_eq m c).symm
    · rw [e0, e3, e4]
      exact (gates_eq m c).symm
    · rw [e0, e1, e3, e4, e6]
      exact (kept_k_eq m c (hf c).1 (hf c).2).symm
    · rw [e0, e2, e3, e4]
      exact ((congrArg (kept _) (v_eq m c)).trans (kept_heads _ _ _ (split_at _))).symm
    · rw [e0, e3, e4]
      exact congrArg lastRow (p_eq m c).symm

end Cert.InS
-- ==== Proof.FfnsSpec.lean ====
/- The feed-forward block of the sample batch: what one of its results is. -/
module

public import proofs.«01_k».proof.Proof.FfnSpec

@[expose] public section

set_option maxRecDepth 16384

noncomputable section

open Idealize.ShloMosaic Idealize.ShloMosaic.TcCoe Idealize.SL.Sem
open Idealize.ShloMosaic.Pipeline (Dat)
open scoped BigOperators

namespace Cert.FfnS

open Cert.Row
open Cert.Ffn (conv act)

/-- A column of a sequence of 64 tokens with the two of the tokens before it put in front. -/
def pad (C : Fin 2 → EReal) (A : Fin 64 → EReal) (s : Fin 66) : EReal := if h : s.val < 2 then C ⟨s.val, h⟩ else A ⟨s.val - 2, by omega⟩

/-- The convolution of a column at a token. -/
def taps (A : Fin 64 → EReal) (C : Fin 2 → EReal) (w : Fin 3 → EReal) (b : EReal) (τ : Fin 64) : EReal :=
  conv (w 0) (w 1) (w 2) b (pad C A ⟨τ.val, by omega⟩) (pad C A ⟨τ.val + 1, by omega⟩) (pad C A ⟨τ.val + 2, by omega⟩)

theorem taps_congr {A A' : Fin 64 → EReal} {C C' : Fin 2 → EReal} {w w' : Fin 3 → EReal} {b b' : EReal} (τ : Fin 64)
    (hA : ∀ ρ, A ρ = A' ρ) (hC : ∀ s, C s = C' s) (hw : w = w') (hb : b = b') : taps A C w b τ = taps A' C' w' b' τ := by
  obtain rfl : A = A' := funext hA
  obtain rfl : C = C' := funext hC
  rw [hw, hb]

/-- The first product's first half: what the convolution runs over. -/
def hid (x : Fin 64 → Fin 1024 → EReal) (g : Fin 1024 → EReal) (wu : Fin 1024 → Fin 5632 → EReal) (τ : Fin 64) (j : Fin 2816) : EReal :=
  proj (x τ) g fun i => wu i ⟨j.val, by omega⟩

/-- One result of the block. -/
def block (x : Fin 64 → Fin 1024 → EReal) (g : Fin 1024 → EReal) (wu : Fin 1024 → Fin 5632 → EReal) (cw : Fin 3 → Fin 2816 → EReal)
    (cb : Fin 2816 → EReal) (wd : Fin 2816 → Fin 1024 → EReal) (cin : Fin 2 → Fin 2816 → EReal) (τ : Fin 64) (d : Fin 1024) : EReal :=
  x τ d + ∑ j : Fin 2816, act (taps (fun ρ => hid x g wu ρ j) (fun s => cin s j) (fun k => cw k j) (cb j) τ)
    (proj (x τ) g fun i => wu i ⟨2816 + j.val, by omega⟩) * wd j d

end Cert.FfnS
-- ==== Proof.FfnsPay.lean ====
/- The feed-forward block of the sample batch: the operations of one grid point, read at an index. -/
module

public import proofs.«01_k».proof.Proof.Gen.KernelFfnSIdeal.Value
public import proofs.«01_k».proof.Proof.FfnPoint
public import proofs.«01_k».proof.Proof.FfnsSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnS

open Cert.Row Cert.KernelFfnSIdeal Cert.KernelFfnSIdeal.Gen
open Cert.Ffn (conv act)

/-- A row of a block of eight sequences. -/
abbrev at8 (g : Fin 8) (r : Fin 64) : Fin 512 := ⟨g.val * 64 + r.val, by omega⟩

theorem at8_div (s : Fin 8) (r : Fin 64) (h) : (⟨(s.val * 64 + r.val) / 64, h⟩ : Fin 8) = s := Fin.ext (by show (s.val * 64 + r.val) / 64 = s.val; omega)

theorem at8_mod (s : Fin 8) (r : Fin 64) (h) : (⟨(s.val * 64 + r.val) % 64, h⟩ : Fin 64) = r := Fin.ext (by show (s.val * 64 + r.val) % 64 = r.val; omega)

theorem rows_at (x : Vec Ideal S8x64x1024 .f32) (g : Vec Ideal S1x1024 .f32) (s : Fin 8) (r : Fin 64) (i : Fin 1024) :
    k0_pay4 x g (ix2 (at8 s r) i) = rms (Ideal.ofBits .f32 0x44800000#32) (fun y => x (ix3 s r y)) (fun y => g (ix2 0 y)) i := by
  pointwise [k0_pay4, k0_pay3, rms]
  rw [at8_div, at8_mod]

theorem dot_at (z : FVec Ideal S512x1024 .bf16) (w : Vec Ideal S1024x1408 .bf16) (r : Fin 512) (j : Fin 1408) :
    k0_pay65 z w (ix2 r j) = ∑ i : Fin 1024, z (ix2 r i) * w (ix2 i j) := by
  pointwise [k0_pay65]

/-- A column of the first product. -/
theorem col_at (x : Vec Ideal S8x64x1024 .f32) (g : Vec Ideal S1x1024 .f32) (w : Vec Ideal S1024x1408 .bf16) (s : Fin 8) (r : Fin 64) (j : Fin 1408) :
    k0_pay65 (k0_pay4 x g) w (ix2 (at8 s r) j) = proj (fun y => x (ix3 s r y)) (fun y => g (ix2 0 y)) (fun i => w (ix2 i j)) := by
  rw [dot_at]
  simp only [rows_at]
  rfl

/-- The rows of one sequence. -/
def part (z : FVec Ideal S512x1408 .f32) (s : Fin 8) : FVec Ideal S64x1408 .f32 :=
  extractStridedSlice S64x1408 ![s.val * 64, 0] z
    ((by decide : ∀ s : Fin 8, S512x1408.Slices ![s.val * 64, 0] S64x1408) s)

theorem part_at (z : FVec Ideal S512x1408 .f32) (s : Fin 8) (r : Fin 64) (j : Fin 1408) : part z s (ix2 r j) = z (ix2 (at8 s r) j) := by
  pointwise [part]

/-- The last two rows of a sequence. -/
theorem keep_at (A : FVec Ideal S64x1408 .f32) (s : Fin 2) (j : Fin 1408) : k0_pay12 A (ix3 0 s j) = A (ix2 ⟨62 + s.val, by omega⟩ j) := by
  pointwise [k0_pay12]

/-- Selecting at a row of a sequence by comparing its number. -/
theorem sel_at (r : Fin 64) (a b : EReal) :
    Scalar.select (IntOp.cmpi CmpIPredicate.eq (BitVec.ofNat 32 r.val) 0#32) a b = (if r.val = 0 then a else b)
    ∧ Scalar.select (IntOp.cmpi CmpIPredicate.eq (BitVec.ofNat 32 r.val) 1#32) a b = (if r.val = 1 then a else b) :=
  Cert.Ffn.sel_at ⟨r.val, by omega⟩ a b

theorem back_at (A : Fin 64 → EReal) (C : Fin 2 → EReal) (r : Fin 64) :
    (if r.val = 0 then C 1 else A ⟨(r.val + 64 - 1) % 64, Nat.mod_lt _ (by omega)⟩) = pad C A ⟨r.val + 1, by omega⟩
    ∧ (if r.val = 0 then C 0 else if r.val = 1 then C 1 else A ⟨(r.val + 64 - 2) % 64, Nat.mod_lt _ (by omega)⟩) = pad C A ⟨r.val, by omega⟩
    ∧ A r = pad C A ⟨r.val + 2, by omega⟩ := by
  unfold pad
  refine ⟨?_, ?_, ?_⟩
  · by_cases h : r.val = 0
    · rw [if_pos h, dif_pos (by simp [h])]
      exact congrArg C (Fin.ext (by simp [h]))
    · rw [if_neg h, dif_neg (by simp; omega)]
      exact congrArg A (Fin.ext (by show (r.val + 64 - 1) % 64 = r.val + 1 - 2; omega))
  · by_cases h : r.val = 0
    · rw [if_pos h, dif_pos (by simp [h])]
      exact congrArg C (Fin.ext (by simp [h]))
    · by_cases h' : r.val = 1
      · rw [if_neg h, if_pos h', dif_pos (by simp [h'])]
        exact congrArg C (Fin.ext (by simp [h']))
      · rw [if_neg h, if_neg h', dif_neg (by simp; omega)]
        exact congrArg A (Fin.ext (by show (r.val + 64 - 2) % 64 = r.val - 2; omega))
  · rw [dif_neg (by simp)]
    exact congrArg A (Fin.ext (by simp))

/-- The convolution of one sequence. -/
def cv (A : FVec Ideal S64x1408 .f32) (C : Vec Ideal S1x2x1408 .f32) (b w₀ w₁ w₂ : Vec Ideal S1x1408 .f32) : FVec Ideal S64x1408 .f32 :=
  k0_pay13 (iota Kind.tc S64x1 32 [0] iota_S64x1_d0_w32) A (k0_pay8 C) (k0_pay9 C) (dynamicRotate 0 1#32 none A rotates_S64x1408_d0) k0_pay11 b w₀ w₁ w₂

theorem cv_at (A : FVec Ideal S64x1408 .f32) (C : Vec Ideal S1x2x1408 .f32) (b w₀ w₁ w₂ : Vec Ideal S1x1408 .f32) (r : Fin 64) (j : Fin 1408) :
    cv A C b w₀ w₁ w₂ (ix2 r j)
      = taps (fun ρ => A (ix2 ρ j)) (fun s => C (ix3 0 s j)) ![w₀ (ix2 0 j), w₁ (ix2 0 j), w₂ (ix2 0 j)] (b (ix2 0 j)) r := by
  pointwise [cv, k0_pay13, k0_pay8, k0_pay9, k0_pay11]
  simp only [(sel_at r _ _).1, (sel_at r _ _).2, taps, conv, ← (back_at _ _ r).1, ← (back_at _ _ r).2.1, ← (back_at _ _ r).2.2]
  rfl

/-- Eight sequences' columns, stacked. -/
def stack (f : Fin 8 → FVec Ideal S64x1408 .f32) : FVec Ideal S512x1408 .f32 :=
  concatenate S512x1408 0 [⟨S64x1408, f 0⟩, ⟨S64x1408, f 1⟩, ⟨S64x1408, f 2⟩, ⟨S64x1408, f 3⟩, ⟨S64x1408, f 4⟩, ⟨S64x1408, f 5⟩,
    ⟨S64x1408, f 6⟩, ⟨S64x1408, f 7⟩]
    concatenates_S64x1408_S64x1408_S64x1408_S64x1408_S64x1408_S64x1408_S64x1408_S64x1408_S512x1408_d0

theorem stack_at (f : Fin 8 → FVec Ideal S64x1408 .f32) (s : Fin 8) (r : Fin 64) (j : Fin 1408) : stack f (ix2 (at8 s r) j) = f s (ix2 r j) := by
  refine concatenate_ofFn_apply (t := S512x1408) (s₁ := S64x1408) 0 f
    concatenates_S64x1408_S64x1408_S64x1408_S64x1408_S64x1408_S64x1408_S64x1408_S64x1408_S512x1408_d0 rfl 64 rfl (ix2 (at8 s r) j) s ?_ (ix2 r j) ?_ ?_
  · show (s.val * 64 + r.val) / 64 = s.val
    omega
  · show r.val = (s.val * 64 + r.val) % 64
    omega
  · intro b hb
    fin_cases b
    · exact absurd rfl hb
    · rfl

/-- The gate of stacked columns times the first product's second half. -/
def gl (c U : FVec Ideal S512x1408 .f32) : FVec Ideal S512x1408 .bf16 :=
  truncf .bf16 (mulf (mulf (mulf (broadcast S512x1408 (Scalar.ofBits (F := Ideal) .f32 0x3F000000#32)) c)
    (addf (broadcast S512x1408 (Scalar.ofBits (F := Ideal) .f32 0x3F800000#32))
      (tanh (mulf (broadcast S512x1408 (Scalar.ofBits (F := Ideal) .f32 0x3F4C422A#32))
        (addf c (mulf (broadcast S512x1408 (Scalar.ofBits (F := Ideal) .f32 0x3D372713#32)) (mulf (mulf c c) c))))))) U) bitsLt_bf16_f32

theorem gl_at (c U : FVec Ideal S512x1408 .f32) (r : Fin 512) (j : Fin 1408) : gl c U (ix2 r j) = act (c (ix2 r j)) (U (ix2 r j)) := by
  pointwise [gl, act]

/-- A residual and a second product. -/
def out (x : FVec Ideal S512x1024 .f32) (h : FVec Ideal S512x1408 .bf16) (w : Vec Ideal S1408x1024 .bf16) : FVec Ideal S512x1024 .f32 :=
  addf x (matmul dot_S512x1408_S1408x1024_S512x1024_1_0_0_1_n_n none h (shapeCast S1408x1024 w shapeCasts_S1408x1024_S1408x1024 : FVec Ideal S1408x1024 .bf16)
    (constant S512x1024 .f32 0x00000000#32))

theorem out_at (x : FVec Ideal S512x1024 .f32) (h : FVec Ideal S512x1408 .bf16) (w : Vec Ideal S1408x1024 .bf16) (r : Fin 512) (d : Fin 1024) :
    out x h w (ix2 r d) = x (ix2 r d) + ∑ j : Fin 1408, h (ix2 r j) * w (ix2 j d) := by
  pointwise [out]

theorem enter_at (x : Vec Ideal S8x64x1024 .f32) (s : Fin 8) (r : Fin 64) (d : Fin 1024) : k0_pay3 x (ix2 (at8 s r) d) = x (ix3 s r d) := by
  pointwise [k0_pay3]
  rw [at8_div, at8_mod]

theorem leave_at (y : FVec Ideal S512x1024 .f32) (s : Fin 8) (r : Fin 64) (d : Fin 1024) : k0_pay1 y (ix3 s r d) = y (ix2 (at8 s r) d) := by
  pointwise [k0_pay1]

/-- The eight sequences' convolutions. -/
def convs (z : FVec Ideal S512x1408 .f32) (C : Fin 8 → Vec Ideal S1x2x1408 .f32) (b w₀ w₁ w₂ : Vec Ideal S1x1408 .f32) : FVec Ideal S512x1408 .f32 :=
  stack fun s => cv (part z s) (C s) b w₀ w₁ w₂

theorem convs_at (z : FVec Ideal S512x1408 .f32) (C : Fin 8 → Vec Ideal S1x2x1408 .f32) (b w₀ w₁ w₂ : Vec Ideal S1x1408 .f32)
    (s : Fin 8) (r : Fin 64) (j : Fin 1408) : convs z C b w₀ w₁ w₂ (ix2 (at8 s r) j)
      = taps (fun ρ => z (ix2 (at8 s ρ) j)) (fun k => C s (ix3 0 k j)) ![w₀ (ix2 0 j), w₁ (ix2 0 j), w₂ (ix2 0 j)] (b (ix2 0 j)) r := by
  refine (stack_at _ s r j).trans ((cv_at _ _ b w₀ w₁ w₂ r j).trans ?_)
  simp only [part_at]

/-- The block of results a grid point stores, from its blocks and the two halves of the tokens before each sequence. -/
def point (x : Vec Ideal S8x64x1024 .f32) (g : Vec Ideal S1x1024 .f32) (wu : Vec Ideal S1024x5632 .bf16) (cw : Vec Ideal S3x2816 .f32)
    (cb : Vec Ideal S1x2816 .f32) (wd : Vec Ideal S2816x1024 .bf16) (C D : Fin 8 → Vec Ideal S1x2x1408 .f32) : Vec Ideal S8x64x1024 .f32 :=
  k0_pay1 (out (out (k0_pay3 x)
    (gl (convs (k0_pay65 (k0_pay4 x g) (View.ld wu (Rect.unit ![0, 0] ![1024, 1408] inb_S1024x5632_S1024x1408_0_0))) C
        (View.ld cb (Rect.unit ![0, 0] ![1, 1408] inb_S1x2816_S1x1408_0_0)) (View.ld cw (Rect.unit ![0, 0] ![1, 1408] inb_S3x2816_S1x1408_0_0))
        (View.ld cw (Rect.unit ![1, 0] ![1, 1408] inb_S3x2816_S1x1408_1_0)) (View.ld cw (Rect.unit ![2, 0] ![1, 1408] inb_S3x2816_S1x1408_2_0)))
      (k0_pay65 (k0_pay4 x g) (View.ld wu (Rect.unit ![0, 2816] ![1024, 1408] inb_S1024x5632_S1024x1408_0_2816))))
    (View.ld wd (Rect.unit ![0, 0] ![1408, 1024] inb_S2816x1024_S1408x1024_0_0)))
    (gl (convs (k0_pay65 (k0_pay4 x g) (View.ld wu (Rect.unit ![0, 1408] ![1024, 1408] inb_S1024x5632_S1024x1408_0_1408))) D
        (View.ld cb (Rect.unit ![0, 1408] ![1, 1408] inb_S1x2816_S1x1408_0_1408)) (View.ld cw (Rect.unit ![0, 1408] ![1, 1408] inb_S3x2816_S1x1408_0_1408))
        (View.ld cw (Rect.unit ![1, 1408] ![1, 1408] inb_S3x2816_S1x1408_1_1408)) (View.ld cw (Rect.unit ![2, 1408] ![1, 1408] inb_S3x2816_S1x1408_2_1408)))
      (k0_pay65 (k0_pay4 x g) (View.ld wu (Rect.unit ![0, 4224] ![1024, 1408] inb_S1024x5632_S1024x1408_0_4224))))
    (View.ld wd (Rect.unit ![1408, 0] ![1408, 1024] inb_S2816x1024_S1408x1024_1408_0)))

theorem point_at (x : Vec Ideal S8x64x1024 .f32) (g : Vec Ideal S1x1024 .f32) (wu : Vec Ideal S1024x5632 .bf16) (cw : Vec Ideal S3x2816 .f32)
    (cb : Vec Ideal S1x2816 .f32) (wd : Vec Ideal S2816x1024 .bf16) (C D : Fin 8 → Vec Ideal S1x2x1408 .f32) (cin : Fin 2 → Fin 2816 → EReal) (s : Fin 8)
    (hC : ∀ k j, C s (ix3 0 k j) = cin k ⟨j.val, by omega⟩) (hD : ∀ k j, D s (ix3 0 k j) = cin k ⟨1408 + j.val, by omega⟩) (r : Fin 64) (d : Fin 1024) :
    point x g wu cw cb wd C D (ix3 s r d) = block (fun ρ y => x (ix3 s ρ y)) (fun y => g (ix2 0 y)) (fun i j => wu (ix2 i j))
      (fun k j => cw (ix2 k j)) (fun j => cb (ix2 0 j)) (fun j e => wd (ix2 j e)) cin r d := by
  unfold point block
  rw [← Cert.Ffn.halves, ← add_assoc]
  refine (leave_at _ s r d).trans ((out_at _ _ _ (at8 s r) d).trans ?_)
  refine congrArg₂ (· + ·) ((out_at _ _ _ (at8 s r) d).trans (congrArg₂ (· + ·) (enter_at x s r d) ?_)) ?_
  · refine Finset.sum_congr rfl fun j _ => congrArg₂ (· * ·) ((gl_at _ _ (at8 s r) j).trans (congrArg₂ act ?_ ?_)) (Cert.Ffn.down_at wd j d).1
    · exact (convs_at _ C _ _ _ _ s r j).trans (taps_congr r
        (fun ρ => (col_at x g _ s ρ j).trans (proj_congr (fun _ => rfl) (fun _ => rfl) fun i => (Cert.Ffn.up_at wu i j).1))
        (fun k => hC k j) (Cert.Ffn.taps_at cw j).1 (Cert.Ffn.bias_at cb j).1)
    · exact (col_at x g _ s r j).trans (proj_congr (fun _ => rfl) (fun _ => rfl) fun i => (Cert.Ffn.up_at wu i j).2.2.1)
  · refine Finset.sum_congr rfl fun j _ => congrArg₂ (· * ·) ((gl_at _ _ (at8 s r) j).trans (congrArg₂ act ?_ ?_)) (Cert.Ffn.down_at wd j d).2
    · exact (convs_at _ D _ _ _ _ s r j).trans (taps_congr r
        (fun ρ => (col_at x g _ s ρ j).trans (proj_congr (fun _ => rfl) (fun _ => rfl) fun i => (Cert.Ffn.up_at wu i j).2.1))
        (fun k => hD k j) (Cert.Ffn.taps_at cw j).2 (Cert.Ffn.bias_at cb j).2)
    · exact (col_at x g _ s r j).trans (proj_congr (fun _ => rfl) (fun _ => rfl) fun i => (Cert.Ffn.up_at wu i j).2.2.2)

end Cert.FfnS
-- ==== Proof.FfnsCarry.lean ====
/- The feed-forward block of the sample batch: what a grid point stores. -/
module

public import proofs.«01_k».proof.Proof.FfnsPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnS

open Cert.Row Cert.KernelFfnSIdeal Cert.KernelFfnSIdeal.Gen

theorem inb_lo : ∀ (s : Fin 8) (a : Fin 3), (![s.val, 0, 0] : Fin 3 → ℕ) a + S1x2x1408.size a ≤ S8x2x2816.size a := by decide +kernel

theorem inb_hi : ∀ (s : Fin 8) (a : Fin 3), (![s.val, 0, 1408] : Fin 3 → ℕ) a + S1x2x1408.size a ≤ S8x2x2816.size a := by decide +kernel

/-- The two halves of a sequence's carried tokens. -/
abbrev lo (s : Fin 8) : Rect S8x2x2816 := Rect.unit ![s.val, 0, 0] ![1, 2, 1408] (inb_lo s)
abbrev hi (s : Fin 8) : Rect S8x2x2816 := Rect.unit ![s.val, 0, 1408] ![1, 2, 1408] (inb_hi s)

theorem emb_at (s : Fin 8) (k : Fin 2) (j : Fin 1408) : ((lo s).emb (ix3 0 k j) 0).val = s.val ∧ ((hi s).emb (ix3 0 k j) 0).val = s.val :=
  ⟨by simp [lo], by simp [hi]⟩

/-- The last two rows of the eight sequences, the two halves side by side. -/
def lastTwo (A A' : FVec Ideal S512x1408 .f32) (i : S8x2x2816.Idx) : EReal :=
  if h : (i 2 : ℕ) < 1408 then A (ix2 (at8 (i 0) ⟨62 + (i 1 : ℕ), by have := (i 1).isLt; simp at this; omega⟩) ⟨i 2, h⟩)
  else A' (ix2 (at8 (i 0) ⟨62 + (i 1 : ℕ), by have := (i 1).isLt; simp at this; omega⟩) ⟨(i 2 : ℕ) - 1408, by have := (i 2).isLt; simp at this; omega⟩)

/-- The stores of the sequences' last two rows, the last one first. -/
def kept (A A' : FVec Ideal S512x1408 .f32) : List (View.Piece (Elt Ideal) S8x2x2816 .f32) :=
  ([7, 6, 5, 4, 3, 2, 1, 0].map fun s => ⟨hi s, k0_pay12 (part A' s)⟩) ++ ([7, 6, 5, 4, 3, 2, 1, 0].map fun s => ⟨lo s, k0_pay12 (part A s)⟩)

/-- They are read back over anything stored before them. -/
theorem stored (A A' : FVec Ideal S512x1408 .f32) (L : List (View.Piece (Elt Ideal) S8x2x2816 .f32)) (i : S8x2x2816.Idx) :
    View.canon (kept A A' ++ L) i = lastTwo A A' i := by
  have all : ∀ s : Fin 8, s ∈ ([7, 6, 5, 4, 3, 2, 1, 0] : List (Fin 8)) := by decide
  refine View.canon_append_of_pieces (lastTwo A A') L _ (fun p hp => ?_) i ?_
  · rcases List.mem_append.mp hp with h | h <;> obtain ⟨s, -, rfl⟩ := List.mem_map.mp h <;> intro x
    · obtain ⟨k, j, rfl⟩ : ∃ (k : Fin 2) (j : Fin 1408), x = ix3 0 k j := ⟨x 1, x 2, by blk_ext⟩
      refine (keep_at _ k j).trans ((part_at A' s _ j).trans ?_)
      unfold lastTwo
      refine Eq.trans ?_ (dif_neg (by simp)).symm
      congr 1
      blk_ext
      exact congrArg (· * 64 + (62 + k.val)) (emb_at s k j).2.symm
    · obtain ⟨k, j, rfl⟩ : ∃ (k : Fin 2) (j : Fin 1408), x = ix3 0 k j := ⟨x 1, x 2, by blk_ext⟩
      refine (keep_at _ k j).trans ((part_at A s _ j).trans ?_)
      unfold lastTwo
      refine Eq.trans ?_ (dif_pos (by simp)).symm
      congr 1
      blk_ext
      exact congrArg (· * 64 + (62 + k.val)) (emb_at s k j).1.symm
  idx_bounds i
  by_cases h : (i 2 : ℕ) < 1408
  · refine ⟨_, List.mem_append_right _ (List.mem_map_of_mem (all (i 0))), (Rect.mem_set_unit (inb := inb_lo (i 0))).mpr fun a => ?_⟩
    fin_cases a <;> simp <;> omega
  · refine ⟨_, List.mem_append_left _ (List.mem_map_of_mem (all (i 0))), (Rect.mem_set_unit (inb := inb_hi (i 0))).mpr fun a => ?_⟩
    fin_cases a <;> simp <;> omega

/-- A half of a sequence's carried tokens, loaded. -/
theorem half_at (X : Vec Ideal S8x2x2816 .f32) (s : Fin 8) (k : Fin 2) (j : Fin 1408) :
    View.ld X (lo s) (ix3 0 k j) = X (ix3 s k ⟨j.val, by omega⟩) ∧ View.ld X (hi s) (ix3 0 k j) = X (ix3 s k ⟨1408 + j.val, by omega⟩) := by
  refine ⟨?_, ?_⟩ <;> pointwise <;> blk_ext

theorem start_eq (X : Vec Ideal S8x2x2816 .f32) : k0_pay2 X = X := by
  funext i
  obtain ⟨s, k, j, rfl⟩ : ∃ (s : Fin 8) (k : Fin 2) (j : Fin 2816), i = ix3 s k j := ⟨i 0, i 1, i 2, by blk_ext⟩
  pointwise [k0_pay2]

variable (m : (ℓ : Loc nD τ sig) → Buf (Elt Ideal) ℓ)

/-- The block of the first result a grid point stores. -/
theorem out_eq (c : Dev nD) (t : Fin cfg0.N) : (outsAt0 m c t).1
    = point (iblk m c 0 t) (iblk m c 2 t) (iblk m c 3 t) (iblk m c 4 t) (iblk m c 5 t) (iblk m c 6 t)
        (fun s => View.ld (k0_pay2 (iblk m c 1 t)) (lo s)) (fun s => View.ld (k0_pay2 (iblk m c 1 t)) (hi s)) := by
  unfold outsAt0
  frame_open
  simp (disch := decide) only [↓ View.readCov_skip, ↓ View.readCov_fill]
  frame_out
  rfl

/-- What a grid point stores of the second result: the last two rows of its eight sequences. -/
theorem conv_eq (c : Dev nD) (t : Fin cfg0.N) (i : S8x2x2816.Idx) : (outsAt0 m c t).2 i
    = lastTwo (k0_pay65 (k0_pay4 (iblk m c 0 t) (iblk m c 2 t)) (View.ld (iblk m c 3 t) (Rect.unit ![0, 0] ![1024, 1408] inb_S1024x5632_S1024x1408_0_0)))
        (k0_pay65 (k0_pay4 (iblk m c 0 t) (iblk m c 2 t)) (View.ld (iblk m c 3 t) (Rect.unit ![0, 1408] ![1024, 1408] inb_S1024x5632_S1024x1408_0_1408))) i := by
  unfold outsAt0
  frame_out
  rw [View.readCov_eq_canon']
  refine (stored _ _ [⟨Rect.unit ![0, 0, 0] ![8, 2, 2816] inb_S8x2x2816_S8x2x2816_0_0_0, k0_pay2 (iblk m c 1 t)⟩] _).trans (congrArg _ ?_)
  funext a
  refine Fin.ext ((Rect.idx_unit_val _ _ _ i a).trans ?_)
  fin_cases a <;> simp

end Cert.FfnS
-- ==== Proof.FfnsKernel.lean ====
/- The feed-forward block of the sample batch: the kernel, read at an index. -/
module

public import proofs.«01_k».proof.Proof.FfnsCarry

@[expose] public section

set_option maxRecDepth 16384

noncomputable section

open Idealize.ShloMosaic Idealize.ShloMosaic.TcCoe Idealize.SL.Sem
open Idealize.ShloMosaic.Pipeline (Dat)
open scoped BigOperators

namespace Cert.FfnS

open Cert.Row Cert.KernelFfnSIdeal Cert.KernelFfnSIdeal.Gen

theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ t.val < 4 :=
  (by decide +kernel : ∀ t : Fin grid0.N, _)

/-- A sequence of the batch, by the grid point that reads it and its place there. -/
def seq (t : Fin cfg0.N) (s : Fin 8) : Fin 32 := ⟨t.val * 8 + s.val, by have := (idx t).2.2.2.2.2.2.2.2.2; omega⟩

variable (m : (ℓ : Loc nD τ sig) → Buf (Elt Ideal) ℓ)

/-- The arguments as functions of their coordinates. -/
abbrev X (c : Dev nD) (b : Fin 32) (s : Fin 64) (y : Fin 1024) : EReal := m (c.tc.loc main_arg0) (ix3 b s y)
abbrev CIN (c : Dev nD) (b : Fin 32) (s : Fin 2) (j : Fin 2816) : EReal := m (c.tc.loc main_arg1) (ix3 b s j)
abbrev G (c : Dev nD) (y : Fin 1024) : EReal := m (c.tc.loc main_arg2) (ix1 y)
abbrev WU (c : Dev nD) (i : Fin 1024) (j : Fin 5632) : EReal := m (c.tc.loc main_arg3) (ix2 i j)
abbrev CW (c : Dev nD) (k : Fin 3) (j : Fin 2816) : EReal := m (c.tc.loc main_arg4) (ix2 k j)
abbrev CB (c : Dev nD) (j : Fin 2816) : EReal := m (c.tc.loc main_arg5) (ix1 j)
abbrev WD (c : Dev nD) (j : Fin 2816) (d : Fin 1024) : EReal := m (c.tc.loc main_arg6) (ix2 j d)

/-- The blocks a grid point reads. -/
theorem blocks_at (c : Dev nD) (t : Fin cfg0.N) :
    (∀ s (r : Fin 64) y, iblk m c 0 t (ix3 s r y) = X m c (seq t s) r y)
    ∧ (∀ s k j, iblk m c 1 t (ix3 s k j) = CIN m c (seq t s) k j)
    ∧ (∀ y, iblk m c 2 t (ix2 0 y) = G m c y) ∧ (∀ i j, iblk m c 3 t (ix2 i j) = WU m c i j) ∧ (∀ k j, iblk m c 4 t (ix2 k j) = CW m c k j)
    ∧ (∀ j, iblk m c 5 t (ix2 0 j) = CB m c j) ∧ (∀ j d, iblk m c 6 t (ix2 j d) = WD m c j d) := by
  refine ⟨fun s r y => ?_, fun s k j => ?_, fun y => ?_, fun i j => ?_, fun k j => ?_, fun j => ?_, fun j d => ?_⟩
  all_goals blk_point [iblk, V, idx t, seq]

/-- The last two rows of a grid point's sequences, in the arguments. -/
theorem lastTwo_at (c : Dev nD) (t : Fin cfg0.N) (s : Fin 8) (k : Fin 2) (j : Fin 2816) :
    lastTwo (k0_pay65 (k0_pay4 (iblk m c 0 t) (iblk m c 2 t)) (View.ld (iblk m c 3 t) (Rect.unit ![0, 0] ![1024, 1408] inb_S1024x5632_S1024x1408_0_0)))
        (k0_pay65 (k0_pay4 (iblk m c 0 t) (iblk m c 2 t)) (View.ld (iblk m c 3 t) (Rect.unit ![0, 1408] ![1024, 1408] inb_S1024x5632_S1024x1408_0_1408)))
        (ix3 s k j)
      = hid (X m c (seq t s)) (G m c) (WU m c) ⟨62 + k.val, by omega⟩ j := by
  obtain ⟨h0, -, h2, h3, -⟩ := blocks_at m c t
  unfold lastTwo
  split_ifs with h
  · refine (col_at _ _ _ _ _ _).trans (proj_congr (fun y => h0 _ _ y) (fun y => h2 y) fun i => ?_)
    exact ((Cert.Ffn.up_at _ _ _).1).trans (h3 _ _)
  · refine (col_at _ _ _ _ _ _).trans (proj_congr (fun y => h0 _ _ y) (fun y => h2 y) fun i => ?_)
    refine ((Cert.Ffn.up_at _ _ _).2.1).trans ((h3 _ _).trans (congrArg (WU m c i) (Fin.ext ?_)))
    show 1408 + (j.val - 1408) = j.val
    have : ¬ j.val < 1408 := h
    omega

theorem first_at (c : Dev nD) (t : Fin cfg0.N) (s : Fin 8) (r : Fin 64) (d : Fin 1024) : (outsAt0 m c t).1 (ix3 s r d)
      = block (X m c (seq t s)) (G m c) (WU m c) (CW m c) (CB m c) (WD m c) (CIN m c (seq t s)) r d := by
  obtain ⟨h0, h1, h2, h3, h4, h5, h6⟩ := blocks_at m c t
  rw [out_eq, start_eq]
  refine (point_at _ _ _ _ _ _ _ _ (CIN m c (seq t s)) s (fun k j => ?_) (fun k j => ?_) r d).trans ?_
  · exact ((half_at _ s k j).1).trans (h1 s k _)
  · exact ((half_at _ s k j).2).trans (h1 s k _)
  · simp only [h0, h2, h3, h4, h5, h6]

/-- What the first result should hold. -/
def yOf (c : Dev nD) (i : S32x64x1024.Idx) : EReal :=
  block (X m c (i 0)) (G m c) (WU m c) (CW m c) (CB m c) (WD m c) (CIN m c (i 0)) (i 1) (i 2)

/-- What the second result should hold: the last two rows of each sequence. -/
def convOf (c : Dev nD) (i : S32x2x2816.Idx) : EReal :=
  hid (X m c (i 0)) (G m c) (WU m c) ⟨62 + (i 1 : ℕ), by have := (i 1).isLt; simp at this; omega⟩ (i 2)

theorem final_y (c : Dev nD) : (dats m 0 c).arrAt 7 (cfgs 0).N = yOf m c := by
  refine (dats m 0 c).arrAt_eq_of_covers 7 _ (by decide +kernel) fun t _ y => ?_
  obtain ⟨s, r, d, rfl⟩ : ∃ (s : Fin 8) (r : Fin 64) (d : Fin 1024), y = ix3 s r d := ⟨y 0, y 1, y 2, by blk_ext⟩
  have e : (win0_7.blk t).view.emb (ix3 s r d) = ix3 (seq t s) r d := by
    blk_ext [idx t, seq]
  refine (congrFun (after0_7 m c t) _).trans ((first_at m c t s r d).trans ?_)
  exact (congrArg (yOf m c) e).symm

theorem final_conv (c : Dev nD) : (dats m 0 c).arrAt 8 (cfgs 0).N = convOf m c := by
  refine (dats m 0 c).arrAt_eq_of_covers 8 _ (by decide +kernel) fun t ht y => ?_
  obtain ⟨s, k, j, rfl⟩ : ∃ (s : Fin 8) (k : Fin 2) (j : Fin 2816), y = ix3 s k j := ⟨y 0, y 1, y 2, by blk_ext⟩
  have e : (win0_8.blk t).view.emb (ix3 s k j) = ix3 (seq t s) k j := by
    blk_ext [idx t, seq]
  refine (congrFun (after0_8 m c t) _).trans ((conv_eq m c t _).trans ((lastTwo_at m c t s k j).trans ?_))
  exact (congrArg (convOf m c) e).symm

end Cert.FfnS
-- ==== Proof.FfnsRef.lean ====
/- The feed-forward block of the sample batch: the reference, read at an index. -/
module

public import proofs.«01_k».proof.Proof.Gen.ReferenceFfnSIdeal.Run
public import proofs.«01_k».proof.Proof.FfnsSpec

@[expose] public section

set_option maxRecDepth 16384

noncomputable section

open Idealize.ShloMosaic Idealize.ShloMosaic.TcCoe Idealize.SL.Sem
open Idealize.ShloMosaic.Pipeline (Dat)
open scoped BigOperators

namespace Cert.FfnS

open Cert.Ffn (conv act)
open Cert.Row Cert.ReferenceFfnSIdeal Cert.ReferenceFfnSIdeal.Gen

/-- The reference's normalised rows. -/
abbrev normed (x : FVec Ideal S32x64x1024 .f32) (g : FVec Ideal S1024 .f32) : FVec Ideal S32x64x1024 .f32 :=
  mulf (mulf x (broadcastInDim S32x64x1024 ![0, 1, 2] bcast_S32x64x1_S32x64x1024_0_1_2 (Host.rsqrt (addf (Host.divf
      (broadcastInDim S32x64x1 ![0, 1] bcast_S32x64_S32x64x1_0_1 (Host.reduceAdd (mulf x x) (constant S_ .f32 0x00000000#32)
        reducesTo_S32x64x1024_S32x64_d2 h_S_)) (broadcastInDim S32x64x1 ![] bcast_S_S32x64x1 (constant S_ .f32 0x44800000#32)))
      (broadcastInDim S32x64x1 ![] bcast_S_S32x64x1 (constant S_ .f32 0x358637BD#32))))))
    (broadcastInDim S32x64x1024 ![0, 1, 2] bcast_S1x1x1024_S32x64x1024_0_1_2 (broadcastInDim S1x1x1024 ![2] bcast_S1024_S1x1x1024_2 g))

/-- The first product. -/
abbrev up (x : FVec Ideal S32x64x1024 .f32) (g : FVec Ideal S1024 .f32) (w : FVec Ideal S1024x5632 .f32) : FVec Ideal S32x64x5632 .f32 :=
  Host.dotGeneral dot_S32x64x1024_S1024x5632_S32x64x5632_2_0_01_1_n_n none (normed x g) w

/-- Its first half, the two tokens before it put in front. -/
abbrev padded (cin : FVec Ideal S32x2x2816 .f32) (z : FVec Ideal S32x64x5632 .f32) : FVec Ideal S32x66x2816 .f32 :=
  concatenate S32x66x2816 1 [⟨S32x2x2816, (cin : (⟨S32x2x2816, .f32⟩ : BufTy).Contents (Elt Ideal))⟩,
    ⟨S32x64x2816, (extractStridedSlice S32x64x2816 ![0, 0, 0] z slices_S32x64x5632_S32x64x2816_0_0_0)⟩]
    concatenates_S32x2x2816_S32x64x2816_S32x66x2816_d1

/-- A vector along the last axis, at every token. -/
abbrev along (v : FVec Ideal S2816 .f32) : FVec Ideal S32x64x2816 .f32 :=
  broadcastInDim S32x64x2816 ![0, 1, 2] bcast_S1x1x2816_S32x64x2816_0_1_2 (broadcastInDim S1x1x2816 ![2] bcast_S2816_S1x1x2816_2 v)

/-- The convolution over tokens. -/
abbrev convolved (p : FVec Ideal S32x66x2816 .f32) (w : FVec Ideal S3x2816 .f32) (b : FVec Ideal S2816 .f32) : FVec Ideal S32x64x2816 .f32 :=
  addf (along b) (addf (addf (addf (broadcastInDim S32x64x2816 ![] bcast_S_S32x64x2816 (constant S_ .f32 0x00000000#32))
      (mulf (extractStridedSlice S32x64x2816 ![0, 0, 0] p slices_S32x66x2816_S32x64x2816_0_0_0)
        (along (shapeCast _ (extractStridedSlice S1x2816 ![0, 0] w slices_S3x2816_S1x2816_0_0) shapeCasts_S1x2816_S2816))))
      (mulf (extractStridedSlice S32x64x2816 ![0, 1, 0] p slices_S32x66x2816_S32x64x2816_0_1_0)
        (along (shapeCast _ (extractStridedSlice S1x2816 ![1, 0] w slices_S3x2816_S1x2816_1_0) shapeCasts_S1x2816_S2816))))
      (mulf (extractStridedSlice S32x64x2816 ![0, 2, 0] p slices_S32x66x2816_S32x64x2816_0_2_0)
        (along (shapeCast _ (extractStridedSlice S1x2816 ![2, 0] w slices_S3x2816_S1x2816_2_0) shapeCasts_S1x2816_S2816))))

/-- A number at every entry. -/
abbrev all (b : BitVec 32) : FVec Ideal S32x64x2816 .f32 := broadcastInDim S32x64x2816 ![] bcast_S_S32x64x2816 (constant S_ .f32 b)

/-- The gate times the first product's second half. -/
abbrev gated (k : FVec Ideal S32x64x2816 .f32) (z : FVec Ideal S32x64x5632 .f32) : FVec Ideal S32x64x2816 .f32 :=
  mulf (mulf k (mulf (all 0x3F000000#32) (addf (all 0x3F800000#32) (Host.tanh (mulf (all 0x3F4C422A#32)
      (addf k (mulf (all 0x3D372713#32) (mulf (mulf k k) k))))))))
    (extractStridedSlice S32x64x2816 ![0, 0, 2816] z slices_S32x64x5632_S32x64x2816_0_0_2816)

/-- The reference's first result. -/
abbrev YREF (x : FVec Ideal S32x64x1024 .f32) (cin : FVec Ideal S32x2x2816 .f32) (g : FVec Ideal S1024 .f32) (wu : FVec Ideal S1024x5632 .f32)
    (cw : FVec Ideal S3x2816 .f32) (cb : FVec Ideal S2816 .f32) (wd : FVec Ideal S2816x1024 .f32) : FVec Ideal S32x64x1024 .f32 :=
  addf x (Host.dotGeneral dot_S32x64x2816_S2816x1024_S32x64x1024_2_0_01_1_n_n none
    (gated (convolved (padded cin (up x g wu)) cw cb) (up x g wu)) wd)

/-- The reference's second result. -/
abbrev CREF (x : FVec Ideal S32x64x1024 .f32) (cin : FVec Ideal S32x2x2816 .f32) (g : FVec Ideal S1024 .f32) (wu : FVec Ideal S1024x5632 .f32) :
    FVec Ideal S32x2x2816 .f32 :=
  extractStridedSlice S32x2x2816 ![0, 64, 0] (padded cin (up x g wu)) slices_S32x66x2816_S32x2x2816_0_64_0

theorem normed_at (x : FVec Ideal S32x64x1024 .f32) (g : FVec Ideal S1024 .f32) (b : Fin 32) (r : Fin 64) (i : Fin 1024) :
    normed x g (ix3 b r i) = rms (Ideal.ofBits .f32 0x44800000#32) (fun y => x (ix3 b r y)) (fun y => g (ix1 y)) i := by
  pointwise [normed, rms]

theorem dotu_at (z : FVec Ideal S32x64x1024 .f32) (w : FVec Ideal S1024x5632 .f32) (b : Fin 32) (r : Fin 64) (j : Fin 5632) :
    Host.dotGeneral dot_S32x64x1024_S1024x5632_S32x64x5632_2_0_01_1_n_n none z w (ix3 b r j) = ∑ i : Fin 1024, z (ix3 b r i) * w (ix2 i j) := by
  pointwise

theorem up_ref_at (x : FVec Ideal S32x64x1024 .f32) (g : FVec Ideal S1024 .f32) (w : FVec Ideal S1024x5632 .f32) (b : Fin 32) (r : Fin 64) (j : Fin 5632) :
    up x g w (ix3 b r j) = proj (fun y => x (ix3 b r y)) (fun y => g (ix1 y)) (fun i => w (ix2 i j)) := by
  refine (dotu_at _ w b r j).trans ?_
  simp only [normed_at]
  rfl

theorem padded_at (cin : FVec Ideal S32x2x2816 .f32) (z : FVec Ideal S32x64x5632 .f32) (b : Fin 32) (s : Fin 66) (j : Fin 2816) :
    padded cin z (ix3 b s j) = pad (fun s => cin (ix3 b s j)) (fun τ => z (ix3 b τ ⟨j.val, by omega⟩)) s := by
  unfold pad
  split_ifs with h
  · pointwise [padded, h]
  · pointwise [padded, h]

theorem convolved_at (p : FVec Ideal S32x66x2816 .f32) (w : FVec Ideal S3x2816 .f32) (v : FVec Ideal S2816 .f32) (b : Fin 32) (τ : Fin 64) (j : Fin 2816) :
    convolved p w v (ix3 b τ j) = conv (w (ix2 0 j)) (w (ix2 1 j)) (w (ix2 2 j)) (v (ix1 j)) (p (ix3 b ⟨τ.val, by omega⟩ j))
      (p (ix3 b ⟨τ.val + 1, by omega⟩ j)) (p (ix3 b ⟨τ.val + 2, by omega⟩ j)) := by
  pointwise [convolved, along, conv]
  have e1 : (⟨1 + τ.val, by omega⟩ : Fin 66) = ⟨τ.val + 1, by omega⟩ := Fin.ext (Nat.add_comm _ _)
  have e2 : (⟨2 + τ.val, by omega⟩ : Fin 66) = ⟨τ.val + 2, by omega⟩ := Fin.ext (Nat.add_comm _ _)
  simp only [e1, e2, add_assoc]

theorem gated_at (k : FVec Ideal S32x64x2816 .f32) (z : FVec Ideal S32x64x5632 .f32) (b : Fin 32) (τ : Fin 64) (j : Fin 2816) :
    gated k z (ix3 b τ j) = act (k (ix3 b τ j)) (z (ix3 b τ ⟨2816 + j.val, by omega⟩)) := by
  pointwise [gated, all, act]
  refine congrArg (· * _) ?_
  rw [← mul_assoc, mul_comm (k (ix3 b τ j)) (Ideal.ofBits .f32 _)]

theorem outer_at (x : FVec Ideal S32x64x1024 .f32) (h : FVec Ideal S32x64x2816 .f32) (w : FVec Ideal S2816x1024 .f32) (b : Fin 32) (τ : Fin 64) (d : Fin 1024) :
    addf x (Host.dotGeneral dot_S32x64x2816_S2816x1024_S32x64x1024_2_0_01_1_n_n none h w) (ix3 b τ d)
      = x (ix3 b τ d) + ∑ j : Fin 2816, h (ix3 b τ j) * w (ix2 j d) := by
  pointwise

theorem y_ref_at (x : FVec Ideal S32x64x1024 .f32) (cin : FVec Ideal S32x2x2816 .f32) (g : FVec Ideal S1024 .f32) (wu : FVec Ideal S1024x5632 .f32)
    (cw : FVec Ideal S3x2816 .f32) (cb : FVec Ideal S2816 .f32) (wd : FVec Ideal S2816x1024 .f32) (b : Fin 32) (τ : Fin 64) (d : Fin 1024) :
    YREF x cin g wu cw cb wd (ix3 b τ d) = block (fun s y => x (ix3 b s y)) (fun y => g (ix1 y)) (fun i j => wu (ix2 i j)) (fun k j => cw (ix2 k j))
      (fun j => cb (ix1 j)) (fun j e => wd (ix2 j e)) (fun s j => cin (ix3 b s j)) τ d := by
  refine (outer_at x _ wd b τ d).trans ?_
  refine congrArg _ (Finset.sum_congr rfl fun j _ => congrArg (· * _) ?_)
  refine (gated_at _ _ b τ j).trans (congrArg₂ act ((convolved_at _ cw cb b τ j).trans ?_) (up_ref_at x g wu b τ _))
  simp only [padded_at, up_ref_at]
  rfl

theorem last_ref_at (z : FVec Ideal S32x66x2816 .f32) (b : Fin 32) (s : Fin 2) (j : Fin 2816) :
    extractStridedSlice S32x2x2816 ![0, 64, 0] z slices_S32x66x2816_S32x2x2816_0_64_0 (ix3 b s j) = z (ix3 b ⟨64 + s.val, by omega⟩ j) := by
  pointwise

theorem c_ref_at (x : FVec Ideal S32x64x1024 .f32) (cin : FVec Ideal S32x2x2816 .f32) (g : FVec Ideal S1024 .f32) (wu : FVec Ideal S1024x5632 .f32)
    (b : Fin 32) (s : Fin 2) (j : Fin 2816) :
    CREF x cin g wu (ix3 b s j) = hid (fun s y => x (ix3 b s y)) (fun y => g (ix1 y)) (fun i j => wu (ix2 i j)) ⟨62 + s.val, by omega⟩ j := by
  refine (last_ref_at _ b s j).trans ((padded_at _ _ b _ j).trans ?_)
  unfold pad
  rw [dif_neg (by simp; omega)]
  refine (up_ref_at x g wu b _ _).trans ?_
  unfold hid
  exact congrArg (fun τ : Fin 64 => proj (fun y => x (ix3 b τ y)) (fun y => g (ix1 y)) fun i => wu (ix2 i ⟨j.val, by omega⟩)) (Fin.ext (by simp; omega))

end Cert.FfnS
-- ==== Proof.FfnsClaim.lean ====
/- The feed-forward block of the sample batch: kernel and reference agree. -/
module

public import proofs.«01_k».proof.Proof.Gen.KernelFfnS.Frame
public import Idealize.ShloMosaic.Lib.Quiescent
public import proofs.«01_k».proof.Defs
public import proofs.«01_k».proof.Proof.FfnsKernel
public import proofs.«01_k».proof.Proof.FfnsRef

@[expose] public section

set_option maxRecDepth 16384

noncomputable section

open Idealize.ShloMosaic Idealize.ShloMosaic.TcCoe Idealize.SL.Sem
open Idealize.ShloMosaic.Pipeline (Dat)
open scoped BigOperators

namespace Cert.FfnS

open Cert.Row

theorem frame : quiescent_KernelFfnS := fun m ρ _ => KernelFfnS.Gen.frame m ρ

theorem frame_ideal : quiescent_KernelFfnSIdeal := fun m ρ _ => KernelFfnSIdeal.Gen.frame m ρ

theorem frame_ref : quiescent_ReferenceFfnSIdeal := fun m ρ _ =>
  (θ_run ReferenceFfnSIdeal.defs _ _).mono (fun r h => ⟨fun c => (h c).2.2, Idealize.ShloMosaic.sem_eq_zero_of_no_sems (by decide) r.2⟩)
    (ReferenceFfnSIdeal.Value.run (F := Ideal) m ρ)

theorem y_eq (m : (ℓ : Loc KernelFfnSIdeal.nD KernelFfnSIdeal.τ KernelFfnSIdeal.sig) → Buf (Elt Ideal) ℓ) (c : Dev KernelFfnSIdeal.nD) :
    YREF (m (c.tc.loc KernelFfnSIdeal.main_arg0)) (m (c.tc.loc KernelFfnSIdeal.main_arg1))
      (m (c.tc.loc KernelFfnSIdeal.main_arg2)) (m (c.tc.loc KernelFfnSIdeal.main_arg3))
      (m (c.tc.loc KernelFfnSIdeal.main_arg4)) (m (c.tc.loc KernelFfnSIdeal.main_arg5))
      (m (c.tc.loc KernelFfnSIdeal.main_arg6))
      = (KernelFfnSIdeal.Gen.dats m 0 c).arrAt 7 KernelFfnSIdeal.cfg0.N := by
  refine Eq.trans ?_ (final_y m c).symm
  funext i
  have hi : i = ix3 (i 0) (i 1) (i 2) := by blk_ext
  exact (congrArg _ hi).trans (y_ref_at _ _ _ _ _ _ _ (i 0) (i 1) (i 2))

theorem c_eq (m : (ℓ : Loc KernelFfnSIdeal.nD KernelFfnSIdeal.τ KernelFfnSIdeal.sig) → Buf (Elt Ideal) ℓ) (c : Dev KernelFfnSIdeal.nD) :
    CREF (m (c.tc.loc KernelFfnSIdeal.main_arg0)) (m (c.tc.loc KernelFfnSIdeal.main_arg1))
      (m (c.tc.loc KernelFfnSIdeal.main_arg2)) (m (c.tc.loc KernelFfnSIdeal.main_arg3))
      = (KernelFfnSIdeal.Gen.dats m 0 c).arrAt 8 KernelFfnSIdeal.cfg0.N := by
  refine Eq.trans ?_ (final_conv m c).symm
  funext i
  have hi : i = ix3 (i 0) (i 1) (i 2) := by blk_ext
  exact (congrArg _ hi).trans (c_ref_at _ _ _ _ (i 0) (i 1) (i 2))

theorem algebraic : algebraic_KernelFfnSIdeal_ReferenceFfnSIdeal := by
  intro m g m' g' _ hagree
  refine ⟨fun c => (KernelFfnSIdeal.Gen.dats m 0 c).arrAt 7 KernelFfnSIdeal.cfg0.N, fun c => (KernelFfnSIdeal.Gen.dats m 0 c).arrAt 8 KernelFfnSIdeal.cfg0.N, ?_, ?_⟩
  · exact (θ_run KernelFfnSIdeal.defs _ _).mono (fun r h c => h c) (KernelFfnSIdeal.Value.run_blocks (F := Ideal) m g)
  · refine (θ_run ReferenceFfnSIdeal.defs _ _).mono (fun r h c => ⟨(h c).1.trans ?_, (h c).2.1.trans ?_, (h c).2.2⟩)
      (ReferenceFfnSIdeal.Value.run (F := Ideal) m' g')
    · obtain ⟨h0, h1, h2, h3, h4, h5, h6⟩ := hagree c
      unfold ReferenceFfnSIdeal.Value.res_main_v57
      rw [h0, h1, h2, h3, h4, h5, h6]
      exact y_eq m c
    · obtain ⟨h0, h1, h2, h3, h4, h5, h6⟩ := hagree c
      rw [h0, h1, h2, h3]
      exact c_eq m c

end Cert.FfnS
-- ==== Proof.lean ====
/- The whole claim, put together: of each call (the sliding-window attention, the memory attention, the gated merge, the convolutional feed-forward part, the input projection, the memory's keys and values, and the input projection and the feed-forward part of the sample batch),
   that the three programs run and leave their arguments alone, and that kernel and reference compute the same function
   over the extended reals. -/
module

public import proofs.«01_k».proof.Defs
public import proofs.«01_k».proof.Proof.SwaClaim
public import proofs.«01_k».proof.Proof.MemClaim
public import proofs.«01_k».proof.Proof.MergeClaim
public import proofs.«01_k».proof.Proof.FfnClaim
public import proofs.«01_k».proof.Proof.InClaim
public import proofs.«01_k».proof.Proof.KvClaim
public import proofs.«01_k».proof.Proof.InsClaim
public import proofs.«01_k».proof.Proof.FfnsClaim

@[expose] public section

noncomputable section

namespace Cert.Proof

/-- Everything that the certificate claims: first each program's run, then each call's pair of value claims. -/
theorem claim : Cert.Claim := ⟨
  Cert.KernelSwa.Gen.facts,
  Cert.KernelSwaIdeal.Gen.facts,
  Cert.ReferenceSwaIdeal.Gen.facts,
  Cert.KernelMem.Gen.facts,
  Cert.KernelMemIdeal.Gen.facts,
  Cert.ReferenceMemIdeal.Gen.facts,
  Cert.KernelMerge.Gen.facts,
  Cert.KernelMergeIdeal.Gen.facts,
  Cert.ReferenceMergeIdeal.Gen.facts,
  Cert.KernelFfn.Gen.facts,
  Cert.KernelFfnIdeal.Gen.facts,
  Cert.ReferenceFfnIdeal.Gen.facts,
  Cert.KernelIn.Gen.facts,
  Cert.KernelInIdeal.Gen.facts,
  Cert.ReferenceInIdeal.Gen.facts,
  Cert.KernelMemKv.Gen.facts,
  Cert.KernelMemKvIdeal.Gen.facts,
  Cert.ReferenceMemKvIdeal.Gen.facts,
  Cert.KernelInS.Gen.facts,
  Cert.KernelInSIdeal.Gen.facts,
  Cert.ReferenceInSIdeal.Gen.facts,
  Cert.KernelFfnS.Gen.facts,
  Cert.KernelFfnSIdeal.Gen.facts,
  Cert.ReferenceFfnSIdeal.Gen.facts,
  Cert.Pre_finite_scores.Gen.facts,
  Cert.Pre_finite_weights.Gen.facts,
  Cert.Pre_finite_weights_sample.Gen.facts,
  Cert.Swa.frame,
  Cert.Swa.frame_ideal,
  Cert.Swa.frame_ideal_pre,
  Cert.Swa.frame_ref,
  Cert.Swa.frame_ref_pre,
  Cert.MemAtt.frame,
  Cert.MemAtt.frame_ideal,
  Cert.MemAtt.frame_ref,
  Cert.Merge.frame,
  Cert.Merge.frame_ideal,
  Cert.Merge.frame_ref,
  Cert.Ffn.frame,
  Cert.Ffn.frame_ideal,
  Cert.Ffn.frame_ref,
  Cert.In.frame,
  Cert.In.frame_ideal,
  Cert.In.frame_ideal_pre,
  Cert.In.frame_ref,
  Cert.In.frame_ref_pre,
  Cert.MemKv.frame,
  Cert.MemKv.frame_ideal,
  Cert.MemKv.frame_ref,
  Cert.InS.frame,
  Cert.InS.frame_ideal,
  Cert.InS.frame_ideal_pre,
  Cert.InS.frame_ref,
  Cert.InS.frame_ref_pre,
  Cert.FfnS.frame,
  Cert.FfnS.frame_ideal,
  Cert.FfnS.frame_ref,
  trivial,
  Cert.Swa.algebraic,
  Cert.MemAtt.preserves,
  Cert.MemAtt.algebraic,
  trivial,
  Cert.Merge.algebraic,
  trivial,
  Cert.Ffn.algebraic,
  trivial,
  Cert.In.algebraic,
  trivial,
  Cert.MemKv.algebraic,
  trivial,
  Cert.InS.algebraic,
  trivial,
  Cert.FfnS.algebraic⟩

end Cert.Proof

end
